-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routable [hPre_routable : Cert.Pre_routable.Facts] (m : (ℓ : Loc Cert.KernelIdeal.nD Cert.KernelIdeal.τ Cert.KernelIdeal.sig) → Buf (Elt Ideal) ℓ) : Prop :=
  ∀ c : Dev Cert.KernelIdeal.nD,
    (Cert.Pre_routable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routable [hPre_routable : Cert.Pre_routable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routable [hKernelIdeal : Cert.KernelIdeal.Facts] [hPre_routable : Cert.Pre_routable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routable [hReferenceIdeal : Cert.ReferenceIdeal.Facts] [hPre_routable : Cert.Pre_routable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal_pre_routable [hKernelIdeal : Cert.KernelIdeal.Facts] [hReferenceIdeal : Cert.ReferenceIdeal.Facts] [hPre_routable : Cert.Pre_routable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v18_2)) (v1 : (c : Dev Cert.Kernel4Ideal.nD) → Buf (Elt Ideal) ((c.tc : Thread Cert.Kernel4Ideal.nD Cert.Kernel4Ideal.τ).loc Cert.Kernel4Ideal.main_v18_3)) (v2 : (c : Dev Cert.Kernel4Ideal.nD) → Buf (Elt Ideal) ((c.tc : Thread Cert.Kernel4Ideal.nD Cert.Kernel4Ideal.τ).loc Cert.Kernel4Ideal.main_v18_5)) (v3 : (c : Dev Cert.Kernel4Ideal.nD) → Buf (Elt Ideal) ((c.tc : Thread Cert.Kernel4Ideal.nD Cert.Kernel4Ideal.τ).loc Cert.Kernel4Ideal.main_v18_6)) (v4 : (c : Dev Cert.Kernel4Ideal.nD) → Buf (Elt Ideal) ((c.tc : Thread Cert.Kernel4Ideal.nD Cert.Kernel4Ideal.τ).loc Cert.Kernel4Ideal.main_v18_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_2) = v0 c
          ∧ r.2.mem ((c.tc : Thread Cert.Kernel4Ideal.nD Cert.Kernel4Ideal.τ).loc Cert.Kernel4Ideal.main_v18_3) = v1 c
          ∧ r.2.mem ((c.tc : Thread Cert.Kernel4Ideal.nD Cert.Kernel4Ideal.τ).loc Cert.Kernel4Ideal.main_v18_5) = v2 c
          ∧ r.2.mem ((c.tc : Thread Cert.Kernel4Ideal.nD Cert.Kernel4Ideal.τ).loc Cert.Kernel4Ideal.main_v18_6) = v3 c
          ∧ r.2.mem ((c.tc : Thread Cert.Kernel4Ideal.nD Cert.Kernel4Ideal.τ).loc Cert.Kernel4Ideal.main_v18_8) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_v20) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v40)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v40) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routable : Cert.Pre_routable.Facts),
    quiescent_Kernel (hKernel := hKernel)
    ∧ quiescent_KernelIdeal (hKernelIdeal := hKernelIdeal)
    ∧ quiescent_KernelIdeal_pre_routable (hKernelIdeal := hKernelIdeal) (hPre_routable := hPre_routable)
    ∧ quiescent_ReferenceIdeal (hReferenceIdeal := hReferenceIdeal)
    ∧ quiescent_ReferenceIdeal_pre_routable (hReferenceIdeal := hReferenceIdeal) (hPre_routable := hPre_routable)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_routable (hKernelIdeal := hKernelIdeal) (hReferenceIdeal := hReferenceIdeal) (hPre_routable := hPre_routable)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_routable.lean ====
abbrev S8x2048x1024 : Shape := ⟨3, ![8, 2048, 1024]⟩
abbrev S1024 : Shape := ⟨1, ![1024]⟩
abbrev S1024x8 : Shape := ⟨2, ![1024, 8]⟩
abbrev S8 : Shape := ⟨1, ![8]⟩
abbrev S8x1024x3584 : Shape := ⟨3, ![8, 1024, 3584]⟩
abbrev S8x3584x1024 : Shape := ⟨3, ![8, 3584, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S1x8 : Shape := ⟨2, ![1, 8]⟩

class Facts : Prop where
  shapeCasts_S8x2048x1024_S16384x1024 : S8x2048x1024.ShapeCasts S16384x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_
  bcast_S_S8x1024x3584 : S_.BroadcastsInDim S8x1024x3584 (![] : Fin 0 → Fin S8x1024x3584.rank)
  reducesTo_S8x1024x3584_S_d0_1_2 : S8x1024x3584.ReducesTo [0, 1, 2] S_
  bcast_S_S8x3584x1024 : S_.BroadcastsInDim S8x3584x1024 (![] : Fin 0 → Fin S8x3584x1024.rank)
  reducesTo_S8x3584x1024_S_d0_1_2 : S8x3584x1024.ReducesTo [0, 1, 2] S_
  bcast_S_S16384x8 : S_.BroadcastsInDim S16384x8 (![] : Fin 0 → Fin S16384x8.rank)
  reducesTo_S16384x8_S_d0_1 : S16384x8.ReducesTo [0, 1] S_
  dot_S16384x1024_S1024x8_S16384x8_1_0_0_1_n_n_wf : DotDims.WF S16384x1024 S1024x8 S16384x8 [1] [0] [0] [1] [] []

variable [Facts]

def dot_S16384x1024_S1024x8_S16384x8_1_0_0_1_n_n : DotDims S16384x1024 S1024x8 S16384x8 where
  lhsContracting := [1]
  rhsContracting := [0]
  lhsNonContracting := [0]
  rhsNonContracting := [1]
  lhsBatch := []
  rhsBatch := []
  wf := dot_S16384x1024_S1024x8_S16384x8_1_0_0_1_n_n_wf
def fn_part3 {F : FTy → Type} [FloatOps F] (main_v51 : IVec S_ 1) (main_v53 : IVec S16384x8 1) : IVec S_ 1 :=
  let main_c_16 : IVec S_ 1 := constantI S_ 1 1#1
  let main_v54 : IVec S_ 1 := (fun x v => Host.reduce IntOp.andi x v reducesTo_S16384x8_S_d0_1 h_S_) main_v53 main_c_16
  let main_v55 : IVec S_ 1 := andi main_v51 main_v54
  main_v55

def fn_part2 {F : FTy → Type} [FloatOps F] (main_arg4 : FVec F S8x1024x3584 .f32) (main_arg5 : FVec F S8x1024x3584 .f32) (main_arg6 : FVec F S8x3584x1024 .f32) (main_v17 : FVec F S16384x8 .f32) (main_v36 : IVec S_ 1) : IVec S_ 1 :=
  let main_v37 : FVec F S8x1024x3584 .f32 := Host.absf main_arg4
  let main_cst_9 : FVec F S_ .f32 := constant S_ .f32 0x7F800000#32
  let main_v38 : FVec F S8x1024x3584 .f32 := broadcastInDim S8x1024x3584 ![] bcast_S_S8x1024x3584 main_cst_9
  let main_v39 : IVec S8x1024x3584 1 := cmpf .olt main_v37 main_v38
  let main_c_10 : IVec S_ 1 := constantI S_ 1 1#1
  let main_v40 : IVec S_ 1 := (fun x v => Host.reduce IntOp.andi x v reducesTo_S8x1024x3584_S_d0_1_2 h_S_) main_v39 main_c_10
  let main_v41 : IVec S_ 1 := andi main_v36 main_v40
  let main_v42 : FVec F S8x1024x3584 .f32 := Host.absf main_arg5
  let main_cst_11 : FVec F S_ .f32 := constant S_ .f32 0x7F800000#32
  let main_v43 : FVec F S8x1024x3584 .f32 := broadcastInDim S8x1024x3584 ![] bcast_S_S8x1024x3584 main_cst_11
  let main_v44 : IVec S8x1024x3584 1 := cmpf .olt main_v42 main_v43
  let main_c_12 : IVec S_ 1 := constantI S_ 1 1#1
  let main_v45 : IVec S_ 1 := (fun x v => Host.reduce IntOp.andi x v reducesTo_S8x1024x3584_S_d0_1_2 h_S_) main_v44 main_c_12
  let main_v46 : IVec S_ 1 := andi main_v41 main_v45
  let main_v47 : FVec F S8x3584x1024 .f32 := Host.absf main_arg6
  let main_cst_13 : FVec F S_ .f32 := constant S_ .f32 0x7F800000#32
  let main_v48 : FVec F S8x3584x1024 .f32 := broadcastInDim S8x3584x1024 ![] bcast_S_S8x3584x1024 main_cst_13
  let main_v49 : IVec S8x3584x1024 1 := cmpf .olt main_v47 main_v48
  let main_c_14 : IVec S_ 1 := constantI S_ 1 1#1
  let main_v50 : IVec S_ 1 := (fun x v => Host.reduce IntOp.andi x v reducesTo_S8x3584x1024_S_d0_1_2 h_S_) main_v49 main_c_14
  let main_v51 : IVec S_ 1 := andi main_v46 main_v50
  let main_cst_15 : FVec F S_ .f32 := constant S_ .f32 0xF149F2CA#32
  let main_v52 : FVec F S16384x8 .f32 := broadcastInDim S16384x8 ![] bcast_S_S16384x8 main_cst_15
  let main_v53 : IVec S16384x8 1 := cmpf .ogt main_v17 main_v52
  fn_part3 (F := F) main_v51 main_v53

def fn_part1 {F : FTy → Type} [FloatOps F] (main_arg1 : FVec F S1024 .f32) (main_arg2 : FVec F S1024x8 .f32) (main_arg3 : FVec F S8 .f32) (main_arg4 : FVec F S8x1024x3584 .f32) (main_arg5 : FVec F S8x1024x3584 .f32) (main_arg6 : FVec F S8x3584x1024 .f32) (main_v17 : FVec F S16384x8 .f32) (main_v18 : FVec F S8x2048x1024 .f32) (main_v19 : FVec F S8x2048x1024 .f32) : IVec S_ 1 :=
  let main_v20 : IVec S8x2048x1024 1 := cmpf .olt main_v18 main_v19
  let main_c : IVec S_ 1 := constantI S_ 1 1#1
  let main_v21 : IVec S_ 1 := (fun x v => Host.reduce IntOp.andi x v reducesTo_S8x2048x1024_S_d0_1_2 h_S_) main_v20 main_c
  let main_v22 : FVec F S1024 .f32 := Host.absf main_arg1
  let main_cst_3 : FVec F S_ .f32 := constant S_ .f32 0x7F800000#32
  let main_v23 : FVec F S1024 .f32 := broadcastInDim S1024 ![] bcast_S_S1024 main_cst_3
  let main_v24 : IVec S1024 1 := cmpf .olt main_v22 main_v23
  let main_c_4 : IVec S_ 1 := constantI S_ 1 1#1
  let main_v25 : IVec S_ 1 := (fun x v => Host.reduce IntOp.andi x v reducesTo_S1024_S_d0 h_S_) main_v24 main_c_4
  let main_v26 : IVec S_ 1 := andi main_v21 main_v25
  let main_v27 : FVec F S1024x8 .f32 := Host.absf main_arg2
  let main_cst_5 : FVec F S_ .f32 := constant S_ .f32 0x7F800000#32
  let main_v28 : FVec F S1024x8 .f32 := broadcastInDim S1024x8 ![] bcast_S_S1024x8 main_cst_5
  let main_v29 : IVec S1024x8 1 := cmpf .olt main_v27 main_v28
  let main_c_6 : IVec S_ 1 := constantI S_ 1 1#1
  let main_v30 : IVec S_ 1 := (fun x v => Host.reduce IntOp.andi x v reducesTo_S1024x8_S_d0_1 h_S_) main_v29 main_c_6
  let main_v31 : IVec S_ 1 := andi main_v26 main_v30
  let main_v32 : FVec F S8 .f32 := Host.absf main_arg3
  let main_cst_7 : FVec F S_ .f32 := constant S_ .f32 0x7F800000#32
  let main_v33 : FVec F S8 .f32 := broadcastInDim S8 ![] bcast_S_S8 main_cst_7
  let main_v34 : IVec S8 1 := cmpf .olt main_v32 main_v33
  let main_c_8 : IVec S_ 1 := constantI S_ 1 1#1
  let main_v35 : IVec S_ 1 := (fun x v => Host.reduce IntOp.andi x v reducesTo_S8_S_d0 h_S_) main_v34 main_c_8
  let main_v36 : IVec S_ 1 := andi main_v31 main_v35
  fn_part2 (F := F) main_arg4 main_arg5 main_arg6 main_v17 main_v36

def fn {F : FTy → Type} [FloatOps F] (main_arg0 : FVec F S8x2048x1024 .f32) (main_arg1 : FVec F S1024 .f32) (main_arg2 : FVec F S1024x8 .f32) (main_arg3 : FVec F S8 .f32) (main_arg4 : FVec F S8x1024x3584 .f32) (main_arg5 : FVec F S8x1024x3584 .f32) (main_arg6 : FVec F S8x3584x1024 .f32) : IVec S_ 1 :=
  let main_v0 : FVec F S16384x1024 .f32 := shapeCast S16384x1024 main_arg0 shapeCasts_S8x2048x1024_S16384x1024
  let main_v1 : FVec F S16384x1024 .f32 := mulf main_v0 main_v0
  let main_cst : FVec F S_ .f32 := constant S_ .f32 0x00000000#32
  let main_v2 : FVec F S16384 .f32 := (fun x v => Host.reduceAdd x v reducesTo_S16384x1024_S16384_d1 h_S_) main_v1 main_cst
  let main_v3 : FVec F S16384x1 .f32 := broadcastInDim S16384x1 ![0] bcast_S16384_S16384x1_0 main_v2
  let main_cst_0 : FVec F S_ .f32 := constant S_ .f32 0x44800000#32
  let main_v4 : FVec F S16384x1 .f32 := broadcastInDim S16384x1 ![] bcast_S_S16384x1 main_cst_0
  let main_v5 : FVec F S16384x1 .f32 := Host.divf main_v3 main_v4
  let main_cst_1 : FVec F S_ .f32 := constant S_ .f32 0x358637BD#32
  let main_v6 : FVec F S16384x1 .f32 := broadcastInDim S16384x1 ![] bcast_S_S16384x1 main_cst_1
  let main_v7 : FVec F S16384x1 .f32 := addf main_v5 main_v6
  let main_v8 : FVec F S16384x1 .f32 := Host.rsqrt main_v7
  let main_v9 : FVec F S16384x1024 .f32 := broadcastInDim S16384x1024 ![0, 1] bcast_S16384x1_S16384x1024_0_1 main_v8
  let main_v10 : FVec F S16384x1024 .f32 := mulf main_v0 main_v9
  let main_v11 : FVec F S1x1024 .f32 := broadcastInDim S1x1024 ![1] bcast_S1024_S1x1024_1 main_arg1
  let main_v12 : FVec F S16384x1024 .f32 := broadcastInDim S16384x1024 ![0, 1] bcast_S1x1024_S16384x1024_0_1 main_v11
  let main_v13 : FVec F S16384x1024 .f32 := mulf main_v10 main_v12
  let main_v14 : FVec F S16384x8 .f32 := (fun l r => Host.dotGeneral dot_S16384x1024_S1024x8_S16384x8_1_0_0_1_n_n none l r) main_v13 main_arg2
  let main_v15 : FVec F S1x8 .f32 := broadcastInDim S1x8 ![1] bcast_S8_S1x8_1 main_arg3
  let main_v16 : FVec F S16384x8 .f32 := broadcastInDim S16384x8 ![0, 1] bcast_S1x8_S16384x8_0_1 main_v15
  let main_v17 : FVec F S16384x8 .f32 := addf main_v14 main_v16
  let main_v18 : FVec F S8x2048x1024 .f32 := Host.absf main_arg0
  let main_cst_2 : FVec F S_ .f32 := constant S_ .f32 0x7F800000#32
  let main_v19 : FVec F S8x2048x1024 .f32 := broadcastInDim S8x2048x1024 ![] bcast_S_S8x2048x1024 main_cst_2
  fn_part1 (F := F) main_arg1 main_arg2 main_arg3 main_arg4 main_arg5 main_arg6 main_v17 main_v18 main_v19
-- ==== Kernel.lean ====
abbrev S8x2048x1024 : Shape := ⟨3, ![8, 2048, 1024]⟩
abbrev S1024 : Shape := ⟨1, ![1024]⟩
abbrev S1024x8 : Shape := ⟨2, ![1024, 8]⟩
abbrev S8 : Shape := ⟨1, ![8]⟩
abbrev S8x1024x3584 : Shape := ⟨3, ![8, 1024, 3584]⟩
abbrev S8x3584x1024 : Shape := ⟨3, ![8, 3584, 1024]⟩
abbrev S16384x1024 : Shape := ⟨2, ![16384, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1024x1024 : Shape := ⟨2, ![1024, 1024]⟩
abbrev S1x1024 : Shape := ⟨2, ![1, 1024]⟩
abbrev S1x1024x896 : Shape := ⟨3, ![1, 1024, 896]⟩
abbrev S1x896x1024 : Shape := ⟨3, ![1, 896, 1024]⟩
abbrev S128x1024 : Shape := ⟨2, ![128, 1024]⟩
abbrev S4x256x1024 : Shape := ⟨3, ![4, 256, 1024]⟩
abbrev S1024x1 : Shape := ⟨2, ![1024, 1]⟩
abbrev S128 : Shape := ⟨1, ![128]⟩
abbrev S128x1 : Shape := ⟨2, ![128, 1]⟩
abbrev S1x1 : Shape := ⟨2, ![1, 1]⟩
abbrev S256x1024 : Shape := ⟨2, ![256, 1024]⟩
abbrev S1x256x1024 : Shape := ⟨3, ![1, 256, 1024]⟩
abbrev S1x128x1024 : Shape := ⟨3, ![1, 128, 1024]⟩
abbrev S1024x896 : Shape := ⟨2, ![1024, 896]⟩
abbrev S256x896 : Shape := ⟨2, ![256, 896]⟩
abbrev S896x1024 : Shape := ⟨2, ![896, 1024]⟩
abbrev S128x896 : Shape := ⟨2, ![128, 896]⟩
abbrev S1024x256 : Shape := ⟨2, ![1024, 256]⟩

abbrev nBuf : Space → Nat
  | .hbm => 36
  | .vmem => 21
  | .smem => 1
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8, .f32⟩
  | .hbm, ⟨3, _⟩ => ⟨S8, .f32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S16384x1024, .f32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S1024x128, .bf16⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1024x1024, .i32⟩
  | .hbm, ⟨23, _⟩ => ⟨S1024x1024, .i32⟩
  | .hbm, ⟨24, _⟩ => ⟨S1024x1024, .i1⟩
  | .hbm, ⟨25, _⟩ => ⟨S_, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .bf16⟩
  | .hbm, ⟨31, _⟩ => ⟨S1x1024, .f32⟩
  | .hbm, ⟨32, _⟩ => ⟨S8x1024x3584, .bf16⟩
  | .hbm, ⟨33, _⟩ => ⟨S8x1024x3584, .bf16⟩
  | .hbm, ⟨34, _⟩ => ⟨S8x3584x1024, .bf16⟩
  | .hbm, ⟨35, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1x128, .f32⟩
  | .local _ .vmem, ⟨5, _⟩ => ⟨S1024x1024, .bf16⟩
  | .local _ .vmem, ⟨6, _⟩ => ⟨S1x1024x896, .bf16⟩
  | .local _ .vmem, ⟨7, _⟩ => ⟨S1x1024x896, .bf16⟩
  | .local _ .vmem, ⟨8, _⟩ => ⟨S1x1024x896, .bf16⟩
  | .local _ .vmem, ⟨9, _⟩ => ⟨S1x1024x896, .bf16⟩
  | .local _ .vmem, ⟨10, _⟩ => ⟨S1x896x1024, .bf16⟩
  | .local _ .vmem, ⟨11, _⟩ => ⟨S1x896x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x128, .f32⟩
  | .local _ .vmem, ⟨16, _⟩ => ⟨S128x1024, .f32⟩
  | .local _ .vmem, ⟨17, _⟩ => ⟨S1024x128, .f32⟩
  | .local _ .vmem, ⟨18, _⟩ => ⟨S4x256x1024, .bf16⟩
  | .local _ .vmem, ⟨19, _⟩ => ⟨S4x256x1024, .f32⟩
  | .local _ .vmem, ⟨20, _⟩ => ⟨S1024x1024, .f32⟩
  | .local _ .smem, ⟨0, _⟩ => ⟨S8, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![16, 8, 4], ![false, false, false]⟩

def k0_off1 (i : grid0.Coords) : Fin 1 → Nat :=
  let arg1 : BitVec 32 := BitVec.ofNat 32 (i 1).val
  let v6 : Index := Scalar.indexCast arg1
  ![v6.toNat]
def k0_cond2 (i : grid0.Coords) : BitVec 1 :=
  let arg2 : BitVec 32 := BitVec.ofNat 32 (i 2).val
  let c0_i32_15 : BitVec 32 := 0#32
  let v41 : BitVec 1 := Scalar.cmpi .eq arg2 c0_i32_15
  let v42 : BitVec 32 := Scalar.extui v41
  let c0_i32_16 : BitVec 32 := 0#32
  let v43 : BitVec 1 := Scalar.cmpi .ne v42 c0_i32_16
  v43

def k0_off2 (i : grid0.Coords) : Fin 2 → Nat :=
  let arg1 : BitVec 32 := BitVec.ofNat 32 (i 1).val
  let v59 : Index := Scalar.indexCast arg1
  let c0 : Index := 0#32
  ![v59.toNat, 0]
@[reducible] def k0_t1_loop (v7 : BitVec 32) : Scf.Loop 32 :=
  let c0_i32_27 : BitVec 32 := 0#32
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v61 : BitVec 32 := Scalar.subi v40 c0_i32_27
  let c1_i32_28 : BitVec 32 := 1#32
  let v63 : BitVec 32 := Scalar.divsi v61 c1_i32_28
  let v64 : BitVec 32 := Scalar.muli v63 c1_i32_28
  let v65 : BitVec 32 := Scalar.addi c0_i32_27 v64
  let c1_i32_29 : BitVec 32 := 1#32
  ⟨c0_i32_27, v65, c1_i32_29⟩

def k0_off3 (v7 : BitVec 32) (k0_t1 : Fin (k0_t1_loop v7).trips) : Fin 3 → Nat :=
  let c0_i32_27 : BitVec 32 := 0#32
  let c1_i32_29 : BitVec 32 := 1#32
  let arg20 : BitVec 32 := Scf.iv c0_i32_27 c1_i32_29 k0_t1
  let v83 : Index := Scalar.indexCast arg20
  let c0_37 : Index := 0#32
  let c0_38 : Index := 0#32
  ![v83.toNat, 0, 0]
@[reducible] def k0_t2_loop (v7 : BitVec 32) : Scf.Loop 32 :=
  let c0_i32_27 : BitVec 32 := 0#32
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v61 : BitVec 32 := Scalar.subi v40 c0_i32_27
  let c1_i32_28 : BitVec 32 := 1#32
  let v63 : BitVec 32 := Scalar.divsi v61 c1_i32_28
  let v64 : BitVec 32 := Scalar.muli v63 c1_i32_28
  let v65 : BitVec 32 := Scalar.addi c0_i32_27 v64
  let v62 : BitVec 32 := Scalar.addi c0_i32_27 v61
  let c1_i32_30 : BitVec 32 := 1#32
  ⟨v65, v62, c1_i32_30⟩
def k0_off4 (v7 : BitVec 32) (k0_t2 : Fin (k0_t2_loop v7).trips) : Fin 3 → Nat :=
  let c0_i32_27 : BitVec 32 := 0#32
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v61 : BitVec 32 := Scalar.subi v40 c0_i32_27
  let c1_i32_28 : BitVec 32 := 1#32
  let v63 : BitVec 32 := Scalar.divsi v61 c1_i32_28
  let v64 : BitVec 32 := Scalar.muli v63 c1_i32_28
  let v65 : BitVec 32 := Scalar.addi c0_i32_27 v64
  let c1_i32_30 : BitVec 32 := 1#32
  let arg20 : BitVec 32 := Scf.iv v65 c1_i32_30 k0_t2
  let v83 : Index := Scalar.indexCast arg20
  let c0_37 : Index := 0#32
  let c0_38 : Index := 0#32
  ![v83.toNat, 0, 0]
def k0_off5 (v7 : BitVec 32) : Fin 3 → Nat :=
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v83 : Index := Scalar.indexCast v40
  let c0_37 : Index := 0#32
  let c0_38 : Index := 0#32
  ![v83.toNat, 0, 0]
def k0_cond3 (v7 : BitVec 32) : BitVec 1 :=
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .sgt v17 c0_i32_6
  let c128_i32 : BitVec 32 := 128#32
  let v19 : BitVec 1 := Scalar.cmpi .sle v17 c128_i32
  let v20 : BitVec 1 := Scalar.andi v18 v19
  let v66 : BitVec 32 := Scalar.extui v20
  let c0_i32_31 : BitVec 32 := 0#32
  let v67 : BitVec 1 := Scalar.cmpi .ne v66 c0_i32_31
  v67

@[reducible] def k0_t3_loop (v7 : BitVec 32) : Scf.Loop 32 :=
  let c0_i32_18 : BitVec 32 := 0#32
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v44 : BitVec 32 := Scalar.subi v40 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_20 : BitVec 32 := 1#32
  ⟨c0_i32_18, v48, c1_i32_20⟩
def k0_off6 (v7 : BitVec 32) (k0_t3 : Fin (k0_t3_loop v7).trips) : Fin 3 → Nat :=
  let c0_i32_18 : BitVec 32 := 0#32
  let c1_i32_20 : BitVec 32 := 1#32
  let arg20 : BitVec 32 := Scf.iv c0_i32_18 c1_i32_20 k0_t3
  let v59 : Index := Scalar.indexCast arg20
  let c0 : Index := 0#32
  let c0_26 : Index := 0#32
  ![v59.toNat, 0, 0]
@[reducible] def k0_t4_loop (v7 : BitVec 32) : Scf.Loop 32 :=
  let c0_i32_18 : BitVec 32 := 0#32
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v44 : BitVec 32 := Scalar.subi v40 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let v45 : BitVec 32 := Scalar.addi c0_i32_18 v44
  let c1_i32_21 : BitVec 32 := 1#32
  ⟨v48, v45, c1_i32_21⟩
def k0_off7 (v7 : BitVec 32) (k0_t4 : Fin (k0_t4_loop v7).trips) : Fin 3 → Nat :=
  let c0_i32_18 : BitVec 32 := 0#32
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v44 : BitVec 32 := Scalar.subi v40 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t4
  let v59 : Index := Scalar.indexCast arg20
  let c0 : Index := 0#32
  let c0_26 : Index := 0#32
  ![v59.toNat, 0, 0]
def k0_off8 (v7 : BitVec 32) : Fin 3 → Nat :=
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v59 : Index := Scalar.indexCast v40
  let c0 : Index := 0#32
  let c0_26 : Index := 0#32
  ![v59.toNat, 0, 0]
def k0_cond4 (v7 : BitVec 32) : BitVec 1 :=
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .sgt v17 c0_i32_6
  let c128_i32 : BitVec 32 := 128#32
  let v19 : BitVec 1 := Scalar.cmpi .sle v17 c128_i32
  let v20 : BitVec 1 := Scalar.andi v18 v19
  let v49 : BitVec 32 := Scalar.extui v20
  let c0_i32_22 : BitVec 32 := 0#32
  let v50 : BitVec 1 := Scalar.cmpi .ne v49 c0_i32_22
  v50

def k0_cond5 (i : grid0.Coords) : BitVec 1 :=
  let arg2 : BitVec 32 := BitVec.ofNat 32 (i 2).val
  let c3_i32 : BitVec 32 := 3#32
  let v51 : BitVec 1 := Scalar.cmpi .eq arg2 c3_i32
  let v52 : BitVec 32 := Scalar.extui v51
  let c0_i32_23 : BitVec 32 := 0#32
  let v53 : BitVec 1 := Scalar.cmpi .ne v52 c0_i32_23
  v53

@[reducible] def k0_t5_loop (v7 : BitVec 32) : Scf.Loop 32 :=
  let c0_i32_33 : BitVec 32 := 0#32
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v73 : BitVec 32 := Scalar.subi v40 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_35 : BitVec 32 := 1#32
  ⟨c0_i32_33, v77, c1_i32_35⟩
def k0_off9 (v7 : BitVec 32) (k0_t5 : Fin (k0_t5_loop v7).trips) : Fin 3 → Nat :=
  let c0_i32_33 : BitVec 32 := 0#32
  let c1_i32_35 : BitVec 32 := 1#32
  let arg20 : BitVec 32 := Scf.iv c0_i32_33 c1_i32_35 k0_t5
  let v92 : Index := Scalar.indexCast arg20
  let c0_41 : Index := 0#32
  let c0_42 : Index := 0#32
  ![v92.toNat, 0, 0]
@[reducible] def k0_t6_loop (v7 : BitVec 32) : Scf.Loop 32 :=
  let c0_i32_33 : BitVec 32 := 0#32
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v73 : BitVec 32 := Scalar.subi v40 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let v74 : BitVec 32 := Scalar.addi c0_i32_33 v73
  let c1_i32_36 : BitVec 32 := 1#32
  ⟨v77, v74, c1_i32_36⟩
def k0_off10 (v7 : BitVec 32) (k0_t6 : Fin (k0_t6_loop v7).trips) : Fin 3 → Nat :=
  let c0_i32_33 : BitVec 32 := 0#32
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v73 : BitVec 32 := Scalar.subi v40 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg20 : BitVec 32 := Scf.iv v77 c1_i32_36 k0_t6
  let v92 : Index := Scalar.indexCast arg20
  let c0_41 : Index := 0#32
  let c0_42 : Index := 0#32
  ![v92.toNat, 0, 0]
def k0_off11 (v7 : BitVec 32) : Fin 3 → Nat :=
  let c0_i32_8 : BitVec 32 := 0#32
  let v22 : BitVec 1 := Scalar.cmpi .sgt v7 c0_i32_8
  let v23 : BitVec 32 := Scalar.extui v22
  let c0_i32_9 : BitVec 32 := 0#32
  let v24 : BitVec 1 := Scalar.cmpi .slt v7 c0_i32_9
  let v25 : BitVec 32 := Scalar.extui v24
  let v26 : BitVec 32 := Scalar.subi v23 v25
  let c256_i32_7 : BitVec 32 := 256#32
  let c0_i32_10 : BitVec 32 := 0#32
  let v27 : BitVec 1 := Scalar.cmpi .sgt c256_i32_7 c0_i32_10
  let v28 : BitVec 32 := Scalar.extui v27
  let c0_i32_11 : BitVec 32 := 0#32
  let v29 : BitVec 1 := Scalar.cmpi .slt c256_i32_7 c0_i32_11
  let v30 : BitVec 32 := Scalar.extui v29
  let v31 : BitVec 32 := Scalar.subi v28 v30
  let v32 : BitVec 1 := Scalar.cmpi .ne v26 v31
  let v33 : BitVec 32 := Scalar.remsi v7 c256_i32_7
  let c0_i32_12 : BitVec 32 := 0#32
  let v34 : BitVec 1 := Scalar.cmpi .ne v33 c0_i32_12
  let v35 : BitVec 1 := Scalar.andi v32 v34
  let v21 : BitVec 32 := Scalar.divsi v7 c256_i32_7
  let c1_i32_13 : BitVec 32 := 1#32
  let v36 : BitVec 32 := Scalar.subi v21 c1_i32_13
  let v37 : BitVec 32 := Scalar.select v35 v36 v21
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c128_i32_14 : BitVec 32 := 128#32
  let v38 : BitVec 1 := Scalar.cmpi .sgt v17 c128_i32_14
  let v39 : BitVec 32 := Scalar.extui v38
  let v40 : BitVec 32 := Scalar.addi v37 v39
  let v92 : Index := Scalar.indexCast v40
  let c0_41 : Index := 0#32
  let c0_42 : Index := 0#32
  ![v92.toNat, 0, 0]
def k0_cond6 (v7 : BitVec 32) : BitVec 1 :=
  let c256_i32 : BitVec 32 := 256#32
  let c0_i32_2 : BitVec 32 := 0#32
  let v8 : BitVec 1 := Scalar.cmpi .eq c256_i32 c0_i32_2
  let c1_i32 : BitVec 32 := 1#32
  let v9 : BitVec 32 := Scalar.select v8 c1_i32 c256_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c0_i32_6 : BitVec 32 := 0#32
  let v18 : BitVec 1 := Scalar.cmpi .sgt v17 c0_i32_6
  let c128_i32 : BitVec 32 := 128#32
  let v19 : BitVec 1 := Scalar.cmpi .sle v17 c128_i32
  let v20 : BitVec 1 := Scalar.andi v18 v19
  let v78 : BitVec 32 := Scalar.extui v20
  let c0_i32_37 : BitVec 32 := 0#32
  let v79 : BitVec 1 := Scalar.cmpi .ne v78 c0_i32_37
  v79

def k0_chk1 (i : grid0.Coords) (v7 : BitVec 32) : Prop :=
  (∀ (k0_h2 : k0_cond2 i = 1#1), (k0_t1_loop v7).OK) ∧
  (∀ k0_t1 : Fin (k0_t1_loop v7).trips, ∀ (k0_h2 : k0_cond2 i = 1#1), ∀ a, (k0_off3 v7 k0_t1) a + S1x256x1024.size a ≤ S4x256x1024.size a) ∧
  (∀ k0_t1 : Fin (k0_t1_loop v7).trips, ∀ (k0_h2 : k0_cond2 i = 1#1), ∀ (hinb : ∀ a, (k0_off3 v7 k0_t1) a + S1x256x1024.size a ≤ S4x256x1024.size a), (Rect.unit (s := S4x256x1024) (k0_off3 v7 k0_t1) S1x256x1024.size hinb).PackedRows (EltTy.packing .bf16)) ∧
  (∀ (k0_h2 : k0_cond2 i = 1#1), (k0_t2_loop v7).OK) ∧
  (∀ k0_t2 : Fin (k0_t2_loop v7).trips, ∀ (k0_h2 : k0_cond2 i = 1#1), ∀ a, (k0_off4 v7 k0_t2) a + S1x256x1024.size a ≤ S4x256x1024.size a) ∧
  (∀ k0_t2 : Fin (k0_t2_loop v7).trips, ∀ (k0_h2 : k0_cond2 i = 1#1), ∀ (hinb : ∀ a, (k0_off4 v7 k0_t2) a + S1x256x1024.size a ≤ S4x256x1024.size a), (Rect.unit (s := S4x256x1024) (k0_off4 v7 k0_t2) S1x256x1024.size hinb).PackedRows (EltTy.packing .bf16)) ∧
  (∀ (k0_h2 : k0_cond2 i = 1#1), ∀ (k0_h3 : k0_cond3 v7 = 1#1), ∀ a, (k0_off5 v7) a + S1x128x1024.size a ≤ S4x256x1024.size a) ∧
  (∀ (k0_h2 : k0_cond2 i = 1#1), ∀ (k0_h3 : k0_cond3 v7 = 1#1), ∀ (hinb : ∀ a, (k0_off5 v7) a + S1x128x1024.size a ≤ S4x256x1024.size a), (Rect.unit (s := S4x256x1024) (k0_off5 v7) S1x128x1024.size hinb).PackedRows (EltTy.packing .bf16)) ∧
  ((k0_t3_loop v7).OK) ∧
  (∀ k0_t3 : Fin (k0_t3_loop v7).trips, ∀ a, (k0_off6 v7 k0_t3) a + S1x256x1024.size a ≤ S4x256x1024.size a) ∧
  ((k0_t4_loop v7).OK) ∧
  (∀ k0_t4 : Fin (k0_t4_loop v7).trips, ∀ a, (k0_off7 v7 k0_t4) a + S1x256x1024.size a ≤ S4x256x1024.size a) ∧
  (∀ (k0_h4 : k0_cond4 v7 = 1#1), ∀ a, (k0_off8 v7) a + S1x128x1024.size a ≤ S4x256x1024.size a) ∧
  (∀ (k0_h5 : k0_cond5 i = 1#1), (k0_t5_loop v7).OK) ∧
  (∀ k0_t5 : Fin (k0_t5_loop v7).trips, ∀ (k0_h5 : k0_cond5 i = 1#1), ∀ a, (k0_off9 v7 k0_t5) a + S1x256x1024.size a ≤ S4x256x1024.size a) ∧
  (∀ (k0_h5 : k0_cond5 i = 1#1), (k0_t6_loop v7).OK) ∧
  (∀ k0_t6 : Fin (k0_t6_loop v7).trips, ∀ (k0_h5 : k0_cond5 i = 1#1), ∀ a, (k0_off10 v7 k0_t6) a + S1x256x1024.size a ≤ S4x256x1024.size a) ∧
  (∀ (k0_h5 : k0_cond5 i = 1#1), ∀ (k0_h6 : k0_cond6 v7 = 1#1), ∀ a, (k0_off11 v7) a + S1x128x1024.size a ≤ S4x256x1024.size a)
theorem k0_t1_ok : ∀ (i : grid0.Coords) (v7 : BitVec 32) (k0_hw1 : k0_chk1 i v7), ∀ (k0_h2 : k0_cond2 i = 1#1), (k0_t1_loop v7).OK := fun i v7 k0_hw1 k0_h2 => k0_hw1.1 k0_h2
theorem k0_off3_inb : ∀ (i : grid0.Coords) (v7 : BitVec 32) (k0_hw1 : k0_chk1 i v7) (k0_t1 : Fin (k0_t1_loop v7).trips), ∀ (k0_h2 : k0_cond2 i = 1#1), ∀ a, (k0_off3 v7 k0_t1) a + S1x256x1024.size a ≤ S4x256x1024.size a := fun i v7 k0_hw1 k0_t1 k0_h2 => k0_hw1.2.1 k0_t1 k0_h2
theorem k0_off3_packedbf16 : ∀ (i : grid0.Coords) (v7 : BitVec 32) (k0_hw1 : k0_chk1 i v7) (k0_t1 : Fin (k0_t1_loop v7).trips), ∀ (k0_h2 : k0_cond2 i = 1#1), (Rect.unit (s := S4x256x1024) (k0_off3 v7 k0_t1) S1x256x1024.size (k0_off3_inb i v7 k0_hw1 k0_t1 k0_h2)).PackedRows (EltTy.packing .bf16) := fun i v7 k0_hw1 k0_t1 k0_h2 => k0_hw1.2.2.1 k0_t1 k0_h2 (k0_off3_inb i v7 k0_hw1 k0_t1 k0_h2)
theorem k0_t2_ok : ∀ (i : grid0.Coords) (v7 : BitVec 32) (k0_hw1 : k0_chk1 i v7), ∀ (k0_h2 : k0_cond2 i = 1#1), (k0_t2_loop v7).OK := fun i v7 k0_hw1 k0_h2 => k0_hw1.2.2.2.1 k0_h2
theorem k0_off4_inb : ∀ (i : grid0.Coords) (v7 : BitVec 32) (k0_hw1 : k0_chk1 i v7) (k0_t2 : Fin (k0_t2_loop v7).trips), ∀ (k0_h2 : k0_cond2 i = 1#1), ∀ a, (k0_off4 v7 k0_t2) a + S1x256x1024.size a ≤ S4x256x1024.size a := fun i v7 k0_hw1 k0_t2 k0_h2 => k0_hw1.2.2.2.2.1 k0_t2 k0_h2
theorem k0_off4_packedbf16 : ∀ (i : grid0.Coords) (v7 : BitVec 32) (k0_hw1 : k0_chk1 i v7) (k0_t2 : Fin (k0_t2_loop v7).trips), ∀ (k0_h2 : k0_cond2 i = 1#1), (Rect.unit (s := S4x256x1024) (k0_off4 v7 k0_t2) S1x256x1024.size (k0_off4_inb i v7 k0_hw1 k0_t2 k0_h2)).PackedRows (EltTy.packing .bf16) := fun i v7 k0_hw1 k0_t2 k0_h2 => k0_hw1.2.2.2.2.2.1 k0_t2 k0_h2 (k0_off4_inb i v7 k0_hw1 k0_t2 k0_h2)
theorem k0_off5_inb : ∀ (i : grid0.Coords) (v7 : BitVec 32) (k0_hw1 : k0_chk1 i v7), ∀ (k0_h2 : k0_cond2 i = 1#1), ∀ (k0_h3 : k0_cond3 v7 = 1#1), ∀ a, (k0_off5 v7) a + S1x128x1024.size a ≤ S4x256x1024.size a := fun i v7 k0_hw1 k0_h2 k0_h3 => k0_hw1.2.2.2.2.2.2.1 k0_h2 k0_h3
theorem k0_off5_packedbf16 : ∀ (i : grid0.Coords) (v7 : BitVec 32) (k0_hw1 : k0_chk1 i v7), ∀ (k0_h2 : k0_cond2 i = 1#1), ∀ (k0_h3 : k0_cond3 v7 = 1#1), (Rect.unit (s := S4x256x1024) (k0_off5 v7) S1x128x1024.size (k0_off5_inb i v7 k0_hw1 k0_h2 k0_h3)).PackedRows (EltTy.packing .bf16) := fun i v7 k0_hw1 k0_h2 k0_h3 => k0_hw1.2.2.2.2.2.2.2.1 k0_h2 k0_h3 (k0_off5_inb i v7 k0_hw1 k0_h2 k0_h3)
theorem k0_t3_ok : ∀ (i : grid0.Coords) (v7 : BitVec 32) (k0_hw1 : k0_chk1 i v7), (k0_t3_loop v7).OK := fun i v7 k0_hw1 => k0_hw1.2.2.2.2.2.2.2.2.1
theorem k0_off6_inb : ∀ (i : grid0.Coords) (v7 : BitVec 32) (k0_hw1 : k0_chk1 i v7) (k0_t3 : Fin (k0_t3_loop v7).trips), ∀ a, (k0_off6 v7 k0_t3) a + S1x256x1024.size a ≤ S4x256x1024.size a := fun i v7 k0_hw1 k0_t3 => k0_hw1.2.2.2.2.2.2.2.2.2.1 k0_t3
theorem k0_t4_ok : ∀ (i : grid0.Coords) (v7 : BitVec 32) (k0_hw1 : k0_chk1 i v7), (k0_t4_loop v7).OK := fun i v7 k0_hw1 => k0_hw1.2.2.2.2.2.2.2.2.2.2.1
theorem k0_off7_inb : ∀ (i : grid0.Coords) (v7 : BitVec 32) (k0_hw1 : k0_chk1 i v7) (k0_t4 : Fin (k0_t4_loop v7).trips), ∀ a, (k0_off7 v7 k0_t4) a + S1x256x1024.size a ≤ S4x256x1024.size a := fun i v7 k0_hw1 k0_t4 => k0_hw1.2.2.2.2.2.2.2.2.2.2.2.1 k0_t4
theorem k0_off8_inb : ∀ (i : grid0.Coords) (v7 : BitVec 32) (k0_hw1 : k0_chk1 i v7), ∀ (k0_h4 : k0_cond4 v7 = 1#1), ∀ a, (k0_off8 v7) a + S1x128x1024.size a ≤ S4x256x1024.size a := fun i v7 k0_hw1 k0_h4 => k0_hw1.2.2.2.2.2.2.2.2.2.2.2.2.1 k0_h4
theorem k0_t5_ok : ∀ (i : grid0.Coords) (v7 : BitVec 32) (k0_hw1 : k0_chk1 i v7), ∀ (k0_h5 : k0_cond5 i = 1#1), (k0_t5_loop v7).OK := fun i v7 k0_hw1 k0_h5 => k0_hw1.2.2.2.2.2.2.2.2.2.2.2.2.2.1 k0_h5
theorem k0_off9_inb : ∀ (i : grid0.Coords) (v7 : BitVec 32) (k0_hw1 : k0_chk1 i v7) (k0_t5 : Fin (k0_t5_loop v7).trips), ∀ (k0_h5 : k0_cond5 i = 1#1), ∀ a, (k0_off9 v7 k0_t5) a + S1x256x1024.size a ≤ S4x256x1024.size a := fun i v7 k0_hw1 k0_t5 k0_h5 => k0_hw1.2.2.2.2.2.2.2.2.2.2.2.2.2.2.1 k0_t5 k0_h5
theorem k0_t6_ok : ∀ (i : grid0.Coords) (v7 : BitVec 32) (k0_hw1 : k0_chk1 i v7), ∀ (k0_h5 : k0_cond5 i = 1#1), (k0_t6_loop v7).OK := fun i v7 k0_hw1 k0_h5 => k0_hw1.2.2.2.2.2.2.2.2.2.2.2.2.2.2.2.1 k0_h5
theorem k0_off10_inb : ∀ (i : grid0.Coords) (v7 : BitVec 32) (k0_hw1 : k0_chk1 i v7) (k0_t6 : Fin (k0_t6_loop v7).trips), ∀ (k0_h5 : k0_cond5 i = 1#1), ∀ a, (k0_off10 v7 k0_t6) a + S1x256x1024.size a ≤ S4x256x1024.size a := fun i v7 k0_hw1 k0_t6 k0_h5 => k0_hw1.2.2.2.2.2.2.2.2.2.2.2.2.2.2.2.2.1 k0_t6 k0_h5
theorem k0_off11_inb : ∀ (i : grid0.Coords) (v7 : BitVec 32) (k0_hw1 : k0_chk1 i v7), ∀ (k0_h5 : k0_cond5 i = 1#1), ∀ (k0_h6 : k0_cond6 v7 = 1#1), ∀ a, (k0_off11 v7) a + S1x128x1024.size a ≤ S4x256x1024.size a := fun i v7 k0_hw1 k0_h5 k0_h6 => k0_hw1.2.2.2.2.2.2.2.2.2.2.2.2.2.2.2.2.2 k0_h5 k0_h6

def k0_cond7 (i : grid0.Coords) : BitVec 1 :=
  let arg1 : BitVec 32 := BitVec.ofNat 32 (i 1).val
  let c7_i32 : BitVec 32 := 7#32
  let v54 : BitVec 1 := Scalar.cmpi .eq arg1 c7_i32
  let arg2 : BitVec 32 := BitVec.ofNat 32 (i 2).val
  let c3_i32_24 : BitVec 32 := 3#32
  let v55 : BitVec 1 := Scalar.cmpi .eq arg2 c3_i32_24
  let v56 : BitVec 1 := Scalar.andi v54 v55
  let v57 : BitVec 32 := Scalar.extui v56
  let c0_i32_25 : BitVec 32 := 0#32
  let v58 : BitVec 1 := Scalar.cmpi .ne v57 c0_i32_25
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x896x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ReferenceIdeal.lean ====
abbrev S8x2048x1024 : Shape := ⟨3, ![8, 2048, 1024]⟩
abbrev S1024 : Shape := ⟨1, ![1024]⟩
abbrev S1024x8 : Shape := ⟨2, ![1024, 8]⟩
abbrev S8 : Shape := ⟨1, ![8]⟩
abbrev S8x1024x3584 : Shape := ⟨3, ![8, 1024, 3584]⟩
abbrev S8x3584x1024 : Shape := ⟨3, ![8, 3584, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S1x8 : Shape := ⟨2, ![1, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S16384x3584 : Shape := ⟨2, ![16384, 3584]⟩

abbrev nBuf : Space → Nat
  | .hbm => 242
  | .vmem => 0
  | .smem => 0
  | _ => 0

abbrev hbmTy0_0 (i : Nat) : BufTy := match i % 128 with
  | 0 => ⟨S8x2048x1024, .f32⟩
  | 1 => ⟨S1024, .f32⟩
  | 2 => ⟨S1024x8, .f32⟩
  | 3 => ⟨S8, .f32⟩
  | 4 => ⟨S8x1024x3584, .f32⟩
  | 5 => ⟨S8x1024x3584, .f32⟩
  | 6 => ⟨S8x3584x1024, .f32⟩
  | 7 => ⟨S16384x1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x8, .f32⟩
  | 25 => ⟨S1x8, .f32⟩
  | 26 => ⟨S16384x8, .f32⟩
  | 27 => ⟨S16384x8, .f32⟩
  | 28 => ⟨S16384x2, .f32⟩
  | 29 => ⟨S16384x2, .i32⟩
  | 30 => ⟨S_, .f32⟩
  | 31 => ⟨S16384, .f32⟩
  | 32 => ⟨S_, .f32⟩
  | 33 => ⟨S16384, .f32⟩
  | 34 => ⟨S16384, .f32⟩
  | 35 => ⟨S16384x1, .f32⟩
  | 36 => ⟨S16384x2, .f32⟩
  | 37 => ⟨S16384x2, .f32⟩
  | 38 => ⟨S16384x2, .f32⟩
  | 39 => ⟨S_, .f32⟩
  | 40 => ⟨S16384, .f32⟩
  | 41 => ⟨S16384x1, .f32⟩
  | 42 => ⟨S16384x2, .f32⟩
  | 43 => ⟨S16384x2, .f32⟩
  | 44 => ⟨S16384x2x1, .i32⟩
  | 45 => ⟨S1x1x8, .i32⟩
  | 46 => ⟨S16384x2x8, .i32⟩
  | 47 => ⟨S16384x2x8, .i32⟩
  | 48 => ⟨S16384x2x8, .i1⟩
  | 49 => ⟨S16384x2x8, .f32⟩
  | 50 => ⟨S16384x2x1, .f32⟩
  | 51 => ⟨S16384x2x8, .f32⟩
  | 52 => ⟨S16384x2x8, .f32⟩
  | 53 => ⟨S_, .f32⟩
  | 54 => ⟨S16384x8, .f32⟩
  | 55 => ⟨S_, .f32⟩
  | 56 => ⟨S16384x1024, .f32⟩
  | 57 => ⟨S16384x1, .f32⟩
  | 58 => ⟨S1x1024x3584, .f32⟩
  | 59 => ⟨S1024x3584, .f32⟩
  | 60 => ⟨S1x1024x3584, .f32⟩
  | 61 => ⟨S1024x3584, .f32⟩
  | 62 => ⟨S1x3584x1024, .f32⟩
  | 63 => ⟨S3584x1024, .f32⟩
  | 64 => ⟨S16384x3584, .f32⟩
  | 65 => ⟨S16384x3584, .f32⟩
  | 66 => ⟨S16384x3584, .f32⟩
  | 67 => ⟨S_, .f32⟩
  | 68 => ⟨S16384x3584, .f32⟩
  | 69 => ⟨S16384x3584, .f32⟩
  | 70 => ⟨S_, .f32⟩
  | 71 => ⟨S16384x3584, .f32⟩
  | 72 => ⟨S16384x3584, .f32⟩
  | 73 => ⟨S16384x3584, .f32⟩
  | 74 => ⟨S16384x3584, .f32⟩
  | 75 => ⟨S16384x3584, .f32⟩
  | 76 => ⟨S16384x1024, .f32⟩
  | 77 => ⟨S16384x1024, .f32⟩
  | 78 => ⟨S16384x1024, .f32⟩
  | 79 => ⟨S16384x1024, .f32⟩
  | 80 => ⟨S16384x1, .f32⟩
  | 81 => ⟨S1x1024x3584, .f32⟩
  | 82 => ⟨S1024x3584, .f32⟩
  | 83 => ⟨S1x1024x3584, .f32⟩
  | 84 => ⟨S1024x3584, .f32⟩
  | 85 => ⟨S1x3584x1024, .f32⟩
  | 86 => ⟨S3584x1024, .f32⟩
  | 87 => ⟨S16384x3584, .f32⟩
  | 88 => ⟨S16384x3584, .f32⟩
  | 89 => ⟨S16384x3584, .f32⟩
  | 90 => ⟨S_, .f32⟩
  | 91 => ⟨S16384x3584, .f32⟩
  | 92 => ⟨S16384x3584, .f32⟩
  | 93 => ⟨S_, .f32⟩
  | 94 => ⟨S16384x3584, .f32⟩
  | 95 => ⟨S16384x3584, .f32⟩
  | 96 => ⟨S16384x3584, .f32⟩
  | 97 => ⟨S16384x3584, .f32⟩
  | 98 => ⟨S16384x3584, .f32⟩
  | 99 => ⟨S16384x1024, .f32⟩
  | 100 => ⟨S16384x1024, .f32⟩
  | 101 => ⟨S16384x1024, .f32⟩
  | 102 => ⟨S16384x1024, .f32⟩
  | 103 => ⟨S16384x1, .f32⟩
  | 104 => ⟨S1x1024x3584, .f32⟩
  | 105 => ⟨S1024x3584, .f32⟩
  | 106 => ⟨S1x1024x3584, .f32⟩
  | 107 => ⟨S1024x3584, .f32⟩
  | 108 => ⟨S1x3584x1024, .f32⟩
  | 109 => ⟨S3584x1024, .f32⟩
  | 110 => ⟨S16384x3584, .f32⟩
  | 111 => ⟨S16384x3584, .f32⟩
  | 112 => ⟨S16384x3584, .f32⟩
  | 113 => ⟨S_, .f32⟩
  | 114 => ⟨S16384x3584, .f32⟩
  | 115 => ⟨S16384x3584, .f32⟩
  | 116 => ⟨S_, .f32⟩
  | 117 => ⟨S16384x3584, .f32⟩
  | 118 => ⟨S16384x3584, .f32⟩
  | 119 => ⟨S16384x3584, .f32⟩
  | 120 => ⟨S16384x3584, .f32⟩
  | 121 => ⟨S16384x3584, .f32⟩
  | 122 => ⟨S16384x1024, .f32⟩
  | 123 => ⟨S16384x1024, .f32⟩
  | 124 => ⟨S16384x1024, .f32⟩
  | 125 => ⟨S16384x1024, .f32⟩
  | 126 => ⟨S16384x1, .f32⟩
  | 127 => ⟨S1x1024x3584, .f32⟩
  | _ => ⟨S8x2048x1024, .f32⟩

abbrev hbmTy0_1 (i : Nat) : BufTy := match i % 128 with
  | 0 => ⟨S1024x3584, .f32⟩
  | 1 => ⟨S1x1024x3584, .f32⟩
  | 2 => ⟨S1024x3584, .f32⟩
  | 3 => ⟨S1x3584x1024, .f32⟩
  | 4 => ⟨S3584x1024, .f32⟩
  | 5 => ⟨S16384x3584, .f32⟩
  | 6 => ⟨S16384x3584, .f32⟩
  | 7 => ⟨S16384x3584, .f32⟩
  | 8 => ⟨S_, .f32⟩
  | 9 => ⟨S16384x3584, .f32⟩
  | 10 => ⟨S16384x3584, .f32⟩
  | 11 => ⟨S_, .f32⟩
  | 12 => ⟨S16384x3584, .f32⟩
  | 13 => ⟨S16384x3584, .f32⟩
  | 14 => ⟨S16384x3584, .f32⟩
  | 15 => ⟨S16384x3584, .f32⟩
  | 16 => ⟨S16384x3584, .f32⟩
  | 17 => ⟨S16384x1024, .f32⟩
  | 18 => ⟨S16384x1024, .f32⟩
  | 19 => ⟨S16384x1024, .f32⟩
  | 20 => ⟨S16384x1024, .f32⟩
  | 21 => ⟨S16384x1, .f32⟩
  | 22 => ⟨S1x1024x3584, .f32⟩
  | 23 => ⟨S1024x3584, .f32⟩
  | 24 => ⟨S1x1024x3584, .f32⟩
  | 25 => ⟨S1024x3584, .f32⟩
  | 26 => ⟨S1x3584x1024, .f32⟩
  | 27 => ⟨S3584x1024, .f32⟩
  | 28 => ⟨S16384x3584, .f32⟩
  | 29 => ⟨S16384x3584, .f32⟩
  | 30 => ⟨S16384x3584, .f32⟩
  | 31 => ⟨S_, .f32⟩
  | 32 => ⟨S16384x3584, .f32⟩
  | 33 => ⟨S16384x3584, .f32⟩
  | 34 => ⟨S_, .f32⟩
  | 35 => ⟨S16384x3584, .f32⟩
  | 36 => ⟨S16384x3584, .f32⟩
  | 37 => ⟨S16384x3584, .f32⟩
  | 38 => ⟨S16384x3584, .f32⟩
  | 39 => ⟨S16384x3584, .f32⟩
  | 40 => ⟨S16384x1024, .f32⟩
  | 41 => ⟨S16384x1024, .f32⟩
  | 42 => ⟨S16384x1024, .f32⟩
  | 43 => ⟨S16384x1024, .f32⟩
  | 44 => ⟨S16384x1, .f32⟩
  | 45 => ⟨S1x1024x3584, .f32⟩
  | 46 => ⟨S1024x3584, .f32⟩
  | 47 => ⟨S1x1024x3584, .f32⟩
  | 48 => ⟨S1024x3584, .f32⟩
  | 49 => ⟨S1x3584x1024, .f32⟩
  | 50 => ⟨S3584x1024, .f32⟩
  | 51 => ⟨S16384x3584, .f32⟩
  | 52 => ⟨S16384x3584, .f32⟩
  | 53 => ⟨S16384x3584, .f32⟩
  | 54 => ⟨S_, .f32⟩
  | 55 => ⟨S16384x3584, .f32⟩
  | 56 => ⟨S16384x3584, .f32⟩
  | 57 => ⟨S_, .f32⟩
  | 58 => ⟨S16384x3584, .f32⟩
  | 59 => ⟨S16384x3584, .f32⟩
  | 60 => ⟨S16384x3584, .f32⟩
  | 61 => ⟨S16384x3584, .f32⟩
  | 62 => ⟨S16384x3584, .f32⟩
  | 63 => ⟨S16384x1024, .f32⟩
  | 64 => ⟨S16384x1024, .f32⟩
  | 65 => ⟨S16384x1024, .f32⟩
  | 66 => ⟨S16384x1024, .f32⟩
  | 67 => ⟨S16384x1, .f32⟩
  | 68 => ⟨S1x1024x3584, .f32⟩
  | 69 => ⟨S1024x3584, .f32⟩
  | 70 => ⟨S1x1024x3584, .f32⟩
  | 71 => ⟨S1024x3584, .f32⟩
  | 72 => ⟨S1x3584x1024, .f32⟩
  | 73 => ⟨S3584x1024, .f32⟩
  | 74 => ⟨S16384x3584, .f32⟩
  | 75 => ⟨S16384x3584, .f32⟩
  | 76 => ⟨S16384x3584, .f32⟩
  | 77 => ⟨S_, .f32⟩
  | 78 => ⟨S16384x3584, .f32⟩
  | 79 => ⟨S16384x3584, .f32⟩
  | 80 => ⟨S_, .f32⟩
  | 81 => ⟨S16384x3584, .f32⟩
  | 82 => ⟨S16384x3584, .f32⟩
  | 83 => ⟨S16384x3584, .f32⟩
  | 84 => ⟨S16384x3584, .f32⟩
  | 85 => ⟨S16384x3584, .f32⟩
  | 86 => ⟨S16384x1024, .f32⟩
  | 87 => ⟨S16384x1024, .f32⟩
  | 88 => ⟨S16384x1024, .f32⟩
  | 89 => ⟨S16384x1024, .f32⟩
  | 90 => ⟨S16384x1, .f32⟩
  | 91 => ⟨S1x1024x3584, .f32⟩
  | 92 => ⟨S1024x3584, .f32⟩
  | 93 => ⟨S1x1024x3584, .f32⟩
  | 94 => ⟨S1024x3584, .f32⟩
  | 95 => ⟨S1x3584x1024, .f32⟩
  | 96 => ⟨S3584x1024, .f32⟩
  | 97 => ⟨S16384x3584, .f32⟩
  | 98 => ⟨S16384x3584, .f32⟩
  | 99 => ⟨S16384x3584, .f32⟩
  | 100 => ⟨S_, .f32⟩
  | 101 => ⟨S16384x3584, .f32⟩
  | 102 => ⟨S16384x3584, .f32⟩
  | 103 => ⟨S_, .f32⟩
  | 104 => ⟨S16384x3584, .f32⟩
  | 105 => ⟨S16384x3584, .f32⟩
  | 106 => ⟨S16384x3584, .f32⟩
  | 107 => ⟨S16384x3584, .f32⟩
  | 108 => ⟨S16384x3584, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_values : Ref sig .tc := ⟨.hbm, 28, rfl⟩
abbrev main_indices : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call3_v0 : Ref sig .tc := ⟨.hbm, 111, rfl⟩
abbrev main_call3_v1 : Ref sig .tc := ⟨.hbm, 112, rfl⟩
abbrev main_call3_cst : Ref sig .tc := ⟨.hbm, 113, rfl⟩
abbrev main_call3_v2 : Ref sig .tc := ⟨.hbm, 114, rfl⟩
abbrev main_call3_v3 : Ref sig .tc := ⟨.hbm, 115, rfl⟩
abbrev main_call3_cst_0 : Ref sig .tc := ⟨.hbm, 116, rfl⟩
abbrev main_call3_v4 : Ref sig .tc := ⟨.hbm, 117, rfl⟩
abbrev main_call3_v5 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_call4_v0 : Ref sig .tc := ⟨.hbm, 134, rfl⟩
abbrev main_call4_v1 : Ref sig .tc := ⟨.hbm, 135, rfl⟩
abbrev main_call4_cst : Ref sig .tc := ⟨.hbm, 136, rfl⟩
abbrev main_call4_v2 : Ref sig .tc := ⟨.hbm, 137, rfl⟩
abbrev main_call4_v3 : Ref sig .tc := ⟨.hbm, 138, rfl⟩
abbrev main_call4_cst_0 : Ref sig .tc := ⟨.hbm, 139, rfl⟩
abbrev main_call4_v4 : Ref sig .tc := ⟨.hbm, 140, rfl⟩
abbrev main_call4_v5 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_call5_v0 : Ref sig .tc := ⟨.hbm, 157, rfl⟩
abbrev main_call5_v1 : Ref sig .tc := ⟨.hbm, 158, rfl⟩
abbrev main_call5_cst : Ref sig .tc := ⟨.hbm, 159, rfl⟩
abbrev main_call5_v2 : Ref sig .tc := ⟨.hbm, 160, rfl⟩
abbrev main_call5_v3 : Ref sig .tc := ⟨.hbm, 161, rfl⟩
abbrev main_call5_cst_0 : Ref sig .tc := ⟨.hbm, 162, rfl⟩
abbrev main_call5_v4 : Ref sig .tc := ⟨.hbm, 163, rfl⟩
abbrev main_call5_v5 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_call6_v0 : Ref sig .tc := ⟨.hbm, 180, rfl⟩
abbrev main_call6_v1 : Ref sig .tc := ⟨.hbm, 181, rfl⟩
abbrev main_call6_cst : Ref sig .tc := ⟨.hbm, 182, rfl⟩
abbrev main_call6_v2 : Ref sig .tc := ⟨.hbm, 183, rfl⟩
abbrev main_call6_v3 : Ref sig .tc := ⟨.hbm, 184, rfl⟩
abbrev main_call6_cst_0 : Ref sig .tc := ⟨.hbm, 185, rfl⟩
abbrev main_call6_v4 : Ref sig .tc := ⟨.hbm, 186, rfl⟩
abbrev main_call6_v5 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_call7_v0 : Ref sig .tc := ⟨.hbm, 203, rfl⟩
abbrev main_call7_v1 : Ref sig .tc := ⟨.hbm, 204, rfl⟩
abbrev main_call7_cst : Ref sig .tc := ⟨.hbm, 205, rfl⟩
abbrev main_call7_v2 : Ref sig .tc := ⟨.hbm, 206, rfl⟩
abbrev main_call7_v3 : Ref sig .tc := ⟨.hbm, 207, rfl⟩
abbrev main_call7_cst_0 : Ref sig .tc := ⟨.hbm, 208, rfl⟩
abbrev main_call7_v4 : Ref sig .tc := ⟨.hbm, 209, rfl⟩
abbrev main_call7_v5 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_call8_v0 : Ref sig .tc := ⟨.hbm, 226, rfl⟩
abbrev main_call8_v1 : Ref sig .tc := ⟨.hbm, 227, rfl⟩
abbrev main_call8_cst : Ref sig .tc := ⟨.hbm, 228, rfl⟩
abbrev main_call8_v2 : Ref sig .tc := ⟨.hbm, 229, rfl⟩
abbrev main_call8_v3 : Ref sig .tc := ⟨.hbm, 230, rfl⟩
abbrev main_call8_cst_0 : Ref sig .tc := ⟨.hbm, 231, rfl⟩
abbrev main_call8_v4 : Ref sig .tc := ⟨.hbm, 232, rfl⟩
abbrev main_call8_v5 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S16384x1024 : Shape := ⟨2, ![16384, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x1024, .f32⟩
  | .hbm, ⟨7, _⟩ => ⟨S16384x256, .f32⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2048x1024 : Shape := ⟨3, ![8, 2048, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S16384x1024 : Shape := ⟨2, ![16384, 1024]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x1024, .f32⟩
  | .hbm, ⟨7, _⟩ => ⟨S16384x256, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x4376 : Shape := ⟨2, ![1024, 4376]⟩
abbrev S512 : Shape := ⟨1, ![512]⟩
abbrev S1536 : Shape := ⟨1, ![1536]⟩
abbrev S1024x512 : Shape := ⟨2, ![1024, 512]⟩
abbrev S_ : Shape := ⟨0, ![]⟩
abbrev S512x1 : Shape := ⟨2, ![512, 1]⟩
abbrev S1024x768 : Shape := ⟨2, ![1024, 768]⟩
abbrev S1024x24 : Shape := ⟨2, ![1024, 24]⟩
abbrev S1536x1 : Shape := ⟨2, ![1536, 1]⟩
abbrev S1024x1536 : Shape := ⟨2, ![1024, 1536]⟩
abbrev S1024x3072 : Shape := ⟨2, ![1024, 3072]⟩
abbrev S1024x5888 : Shape := ⟨2, ![1024, 5888]⟩
abbrev S16384x1024 : Shape := ⟨2, ![16384, 1024]⟩
abbrev S1x1024 : Shape := ⟨2, ![1, 1024]⟩
abbrev S16384x512 : Shape := ⟨2, ![16384, 512]⟩
abbrev S16384x256 : Shape := ⟨2, ![16384, 256]⟩
abbrev S16384x1536 : Shape := ⟨2, ![16384, 1536]⟩
abbrev S256x1024 : Shape := ⟨2, ![256, 1024]⟩
abbrev S256x512 : Shape := ⟨2, ![256, 512]⟩
abbrev S256x256 : Shape := ⟨2, ![256, 256]⟩
abbrev S256x1536 : Shape := ⟨2, ![256, 1536]⟩
abbrev S256 : Shape := ⟨1, ![256]⟩
abbrev S256x1 : Shape := ⟨2, ![256, 1]⟩
abbrev S1024x256 : Shape := ⟨2, ![1024, 256]⟩
abbrev S1024x1024 : Shape := ⟨2, ![1024, 1024]⟩

abbrev nBuf : Space → Nat
  | .hbm => 36
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4376, .f32⟩
  | .hbm, ⟨3, _⟩ => ⟨S512, .i32⟩
  | .hbm, ⟨4, _⟩ => ⟨S512, .i1⟩
  | .hbm, ⟨5, _⟩ => ⟨S1536, .i32⟩
  | .hbm, ⟨6, _⟩ => ⟨S1536, .i1⟩
  | .hbm, ⟨7, _⟩ => ⟨S1024x512, .f32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S1024x512, .f32⟩
  | .hbm, ⟨14, _⟩ => ⟨S1024x768, .f32⟩
  | .hbm, ⟨15, _⟩ => ⟨S1024x24, .f32⟩
  | .hbm, ⟨16, _⟩ => ⟨S_, .i32⟩
  | .hbm, ⟨17, _⟩ => ⟨S1536, .i32⟩
  | .hbm, ⟨18, _⟩ => ⟨S1536, .i32⟩
  | .hbm, ⟨19, _⟩ => ⟨S1536, .i32⟩
  | .hbm, ⟨20, _⟩ => ⟨S1536x1, .i32⟩
  | .hbm, ⟨21, _⟩ => ⟨S1024x1536, .f32⟩
  | .hbm, ⟨22, _⟩ => ⟨S1024x3072, .f32⟩
  | .hbm, ⟨23, _⟩ => ⟨S1024x5888, .f32⟩
  | .hbm, ⟨24, _⟩ => ⟨S1024x5888, .bf16⟩
  | .hbm, ⟨25, _⟩ => ⟨S16384x1024, .f32⟩
  | .hbm, ⟨26, _⟩ => ⟨S1x1024, .f32⟩
  | .hbm, ⟨27, _⟩ => ⟨S16384x1024, .bf16⟩
  | .hbm, ⟨28, _⟩ => ⟨S16384x512, .f32⟩
  | .hbm, ⟨29, _⟩ => ⟨S16384x512, .f32⟩
  | .hbm, ⟨30, _⟩ => ⟨S16384x256, .f32⟩
  | .hbm, ⟨31, _⟩ => ⟨S16384x1536, .f32⟩
  | .hbm, ⟨32, _⟩ => ⟨S16384x512, .f32⟩
  | .hbm, ⟨33, _⟩ => ⟨S16384x1024, .f32⟩
  | .hbm, ⟨34, _⟩ => ⟨S16384x512, .f32⟩
  | .hbm, ⟨35, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5888, .bf16⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S256x1536, .f32⟩
  | .local _ .vmem, ⟨13, _⟩ => ⟨S256x1536, .f32⟩
  | .local _ .vmem, ⟨14, _⟩ => ⟨S256x512, .f32⟩
  | .local _ .vmem, ⟨15, _⟩ => ⟨S256x512, .f32⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | .local _ .vmem, ⟨20, _⟩ => ⟨S256x1024, .f32⟩
  | .local _ .vmem, ⟨21, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_c_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v18_7 : Ref sig .tc := ⟨.hbm, 34, rfl⟩
abbrev main_v18_8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8x2048x1024 : Shape := ⟨3, ![8, 2048, 1024]⟩
abbrev S1024 : Shape := ⟨1, ![1024]⟩
abbrev S1024x4376 : Shape := ⟨2, ![1024, 4376]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4376 : Shape := ⟨2, ![16384, 4376]⟩
abbrev S16384x768 : Shape := ⟨2, ![16384, 768]⟩
abbrev S16384x512 : Shape := ⟨2, ![16384, 512]⟩
abbrev S16384x256 : Shape := ⟨2, ![16384, 256]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4376, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4376, .f32⟩
  | .hbm, ⟨21, _⟩ => ⟨S16384x768, .f32⟩
  | .hbm, ⟨22, _⟩ => ⟨S16384x512, .f32⟩
  | .hbm, ⟨23, _⟩ => ⟨S16384x256, .f32⟩
  | .hbm, ⟨24, _⟩ => ⟨S16384x512, .f32⟩
  | .hbm, ⟨25, _⟩ => ⟨S16384x1024, .f32⟩
  | .hbm, ⟨26, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel5.lean ====
abbrev S8x2048x1024 : Shape := ⟨3, ![8, 2048, 1024]⟩
abbrev S8x2048x24 : Shape := ⟨3, ![8, 2048, 24]⟩
abbrev S8x2048x2x4x64 : Shape := ⟨5, ![8, 2048, 2, 4, 64]⟩
abbrev S8x2048x512 : Shape := ⟨3, ![8, 2048, 512]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S1536 : Shape := ⟨1, ![1536]⟩
abbrev S512 : Shape := ⟨1, ![512]⟩
abbrev S16384x24 : Shape := ⟨2, ![16384, 24]⟩
abbrev S_ : Shape := ⟨0, ![]⟩
abbrev S1536x1 : Shape := ⟨2, ![1536, 1]⟩
abbrev S16384x1536 : Shape := ⟨2, ![16384, 1536]⟩
abbrev S16384x2x4x64 : Shape := ⟨4, ![16384, 2, 4, 64]⟩
abbrev S16384x4x2x64 : Shape := ⟨4, ![16384, 4, 2, 64]⟩
abbrev S16384x512 : Shape := ⟨2, ![16384, 512]⟩
abbrev S1x512x1024 : Shape := ⟨3, ![1, 512, 1024]⟩
abbrev S512x1024 : Shape := ⟨2, ![512, 1024]⟩
abbrev S512x1 : Shape := ⟨2, ![512, 1]⟩
abbrev S1 : Shape := ⟨1, ![1]⟩
abbrev S16384x1024 : Shape := ⟨2, ![16384, 1024]⟩
abbrev S1x4096 : Shape := ⟨2, ![1, 4096]⟩
abbrev S256x1024 : Shape := ⟨2, ![256, 1024]⟩
abbrev S256x1536 : Shape := ⟨2, ![256, 1536]⟩
abbrev S256x512 : Shape := ⟨2, ![256, 512]⟩
abbrev S1x1024 : Shape := ⟨2, ![1, 1024]⟩

abbrev nBuf : Space → Nat
  | .hbm => 63
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x24, .f32⟩
  | .hbm, ⟨3, _⟩ => ⟨S8x2048x2x4x64, .f32⟩
  | .hbm, ⟨4, _⟩ => ⟨S8x2048x2x4x64, .f32⟩
  | .hbm, ⟨5, _⟩ => ⟨S8x2048x2x4x64, .f32⟩
  | .hbm, ⟨6, _⟩ => ⟨S8x2048x512, .f32⟩
  | .hbm, ⟨7, _⟩ => ⟨S8x2048x512, .f32⟩
  | .hbm, ⟨8, _⟩ => ⟨S8x2048x512, .f32⟩
  | .hbm, ⟨9, _⟩ => ⟨S4x512x1024, .f32⟩
  | .hbm, ⟨10, _⟩ => ⟨S1024x4096, .f32⟩
  | .hbm, ⟨11, _⟩ => ⟨S4096, .f32⟩
  | .hbm, ⟨12, _⟩ => ⟨S1024x1024, .f32⟩
  | .hbm, ⟨13, _⟩ => ⟨S1536, .i32⟩
  | .hbm, ⟨14, _⟩ => ⟨S1536, .i1⟩
  | .hbm, ⟨15, _⟩ => ⟨S512, .i32⟩
  | .hbm, ⟨16, _⟩ => ⟨S512, .i1⟩
  | .hbm, ⟨17, _⟩ => ⟨S16384x24, .f32⟩
  | .hbm, ⟨18, _⟩ => ⟨S16384x24, .f32⟩
  | .hbm, ⟨19, _⟩ => ⟨S16384x24, .f32⟩
  | .hbm, ⟨20, _⟩ => ⟨S_, .f32⟩
  | .hbm, ⟨21, _⟩ => ⟨S16384x24, .f32⟩
  | .hbm, ⟨22, _⟩ => ⟨S16384x24, .f32⟩
  | .hbm, ⟨23, _⟩ => ⟨S_, .f32⟩
  | .hbm, ⟨24, _⟩ => ⟨S16384x24, .f32⟩
  | .hbm, ⟨25, _⟩ => ⟨S16384x24, .f32⟩
  | .hbm, ⟨26, _⟩ => ⟨S_, .i32⟩
  | .hbm, ⟨27, _⟩ => ⟨S1536, .i32⟩
  | .hbm, ⟨28, _⟩ => ⟨S1536, .i32⟩
  | .hbm, ⟨29, _⟩ => ⟨S1536, .i32⟩
  | .hbm, ⟨30, _⟩ => ⟨S1536x1, .i32⟩
  | .hbm, ⟨31, _⟩ => ⟨S16384x1536, .f32⟩
  | .hbm, ⟨32, _⟩ => ⟨S16384x2x4x64, .f32⟩
  | .hbm, ⟨33, _⟩ => ⟨S16384x4x2x64, .f32⟩
  | .hbm, ⟨34, _⟩ => ⟨S16384x512, .f32⟩
  | .hbm, ⟨35, _⟩ => ⟨S16384x2x4x64, .f32⟩
  | .hbm, ⟨36, _⟩ => ⟨S16384x4x2x64, .f32⟩
  | .hbm, ⟨37, _⟩ => ⟨S16384x512, .f32⟩
  | .hbm, ⟨38, _⟩ => ⟨S16384x2x4x64, .f32⟩
  | .hbm, ⟨39, _⟩ => ⟨S16384x4x2x64, .f32⟩
  | .hbm, ⟨40, _⟩ => ⟨S16384x512, .f32⟩
  | .hbm, ⟨41, _⟩ => ⟨S1x512x1024, .f32⟩
  | .hbm, ⟨42, _⟩ => ⟨S512x1024, .f32⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S512x1, .i32⟩
  | .hbm, ⟨48, _⟩ => ⟨S512x1024, .f32⟩
  | .hbm, ⟨49, _⟩ => ⟨S_, .i32⟩
  | .hbm, ⟨50, _⟩ => ⟨S1, .i32⟩
  | .hbm, ⟨51, _⟩ => ⟨S4x512x1024, .f32⟩
  | .hbm, ⟨52, _⟩ => ⟨S4x512x1024, .bf16⟩
  | .hbm, ⟨53, _⟩ => ⟨S16384x1024, .f32⟩
  | .hbm, ⟨54, _⟩ => ⟨S16384x1024, .f32⟩
  | .hbm, ⟨55, _⟩ => ⟨S16384x1024, .bf16⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S1024x4096, .bf16⟩
  | .hbm, ⟨60, _⟩ => ⟨S1x4096, .f32⟩
  | .hbm, ⟨61, _⟩ => ⟨S1024x1024, .bf16⟩
  | .hbm, ⟨62, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1536, .f32⟩
  | .local _ .vmem, ⟨5, _⟩ => ⟨S256x1536, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1024x4096, .bf16⟩
  | .local _ .vmem, ⟨19, _⟩ => ⟨S1x4096, .f32⟩
  | .local _ .vmem, ⟨20, _⟩ => ⟨S4x512x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_3 : Ref sig .tc := ⟨.hbm, 23, rfl⟩
abbrev main_v5 : Ref sig .tc := ⟨.hbm, 24, rfl⟩
abbrev main_v6 : Ref sig .tc := ⟨.hbm, 25, rfl⟩
abbrev main_c_4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S8x2048x1024 : Shape := ⟨3, ![8, 2048, 1024]⟩
abbrev S8x2048x24 : Shape := ⟨3, ![8, 2048, 24]⟩
abbrev S8x2048x2x4x64 : Shape := ⟨5, ![8, 2048, 2, 4, 64]⟩
abbrev S8x2048x512 : Shape := ⟨3, ![8, 2048, 512]⟩
abbrev S4x512x1024 : Shape := ⟨3, ![4, 512, 1024]⟩
abbrev S1024x4096 : Shape := ⟨2, ![1024, 4096]⟩
abbrev S4096 : Shape := ⟨1, ![4096]⟩
abbrev S1024x1024 : Shape := ⟨2, ![1024, 1024]⟩
abbrev S16384x1024 : Shape := ⟨2, ![16384, 1024]⟩
abbrev S16384x2x4x64 : Shape := ⟨4, ![16384, 2, 4, 64]⟩
abbrev S_ : Shape := ⟨0, ![]⟩
abbrev S16384x2x4x3 : Shape := ⟨4, ![16384, 2, 4, 3]⟩
abbrev S16384x2x4x1 : Shape := ⟨4, ![16384, 2, 4, 1]⟩
abbrev S16384x512 : Shape := ⟨2, ![16384, 512]⟩
abbrev S16384x1x512 : Shape := ⟨3, ![16384, 1, 512]⟩
abbrev S16384x4x512 : Shape := ⟨3, ![16384, 4, 512]⟩
abbrev S4x1024x16384 : Shape := ⟨3, ![4, 1024, 16384]⟩
abbrev S16384x4x1024 : Shape := ⟨3, ![16384, 4, 1024]⟩
abbrev S16384x4096 : Shape := ⟨2, ![16384, 4096]⟩
abbrev S1x4096 : Shape := ⟨2, ![1, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x24, .f32⟩
  | .hbm, ⟨3, _⟩ => ⟨S8x2048x2x4x64, .f32⟩
  | .hbm, ⟨4, _⟩ => ⟨S8x2048x2x4x64, .f32⟩
  | .hbm, ⟨5, _⟩ => ⟨S8x2048x2x4x64, .f32⟩
  | .hbm, ⟨6, _⟩ => ⟨S8x2048x512, .f32⟩
  | .hbm, ⟨7, _⟩ => ⟨S8x2048x512, .f32⟩
  | .hbm, ⟨8, _⟩ => ⟨S8x2048x512, .f32⟩
  | .hbm, ⟨9, _⟩ => ⟨S4x512x1024, .f32⟩
  | .hbm, ⟨10, _⟩ => ⟨S1024x4096, .f32⟩
  | .hbm, ⟨11, _⟩ => ⟨S4096, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S16384x2x4x64, .f32⟩
  | .hbm, ⟨16, _⟩ => ⟨S16384x2x4x64, .f32⟩
  | .hbm, ⟨17, _⟩ => ⟨S16384x2x4x64, .f32⟩
  | .hbm, ⟨18, _⟩ => ⟨S8x2048x24, .f32⟩
  | .hbm, ⟨19, _⟩ => ⟨S8x2048x24, .f32⟩
  | .hbm, ⟨20, _⟩ => ⟨S_, .f32⟩
  | .hbm, ⟨21, _⟩ => ⟨S8x2048x24, .f32⟩
  | .hbm, ⟨22, _⟩ => ⟨S8x2048x24, .f32⟩
  | .hbm, ⟨23, _⟩ => ⟨S_, .f32⟩
  | .hbm, ⟨24, _⟩ => ⟨S8x2048x24, .f32⟩
  | .hbm, ⟨25, _⟩ => ⟨S8x2048x24, .f32⟩
  | .hbm, ⟨26, _⟩ => ⟨S16384x2x4x3, .f32⟩
  | .hbm, ⟨27, _⟩ => ⟨S16384x2x4x1, .f32⟩
  | .hbm, ⟨28, _⟩ => ⟨S16384x2x4x64, .f32⟩
  | .hbm, ⟨29, _⟩ => ⟨S16384x2x4x64, .f32⟩
  | .hbm, ⟨30, _⟩ => ⟨S16384x2x4x1, .f32⟩
  | .hbm, ⟨31, _⟩ => ⟨S16384x2x4x64, .f32⟩
  | .hbm, ⟨32, _⟩ => ⟨S16384x2x4x64, .f32⟩
  | .hbm, ⟨33, _⟩ => ⟨S16384x2x4x64, .f32⟩
  | .hbm, ⟨34, _⟩ => ⟨S16384x2x4x1, .f32⟩
  | .hbm, ⟨35, _⟩ => ⟨S16384x2x4x64, .f32⟩
  | .hbm, ⟨36, _⟩ => ⟨S16384x2x4x64, .f32⟩
  | .hbm, ⟨37, _⟩ => ⟨S16384x2x4x64, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x1x512, .f32⟩
  | .hbm, ⟨43, _⟩ => ⟨S16384x1x512, .f32⟩
  | .hbm, ⟨44, _⟩ => ⟨S16384x1x512, .f32⟩
  | .hbm, ⟨45, _⟩ => ⟨S16384x1x512, .f32⟩
  | .hbm, ⟨46, _⟩ => ⟨S16384x4x512, .f32⟩
  | .hbm, ⟨47, _⟩ => ⟨S4x1024x16384, .f32⟩
  | .hbm, ⟨48, _⟩ => ⟨S16384x4x1024, .f32⟩
  | .hbm, ⟨49, _⟩ => ⟨S16384x4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S_, .f32⟩
  | .hbm, ⟨56, _⟩ => ⟨S16384x4096, .f32⟩
  | .hbm, ⟨57, _⟩ => ⟨S16384x4096, .f32⟩
  | .hbm, ⟨58, _⟩ => ⟨S_, .f32⟩
  | .hbm, ⟨59, _⟩ => ⟨S16384x4096, .f32⟩
  | .hbm, ⟨60, _⟩ => ⟨S16384x4096, .f32⟩
  | .hbm, ⟨61, _⟩ => ⟨S16384x4x1024, .f32⟩
  | .hbm, ⟨62, _⟩ => ⟨S16384x4x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_1 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Stretches.lean ====
module

public import proofs.«01_k».proof.Proof.Gen.KernelIdeal.Skeleton

/-! # One grid point in four stretches

The body of a grid point sets up the block (in its first point), gathers the tokens of its expert
(in the expert's first point), runs the expert on the gathered slots, scatters the outputs back (in
the expert's last point) and writes the block out (in its last point).  Each stretch is named here
with the program behind it as an argument, so that each has its own triple. -/

@[expose] public section

set_option maxHeartbeats 4000000

noncomputable section

namespace Cert.KernelIdeal.Gen

open Idealize.ShloMosaic Idealize.SL.Sem

variable {F : FTy → Type} [FloatOps F]

/-- Gathering an expert's tokens into the slots, and clearing the slots of the outputs. -/
noncomputable def gatherP (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (v7 : Elt F .i32) (k0_hw1 : k0_chk1 i v7) (v17 v21 : BitVec 32) (v35 : BitVec 1) (v36 : BitVec 32) (next : Unit → Prog (TpuEff nD τ sig (Elt F) Λ₀ .tc) PUnit) :
    Prog (TpuEff nD τ sig (Elt F) Λ₀ .tc) PUnit := do
  if k0_h2 : k0_cond2 i = 1#1 then do
    let v60 : Vec F S1x1024 .f32 ← Prog.lift (.load arg14 (Rect.unit (s := S128x1024) (k0_off2 i) S1x1024.size (k0_off2_inb i k0_h2)).toLoadRect (View.loadsAt_vmem h_S1x1024))
    Scf.Loop.for (k0_t1_loop v7) (k0_t1_ok i v7 k0_hw1 k0_h2) ⟨⟩ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7 k0_hw1 k0_h2 v60)
    Scf.Loop.for (k0_t2_loop v7) (k0_t2_ok i v7 k0_hw1 k0_h2) ⟨⟩ (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7 k0_hw1 v17 v21 v35 v36 k0_h2 v60)
    if k0_h3 : k0_cond3 v7 = 1#1 then do
      let v80 : Vec F S1024x1024 .bf16 ← Prog.lift (.load arg12 (Rect.unit (s := S1024x1024) ![0, 0] S1024x1024.size inb_S1024x1024_S1024x1024_0_0).toLoadRect (View.loadsAt_vmem h_S1024x1024))
      let v84 : Vec F S1x128x1024 .bf16 ← Prog.lift (.load arg17 (Rect.unit (s := S4x256x1024) (k0_off5 v7) S1x128x1024.size (k0_off5_inb i v7 k0_hw1 k0_h2 k0_h3)).toLoadRect (View.loadsAt_vmem h_S1x128x1024))
      Prog.lift (.store arg17 (Rect.unit (s := S4x256x1024) (k0_off5 v7) S1x128x1024.size (k0_off5_inb i v7 k0_hw1 k0_h2 k0_h3)) (k0_pay5 v17 v21 v35 v36 v60 v80) Finset.univ (View.stores_vmem h_S1x128x1024 (harg17.storeExact_slice rfl _ (k0_off5_packedbf16 i v7 k0_hw1 k0_h2 k0_h3)) (fun _ => rfl)) (.inl rfl))
      let v89 : Vec F S1x128x1024 .f32 ← Prog.lift (.load arg18 (Rect.unit (s := S4x256x1024) (k0_off5 v7) S1x128x1024.size (k0_off5_inb i v7 k0_hw1 k0_h2 k0_h3)).toLoadRect (View.loadsAt_vmem h_S1x128x1024))
      Prog.lift (.store arg18 (Rect.unit (s := S4x256x1024) (k0_off5 v7) S1x128x1024.size (k0_off5_inb i v7 k0_hw1 k0_h2 k0_h3)) (k0_pay6 (F := F)) Finset.univ (View.stores_vmem_bits_univ h_S1x128x1024 rfl) (.inl rfl))
      pure ⟨⟩
    else do
      pure ⟨⟩
    pure ⟨⟩
  else do
    pure ⟨⟩
  next ⟨⟩

/-- The expert on every slot, for one quarter of its hidden features. -/
noncomputable def expertP (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (v7 : Elt F .i32) (k0_hw1 : k0_chk1 i v7) (v17 v21 : BitVec 32) (v35 : BitVec 1) (v36 : BitVec 32) (next : Unit → Prog (TpuEff nD τ sig (Elt F) Λ₀ .tc) PUnit) :
    Prog (TpuEff nD τ sig (Elt F) Λ₀ .tc) PUnit := do
  Scf.Loop.for (k0_t3_loop v7) (k0_t3_ok i v7 k0_hw1) ⟨⟩ (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7 k0_hw1)
  Scf.Loop.for (k0_t4_loop v7) (k0_t4_ok i v7 k0_hw1) ⟨⟩ (k0_t4_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7 k0_hw1)
  if k0_h4 : k0_cond4 v7 = 1#1 then do
    let v60 : Vec F S1x128x1024 .bf16 ← Prog.lift (.load arg17 (Rect.unit (s := S4x256x1024) (k0_off8 v7) S1x128x1024.size (k0_off8_inb i v7 k0_hw1 k0_h4)).toLoadRect (View.loadsAt_vmem h_S1x128x1024))
    let v62 : Vec F S1x1024x896 .bf16 ← Prog.lift (.load arg8 (Rect.unit (s := S1x1024x896) ![0, 0, 0] S1x1024x896.size inb_S1x1024x896_S1x1024x896_0_0_0).toLoadRect (View.loadsAt_vmem h_S1x1024x896))
    let v67 : Vec F S1x1024x896 .bf16 ← Prog.lift (.load arg9 (Rect.unit (s := S1x1024x896) ![0, 0, 0] S1x1024x896.size inb_S1x1024x896_S1x1024x896_0_0_0).toLoadRect (View.loadsAt_vmem h_S1x1024x896))
    let v72 : Vec F S1x128x1024 .f32 ← Prog.lift (.load arg18 (Rect.unit (s := S4x256x1024) (k0_off8 v7) S1x128x1024.size (k0_off8_inb i v7 k0_hw1 k0_h4)).toLoadRect (View.loadsAt_vmem h_S1x128x1024))
    let v75 : Vec F S1x896x1024 .bf16 ← Prog.lift (.load arg10 (Rect.unit (s := S1x896x1024) ![0, 0, 0] S1x896x1024.size inb_S1x896x1024_S1x896x1024_0_0_0).toLoadRect (View.loadsAt_vmem h_S1x896x1024))
    let v80 : Vec F S1x128x1024 .f32 ← Prog.lift (.load arg18 (Rect.unit (s := S4x256x1024) (k0_off8 v7) S1x128x1024.size (k0_off8_inb i v7 k0_hw1 k0_h4)).toLoadRect (View.loadsAt_vmem h_S1x128x1024))
    Prog.lift (.store arg18 (Rect.unit (s := S4x256x1024) (k0_off8 v7) S1x128x1024.size (k0_off8_inb i v7 k0_hw1 k0_h4)) (k0_pay9 v60 v62 v67 v72 v75) Finset.univ (View.stores_vmem_bits_univ h_S1x128x1024 rfl) (.inl rfl))
    pure ⟨⟩
  else do
    pure ⟨⟩
  next ⟨⟩

/-- The slots' outputs, weighted, back at their tokens. -/
noncomputable def scatterP (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (arg1 : BitVec 32) (v0 : IVec S1024x128 32) (v7 : Elt F .i32) (k0_hw1 : k0_chk1 i v7) (v17 v21 : BitVec 32) (v35 : BitVec 1) (v36 : BitVec 32) (next : Unit → Prog (TpuEff nD τ sig (Elt F) Λ₀ .tc) PUnit) :
    Prog (TpuEff nD τ sig (Elt F) Λ₀ .tc) PUnit := do
  if k0_h5 : k0_cond5 i = 1#1 then do
    let v61 : Vec F S1024x128 .f32 ← Prog.lift (.load arg15 (Rect.unit (s := S1024x128) ![0, 0] S1024x128.size inb_S1024x128_S1024x128_0_0).toLoadRect (View.loadsAt_vmem h_S1024x128))
    let v68 : Vec F S1024x128 .f32 ← Prog.lift (.load arg13 (Rect.unit (s := S1024x128) ![0, 0] S1024x128.size inb_S1024x128_S1024x128_0_0).toLoadRect (View.loadsAt_vmem h_S1024x128))
    Scf.Loop.for (k0_t5_loop v7) (k0_t5_ok i v7 k0_hw1 k0_h5) ⟨⟩ (k0_t5_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v0 v7 k0_hw1 k0_h5 v61 v68)
    Scf.Loop.for (k0_t6_loop v7) (k0_t6_ok i v7 k0_hw1 k0_h5) ⟨⟩ (k0_t6_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v0 v7 k0_hw1 v17 v21 v35 v36 k0_h5 v61 v68)
    if k0_h6 : k0_cond6 v7 = 1#1 then do
      let v93 : Vec F S1x128x1024 .f32 ← Prog.lift (.load arg18 (Rect.unit (s := S4x256x1024) (k0_off11 v7) S1x128x1024.size (k0_off11_inb i v7 k0_hw1 k0_h5 k0_h6)).toLoadRect (View.loadsAt_vmem h_S1x128x1024))
      let v99 : Vec F S1024x1024 .f32 ← Prog.lift (.load arg19 (Rect.unit (s := S1024x1024) ![0, 0] S1024x1024.size inb_S1024x1024_S1024x1024_0_0).toLoadRect (View.loadsAt_vmem h_S1024x1024))
      let v106 : Vec F S1024x1024 .f32 ← Prog.lift (.load arg19 (Rect.unit (s := S1024x1024) ![0, 0] S1024x1024.size inb_S1024x1024_S1024x1024_0_0).toLoadRect (View.loadsAt_vmem h_S1024x1024))
      Prog.lift (.store arg19 (Rect.unit (s := S1024x1024) ![0, 0] S1024x1024.size inb_S1024x1024_S1024x1024_0_0) (k0_pay14 arg1 v0 v17 v21 v35 v36 v61 v68 v93 v99) Finset.univ (View.stores_vmem_bits_univ h_S1024x1024 rfl) (.inl rfl))
      pure ⟨⟩
    else do
      pure ⟨⟩
    pure ⟨⟩
  else do
    pure ⟨⟩
  next ⟨⟩

/-- The block plus what its experts add to it, written out. -/
noncomputable def finP (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) :
    Prog (TpuEff nD τ sig (Elt F) Λ₀ .tc) PUnit := do
  if k0_h7 : k0_cond7 i = 1#1 then do
    let v59 : Vec F S1024x1024 .f32 ← Prog.lift (.load arg3 (Rect.unit (s := S1024x1024) ![0, 0] S1024x1024.size inb_S1024x1024_S1024x1024_0_0).toLoadRect (View.loadsAt_vmem h_S1024x1024))
    let v61 : Vec F S1024x1024 .f32 ← Prog.lift (.load arg19 (Rect.unit (s := S1024x1024) ![0, 0] S1024x1024.size inb_S1024x1024_S1024x1024_0_0).toLoadRect (View.loadsAt_vmem h_S1024x1024))
    let v63 : Vec F S1024x1024 .f32 ← Prog.lift (.load arg11 (Rect.unit (s := S1024x1024) ![0, 0] S1024x1024.size inb_S1024x1024_S1024x1024_0_0).toLoadRect (View.loadsAt_vmem h_S1024x1024))
    Prog.lift (.store arg11 (Rect.unit (s := S1024x1024) ![0, 0] S1024x1024.size inb_S1024x1024_S1024x1024_0_0) (k0_pay15 v59 v61) Finset.univ (View.stores_vmem_bits_univ h_S1024x1024 rfl) (.inl rfl))
    pure ⟨⟩
  else do
    pure ⟨⟩
  pure ⟨⟩

set_option maxRecDepth 65536 in
/-- The body is its stretches, one after the other. -/
theorem skel_eq (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) : cc0_moe_swiglu_skel (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (do
  let ⟨arg1, arg2, v0, v7, k0_hw1, v17, v20, v21, v35, v36⟩ : Σ' (arg1 : BitVec 32) (arg2 : BitVec 32) (v0 : IVec S1024x128 32) (v7 : Elt F .i32) (k0_hw1 : k0_chk1 i v7) (v17 : BitVec 32) (v20 : BitVec 1) (v21 : BitVec 32) (v35 : BitVec 1), BitVec 32 ← k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  gatherP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7 k0_hw1 v17 v21 v35 v36 fun _ => expertP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7 k0_hw1 v17 v21 v35 v36 fun _ => scatterP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v0 v7 k0_hw1 v17 v21 v35 v36 fun _ => finP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := rfl

end Cert.KernelIdeal.Gen

end
-- ==== Proof.Words.lean ====
module

public import proofs.«01_k».proof.KernelIdeal
public import Idealize.ShloMosaic.Lib.LoopRemainder

/-! # Slots of an expert

An expert that is given `n ≤ 1024` tokens works on `nfull n` whole slots of 256 rows and, when the
remainder is between 1 and 128, on one half slot of 128 rows behind them.  The kernel computes both
numbers from the count with 32-bit words; here the words are replaced by the natural numbers, by
going through all 1025 counts. -/

@[expose] public section

namespace Cert.KernelIdeal

open Idealize.ShloMosaic

/-- The whole slots of an expert with `n` tokens. -/
def nfull (n : ℕ) : ℕ := n / 256 + if 128 < n % 256 then 1 else 0

/-- Whether the expert with `n` tokens has a half slot. -/
def hasHalf (n : ℕ) : Prop := 0 < n % 256 ∧ n % 256 ≤ 128

instance (n : ℕ) : Decidable (hasHalf n) := inferInstanceAs (Decidable (_ ∧ _))

/-- A word of at most 1024 is the word of one of the 1025 numbers. -/
theorem forall_word {P : BitVec 32 → Prop} (h : ∀ n : Fin 1025, P (BitVec.ofNat 32 n)) (v : BitVec 32)
    (hv : v.toNat ≤ 1024) : P v := by
  have := h ⟨v.toNat, by omega⟩
  simpa using this

/-- What the words of the three groups of loops say about a count. -/
def WordFacts (v : BitVec 32) : Prop :=
  (k0_t1_loop v).OK ∧ (k0_t1_loop v).trips = nfull v.toNat ∧
  (k0_t2_loop v).OK ∧ (k0_t2_loop v).trips = 0 ∧
  (k0_t3_loop v).OK ∧ (k0_t3_loop v).trips = nfull v.toNat ∧
  (k0_t4_loop v).OK ∧ (k0_t4_loop v).trips = 0 ∧
  (k0_t5_loop v).OK ∧ (k0_t5_loop v).trips = nfull v.toNat ∧
  (k0_t6_loop v).OK ∧ (k0_t6_loop v).trips = 0 ∧
  (k0_cond3 v = 1#1 ↔ hasHalf v.toNat) ∧ (k0_cond4 v = 1#1 ↔ hasHalf v.toNat) ∧
  (k0_cond6 v = 1#1 ↔ hasHalf v.toNat) ∧
  (k0_off5 v 0 = nfull v.toNat ∧ k0_off5 v 1 = 0 ∧ k0_off5 v 2 = 0) ∧
  (k0_off8 v 0 = nfull v.toNat ∧ k0_off8 v 1 = 0 ∧ k0_off8 v 2 = 0) ∧
  (k0_off11 v 0 = nfull v.toNat ∧ k0_off11 v 1 = 0 ∧ k0_off11 v 2 = 0)

instance (v : BitVec 32) : Decidable (WordFacts v) := by unfold WordFacts; infer_instance

theorem wordFacts (v : BitVec 32) (hv : v.toNat ≤ 1024) : WordFacts v :=
  forall_word (P := WordFacts) (by decide +kernel) v hv

end Cert.KernelIdeal
-- ==== Proof.Slots.lean ====
module

public import proofs.«01_k».proof.Proof.Words
public import proofs.«01_k».proof.Proof.Gen.KernelIdeal.Skeleton
public import Idealize.ShloMosaic.Lib.VecWindow

/-! # What the slots hold

The contents of the slots as functions of what they are computed from: the gathered tokens, the
expert's output on them, and the block's sum after an expert's outputs were scattered back.  Only
the valid rows — those of a whole slot, and the first 128 of the half slot — are ever read. -/

@[expose] public section

noncomputable section

namespace Cert.KernelIdeal.Gen

open Idealize.ShloMosaic Idealize.SL.Sem

variable {F : FTy → Type} [FloatOps F]

/-- Row `r` of slot `s` is one an expert with `n` tokens works on. -/
def ValidAt (n : ℕ) (y : S4x256x1024.Idx) : Prop :=
  (y 0).val < nfull n ∨ ((y 0).val = nfull n ∧ hasHalf n ∧ (y 1).val < 128)

/-- The place of a row and column in a slot of its own. -/
def inSlot (y : S4x256x1024.Idx) : S1x256x1024.Idx := fun a => match a with
  | ⟨0, _⟩ => (⟨0, by decide⟩ : Fin 1) | ⟨1, _⟩ => y 1 | ⟨2, _⟩ => y 2

/-- The place of a row and column in a half slot of its own. -/
def inHalf (y : S4x256x1024.Idx) : S1x128x1024.Idx := fun a => match a with
  | ⟨0, _⟩ => (⟨0, by decide⟩ : Fin 1) | ⟨1, _⟩ => (⟨(y 1).val % 128, Nat.mod_lt _ (by decide)⟩ : Fin 128) | ⟨2, _⟩ => y 2

/-- Row `r`, column `d` of slot `s`. -/
def atSlot (s : Fin 4) (z : S1x256x1024.Idx) : S4x256x1024.Idx := fun a => match a with
  | ⟨0, _⟩ => s | ⟨1, _⟩ => z 1 | ⟨2, _⟩ => z 2

/-- Row `r < 128`, column `d` of slot `s`. -/
def atHalf (s : Fin 4) (z : S1x128x1024.Idx) : S4x256x1024.Idx := fun a => match a with
  | ⟨0, _⟩ => s | ⟨1, _⟩ => (⟨(z 1).val, lt_trans (z 1).isLt (by decide)⟩ : Fin 256) | ⟨2, _⟩ => z 2

/-- The remainder of a count by 256, as the kernel computes it. -/
def w17 (v7 : BitVec 32) : BitVec 32 :=
  let v8 : BitVec 1 := Scalar.cmpi .eq 256#32 0#32
  let v9 : BitVec 32 := Scalar.select v8 1#32 256#32
  let v10 : BitVec 32 := Scalar.remsi v7 v9
  let v11 : BitVec 1 := Scalar.cmpi .ne v10 0#32
  let v12 : BitVec 1 := Scalar.cmpi .slt v10 0#32
  let v13 : BitVec 1 := Scalar.cmpi .slt v9 0#32
  let v14 : BitVec 1 := Scalar.xori v12 v13
  let v15 : BitVec 1 := Scalar.andi v14 v11
  let v16 : BitVec 32 := Scalar.addi v10 v9
  Scalar.select v15 v16 v10

/-- The quotient of a count by 256, as the kernel computes it. -/
def w21 (v7 : BitVec 32) : BitVec 32 := Scalar.divsi v7 256#32

/-- Whether the kernel's quotient is to be corrected downwards (it never is). -/
def w35 (v7 : BitVec 32) : BitVec 1 :=
  let v22 : BitVec 1 := Scalar.cmpi .sgt v7 0#32
  let v23 : BitVec 32 := Scalar.extui v22
  let v24 : BitVec 1 := Scalar.cmpi .slt v7 0#32
  let v25 : BitVec 32 := Scalar.extui v24
  let v26 : BitVec 32 := Scalar.subi v23 v25
  let v27 : BitVec 1 := Scalar.cmpi .sgt 256#32 0#32
  let v28 : BitVec 32 := Scalar.extui v27
  let v29 : BitVec 1 := Scalar.cmpi .slt 256#32 0#32
  let v30 : BitVec 32 := Scalar.extui v29
  let v31 : BitVec 32 := Scalar.subi v28 v30
  let v32 : BitVec 1 := Scalar.cmpi .ne v26 v31
  let v33 : BitVec 32 := Scalar.remsi v7 256#32
  let v34 : BitVec 1 := Scalar.cmpi .ne v33 0#32
  Scalar.andi v32 v34

/-- The quotient corrected. -/
def w36 (v7 : BitVec 32) : BitVec 32 := Scalar.subi (w21 v7) 1#32

/-- The gathered tokens: of the normed block, those whose place in the expert's row is the slot's. -/
def gatherV (v7 : BitVec 32) (v60 : Vec F S1x1024 .f32) (x12 : Vec F S1024x1024 .bf16) : S4x256x1024.Idx → Elt F .bf16 :=
  fun y => if h : (y 0).val < (k0_t1_loop v7).trips then k0_pay1 v7 v60 ⟨(y 0).val, h⟩ x12 (inSlot y)
    else k0_pay5 (w17 v7) (w21 v7) (w35 v7) (w36 v7) v60 x12 (inHalf y)

/-- The cleared outputs. -/
def clearV : S4x256x1024.Idx → Elt F .f32 := fun y => k0_pay2 (F := F) (inSlot y)

/-- The slots' outputs after one more quarter of the expert's hidden features. -/
def expertV (v7 : BitVec 32) (wg wu : Vec F S1x1024x896 .bf16) (wd : Vec F S1x896x1024 .bf16)
    (X : S4x256x1024.Idx → Elt F .bf16) (Y : S4x256x1024.Idx → Elt F .f32) : S4x256x1024.Idx → Elt F .f32 :=
  fun y => if (y 0).val < nfull v7.toNat then
      k0_pay7 (fun z => X (atSlot (y 0) z)) wg wu (fun z => Y (atSlot (y 0) z)) wd (inSlot y)
    else k0_pay9 (fun z => X (atHalf (y 0) z)) wg wu (fun z => Y (atHalf (y 0) z)) wd (inHalf y)

/-- The block's sum after the first `k` slots were scattered back. -/
def scatterK (arg1 : BitVec 32) (v0 : IVec S1024x128 32) (v7 : BitVec 32) (posr comb : Vec F S1024x128 .f32)
    (Y : S4x256x1024.Idx → Elt F .f32) (acc : Vec F S1024x1024 .f32) : ℕ → Vec F S1024x1024 .f32
  | 0 => acc
  | k + 1 => if h : k < (k0_t5_loop v7).trips then
      k0_pay12 arg1 v0 v7 posr comb ⟨k, h⟩ (fun z => Y (atSlot (Fin.ofNat 4 k) z)) (scatterK arg1 v0 v7 posr comb Y acc k)
    else scatterK arg1 v0 v7 posr comb Y acc k

/-- The block's sum after an expert's slots were scattered back. -/
def scatterV (arg1 : BitVec 32) (v0 : IVec S1024x128 32) (v7 : BitVec 32) (posr comb : Vec F S1024x128 .f32)
    (Y : S4x256x1024.Idx → Elt F .f32) (acc : Vec F S1024x1024 .f32) : Vec F S1024x1024 .f32 :=
  if hasHalf v7.toNat then
    k0_pay14 arg1 v0 (w17 v7) (w21 v7) (w35 v7) (w36 v7) posr comb
      (fun z => Y (atHalf (Fin.ofNat 4 (nfull v7.toNat)) z)) (scatterK arg1 v0 v7 posr comb Y acc (nfull v7.toNat))
  else scatterK arg1 v0 v7 posr comb Y acc (nfull v7.toNat)

end Cert.KernelIdeal.Gen

namespace Cert.KernelIdeal

open Idealize.ShloMosaic

theorem nfull_le {n : ℕ} (h : n ≤ 1024) : nfull n ≤ 4 := by
  unfold nfull; split <;> omega

theorem nfull_lt {n : ℕ} (h : n ≤ 1024) (hh : hasHalf n) : nfull n < 4 := by
  unfold hasHalf at hh; unfold nfull; split <;> omega

/-- The word of a number below four. -/
theorem iv_lt {k : ℕ} (h : k < 4) : (Scalar.indexCast (Scf.iv 0#32 1#32 k) : BitVec 32).toNat = k := by
  have : ∀ k : Fin 4, (Scalar.indexCast (Scf.iv 0#32 1#32 k.val) : BitVec 32).toNat = k.val := by decide
  exact this ⟨k, h⟩

theorem off3_eq {v : BitVec 32} (hv : v.toNat ≤ 1024) (k : Fin (k0_t1_loop v).trips) : k0_off3 v k = ![k.val, 0, 0] := by
  have h1 := (wordFacts v hv).2.1
  have h2 := nfull_le hv
  have h3 := k.isLt
  have h4 : k0_off3 v k = ![(Scalar.indexCast (Scf.iv 0#32 1#32 k.val) : BitVec 32).toNat, 0, 0] := by
    unfold k0_off3; rfl
  rw [h4, iv_lt (k := k.val) (by omega)]

theorem off6_eq {v : BitVec 32} (hv : v.toNat ≤ 1024) (k : Fin (k0_t3_loop v).trips) : k0_off6 v k = ![k.val, 0, 0] := by
  have h1 := (wordFacts v hv).2.2.2.2.2.1
  have h2 := nfull_le hv
  have h3 := k.isLt
  have h4 : k0_off6 v k = ![(Scalar.indexCast (Scf.iv 0#32 1#32 k.val) : BitVec 32).toNat, 0, 0] := by
    unfold k0_off6; rfl
  rw [h4, iv_lt (k := k.val) (by omega)]

theorem off9_eq {v : BitVec 32} (hv : v.toNat ≤ 1024) (k : Fin (k0_t5_loop v).trips) : k0_off9 v k = ![k.val, 0, 0] := by
  have h1 := (wordFacts v hv).2.2.2.2.2.2.2.2.2.1
  have h2 := nfull_le hv
  have h3 := k.isLt
  have h4 : k0_off9 v k = ![(Scalar.indexCast (Scf.iv 0#32 1#32 k.val) : BitVec 32).toNat, 0, 0] := by
    unfold k0_off9; rfl
  rw [h4, iv_lt (k := k.val) (by omega)]

theorem off5_eq {v : BitVec 32} (hv : v.toNat ≤ 1024) : k0_off5 v = ![nfull v.toNat, 0, 0] := by
  have h := (wordFacts v hv).2.2.2.2.2.2.2.2.2.2.2.2.2.2.2.1
  funext a
  fin_cases a
  · exact h.1
  · exact h.2.1
  · exact h.2.2

theorem off8_eq {v : BitVec 32} (hv : v.toNat ≤ 1024) : k0_off8 v = ![nfull v.toNat, 0, 0] := by
  have h := (wordFacts v hv).2.2.2.2.2.2.2.2.2.2.2.2.2.2.2.2.1
  funext a
  fin_cases a
  · exact h.1
  · exact h.2.1
  · exact h.2.2

theorem off11_eq {v : BitVec 32} (hv : v.toNat ≤ 1024) : k0_off11 v = ![nfull v.toNat, 0, 0] := by
  have h := (wordFacts v hv).2.2.2.2.2.2.2.2.2.2.2.2.2.2.2.2.2
  funext a
  fin_cases a
  · exact h.1
  · exact h.2.1
  · exact h.2.2

/-- A whole slot's rows fill their words. -/
theorem packed_slot : ∀ (k : Fin 4) (h : ∀ a, (![k.val, 0, 0] : Fin 3 → ℕ) a + S1x256x1024.size a ≤ S4x256x1024.size a),
    (Rect.unit (s := S4x256x1024) ![k.val, 0, 0] S1x256x1024.size h).PackedRows (EltTy.packing .bf16) := by
  decide

/-- A half slot's rows fill their words. -/
theorem packed_half : ∀ (k : Fin 4) (h : ∀ a, (![k.val, 0, 0] : Fin 3 → ℕ) a + S1x128x1024.size a ≤ S4x256x1024.size a),
    (Rect.unit (s := S4x256x1024) ![k.val, 0, 0] S1x128x1024.size h).PackedRows (EltTy.packing .bf16) := by
  decide

theorem slot_inb : ∀ k : Fin 4, ∀ a, (![k.val, 0, 0] : Fin 3 → ℕ) a + S1x256x1024.size a ≤ S4x256x1024.size a := by
  decide

theorem half_inb : ∀ k : Fin 4, ∀ a, (![k.val, 0, 0] : Fin 3 → ℕ) a + S1x128x1024.size a ≤ S4x256x1024.size a := by
  decide

/-- A count of at most 1024 passes the kernel's check. -/
theorem chk_of_le (i : grid0.Coords) (v : BitVec 32) (hv : v.toNat ≤ 1024) : k0_chk1 i v := by
  have W := wordFacts v hv
  have hn := nfull_le hv
  have t2 : (k0_t2_loop v).trips = 0 := W.2.2.2.1
  have t4 : (k0_t4_loop v).trips = 0 := W.2.2.2.2.2.2.2.1
  have t6 : (k0_t6_loop v).trips = 0 := W.2.2.2.2.2.2.2.2.2.2.2.1
  have c3 := W.2.2.2.2.2.2.2.2.2.2.2.2.1
  have c4 := W.2.2.2.2.2.2.2.2.2.2.2.2.2.1
  have c6 := W.2.2.2.2.2.2.2.2.2.2.2.2.2.2.1
  have l1 : ∀ k : Fin (k0_t1_loop v).trips, k.val < 4 := fun k => by have := k.isLt; have := W.2.1; omega
  have l3 : ∀ k : Fin (k0_t3_loop v).trips, k.val < 4 := fun k => by
    have := k.isLt; have := W.2.2.2.2.2.1; omega
  have l5 : ∀ k : Fin (k0_t5_loop v).trips, k.val < 4 := fun k => by
    have := k.isLt; have := W.2.2.2.2.2.2.2.2.2.1; omega
  refine ⟨fun _ => W.1, fun k _ => ?_, fun k _ => ?_, fun _ => W.2.2.1, fun k => (Fin.cast t2 k).elim0,
    fun k => (Fin.cast t2 k).elim0, fun _ h => ?_, fun _ h => ?_, W.2.2.2.2.1, fun k => ?_, W.2.2.2.2.2.2.1,
    fun k => (Fin.cast t4 k).elim0, fun h => ?_, fun _ => W.2.2.2.2.2.2.2.2.1, fun k _ => ?_,
    fun _ => W.2.2.2.2.2.2.2.2.2.2.1, fun k => (Fin.cast t6 k).elim0, fun _ h => ?_⟩
  · rw [off3_eq hv]; exact slot_inb ⟨k.val, l1 k⟩
  · rw [off3_eq hv]; exact packed_slot ⟨k.val, l1 k⟩
  · rw [off5_eq hv]; exact half_inb ⟨_, nfull_lt hv (c3.1 h)⟩
  · rw [off5_eq hv]; exact packed_half ⟨_, nfull_lt hv (c3.1 h)⟩
  · rw [off6_eq hv]; exact slot_inb ⟨k.val, l3 k⟩
  · rw [off8_eq hv]; exact half_inb ⟨_, nfull_lt hv (c4.1 h)⟩
  · rw [off9_eq hv]; exact slot_inb ⟨k.val, l5 k⟩
  · rw [off11_eq hv]; exact half_inb ⟨_, nfull_lt hv (c6.1 h)⟩

end Cert.KernelIdeal

end
-- ==== Proof.SlotStore.lean ====
module

public import proofs.«01_k».proof.Proof.Slots
public import proofs.«01_k».proof.Proof.Gen.KernelIdeal.Frame
public import Idealize.ShloMosaic.Lib.Tactic

/-! # Stores into a slot and loads from one

A store at a slot replaces that slot's rows and no other; a load from a slot reads its rows. -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- Held contents, as the memory's. -/
theorem owns_elim (c : Dev nD) {sp : Space} {sh : Shape} {e : EltTy} (m : Memref sig .tc sp sh e) (hm : m.IsWhole)
    (x : sh.Idx → Elt F e) :
    (owns (c : Thread nD τ) m fullShare x : sProp 𝕄) ⊢ (m.view.loc (c : Thread nD τ) ↦[m.view.set]{fullShare} hm.unread x) := by
  unfold owns
  iintro ⟨%f, %hf, H⟩
  obtain rfl := hm.eq_unread hf
  iexact H

/-- Memory that reads as `x` is contents `x` held. -/
theorem owns_at (c : Dev nD) {sp : Space} {sh : Shape} {e : EltTy} (m : Memref sig .tc sp sh e)
    (f : m.view.ty.Contents (Elt F)) (x : sh.Idx → Elt F e) (h : m.view.read (Elt F) f = x) :
    (m.view.loc (c : Thread nD τ) ↦[m.view.set]{fullShare} f : sProp 𝕄) ⊢ owns (c : Thread nD τ) m fullShare x := by
  subst h; exact owns_intro (c : Thread nD τ) m fullShare f

section Pure

variable {κ : Kind} {sp : Space} {e : EltTy} {Val : EltTy → Type}

/-- After a store at slot `k`: the payload on the slot, the rest unchanged. -/
theorem read_slot (v : View sig κ sp S4x256x1024 e) (f : v.ty.Contents Val) {off : Fin 3 → ℕ}
    (inb : ∀ a, off a + S1x256x1024.size a ≤ S4x256x1024.size a) (w : (Rect.unit (s := S4x256x1024) off S1x256x1024.size inb).shape.Idx → Val e)
    (k : ℕ) (h : off = ![k, 0, 0]) (y : S4x256x1024.Idx) :
    v.read Val (v.writes Val f [⟨Rect.unit (s := S4x256x1024) off S1x256x1024.size inb, w⟩]) y
      = if (y 0).val = k then w (inSlot y) else v.read Val f y := by
  by_cases hy : (y 0).val = k
  · rw [if_pos hy]
    refine View.read_writes_cons_unit_of_mem v f inb w [] y (inSlot y) h fun a => ?_
    fin_cases a
    · show (y 0).val = k + 0; omega
    · show (y 1).val = 0 + (y 1).val; omega
    · show (y 2).val = 0 + (y 2).val; omega
  · rw [if_neg hy]
    refine (View.read_writes_cons_unit_of_not_mem v f inb w [] y h 0 ?_).trans rfl
    show (y 0).val < k ∨ k + 1 ≤ (y 0).val
    omega

/-- After a store at half slot `k`: the payload on its 128 rows, the rest unchanged. -/
theorem read_half (v : View sig κ sp S4x256x1024 e) (f : v.ty.Contents Val) {off : Fin 3 → ℕ}
    (inb : ∀ a, off a + S1x128x1024.size a ≤ S4x256x1024.size a) (w : (Rect.unit (s := S4x256x1024) off S1x128x1024.size inb).shape.Idx → Val e)
    (k : ℕ) (h : off = ![k, 0, 0]) (y : S4x256x1024.Idx) :
    v.read Val (v.writes Val f [⟨Rect.unit (s := S4x256x1024) off S1x128x1024.size inb, w⟩]) y
      = if (y 0).val = k ∧ (y 1).val < 128 then w (inHalf y) else v.read Val f y := by
  by_cases hy : (y 0).val = k ∧ (y 1).val < 128
  · rw [if_pos hy]
    refine View.read_writes_cons_unit_of_mem v f inb w [] y (inHalf y) h fun a => ?_
    fin_cases a
    · show (y 0).val = k + 0; omega
    · show (y 1).val = 0 + (y 1).val % 128; omega
    · show (y 2).val = 0 + (y 2).val; omega
  · rw [if_neg hy]
    by_cases h0 : (y 0).val = k
    · refine (View.read_writes_cons_unit_of_not_mem v f inb w [] y h 1 ?_).trans rfl
      show (y 1).val < 0 ∨ 0 + 128 ≤ (y 1).val
      omega
    · refine (View.read_writes_cons_unit_of_not_mem v f inb w [] y h 0 ?_).trans rfl
      show (y 0).val < k ∨ k + 1 ≤ (y 0).val
      omega

/-- A load of slot `k` reads its rows. -/
theorem readAt_slot (v : View sig κ sp S4x256x1024 e) (f : v.ty.Contents Val) {off : Fin 3 → ℕ}
    (inb : ∀ a, off a + S1x256x1024.size a ≤ S4x256x1024.size a) (k : Fin 4) (h : off = ![k.val, 0, 0]) :
    v.readAt Val (Rect.unit (s := S4x256x1024) off S1x256x1024.size inb).toLoadRect f = fun z => v.read Val f (atSlot k z) := by
  subst h
  funext z
  refine congrArg (v.read Val f) (funext fun a => Fin.ext ?_)
  have h0 : (z 0).val = 0 := Nat.lt_one_iff.1 (z 0).isLt
  fin_cases a
  · show k.val + 1 * (z 0).val = k.val; omega
  · show 0 + 1 * (z 1).val = (z 1).val; omega
  · show 0 + 1 * (z 2).val = (z 2).val; omega

/-- A load of half slot `k` reads its rows. -/
theorem readAt_half (v : View sig κ sp S4x256x1024 e) (f : v.ty.Contents Val) {off : Fin 3 → ℕ}
    (inb : ∀ a, off a + S1x128x1024.size a ≤ S4x256x1024.size a) (k : Fin 4) (h : off = ![k.val, 0, 0]) :
    v.readAt Val (Rect.unit (s := S4x256x1024) off S1x128x1024.size inb).toLoadRect f = fun z => v.read Val f (atHalf k z) := by
  subst h
  funext z
  refine congrArg (v.read Val f) (funext fun a => Fin.ext ?_)
  have h0 : (z 0).val = 0 := Nat.lt_one_iff.1 (z 0).isLt
  fin_cases a
  · show k.val + 1 * (z 0).val = k.val; omega
  · show 0 + 1 * (z 1).val = (z 1).val; omega
  · show 0 + 1 * (z 2).val = (z 2).val; omega

end Pure

end Cert.KernelIdeal.Gen

end
-- ==== Proof.RunExpert.lean ====
module

public import proofs.«01_k».proof.Proof.Stretches
public import proofs.«01_k».proof.Proof.SlotStore

/-! # The triple of the expert

On slots whose valid rows are known, the expert leaves its next partial outputs in the same rows. -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem valid_atSlot {n : ℕ} (k : Fin 4) (h : k.val < nfull n) (z : S1x256x1024.Idx) : ValidAt n (atSlot k z) := Or.inl h

theorem valid_atHalf {n : ℕ} (k : Fin 4) (h : k.val = nfull n) (hh : hasHalf n) (z : S1x128x1024.Idx) : ValidAt n (atHalf k z) :=
  Or.inr ⟨h, hh, (z 1).isLt⟩

/-- The slots after `k` trips of the expert. -/
def expertInv (c : Dev nD) (arg8 : Memref sig .tc .vmem S1x1024x896 .bf16) (arg9 : Memref sig .tc .vmem S1x1024x896 .bf16) (arg10 : Memref sig .tc .vmem S1x896x1024 .bf16)
    (arg17 : Memref sig .tc .vmem S4x256x1024 .bf16)
    (arg18 : Memref sig .tc .vmem S4x256x1024 .f32) (v7 : BitVec 32) (x8 x9 : S1x1024x896.Idx → Elt F .bf16) (x10 : S1x896x1024.Idx → Elt F .bf16)
    (x17 X : S4x256x1024.Idx → Elt F .bf16) (Y : S4x256x1024.Idx → Elt F .f32) (k : ℕ) (_ : Unit) : sProp 𝕄 :=
  iprop(owns (c : Thread nD τ) arg8 fullShare x8 ∗ owns (c : Thread nD τ) arg9 fullShare x9 ∗ owns (c : Thread nD τ) arg10 fullShare x10
    ∗ owns (c : Thread nD τ) arg17 fullShare x17
    ∗ (∃ x18, owns (c : Thread nD τ) arg18 fullShare x18
      ∗ ⌜∀ y : S4x256x1024.Idx, ValidAt v7.toNat y → x18 y = if (y 0).val < k then expertV v7 x8 x9 x10 X Y y else Y y⌝))

theorem expert_triple (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (v7 : BitVec 32) (hv : v7.toNat ≤ 1024) (hw : k0_chk1 i v7)
    (x8 x9 : S1x1024x896.Idx → Elt F .bf16) (x10 : S1x896x1024.Idx → Elt F .bf16) (x17 X : S4x256x1024.Idx → Elt F .bf16)
    (x18 Y : S4x256x1024.Idx → Elt F .f32) (hX : ∀ y, ValidAt v7.toNat y → x17 y = X y) (hY : ∀ y, ValidAt v7.toNat y → x18 y = Y y)
    (next : Unit → Prog (TpuEff nD τ sig (Elt F) Λ₀ .tc) PUnit) (Q : PUnit → sProp 𝕄) :
  (owns (c : Thread nD τ) arg8 fullShare x8 ∗ owns (c : Thread nD τ) arg9 fullShare x9 ∗ owns (c : Thread nD τ) arg10 fullShare x10
    ∗ owns (c : Thread nD τ) arg17 fullShare x17 ∗ owns (c : Thread nD τ) arg18 fullShare x18
    ∗ ((owns (c : Thread nD τ) arg8 fullShare x8 ∗ owns (c : Thread nD τ) arg9 fullShare x9 ∗ owns (c : Thread nD τ) arg10 fullShare x10
        ∗ owns (c : Thread nD τ) arg17 fullShare x17
        ∗ (∃ x18, owns (c : Thread nD τ) arg18 fullShare x18
          ∗ ⌜∀ y, ValidAt v7.toNat y → x18 y = expertV v7 x8 x9 x10 X Y y⌝))
        -∗ wp frame (wpE (defs₀ (F := F)) 𝒱₀ c none) E (next ⟨⟩) Q) : sProp 𝕄)
   ⊢ wp frame (wpE (defs₀ (F := F)) 𝒱₀ c none) E (expertP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7 hw (w17 v7) (w21 v7) (w35 v7) (w36 v7) next) Q := by
  have W := wordFacts v7 hv
  have hn := nfull_le hv
  have htr : (k0_t3_loop v7).trips = nfull v7.toNat := W.2.2.2.2.2.1
  iintro ⟨H8,H9,H10,H17,H18,Hk⟩
  sl_unfold [expertP]
  sl_for (expertInv c arg8 arg9 arg10 arg17 arg18 v7 x8 x9 x10 x17 X Y) $$ [H8 H9 H10 H17 H18]
  case region =>
    intro k _
    unfold expertInv
    iintro ⟨H8,H9,H10,H17,%z18,H18,%hx⟩
    ihave H8 := (owns_elim c arg8 harg8 x8) $$ H8
    ihave H9 := (owns_elim c arg9 harg9 x9) $$ H9
    ihave H10 := (owns_elim c arg10 harg10 x10) $$ H10
    ihave H17 := (owns_elim c arg17 harg17 x17) $$ H17
    ihave H18 := (owns_elim c arg18 harg18 z18) $$ H18
    sl_exec
    sl_step
    isplitl [H8]; · iapply (owns_at c arg8 _ x8 (harg8.read_unread x8)) $$ H8
    isplitl [H9]; · iapply (owns_at c arg9 _ x9 (harg9.read_unread x9)) $$ H9
    isplitl [H10]; · iapply (owns_at c arg10 _ x10 (harg10.read_unread x10)) $$ H10
    isplitl [H17]; · iapply (owns_at c arg17 _ x17 (harg17.read_unread x17)) $$ H17
    iexists _
    isplitl [H18]; · iapply (owns_at c arg18 _ _ rfl) $$ H18
    ipureintro
    intro y hy
    have hkn : k.val < nfull v7.toNat := lt_of_lt_of_eq k.isLt htr
    have hoff := off6_eq hv k
    rw [read_slot _ _ _ _ k.val hoff, harg18.read_unread]
    by_cases hk : (y 0).val = k.val
    · rw [if_pos hk, if_pos (by omega)]
      unfold expertV
      rw [if_pos (by omega)]
      have hy0 : y 0 = (⟨k.val, by omega⟩ : Fin 4) := Fin.ext hk
      rw [View.readAt_full, View.readAt_full, View.readAt_full, harg8.read_unread, harg9.read_unread, harg10.read_unread,
        readAt_slot arg17.view _ _ ⟨k.val, by omega⟩ hoff, readAt_slot arg18.view _ _ ⟨k.val, by omega⟩ hoff,
        harg17.read_unread, harg18.read_unread, hy0]
      congr 1
      congr 1
      · funext z; exact hX _ (valid_atSlot _ hkn z)
      · funext z
        rw [hx _ (valid_atSlot _ hkn z), if_neg (by show ¬ k.val < k.val; omega)]
    · rw [if_neg hk, hx y hy]
      by_cases hlt : (y 0).val < k.val
      · rw [if_pos hlt, if_pos (by omega)]
      · rw [if_neg hlt, if_neg (by omega)]
  · unfold expertInv
    isplitl [H8]; · iexact H8
    isplitl [H9]; · iexact H9
    isplitl [H10]; · iexact H10
    isplitl [H17]; · iexact H17
    iexists x18
    isplitl [H18]; · iexact H18
    ipureintro
    intro y hy
    rw [if_neg (Nat.not_lt_zero _)]
    exact hY y hy
  iintro %acc Hinv
  unfold expertInv
  icases Hinv with ⟨H8,H9,H10,H17,%z18,H18,%hx⟩
  change ∀ y : S4x256x1024.Idx, ValidAt v7.toNat y → z18 y = if (y 0).val < (k0_t3_loop v7).trips then _ else _ at hx
  rw [htr] at hx
  ihave H8 := (owns_elim c arg8 harg8 x8) $$ H8
  ihave H9 := (owns_elim c arg9 harg9 x9) $$ H9
  ihave H10 := (owns_elim c arg10 harg10 x10) $$ H10
  ihave H17 := (owns_elim c arg17 harg17 x17) $$ H17
  ihave H18 := (owns_elim c arg18 harg18 z18) $$ H18
  by_cases h4 : k0_cond4 v7 = 1#1
  · have hh := W.2.2.2.2.2.2.2.2.2.2.2.2.2.1.1 h4
    have hlt := nfull_lt hv hh
    sl_exec
    iapply Hk
    isplitl [H8]; · iapply (owns_at c arg8 _ x8 (harg8.read_unread x8)) $$ H8
    isplitl [H9]; · iapply (owns_at c arg9 _ x9 (harg9.read_unread x9)) $$ H9
    isplitl [H10]; · iapply (owns_at c arg10 _ x10 (harg10.read_unread x10)) $$ H10
    isplitl [H17]; · iapply (owns_at c arg17 _ x17 (harg17.read_unread x17)) $$ H17
    iexists _
    isplitl [H18]; · iapply (owns_at c arg18 _ _ rfl) $$ H18
    ipureintro
    intro y hval
    have hoff := off8_eq hv
    rw [read_half _ _ _ _ _ hoff, harg18.read_unread]
    by_cases hk : (y 0).val = nfull v7.toNat ∧ (y 1).val < 128
    · rw [if_pos hk]
      unfold expertV
      rw [if_neg (by omega)]
      have hy0 : y 0 = (⟨nfull v7.toNat, hlt⟩ : Fin 4) := Fin.ext hk.1
      rw [View.readAt_full, View.readAt_full, View.readAt_full, harg8.read_unread, harg9.read_unread, harg10.read_unread,
        readAt_half arg17.view _ _ ⟨nfull v7.toNat, hlt⟩ hoff, readAt_half arg18.view _ _ ⟨nfull v7.toNat, hlt⟩ hoff,
        harg17.read_unread, harg18.read_unread, hy0]
      congr 1
      congr 1
      · funext z; exact hX _ (valid_atHalf _ rfl hh z)
      · funext z
        rw [hx _ (valid_atHalf _ rfl hh z), if_neg (by show ¬ nfull v7.toNat < nfull v7.toNat; omega)]
    · rw [if_neg hk, hx y hval]
      rcases hval with h | h
      · rw [if_pos h]
      · exact absurd ⟨h.1, h.2.2⟩ hk
  · sl_exec
    iapply Hk
    isplitl [H8]; · iapply (owns_at c arg8 _ x8 (harg8.read_unread x8)) $$ H8
    isplitl [H9]; · iapply (owns_at c arg9 _ x9 (harg9.read_unread x9)) $$ H9
    isplitl [H10]; · iapply (owns_at c arg10 _ x10 (harg10.read_unread x10)) $$ H10
    isplitl [H17]; · iapply (owns_at c arg17 _ x17 (harg17.read_unread x17)) $$ H17
    iexists _
    isplitl [H18]; · iapply (owns_at c arg18 _ _ rfl) $$ H18
    ipureintro
    intro y hval
    rw [harg18.read_unread, hx y hval]
    rcases hval with h | h
    · rw [if_pos h]
    · exact absurd (W.2.2.2.2.2.2.2.2.2.2.2.2.2.1.2 h.2.1) h4

end Cert.KernelIdeal.Gen

end
-- ==== Proof.RunSetup.lean ====
module

public import proofs.«01_k».proof.Proof.RunExpert
public import Idealize.ShloMosaic.Lib.CellWrites

/-! # The triple of the set-up

In a block's first point the body computes the normed block, the router's weights, the place of every
token in its experts' rows and the number of tokens of every expert.  In every point it then reads the
count of the point's expert. -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The column numbers of a router row. -/
def lanes : IVec S1024x128 32 := iota .tc S1024x128 32 [1] iota_S1024x128_d1_w32

section Values

variable (x3 : Vec F S1024x1024 .f32) (x4 : Vec F S1x1024 .f32) (x5 : Vec F S1024x128 .bf16) (x6 : Vec F S1x128 .f32)
  (x7 : Vec F S1024x1024 .bf16)

/-- The normed block. -/
def hnV : Vec F S1024x1024 .bf16 := k0_pay17 x3 x4

/-- The router's weights: per token, the softmax of its two largest logits on their columns. -/
def combV : Vec F S1024x128 .f32 :=
  k0_pay24 lanes (k0_pay19 x3 x4 x5 x6) (k0_pay20 lanes x3 x4 x5 x6) (k0_pay21 lanes x3 x4 x5 x6) (k0_pay22 lanes x3 x4 x5 x6)

/-- Per expert, which tokens it has. -/
def indV : Vec F S128x1024 .f32 :=
  k0_pay25 lanes (k0_pay19 x3 x4 x5 x6) (k0_pay20 lanes x3 x4 x5 x6) (k0_pay21 lanes x3 x4 x5 x6) (k0_pay22 lanes x3 x4 x5 x6)

/-- Per expert, the place of each of its tokens, and -1 for the others. -/
def postV : Vec F S128x1024 .f32 :=
  k0_pay27 (k0_pay26 lanes (k0_pay19 x3 x4 x5 x6) (k0_pay20 lanes x3 x4 x5 x6) (k0_pay21 lanes x3 x4 x5 x6) (k0_pay22 lanes x3 x4 x5 x6) x7)

/-- The same, per token. -/
def posrV : Vec F S1024x128 .f32 := k0_pay28 (postV x3 x4 x5 x6 x7)

/-- The number of tokens of every expert. -/
def cntV : S8.Idx → Elt F .i32 := fun y =>
  if (y 0).val = 7 then Scalar.fptosi 32 (k0_pay38 (k0_pay37 (indV x3 x4 x5 x6))) else
  if (y 0).val = 6 then Scalar.fptosi 32 (k0_pay36 (indV x3 x4 x5 x6)) else
  if (y 0).val = 5 then Scalar.fptosi 32 (k0_pay35 (indV x3 x4 x5 x6)) else
  if (y 0).val = 4 then Scalar.fptosi 32 (k0_pay34 (indV x3 x4 x5 x6)) else
  if (y 0).val = 3 then Scalar.fptosi 32 (k0_pay33 (indV x3 x4 x5 x6)) else
  if (y 0).val = 2 then Scalar.fptosi 32 (k0_pay32 (indV x3 x4 x5 x6)) else
  if (y 0).val = 1 then Scalar.fptosi 32 (k0_pay31 (indV x3 x4 x5 x6)) else
  Scalar.fptosi 32 (k0_pay30 (indV x3 x4 x5 x6))

end Values

/-- The point is its block's first. -/
def isFirst (i : grid0.Coords) : Prop := (i 1).val = 0 ∧ (i 2).val = 0

/-- The expert of a point, as a place among the counts. -/
def expertIdx (i : grid0.Coords) : S8.Idx := fun a => match a with | ⟨0, _⟩ => (⟨(i 1).val, (i 1).isLt⟩ : Fin 8)

theorem setup_triple (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ)
    (x3 : Vec F S1024x1024 .f32) (x4 : Vec F S1x1024 .f32) (x5 : Vec F S1024x128 .bf16) (x6 : Vec F S1x128 .f32)
    (x7 : Vec F S1024x1024 .bf16)
    (x12 : S1024x1024.Idx → Elt F .bf16) (x13 : S1024x128.Idx → Elt F .f32) (x14 : S128x1024.Idx → Elt F .f32)
    (x15 : S1024x128.Idx → Elt F .f32) (x16 : S8.Idx → Elt F .i32) (x19 : S1024x1024.Idx → Elt F .f32)
    (hcnt : (cntV x3 x4 x5 x6 (expertIdx i) : BitVec 32).toNat ≤ 1024)
    (h1 : Scalar.cmpi .ne (Scalar.extui (Scalar.andi (Scalar.cmpi .eq (BitVec.ofNat 32 (i 1).val) 0#32) (Scalar.cmpi .eq (BitVec.ofNat 32 (i 2).val) 0#32)) : BitVec 32) 0#32 = 1#1)
    (next : (Σ' (arg1 : BitVec 32) (arg2 : BitVec 32) (v0 : IVec S1024x128 32) (v7 : Elt F .i32) (k0_hw1 : k0_chk1 i v7) (v17 : BitVec 32) (v20 : BitVec 1) (v21 : BitVec 32) (v35 : BitVec 1), BitVec 32) → Prog (TpuEff nD τ sig (Elt F) Λ₀ .tc) PUnit) (Q : PUnit → sProp 𝕄) :
  (owns (c : Thread nD τ) arg3 fullShare x3 ∗ owns (c : Thread nD τ) arg4 fullShare x4 ∗ owns (c : Thread nD τ) arg5 fullShare x5
    ∗ owns (c : Thread nD τ) arg6 fullShare x6 ∗ owns (c : Thread nD τ) arg7 fullShare x7
    ∗ owns (c : Thread nD τ) arg12 fullShare x12 ∗ owns (c : Thread nD τ) arg13 fullShare x13 ∗ owns (c : Thread nD τ) arg14 fullShare x14
    ∗ owns (c : Thread nD τ) arg15 fullShare x15 ∗ owns (c : Thread nD τ) arg16 fullShare x16 ∗ owns (c : Thread nD τ) arg19 fullShare x19
    ∗ (∀ (v7 : BitVec 32) hw v20, (⌜v7 = cntV x3 x4 x5 x6 (expertIdx i)⌝ ∗ owns (c : Thread nD τ) arg3 fullShare x3 ∗ owns (c : Thread nD τ) arg4 fullShare x4 ∗ owns (c : Thread nD τ) arg5 fullShare x5
    ∗ owns (c : Thread nD τ) arg6 fullShare x6 ∗ owns (c : Thread nD τ) arg7 fullShare x7
    ∗ owns (c : Thread nD τ) arg12 fullShare (hnV x3 x4) ∗ owns (c : Thread nD τ) arg13 fullShare (combV x3 x4 x5 x6) ∗ owns (c : Thread nD τ) arg14 fullShare (postV x3 x4 x5 x6 x7)
    ∗ owns (c : Thread nD τ) arg15 fullShare (posrV x3 x4 x5 x6 x7) ∗ owns (c : Thread nD τ) arg16 fullShare (cntV x3 x4 x5 x6) ∗ owns (c : Thread nD τ) arg19 fullShare (k0_pay39 (F := F)))
        -∗ wp frame (wpE (defs₀ (F := F)) 𝒱₀ c none) E (next ⟨BitVec.ofNat 32 (i 1).val, BitVec.ofNat 32 (i 2).val, lanes, v7, hw, w17 v7, v20, w21 v7, w35 v7, w36 v7⟩) Q) : sProp 𝕄)
   ⊢ wp frame (wpE (defs₀ (F := F)) 𝒱₀ c none) E (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= next) Q := by
  iintro ⟨H3,H4,H5,H6,H7,H12,H13,H14,H15,H16,H19,Hk⟩
  ihave H3 := (owns_elim c arg3 harg3 x3) $$ H3
  ihave H4 := (owns_elim c arg4 harg4 x4) $$ H4
  ihave H5 := (owns_elim c arg5 harg5 x5) $$ H5
  ihave H6 := (owns_elim c arg6 harg6 x6) $$ H6
  ihave H7 := (owns_elim c arg7 harg7 x7) $$ H7
  ihave H12 := (owns_elim c arg12 harg12 x12) $$ H12
  ihave H13 := (owns_elim c arg13 harg13 x13) $$ H13
  ihave H14 := (owns_elim c arg14 harg14 x14) $$ H14
  ihave H15 := (owns_elim c arg15 harg15 x15) $$ H15
  ihave H16 := (owns_elim c arg16 harg16 x16) $$ H16
  ihave H19 := (owns_elim c arg19 harg19 x19) $$ H19
  sl_unfold [k0_part4]
  sl_exec
  have hv0 : setup_triple.sl.v0 = lanes := rfl
  have hq0 : setup_triple.sl.r arg3 harg3 arg4 harg4 arg5 harg5 arg6 harg6 x3 x4 x5 x6 = k0_pay19 x3 x4 x5 x6 := by
    unfold setup_triple.sl.r
    rw [View.readAt_full, View.readAt_full, View.readAt_full, View.readAt_full, harg3.read_unread, harg4.read_unread, harg5.read_unread, harg6.read_unread]
    try rw [hv0]
  have hq1 : setup_triple.sl.r_1 arg3 harg3 arg4 harg4 arg5 harg5 arg6 harg6 x3 x4 x5 x6 = k0_pay20 lanes x3 x4 x5 x6 := by
    unfold setup_triple.sl.r_1
    rw [View.readAt_full, View.readAt_full, View.readAt_full, View.readAt_full, harg3.read_unread, harg4.read_unread, harg5.read_unread, harg6.read_unread]
    try rw [hv0]
  have hq2 : setup_triple.sl.r_2 arg3 harg3 arg4 harg4 arg5 harg5 arg6 harg6 x3 x4 x5 x6 = k0_pay21 lanes x3 x4 x5 x6 := by
    unfold setup_triple.sl.r_2
    rw [View.readAt_full, View.readAt_full, View.readAt_full, View.readAt_full, harg3.read_unread, harg4.read_unread, harg5.read_unread, harg6.read_unread]
    try rw [hv0]
  have hq3 : setup_triple.sl.r_3 arg3 harg3 arg4 harg4 arg5 harg5 arg6 harg6 x3 x4 x5 x6 = k0_pay22 lanes x3 x4 x5 x6 := by
    unfold setup_triple.sl.r_3
    rw [View.readAt_full, View.readAt_full, View.readAt_full, View.readAt_full, harg3.read_unread, harg4.read_unread, harg5.read_unread, harg6.read_unread]
    try rw [hv0]
  have hH : arg16.view.read (Elt F) (arg16.view.writes (Elt F) arg16.view.junk
      (setup_triple.sl.H16_8 arg3 harg3 arg4 harg4 arg5 harg5 arg6 harg6 x3 x4 x5 x6)) = cntV x3 x4 x5 x6 := by
    funext y
    unfold setup_triple.sl.H16_8
    rw [View.read_writes_cons_cell, View.read_writes_cons_cell, View.read_writes_cons_cell, View.read_writes_cons_cell,
      View.read_writes_cons_cell, View.read_writes_cons_cell, View.read_writes_cons_cell, View.read_writes_cons_cell]
    have hlt : (y 0).val < 8 := (y 0).isLt
    unfold setup_triple.sl.v182 setup_triple.sl.v178 setup_triple.sl.v174 setup_triple.sl.v170 setup_triple.sl.v166 setup_triple.sl.v162 setup_triple.sl.v158 setup_triple.sl.v154
    unfold cntV indV
    rw [← hq0, ← hq1, ← hq2, ← hq3]
    unfold setup_triple.sl.r_13 setup_triple.sl.r_4
    rw [hv0]
    by_cases e7 : (y 0).val = 7
    · exact (if_pos e7).trans (if_pos e7).symm
    refine (if_neg e7).trans (Eq.trans ?_ (if_neg e7).symm)
    by_cases e6 : (y 0).val = 6
    · exact (if_pos e6).trans (if_pos e6).symm
    refine (if_neg e6).trans (Eq.trans ?_ (if_neg e6).symm)
    by_cases e5 : (y 0).val = 5
    · exact (if_pos e5).trans (if_pos e5).symm
    refine (if_neg e5).trans (Eq.trans ?_ (if_neg e5).symm)
    by_cases e4 : (y 0).val = 4
    · exact (if_pos e4).trans (if_pos e4).symm
    refine (if_neg e4).trans (Eq.trans ?_ (if_neg e4).symm)
    by_cases e3 : (y 0).val = 3
    · exact (if_pos e3).trans (if_pos e3).symm
    refine (if_neg e3).trans (Eq.trans ?_ (if_neg e3).symm)
    by_cases e2 : (y 0).val = 2
    · exact (if_pos e2).trans (if_pos e2).symm
    refine (if_neg e2).trans (Eq.trans ?_ (if_neg e2).symm)
    by_cases e1 : (y 0).val = 1
    · exact (if_pos e1).trans (if_pos e1).symm
    refine (if_neg e1).trans (Eq.trans ?_ (if_neg e1).symm)
    exact if_pos (show (y 0).val = 0 by omega)
  have hp : k0_pay27 (setup_triple.sl.r_5 arg3 harg3 arg4 harg4 arg5 harg5 arg6 harg6 arg7 harg7 x3 x4 x5 x6 x7) = postV x3 x4 x5 x6 x7 := by
    unfold setup_triple.sl.r_5
    rw [View.readAt_full, harg7.read_unread, hq0, hq1, hq2, hq3]
    unfold postV
    try rw [hv0]
  have hP : arg14.view.read (Elt F) (arg14.view.writes (Elt F) (harg14.unread x14)
      (setup_triple.sl.H14_1 arg3 harg3 arg4 harg4 arg5 harg5 arg6 harg6 arg7 harg7 x3 x4 x5 x6 x7)) = postV x3 x4 x5 x6 x7 := by
    unfold setup_triple.sl.H14_1
    rw [View.read_writes_full, hp]
  have hr : setup_triple.sl.r_15 i arg3 harg3 arg4 harg4 arg5 harg5 arg6 harg6 arg16 x3 x4 x5 x6 = cntV x3 x4 x5 x6 (expertIdx i) := by
    unfold setup_triple.sl.r_15
    have hi : k0_off1 i = ![(i 1).val] := by
      have : ∀ e : Fin 8, (Scalar.indexCast (BitVec.ofNat 32 e.val) : BitVec 32).toNat = e.val := by decide
      have h := this ⟨(i 1).val, (i 1).isLt⟩
      unfold k0_off1
      exact congrArg (fun n => (![n] : Fin 1 → ℕ)) h
    rw [View.readAt_unit arg16.view _ _ hi (by rw [← hi]; exact k0_off1_inb i), hH]
    unfold VecWindow.window
    refine congrArg (cntV x3 x4 x5 x6) (funext fun a => ?_)
    match a with
    | ⟨0, _⟩ => exact Fin.ext (by simp [expertIdx]; rfl)
  have hc : k0_chk1 i (setup_triple.sl.r_15 i arg3 harg3 arg4 harg4 arg5 harg5 arg6 harg6 arg16 x3 x4 x5 x6) := by
    rw [hr]; exact chk_of_le i _ hcnt
  sl_exec
  iapply Hk $$ %(setup_triple.sl.r_15 i arg3 harg3 arg4 harg4 arg5 harg5 arg6 harg6 arg16 x3 x4 x5 x6) %hc %(setup_triple.sl.v20 i arg3 harg3 arg4 harg4 arg5 harg5 arg6 harg6 arg16 x3 x4 x5 x6)
  isplitl []
  · ipureintro; exact hr
  isplitl [H3]; · iapply (owns_at c arg3 _ x3 (harg3.read_unread x3)) $$ H3
  isplitl [H4]; · iapply (owns_at c arg4 _ x4 (harg4.read_unread x4)) $$ H4
  isplitl [H5]; · iapply (owns_at c arg5 _ x5 (harg5.read_unread x5)) $$ H5
  isplitl [H6]; · iapply (owns_at c arg6 _ x6 (harg6.read_unread x6)) $$ H6
  isplitl [H7]; · iapply (owns_at c arg7 _ x7 (harg7.read_unread x7)) $$ H7
  isplitl [H12]
  · iapply (owns_at c arg12 _ _ ?_) $$ H12
    rw [View.read_writes_full, View.readAt_full, View.readAt_full, harg3.read_unread, harg4.read_unread]
    rfl
  isplitl [H13]
  · iapply (owns_at c arg13 _ _ ?_) $$ H13
    rw [View.read_writes_full, hq0, hq1, hq2, hq3]
    rfl
  isplitl [H14]
  · iapply (owns_at c arg14 _ _ ?_) $$ H14
    exact hP
  isplitl [H15]
  · iapply (owns_at c arg15 _ _ ?_) $$ H15
    rw [View.read_writes_full]
    unfold posrV
    refine congrArg k0_pay28 ?_
    unfold setup_triple.sl.v145
    unfold setup_triple.sl.H14_1
    rw [View.readCov_full, hp]
  isplitl [H16]; · iapply (owns_at c arg16 _ _ hH) $$ H16
  iapply (owns_at c arg19 _ _ ?_) $$ H19
  rw [View.read_writes_full]

end Cert.KernelIdeal.Gen

end
-- ==== Proof.RunSkip.lean ====
module

public import proofs.«01_k».proof.Proof.RunSetup

/-! # A point that is not its block's first

It only reads the count of its expert. -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem setup_skip (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ)
    (x16 : S8.Idx → Elt F .i32)
    (hcnt : (x16 (expertIdx i) : BitVec 32).toNat ≤ 1024)
    (h1 : ¬ Scalar.cmpi .ne (Scalar.extui (Scalar.andi (Scalar.cmpi .eq (BitVec.ofNat 32 (i 1).val) 0#32) (Scalar.cmpi .eq (BitVec.ofNat 32 (i 2).val) 0#32)) : BitVec 32) 0#32 = 1#1)
    (next : (Σ' (arg1 : BitVec 32) (arg2 : BitVec 32) (v0 : IVec S1024x128 32) (v7 : Elt F .i32) (k0_hw1 : k0_chk1 i v7) (v17 : BitVec 32) (v20 : BitVec 1) (v21 : BitVec 32) (v35 : BitVec 1), BitVec 32) → Prog (TpuEff nD τ sig (Elt F) Λ₀ .tc) PUnit) (Q : PUnit → sProp 𝕄) :
  (owns (c : Thread nD τ) arg16 fullShare x16
    ∗ (∀ (v7 : BitVec 32) hw v20, (⌜v7 = x16 (expertIdx i)⌝ ∗ owns (c : Thread nD τ) arg16 fullShare x16)
        -∗ wp frame (wpE (defs₀ (F := F)) 𝒱₀ c none) E (next ⟨BitVec.ofNat 32 (i 1).val, BitVec.ofNat 32 (i 2).val, lanes, v7, hw, w17 v7, v20, w21 v7, w35 v7, w36 v7⟩) Q) : sProp 𝕄)
   ⊢ wp frame (wpE (defs₀ (F := F)) 𝒱₀ c none) E (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= next) Q := by
  iintro ⟨H16,Hk⟩
  ihave H16 := (owns_elim c arg16 harg16 x16) $$ H16
  sl_unfold [k0_part4]
  sl_exec
  have hr : setup_skip.sl.r i arg16 harg16 x16 = x16 (expertIdx i) := by
    unfold setup_skip.sl.r
    have hi : k0_off1 i = ![(i 1).val] := by
      have : ∀ e : Fin 8, (Scalar.indexCast (BitVec.ofNat 32 e.val) : BitVec 32).toNat = e.val := by decide
      have h := this ⟨(i 1).val, (i 1).isLt⟩
      unfold k0_off1
      exact congrArg (fun n => (![n] : Fin 1 → ℕ)) h
    rw [View.readAt_unit arg16.view _ _ hi (by rw [← hi]; exact k0_off1_inb i), harg16.read_unread]
    unfold VecWindow.window
    refine congrArg x16 (funext fun a => ?_)
    match a with
    | ⟨0, _⟩ => exact Fin.ext (by simp [expertIdx]; rfl)
  have hc : k0_chk1 i (setup_skip.sl.r i arg16 harg16 x16) := by
    rw [hr]; exact chk_of_le i _ hcnt
  sl_exec
  iapply Hk $$ %(setup_skip.sl.r i arg16 harg16 x16) %hc %(setup_skip.sl.v20 i arg16 harg16 x16)
  isplitl []
  · ipureintro; exact hr
  iapply (owns_at c arg16 _ x16 (harg16.read_unread x16)) $$ H16

end Cert.KernelIdeal.Gen

end
-- ==== Proof.RunScatter.lean ====
module

public import proofs.«01_k».proof.Proof.RunExpert

/-! # The triples of the scatter and of the block's end

The scatter adds an expert's weighted outputs to the block's sum; the end writes the block plus its
sum out. -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block's sum after `k` trips of the scatter. -/
def scatterInv (c : Dev nD) (arg18 : Memref sig .tc .vmem S4x256x1024 .f32) (arg19 : Memref sig .tc .vmem S1024x1024 .f32)
    (arg1 : BitVec 32) (v0 : IVec S1024x128 32) (v7 : BitVec 32) (x15 x13 : S1024x128.Idx → Elt F .f32)
    (x18 Y : S4x256x1024.Idx → Elt F .f32) (acc : S1024x1024.Idx → Elt F .f32) (k : ℕ) (_ : Unit) : sProp 𝕄 :=
  iprop(owns (c : Thread nD τ) arg18 fullShare x18
    ∗ owns (c : Thread nD τ) arg19 fullShare (scatterK arg1 v0 v7 x15 x13 Y acc k))

theorem scatter_triple (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (arg1 : BitVec 32) (v0 : IVec S1024x128 32)
    (v7 : BitVec 32) (hv : v7.toNat ≤ 1024) (hw : k0_chk1 i v7)
    (x15 x13 : S1024x128.Idx → Elt F .f32) (x18 Y : S4x256x1024.Idx → Elt F .f32) (x19 : S1024x1024.Idx → Elt F .f32)
    (hY : ∀ y, ValidAt v7.toNat y → x18 y = Y y) (h5 : k0_cond5 i = 1#1)
    (next : Unit → Prog (TpuEff nD τ sig (Elt F) Λ₀ .tc) PUnit) (Q : PUnit → sProp 𝕄) :
  (owns (c : Thread nD τ) arg15 fullShare x15 ∗ owns (c : Thread nD τ) arg13 fullShare x13
    ∗ owns (c : Thread nD τ) arg18 fullShare x18 ∗ owns (c : Thread nD τ) arg19 fullShare x19
    ∗ ((owns (c : Thread nD τ) arg15 fullShare x15 ∗ owns (c : Thread nD τ) arg13 fullShare x13
        ∗ owns (c : Thread nD τ) arg18 fullShare x18
        ∗ owns (c : Thread nD τ) arg19 fullShare (scatterV arg1 v0 v7 x15 x13 Y x19))
        -∗ wp frame (wpE (defs₀ (F := F)) 𝒱₀ c none) E (next ⟨⟩) Q) : sProp 𝕄)
   ⊢ wp frame (wpE (defs₀ (F := F)) 𝒱₀ c none) E (scatterP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v0 v7 hw (w17 v7) (w21 v7) (w35 v7) (w36 v7) next) Q := by
  have W := wordFacts v7 hv
  have hn := nfull_le hv
  have htr : (k0_t5_loop v7).trips = nfull v7.toNat := W.2.2.2.2.2.2.2.2.2.1
  iintro ⟨H15,H13,H18,H19,Hk⟩
  ihave H15 := (owns_elim c arg15 harg15 x15) $$ H15
  ihave H13 := (owns_elim c arg13 harg13 x13) $$ H13
  sl_unfold [scatterP]
  sl_exec
  sl_for (scatterInv c arg18 arg19 arg1 v0 v7 x15 x13 x18 Y x19) $$ [H18 H19]
  case region =>
    intro k _
    unfold scatterInv
    iintro ⟨H18,H19⟩
    ihave H18 := (owns_elim c arg18 harg18 x18) $$ H18
    ihave H19 := (owns_elim c arg19 harg19 _) $$ H19
    sl_exec
    sl_step
    isplitl [H18]; · iapply (owns_at c arg18 _ x18 (harg18.read_unread x18)) $$ H18
    iapply (owns_at c arg19 _ _ ?_) $$ H19
    have hkn : k.val < nfull v7.toNat := lt_of_lt_of_eq k.isLt htr
    have hoff := off9_eq hv k
    rw [View.read_writes_full, View.readAt_full, View.readAt_full, View.readAt_full, harg15.read_unread, harg13.read_unread,
      harg19.read_unread, readAt_slot arg18.view _ _ ⟨k.val, by omega⟩ hoff, harg18.read_unread]
    have hk4 : (⟨k.val, by omega⟩ : Fin 4) = Fin.ofNat 4 k.val := Fin.ext (Nat.mod_eq_of_lt (by omega)).symm
    have e : (fun z => x18 (atSlot (⟨k.val, by omega⟩ : Fin 4) z)) = fun z => Y (atSlot (Fin.ofNat 4 k.val) z) := by
      rw [← hk4]; funext z; exact hY _ (valid_atSlot _ hkn z)
    rw [e]
    show _ = scatterK arg1 v0 v7 x15 x13 Y x19 (k.val + 1)
    rw [scatterK, dif_pos (show k.val < (k0_t5_loop v7).trips from k.isLt)]
  · unfold scatterInv
    isplitl [H18]; · iexact H18
    iexact H19
  iintro %acc Hinv
  unfold scatterInv
  icases Hinv with ⟨H18,H19⟩
  ihave H18 := (owns_elim c arg18 harg18 x18) $$ H18
  ihave H19 := (owns_elim c arg19 harg19 _) $$ H19
  have hsc : scatterK arg1 v0 v7 x15 x13 Y x19 (Scf.trips (k0_t5_loop v7).lb (k0_t5_loop v7).ub (k0_t5_loop v7).st)
      = scatterK arg1 v0 v7 x15 x13 Y x19 (nfull v7.toNat) := congrArg _ htr
  by_cases h6 : k0_cond6 v7 = 1#1
  · have hh := W.2.2.2.2.2.2.2.2.2.2.2.2.2.2.1.1 h6
    have hlt := nfull_lt hv hh
    have hoff := off11_eq hv
    sl_exec
    iapply Hk
    isplitl [H15]; · iapply (owns_at c arg15 _ x15 (harg15.read_unread x15)) $$ H15
    isplitl [H13]; · iapply (owns_at c arg13 _ x13 (harg13.read_unread x13)) $$ H13
    isplitl [H18]; · iapply (owns_at c arg18 _ x18 (harg18.read_unread x18)) $$ H18
    iapply (owns_at c arg19 _ _ ?_) $$ H19
    rw [View.read_writes_full, View.readAt_full, View.readAt_full, View.readAt_full, harg15.read_unread, harg13.read_unread,
      harg19.read_unread, readAt_half arg18.view _ _ ⟨nfull v7.toNat, hlt⟩ hoff, harg18.read_unread, hsc]
    have hk4 : (⟨nfull v7.toNat, hlt⟩ : Fin 4) = Fin.ofNat 4 (nfull v7.toNat) := Fin.ext (Nat.mod_eq_of_lt hlt).symm
    have e : (fun z => x18 (atHalf (⟨nfull v7.toNat, hlt⟩ : Fin 4) z)) = fun z => Y (atHalf (Fin.ofNat 4 (nfull v7.toNat)) z) := by
      rw [← hk4]; funext z; exact hY _ (valid_atHalf _ rfl hh z)
    rw [e]
    unfold scatterV
    rw [if_pos hh]
  · sl_exec
    iapply Hk
    isplitl [H15]; · iapply (owns_at c arg15 _ x15 (harg15.read_unread x15)) $$ H15
    isplitl [H13]; · iapply (owns_at c arg13 _ x13 (harg13.read_unread x13)) $$ H13
    isplitl [H18]; · iapply (owns_at c arg18 _ x18 (harg18.read_unread x18)) $$ H18
    iapply (owns_at c arg19 _ _ ?_) $$ H19
    rw [harg19.read_unread, hsc]
    unfold scatterV
    rw [if_neg fun hh => h6 (W.2.2.2.2.2.2.2.2.2.2.2.2.2.2.1.2 hh)]

theorem scatter_skip (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (arg1 : BitVec 32) (v0 : IVec S1024x128 32) (v7 : BitVec 32) (hw : k0_chk1 i v7)
    (h5 : ¬ k0_cond5 i = 1#1) (next : Unit → Prog (TpuEff nD τ sig (Elt F) Λ₀ .tc) PUnit) :
   scatterP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v0 v7 hw (w17 v7) (w21 v7) (w35 v7) (w36 v7) next = next ⟨⟩ := by
  unfold scatterP
  rw [dif_neg h5]

theorem fin_triple (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (x3 x11 x19 : S1024x1024.Idx → Elt F .f32) (h7 : k0_cond7 i = 1#1) (Q : PUnit → sProp 𝕄) :
  (owns (c : Thread nD τ) arg3 fullShare x3 ∗ owns (c : Thread nD τ) arg11 fullShare x11 ∗ owns (c : Thread nD τ) arg19 fullShare x19
    ∗ ((owns (c : Thread nD τ) arg3 fullShare x3 ∗ owns (c : Thread nD τ) arg11 fullShare (k0_pay15 x3 x19)
        ∗ owns (c : Thread nD τ) arg19 fullShare x19) -∗ Q ⟨⟩) : sProp 𝕄)
   ⊢ wp frame (wpE (defs₀ (F := F)) 𝒱₀ c none) E (finP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  iintro ⟨H3,H11,H19,Hk⟩
  ihave H3 := (owns_elim c arg3 harg3 x3) $$ H3
  ihave H11 := (owns_elim c arg11 harg11 x11) $$ H11
  ihave H19 := (owns_elim c arg19 harg19 x19) $$ H19
  sl_unfold [finP]
  sl_exec
  sl_step
  iapply Hk
  isplitl [H3]; · iapply (owns_at c arg3 _ x3 (harg3.read_unread x3)) $$ H3
  isplitl [H11]
  · iapply (owns_at c arg11 _ _ ?_) $$ H11
    rw [View.read_writes_full, View.readAt_full, View.readAt_full, harg3.read_unread, harg19.read_unread]
  iapply (owns_at c arg19 _ x19 (harg19.read_unread x19)) $$ H19

theorem fin_skip (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (h7 : ¬ k0_cond7 i = 1#1) (Q : PUnit → sProp 𝕄) :
   (Q ⟨⟩) ⊢ wp frame (wpE (defs₀ (F := F)) 𝒱₀ c none) E (finP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  unfold finP
  rw [dif_neg h7]
  iintro H
  sl_step
  iexact H

end Cert.KernelIdeal.Gen

end
-- ==== Proof.RunGather.lean ====
module

public import proofs.«01_k».proof.Proof.Stretches
public import proofs.«01_k».proof.Proof.Slots
public import proofs.«01_k».proof.Proof.SlotStore

/-! # The triple of the gather

From any contents of the slots, the gather leaves the expert's tokens in the valid rows and zeros in
the same rows of the outputs. -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The slots after `k` trips of the gather. -/
def gatherInv (c : Dev nD) (arg12 : Memref sig .tc .vmem S1024x1024 .bf16) (arg17 : Memref sig .tc .vmem S4x256x1024 .bf16)
    (arg18 : Memref sig .tc .vmem S4x256x1024 .f32) (v7 : BitVec 32) (v60 : Vec F S1x1024 .f32)
    (x12 : S1024x1024.Idx → Elt F .bf16) (k : ℕ) (_ : Unit) : sProp 𝕄 :=
  iprop(owns (c : Thread nD τ) arg12 fullShare x12
    ∗ (∃ x17 x18, owns (c : Thread nD τ) arg17 fullShare x17 ∗ owns (c : Thread nD τ) arg18 fullShare x18
      ∗ ⌜∀ y : S4x256x1024.Idx, (y 0).val < k → x17 y = gatherV v7 v60 x12 y ∧ x18 y = clearV y⌝))

theorem gather_triple (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (v7 : BitVec 32) (hv : v7.toNat ≤ 1024) (hw : k0_chk1 i v7)
    (x12 : S1024x1024.Idx → Elt F .bf16) (x14 : S128x1024.Idx → Elt F .f32) (x17 : S4x256x1024.Idx → Elt F .bf16)
    (x18 : S4x256x1024.Idx → Elt F .f32) (h2 : k0_cond2 i = 1#1) (next : Unit → Prog (TpuEff nD τ sig (Elt F) Λ₀ .tc) PUnit) (Q : PUnit → sProp 𝕄) :
  (owns (c : Thread nD τ) arg12 fullShare x12 ∗ owns (c : Thread nD τ) arg14 fullShare x14
    ∗ owns (c : Thread nD τ) arg17 fullShare x17 ∗ owns (c : Thread nD τ) arg18 fullShare x18
    ∗ ((owns (c : Thread nD τ) arg12 fullShare x12 ∗ owns (c : Thread nD τ) arg14 fullShare x14
        ∗ (∃ x17 x18, owns (c : Thread nD τ) arg17 fullShare x17 ∗ owns (c : Thread nD τ) arg18 fullShare x18
          ∗ ⌜∀ y, ValidAt v7.toNat y → x17 y = gatherV v7 (VecWindow.window x14 (k0_off2 i) S1x1024.size (k0_off2_inb i h2)) x12 y ∧ x18 y = clearV y⌝))
        -∗ wp frame (wpE (defs₀ (F := F)) 𝒱₀ c none) E (next ⟨⟩) Q) : sProp 𝕄)
   ⊢ wp frame (wpE (defs₀ (F := F)) 𝒱₀ c none) E (gatherP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7 hw (w17 v7) (w21 v7) (w35 v7) (w36 v7) next) Q := by
  have W := wordFacts v7 hv
  iintro ⟨H12,H14,H17,H18,Hk⟩
  ihave H14 := (owns_elim c arg14 harg14 x14) $$ H14
  sl_unfold [gatherP]
  sl_exec
  sl_for (gatherInv c arg12 arg17 arg18 v7 (VecWindow.window x14 (k0_off2 i) S1x1024.size (k0_off2_inb i h2)) x12) $$ [H12 H17 H18]
  case region =>
    intro k _
    unfold gatherInv
    iintro ⟨H12,%x17,%x18,H17,H18,%hx⟩
    ihave H12 := (owns_elim c arg12 harg12 x12) $$ H12
    ihave H17 := (owns_elim c arg17 harg17 x17) $$ H17
    ihave H18 := (owns_elim c arg18 harg18 x18) $$ H18
    sl_exec
    sl_step
    isplitl [H12]
    · iapply (owns_at c arg12 _ x12 (harg12.read_unread x12)) $$ H12
    iexists _; iexists _
    isplitl [H17]; · iapply (owns_at c arg17 _ _ rfl) $$ H17
    isplitl [H18]; · iapply (owns_at c arg18 _ _ rfl) $$ H18
    ipureintro
    intro y hy
    rw [read_slot _ _ _ _ k.val (off3_eq hv k), read_slot _ _ _ _ k.val (off3_eq hv k), harg17.read_unread, harg18.read_unread]
    by_cases hk : (y 0).val = k.val
    · rw [if_pos hk, if_pos hk]
      refine ⟨?_, rfl⟩
      unfold gatherV
      have hlt : (y 0).val < (k0_t1_loop v7).trips := lt_of_eq_of_lt hk k.isLt
      rw [dif_pos hlt, View.readAt_full, harg12.read_unread, View.readAt_unit arg14.view _ _ rfl (k0_off2_inb i h2), harg14.read_unread]
      have : k = ⟨(y 0).val, hlt⟩ := Fin.ext hk.symm
      rw [← this]
    · rw [if_neg hk, if_neg hk]
      exact hx y (by omega)
  · unfold gatherInv
    isplitl [H12]; · iexact H12
    iexists x17; iexists x18
    isplitl [H17]; · iexact H17
    isplitl [H18]; · iexact H18
    ipureintro
    intro y hy
    exact absurd hy (Nat.not_lt_zero _)
  iintro %acc Hinv
  unfold gatherInv
  icases Hinv with ⟨H12,%y17,%y18,H17,H18,%hy⟩
  ihave H12 := (owns_elim c arg12 harg12 x12) $$ H12
  ihave H17 := (owns_elim c arg17 harg17 y17) $$ H17
  ihave H18 := (owns_elim c arg18 harg18 y18) $$ H18
  have h17 : k0_off5 v7 = ![nfull v7.toNat, 0, 0] := off5_eq hv
  have hwin : View.readAt (Elt F) arg14.view (Rect.unit (s := S128x1024) (k0_off2 i) S1x1024.size (k0_off2_inb i h2)).toLoadRect (harg14.unread x14)
      = VecWindow.window x14 (k0_off2 i) S1x1024.size (k0_off2_inb i h2) := by
    rw [View.readAt_unit arg14.view _ _ rfl (k0_off2_inb i h2), harg14.read_unread]
  have htr : (k0_t1_loop v7).trips = nfull v7.toNat := W.2.1
  change ∀ y : S4x256x1024.Idx, (y 0).val < (k0_t1_loop v7).trips → _ at hy
  rw [htr] at hy
  by_cases h3 : k0_cond3 v7 = 1#1
  · sl_exec
    iapply Hk
    isplitl [H12]; · iapply (owns_at c arg12 _ x12 (harg12.read_unread x12)) $$ H12
    isplitl [H14]; · iapply (owns_at c arg14 _ x14 (harg14.read_unread x14)) $$ H14
    iexists _; iexists _
    isplitl [H17]; · iapply (owns_at c arg17 _ _ rfl) $$ H17
    isplitl [H18]; · iapply (owns_at c arg18 _ _ rfl) $$ H18
    ipureintro
    intro y hval
    rw [read_half _ _ _ _ _ h17, read_half _ _ _ _ _ h17, harg17.read_unread, harg18.read_unread]
    by_cases hk : (y 0).val = nfull v7.toNat ∧ (y 1).val < 128
    · rw [if_pos hk, if_pos hk]
      refine ⟨?_, rfl⟩
      unfold gatherV
      rw [dif_neg (by rw [htr]; omega), View.readAt_full, harg12.read_unread, hwin]
    · rw [if_neg hk, if_neg hk]
      rcases hval with h | h
      · exact hy y h
      · exact absurd ⟨h.1, h.2.2⟩ hk
  · sl_exec
    iapply Hk
    isplitl [H12]; · iapply (owns_at c arg12 _ x12 (harg12.read_unread x12)) $$ H12
    isplitl [H14]; · iapply (owns_at c arg14 _ x14 (harg14.read_unread x14)) $$ H14
    iexists _; iexists _
    isplitl [H17]; · iapply (owns_at c arg17 _ _ rfl) $$ H17
    isplitl [H18]; · iapply (owns_at c arg18 _ _ rfl) $$ H18
    ipureintro
    intro y hval
    rw [harg17.read_unread, harg18.read_unread]
    rcases hval with h | h
    · exact hy y h
    · exact absurd (W.2.2.2.2.2.2.2.2.2.2.2.2.1.2 h.2.1) h3

theorem gather_skip (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (v7 : BitVec 32) (hw : k0_chk1 i v7)
    (h2 : ¬ k0_cond2 i = 1#1) (next : Unit → Prog (TpuEff nD τ sig (Elt F) Λ₀ .tc) PUnit) :
   gatherP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v7 hw (w17 v7) (w21 v7) (w35 v7) (w36 v7) next = next ⟨⟩ := by
  unfold gatherP
  rw [dif_neg h2]

end Cert.KernelIdeal.Gen

end
-- ==== Proof.RunParts.lean ====
module

public import proofs.«01_k».proof.Proof.RunSkip
public import proofs.«01_k».proof.Proof.RunScatter
public import proofs.«01_k».proof.Proof.RunGather

/-! # One point of the grid

What a point does to the scratch, as a function on the contents that matter (`step`), and the triple of
the whole body at a point. -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of the scratch: the normed block, the router's weights, the tokens' places by expert and by
token, the counts, the gathered tokens, the outputs, and the block's sum. -/
structure St (F : FTy → Type) [FloatOps F] where
  hn : Vec F S1024x1024 .bf16
  comb : Vec F S1024x128 .f32
  post : Vec F S128x1024 .f32
  posr : Vec F S1024x128 .f32
  cnt : S8.Idx → Elt F .i32
  X : S4x256x1024.Idx → Elt F .bf16
  Y : S4x256x1024.Idx → Elt F .f32
  acc : Vec F S1024x1024 .f32

/-- The inputs of a point. -/
structure Inp (F : FTy → Type) [FloatOps F] where
  x3 : Vec F S1024x1024 .f32
  x4 : Vec F S1x1024 .f32
  x5 : Vec F S1024x128 .bf16
  x6 : Vec F S1x128 .f32
  x7 : Vec F S1024x1024 .bf16
  x8 : Vec F S1x1024x896 .bf16
  x9 : Vec F S1x1024x896 .bf16
  x10 : Vec F S1x896x1024 .bf16

/-- The kernel's test for a block's first point. -/
def C1 (i : grid0.Coords) : Prop :=
  Scalar.cmpi .ne (Scalar.extui (Scalar.andi (Scalar.cmpi .eq (BitVec.ofNat 32 (i 1).val) 0#32) (Scalar.cmpi .eq (BitVec.ofNat 32 (i 2).val) 0#32)) : BitVec 32) 0#32 = 1#1

instance (i : grid0.Coords) : Decidable (C1 i) := by unfold C1; infer_instance

/-- After the set-up. -/
def st1 (i : grid0.Coords) (a : Inp F) (s : St F) : St F :=
  if C1 i then ⟨hnV a.x3 a.x4, combV a.x3 a.x4 a.x5 a.x6, postV a.x3 a.x4 a.x5 a.x6 a.x7, posrV a.x3 a.x4 a.x5 a.x6 a.x7,
    cntV a.x3 a.x4 a.x5 a.x6, s.X, s.Y, k0_pay39⟩ else s

/-- After the gather. -/
def st2 (i : grid0.Coords) (s : St F) : St F :=
  if h2 : k0_cond2 i = 1#1 then
    ⟨s.hn, s.comb, s.post, s.posr, s.cnt,
      gatherV (s.cnt (expertIdx i)) (VecWindow.window s.post (k0_off2 i) S1x1024.size (k0_off2_inb i h2)) s.hn, clearV, s.acc⟩
  else s

/-- After a quarter of the expert. -/
def st3 (i : grid0.Coords) (a : Inp F) (s : St F) : St F :=
  ⟨s.hn, s.comb, s.post, s.posr, s.cnt, s.X, expertV (s.cnt (expertIdx i)) a.x8 a.x9 a.x10 s.X s.Y, s.acc⟩

/-- After the scatter. -/
def st4 (i : grid0.Coords) (s : St F) : St F :=
  if k0_cond5 i = 1#1 then
    ⟨s.hn, s.comb, s.post, s.posr, s.cnt, s.X, s.Y,
      scatterV (BitVec.ofNat 32 (i 1).val) lanes (s.cnt (expertIdx i)) s.posr s.comb s.Y s.acc⟩
  else s

/-- What a point does to the scratch. -/
def step (i : grid0.Coords) (a : Inp F) (s : St F) : St F := st4 i (st3 i a (st2 i (st1 i a s)))

/-- The gathered tokens and the outputs are as said, on the valid rows of an expert with `v` tokens. -/
def Agree (v : BitVec 32) (x17 X : S4x256x1024.Idx → Elt F .bf16) (x18 Y : S4x256x1024.Idx → Elt F .f32) : Prop :=
  ∀ y, ValidAt v.toNat y → x17 y = X y ∧ x18 y = Y y

theorem part_setup (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (a : Inp F) (s : St F)
    (x12 : S1024x1024.Idx → Elt F .bf16) (x13 : S1024x128.Idx → Elt F .f32) (x14 : S128x1024.Idx → Elt F .f32)
    (x15 : S1024x128.Idx → Elt F .f32) (x16 : S8.Idx → Elt F .i32) (x19 : S1024x1024.Idx → Elt F .f32)
    (hs : ¬ C1 i → x12 = s.hn ∧ x13 = s.comb ∧ x14 = s.post ∧ x15 = s.posr ∧ x16 = s.cnt ∧ x19 = s.acc)
    (hcnt : ((st1 i a s).cnt (expertIdx i) : BitVec 32).toNat ≤ 1024)
    (next : (Σ' (arg1 : BitVec 32) (arg2 : BitVec 32) (v0 : IVec S1024x128 32) (v7 : Elt F .i32) (k0_hw1 : k0_chk1 i v7) (v17 : BitVec 32) (v20 : BitVec 1) (v21 : BitVec 32) (v35 : BitVec 1), BitVec 32) → Prog (TpuEff nD τ sig (Elt F) Λ₀ .tc) PUnit) (Q : PUnit → sProp 𝕄) :
  (owns (c : Thread nD τ) arg3 fullShare a.x3
    ∗ owns (c : Thread nD τ) arg4 fullShare a.x4
    ∗ owns (c : Thread nD τ) arg5 fullShare a.x5
    ∗ owns (c : Thread nD τ) arg6 fullShare a.x6
    ∗ owns (c : Thread nD τ) arg7 fullShare a.x7
    ∗ owns (c : Thread nD τ) arg12 fullShare x12
    ∗ owns (c : Thread nD τ) arg13 fullShare x13
    ∗ owns (c : Thread nD τ) arg14 fullShare x14
    ∗ owns (c : Thread nD τ) arg15 fullShare x15
    ∗ owns (c : Thread nD τ) arg16 fullShare x16
    ∗ owns (c : Thread nD τ) arg19 fullShare x19
    ∗ (∀ (v7 : BitVec 32) hw v20, (⌜v7 = (st1 i a s).cnt (expertIdx i)⌝ ∗ owns (c : Thread nD τ) arg3 fullShare a.x3
    ∗ owns (c : Thread nD τ) arg4 fullShare a.x4
    ∗ owns (c : Thread nD τ) arg5 fullShare a.x5
    ∗ owns (c : Thread nD τ) arg6 fullShare a.x6
    ∗ owns (c : Thread nD τ) arg7 fullShare a.x7
    ∗ owns (c : Thread nD τ) arg12 fullShare (st1 i a s).hn
    ∗ owns (c : Thread nD τ) arg13 fullShare (st1 i a s).comb
    ∗ owns (c : Thread nD τ) arg14 fullShare (st1 i a s).post
    ∗ owns (c : Thread nD τ) arg15 fullShare (st1 i a s).posr
    ∗ owns (c : Thread nD τ) arg16 fullShare (st1 i a s).cnt
    ∗ owns (c : Thread nD τ) arg19 fullShare (st1 i a s).acc)
        -∗ wp frame (wpE (defs₀ (F := F)) 𝒱₀ c none) E (next ⟨BitVec.ofNat 32 (i 1).val, BitVec.ofNat 32 (i 2).val, lanes, v7, hw, w17 v7, v20, w21 v7, w35 v7, w36 v7⟩) Q) : sProp 𝕄)
   ⊢ wp frame (wpE (defs₀ (F := F)) 𝒱₀ c none) E (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= next) Q := by
  by_cases h1 : C1 i
  · unfold st1 at hcnt ⊢
    rw [if_pos h1] at hcnt ⊢
    exact setup_triple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E a.x3 a.x4 a.x5 a.x6 a.x7 x12 x13 x14 x15 x16 x19 hcnt h1 next Q
  · unfold st1 at hcnt ⊢
    rw [if_neg h1] at hcnt ⊢
    obtain ⟨rfl, rfl, rfl, rfl, rfl, rfl⟩ := hs h1
    iintro ⟨H3,H4,H5,H6,H7,H12,H13,H14,H15,H16,H19,Hk⟩
    iapply (setup_skip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E s.cnt hcnt h1 next Q)
    isplitl [H16]; · iexact H16
    iintro %v7 %hw %v20 ⟨%hv, H16⟩
    iapply Hk $$ %v7 %hw %v20
    isplitl []; · ipureintro; exact hv
    isplitl [H3]; · iexact H3
    isplitl [H4]; · iexact H4
    isplitl [H5]; · iexact H5
    isplitl [H6]; · iexact H6
    isplitl [H7]; · iexact H7
    isplitl [H12]; · iexact H12
    isplitl [H13]; · iexact H13
    isplitl [H14]; · iexact H14
    isplitl [H15]; · iexact H15
    isplitl [H16]; · iexact H16
    iexact H19

theorem part_gather (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (s : St F)
    (hcnt : (s.cnt (expertIdx i) : BitVec 32).toNat ≤ 1024) (hw : k0_chk1 i (s.cnt (expertIdx i)))
    (x17 : S4x256x1024.Idx → Elt F .bf16) (x18 : S4x256x1024.Idx → Elt F .f32)
    (hs : ¬ k0_cond2 i = 1#1 → Agree (s.cnt (expertIdx i)) x17 s.X x18 s.Y)
    (next : Unit → Prog (TpuEff nD τ sig (Elt F) Λ₀ .tc) PUnit) (Q : PUnit → sProp 𝕄) :
  (owns (c : Thread nD τ) arg12 fullShare s.hn
    ∗ owns (c : Thread nD τ) arg14 fullShare s.post
    ∗ owns (c : Thread nD τ) arg17 fullShare x17
    ∗ owns (c : Thread nD τ) arg18 fullShare x18
    ∗ ((owns (c : Thread nD τ) arg12 fullShare s.hn
    ∗ owns (c : Thread nD τ) arg14 fullShare s.post
        ∗ (∃ x17 x18, owns (c : Thread nD τ) arg17 fullShare x17
    ∗ owns (c : Thread nD τ) arg18 fullShare x18 ∗ ⌜Agree (s.cnt (expertIdx i)) x17 (st2 i s).X x18 (st2 i s).Y⌝))
        -∗ wp frame (wpE (defs₀ (F := F)) 𝒱₀ c none) E (next ⟨⟩) Q) : sProp 𝕄)
   ⊢ wp frame (wpE (defs₀ (F := F)) 𝒱₀ c none) E (gatherP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (s.cnt (expertIdx i)) hw (w17 (s.cnt (expertIdx i))) (w21 (s.cnt (expertIdx i))) (w35 (s.cnt (expertIdx i))) (w36 (s.cnt (expertIdx i))) next) Q := by
  by_cases h2 : k0_cond2 i = 1#1
  · unfold st2
    rw [dif_pos h2]
    exact gather_triple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E _ hcnt hw s.hn s.post x17 x18 h2 next Q
  · unfold st2
    rw [dif_neg h2, gather_skip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E _ hw h2 next]
    iintro ⟨H12,H14,H17,H18,Hk⟩
    iapply Hk
    isplitl [H12]; · iexact H12
    isplitl [H14]; · iexact H14
    iexists x17
    iexists x18
    isplitl [H17]; · iexact H17
    isplitl [H18]; · iexact H18
    ipureintro
    exact hs h2

theorem part_scatter (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (s : St F)
    (hcnt : (s.cnt (expertIdx i) : BitVec 32).toNat ≤ 1024) (hw : k0_chk1 i (s.cnt (expertIdx i)))
    (x18 : S4x256x1024.Idx → Elt F .f32) (hY : ∀ y, ValidAt (s.cnt (expertIdx i) : BitVec 32).toNat y → x18 y = s.Y y)
    (next : Unit → Prog (TpuEff nD τ sig (Elt F) Λ₀ .tc) PUnit) (Q : PUnit → sProp 𝕄) :
  (owns (c : Thread nD τ) arg15 fullShare s.posr
    ∗ owns (c : Thread nD τ) arg13 fullShare s.comb
    ∗ owns (c : Thread nD τ) arg18 fullShare x18
    ∗ owns (c : Thread nD τ) arg19 fullShare s.acc
    ∗ ((owns (c : Thread nD τ) arg15 fullShare s.posr
    ∗ owns (c : Thread nD τ) arg13 fullShare s.comb
    ∗ owns (c : Thread nD τ) arg18 fullShare x18
    ∗ owns (c : Thread nD τ) arg19 fullShare (st4 i s).acc)
        -∗ wp frame (wpE (defs₀ (F := F)) 𝒱₀ c none) E (next ⟨⟩) Q) : sProp 𝕄)
   ⊢ wp frame (wpE (defs₀ (F := F)) 𝒱₀ c none) E (scatterP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) lanes (s.cnt (expertIdx i)) hw (w17 (s.cnt (expertIdx i))) (w21 (s.cnt (expertIdx i))) (w35 (s.cnt (expertIdx i))) (w36 (s.cnt (expertIdx i))) next) Q := by
  by_cases h5 : k0_cond5 i = 1#1
  · unfold st4
    rw [if_pos h5]
    exact scatter_triple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E _ lanes _ hcnt hw s.posr s.comb x18 s.Y s.acc hY h5 next Q
  · unfold st4
    rw [if_neg h5, scatter_skip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ lanes _ hw h5 next]
    iintro ⟨H15,H13,H18,H19,Hk⟩
    iapply Hk
    isplitl [H15]; · iexact H15
    isplitl [H13]; · iexact H13
    isplitl [H18]; · iexact H18
    iexact H19

theorem part_fin (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (x3 x11 x19 : S1024x1024.Idx → Elt F .f32) (Q : PUnit → sProp 𝕄) :
  (owns (c : Thread nD τ) arg3 fullShare x3
    ∗ owns (c : Thread nD τ) arg11 fullShare x11
    ∗ owns (c : Thread nD τ) arg19 fullShare x19
    ∗ ((owns (c : Thread nD τ) arg3 fullShare x3
    ∗ owns (c : Thread nD τ) arg11 fullShare (if k0_cond7 i = 1#1 then k0_pay15 x3 x19 else x11)
    ∗ owns (c : Thread nD τ) arg19 fullShare x19) -∗ Q ⟨⟩) : sProp 𝕄)
   ⊢ wp frame (wpE (defs₀ (F := F)) 𝒱₀ c none) E (finP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  by_cases h7 : k0_cond7 i = 1#1
  · rw [if_pos h7]
    exact fin_triple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E x3 x11 x19 h7 Q
  · rw [if_neg h7]
    iintro ⟨H3,H11,H19,Hk⟩
    iapply (fin_skip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E h7 Q)
    iapply Hk
    isplitl [H3]; · iexact H3
    isplitl [H11]; · iexact H11
    iexact H19

end Cert.KernelIdeal.Gen

end
-- ==== Proof.RunPoint.lean ====
module

public import proofs.«01_k».proof.Proof.RunParts

/-! # The body at a point -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem step_hn (i : grid0.Coords) (a : Inp F) (s : St F) : (step i a s).hn = (st1 i a s).hn := by
  unfold step st4 st3 st2; split <;> split <;> rfl
theorem step_comb (i : grid0.Coords) (a : Inp F) (s : St F) : (step i a s).comb = (st1 i a s).comb := by
  unfold step st4 st3 st2; split <;> split <;> rfl
theorem step_post (i : grid0.Coords) (a : Inp F) (s : St F) : (step i a s).post = (st1 i a s).post := by
  unfold step st4 st3 st2; split <;> split <;> rfl
theorem step_posr (i : grid0.Coords) (a : Inp F) (s : St F) : (step i a s).posr = (st1 i a s).posr := by
  unfold step st4 st3 st2; split <;> split <;> rfl
theorem step_cnt (i : grid0.Coords) (a : Inp F) (s : St F) : (step i a s).cnt = (st1 i a s).cnt := by
  unfold step st4 st3 st2; split <;> split <;> rfl
theorem st2_eq (i : grid0.Coords) (s : St F) : st2 i s = ⟨s.hn, s.comb, s.post, s.posr, s.cnt, (st2 i s).X, (st2 i s).Y, s.acc⟩ := by
  unfold st2; split <;> rfl
theorem step_X (i : grid0.Coords) (a : Inp F) (s : St F) : (step i a s).X = (st2 i (st1 i a s)).X := by
  unfold step st4 st3; split <;> rfl
theorem step_Y (i : grid0.Coords) (a : Inp F) (s : St F) : (step i a s).Y = (st3 i a (st2 i (st1 i a s))).Y := by
  unfold step st4; split <;> rfl

/-- The body at a point: with the scratch at contents that agree with a state where the point reads them, it
leaves the scratch at the state's step, and the output at the block's result in the block's last point. -/
theorem point_triple (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1x1024x896 .bf16) (harg8 : arg8.IsWhole) (arg9 : Memref sig .tc .vmem S1x1024x896 .bf16) (harg9 : arg9.IsWhole) (arg10 : Memref sig .tc .vmem S1x896x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x1024 .f32) (harg14 : arg14.IsWhole) (arg15 : Memref sig .tc .vmem S1024x128 .f32) (harg15 : arg15.IsWhole) (arg16 : Memref sig .tc .smem S8 .i32) (harg16 : arg16.IsWhole) (arg17 : Memref sig .tc .vmem S4x256x1024 .bf16) (harg17 : arg17.IsWhole) (arg18 : Memref sig .tc .vmem S4x256x1024 .f32) (harg18 : arg18.IsWhole) (arg19 : Memref sig .tc .vmem S1024x1024 .f32) (harg19 : arg19.IsWhole) (E : Set ℕ) (a : Inp F) (s : St F)
    (x11 : S1024x1024.Idx → Elt F .f32)
    (x12 : S1024x1024.Idx → Elt F .bf16) (x13 : S1024x128.Idx → Elt F .f32) (x14 : S128x1024.Idx → Elt F .f32)
    (x15 : S1024x128.Idx → Elt F .f32) (x16 : S8.Idx → Elt F .i32)
    (x17 : S4x256x1024.Idx → Elt F .bf16) (x18 : S4x256x1024.Idx → Elt F .f32) (x19 : S1024x1024.Idx → Elt F .f32)
    (hs : ¬ C1 i → x12 = s.hn ∧ x13 = s.comb ∧ x14 = s.post ∧ x15 = s.posr ∧ x16 = s.cnt ∧ x19 = s.acc)
    (hcnt : ((st1 i a s).cnt (expertIdx i) : BitVec 32).toNat ≤ 1024)
    (ha : ¬ k0_cond2 i = 1#1 → ¬ C1 i ∧ Agree (s.cnt (expertIdx i)) x17 s.X x18 s.Y) (Q : PUnit → sProp 𝕄) :
  (owns (c : Thread nD τ) arg3 fullShare a.x3
    ∗ owns (c : Thread nD τ) arg4 fullShare a.x4
    ∗ owns (c : Thread nD τ) arg5 fullShare a.x5
    ∗ owns (c : Thread nD τ) arg6 fullShare a.x6
    ∗ owns (c : Thread nD τ) arg7 fullShare a.x7
    ∗ owns (c : Thread nD τ) arg8 fullShare a.x8
    ∗ owns (c : Thread nD τ) arg9 fullShare a.x9
    ∗ owns (c : Thread nD τ) arg10 fullShare a.x10
    ∗ owns (c : Thread nD τ) arg11 fullShare x11
    ∗ owns (c : Thread nD τ) arg12 fullShare x12
    ∗ owns (c : Thread nD τ) arg13 fullShare x13
    ∗ owns (c : Thread nD τ) arg14 fullShare x14
    ∗ owns (c : Thread nD τ) arg15 fullShare x15
    ∗ owns (c : Thread nD τ) arg16 fullShare x16
    ∗ owns (c : Thread nD τ) arg17 fullShare x17
    ∗ owns (c : Thread nD τ) arg18 fullShare x18
    ∗ owns (c : Thread nD τ) arg19 fullShare x19
    ∗ ((owns (c : Thread nD τ) arg3 fullShare a.x3
    ∗ owns (c : Thread nD τ) arg4 fullShare a.x4
    ∗ owns (c : Thread nD τ) arg5 fullShare a.x5
    ∗ owns (c : Thread nD τ) arg6 fullShare a.x6
    ∗ owns (c : Thread nD τ) arg7 fullShare a.x7
    ∗ owns (c : Thread nD τ) arg8 fullShare a.x8
    ∗ owns (c : Thread nD τ) arg9 fullShare a.x9
    ∗ owns (c : Thread nD τ) arg10 fullShare a.x10
    ∗ owns (c : Thread nD τ) arg11 fullShare (if k0_cond7 i = 1#1 then k0_pay15 a.x3 (step i a s).acc else x11)
    ∗ owns (c : Thread nD τ) arg12 fullShare (step i a s).hn
    ∗ owns (c : Thread nD τ) arg13 fullShare (step i a s).comb
    ∗ owns (c : Thread nD τ) arg14 fullShare (step i a s).post
    ∗ owns (c : Thread nD τ) arg15 fullShare (step i a s).posr
    ∗ owns (c : Thread nD τ) arg16 fullShare (step i a s).cnt
    ∗ owns (c : Thread nD τ) arg19 fullShare (step i a s).acc
      ∗ (∃ x17 x18, owns (c : Thread nD τ) arg17 fullShare x17
    ∗ owns (c : Thread nD τ) arg18 fullShare x18 ∗ ⌜Agree ((step i a s).cnt (expertIdx i)) x17 (step i a s).X x18 (step i a s).Y⌝)) -∗ Q ⟨⟩) : sProp 𝕄)
   ⊢ wp frame (wpE (defs₀ (F := F)) 𝒱₀ c none) E (cc0_moe_swiglu i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [cc0_moe_swiglu_eq_skeleton, skel_eq]
  have ha' : ¬ k0_cond2 i = 1#1 → Agree ((st1 i a s).cnt (expertIdx i)) x17 (st1 i a s).X x18 (st1 i a s).Y := by
    intro h
    obtain ⟨h1, h3⟩ := ha h
    unfold st1
    rw [if_neg h1]
    exact h3
  generalize hs1 : st1 i a s = s1 at hcnt ha'
  have hw : k0_chk1 i (s1.cnt (expertIdx i)) := chk_of_le i _ hcnt
  iintro ⟨H3,H4,H5,H6,H7,H8,H9,H10,H11,H12,H13,H14,H15,H16,H17,H18,H19,Hk⟩
  iapply (part_setup c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E a s x12 x13 x14 x15 x16 x19 hs (by rw [hs1]; exact hcnt) _ Q)
  isplitl [H3]; · iexact H3
  isplitl [H4]; · iexact H4
  isplitl [H5]; · iexact H5
  isplitl [H6]; · iexact H6
  isplitl [H7]; · iexact H7
  isplitl [H12]; · iexact H12
  isplitl [H13]; · iexact H13
  isplitl [H14]; · iexact H14
  isplitl [H15]; · iexact H15
  isplitl [H16]; · iexact H16
  isplitl [H19]; · iexact H19
  rw [hs1]
  iintro %v7 %hw' %v20 ⟨%hv, H3,H4,H5,H6,H7,H12,H13,H14,H15,H16,H19⟩
  obtain rfl := hv
  iapply (part_gather c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E s1 hcnt hw' x17 x18 ha' _ Q)
  isplitl [H12]; · iexact H12
  isplitl [H14]; · iexact H14
  isplitl [H17]; · iexact H17
  isplitl [H18]; · iexact H18
  iintro ⟨H12, H14, %x17', %x18', H17, H18, %hA⟩
  iapply (expert_triple c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E _ hcnt hw' a.x8 a.x9 a.x10 x17' (st2 i s1).X x18' (st2 i s1).Y (fun y hy => (hA y hy).1) (fun y hy => (hA y hy).2) _ Q)
  isplitl [H8]; · iexact H8
  isplitl [H9]; · iexact H9
  isplitl [H10]; · iexact H10
  isplitl [H17]; · iexact H17
  isplitl [H18]; · iexact H18
  iintro ⟨H8, H9, H10, H17, %x18'', H18, %hB⟩
  have e2 : st3 i a (st2 i s1) = ⟨s1.hn, s1.comb, s1.post, s1.posr, s1.cnt, (st2 i s1).X, (st3 i a (st2 i s1)).Y, s1.acc⟩ := by
    rw [st2_eq]; rfl
  have hB' : ∀ y, ValidAt (s1.cnt (expertIdx i) : BitVec 32).toNat y → x18'' y = (st3 i a (st2 i s1)).Y y := by
    intro y hy
    rw [hB y hy, st2_eq]
    rfl
  iapply (part_scatter c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E ⟨s1.hn, s1.comb, s1.post, s1.posr, s1.cnt, (st2 i s1).X, (st3 i a (st2 i s1)).Y, s1.acc⟩ hcnt hw' x18'' hB' _ Q)
  isplitl [H15]; · iexact H15
  isplitl [H13]; · iexact H13
  isplitl [H18]; · iexact H18
  isplitl [H19]; · iexact H19
  rw [← e2]
  iintro ⟨H15, H13, H18, H19⟩
  iapply (part_fin c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 E a.x3 x11 _ Q)
  isplitl [H3]; · iexact H3
  isplitl [H11]; · iexact H11
  isplitl [H19]; · iexact H19
  iintro ⟨H3, H11, H19⟩
  iapply Hk
  have e13 : (st3 i a (st2 i s1)).comb = s1.comb := by rw [e2]
  have e15 : (st3 i a (st2 i s1)).posr = s1.posr := by rw [e2]
  rw [step_hn, step_comb, step_post, step_posr, step_cnt, step_X, step_Y]
  unfold step
  rw [hs1, e13, e15]
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H19]; · iexact H19
  iexists x17'
  iexists x18''
  isplitl [H17]; · iexact H17
  isplitl [H18]; · iexact H18
  ipureintro
  exact fun y hy => ⟨(hA y hy).1, hB' y hy⟩

end Cert.KernelIdeal.Gen

end
-- ==== Proof.Run.lean ====
module

public import proofs.«01_k».proof.Proof.RunPoint

/-! # The run of the kernel

The state of the scratch before every point, the invariant that the scratch agrees with it where the next
point reads it, the body's obligation at every point, and the run of the whole program: its output array is
what the pipeline writes back of the blocks' results. -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf ΦA)

variable (m : (ℓ : Loc nD τ sig) → Buf (Elt F) ℓ) (ρ : Dev nD → PrngReg)

/-! ## The points -/

theorem coords_val : ∀ t : Fin grid0.N, (grid0.coords t 0).val = t.val / 32 ∧ (grid0.coords t 1).val = t.val / 4 % 8 ∧ (grid0.coords t 2).val = t.val % 4 := by
  decide +kernel

theorem c1_iff : ∀ t : Fin grid0.N, C1 (grid0.coords t) ↔ t.val % 32 = 0 := by decide +kernel
theorem c2_iff : ∀ t : Fin grid0.N, k0_cond2 (grid0.coords t) = 1#1 ↔ t.val % 4 = 0 := by decide +kernel
theorem c5_iff : ∀ t : Fin grid0.N, k0_cond5 (grid0.coords t) = 1#1 ↔ t.val % 4 = 3 := by decide +kernel
theorem c7_iff : ∀ t : Fin grid0.N, k0_cond7 (grid0.coords t) = 1#1 ↔ t.val % 32 = 31 := by decide +kernel

theorem expertIdx_eq (t t' : Fin grid0.N) (h : t.val / 4 % 8 = t'.val / 4 % 8) : expertIdx (grid0.coords t) = expertIdx (grid0.coords t') := by
  have h1 := (coords_val t).2.1
  have h2 := (coords_val t').2.1
  unfold expertIdx
  funext a
  match a with
  | ⟨0, _⟩ => exact Fin.ext (by show (grid0.coords t 1).val = (grid0.coords t' 1).val; omega)

/-! ## The states -/

/-- The inputs of a point, as the pipeline stages them. -/
def inpAt (c : Dev nD) (t : Fin grid0.N) : Inp F :=
  ⟨iblk m c 0 t, iblk m c 1 t, iblk m c 2 t, iblk m c 3 t, iblk m c 4 t, iblk m c 5 t, iblk m c 6 t, iblk m c 7 t⟩

/-- The state before point `n`. -/
def stAt (c : Dev nD) : ℕ → St F
  | 0 => ⟨constant S1024x1024 .bf16 0x0000#16, constant S1024x128 .f32 0x00000000#32, constant S128x1024 .f32 0x00000000#32,
      constant S1024x128 .f32 0x00000000#32, fun _ => (0#32 : BitVec 32), constant S4x256x1024 .bf16 0x0000#16,
      constant S4x256x1024 .f32 0x00000000#32, constant S1024x1024 .f32 0x00000000#32⟩
  | n + 1 => if h : n < 512 then step (grid0.coords ⟨n, h⟩) (inpAt m c ⟨n, h⟩) (stAt c n) else stAt c n

theorem stAt_succ (c : Dev nD) (t : Fin grid0.N) : stAt m c (t.val + 1) = step (grid0.coords t) (inpAt m c t) (stAt m c t.val) := by
  have h : t.val < 512 := t.isLt
  show (if h : t.val < 512 then _ else _) = _
  rw [dif_pos h]

/-- No expert of a block has more than 1024 tokens. -/
def CntOK (F : FTy → Type) [FloatOps F] : Prop :=
  ∀ (x3 : Vec F S1024x1024 .f32) (x4 : Vec F S1x1024 .f32) (x5 : Vec F S1024x128 .bf16) (x6 : Vec F S1x128 .f32) (y : S8.Idx),
    (cntV x3 x4 x5 x6 y : BitVec 32).toNat ≤ 1024

theorem st1_cnt_le (hC : CntOK F) (i : grid0.Coords) (a : Inp F) (s : St F) (hs : ∀ y, (s.cnt y : BitVec 32).toNat ≤ 1024) (y : S8.Idx) :
    ((st1 i a s).cnt y : BitVec 32).toNat ≤ 1024 := by
  unfold st1
  split
  · exact hC _ _ _ _ y
  · exact hs y

theorem stAt_cnt_le (hC : CntOK F) (c : Dev nD) : ∀ n y, ((stAt m c n).cnt y : BitVec 32).toNat ≤ 1024
  | 0, _ => by show (0#32 : BitVec 32).toNat ≤ 1024; decide
  | n + 1, y => by
    by_cases h : n < 512
    · rw [stAt_succ m c ⟨n, h⟩, step_cnt]
      exact st1_cnt_le hC _ _ _ (stAt_cnt_le hC c n) y
    · show ((if h : n < 512 then _ else stAt m c n : St F).cnt y : BitVec 32).toNat ≤ 1024
      rw [dif_neg h]
      exact stAt_cnt_le hC c n y

/-- The scratch agrees with the state before point `n`, where point `n` may read it. -/
def Rel (c : Dev nD) (n : ℕ) (x12 : S1024x1024.Idx → Elt F .bf16) (x13 : S1024x128.Idx → Elt F .f32) (x14 : S128x1024.Idx → Elt F .f32) (x15 : S1024x128.Idx → Elt F .f32) (x16 : S8.Idx → Elt F .i32) (x17 : S4x256x1024.Idx → Elt F .bf16) (x18 : S4x256x1024.Idx → Elt F .f32) (x19 : S1024x1024.Idx → Elt F .f32) : Prop :=
  ∀ t : Fin grid0.N, t.val + 1 = n →
    (x12 = (stAt m c n).hn ∧ x13 = (stAt m c n).comb ∧ x14 = (stAt m c n).post ∧ x15 = (stAt m c n).posr ∧ x16 = (stAt m c n).cnt
      ∧ x19 = (stAt m c n).acc)
    ∧ Agree ((stAt m c n).cnt (expertIdx (grid0.coords t))) x17 (stAt m c n).X x18 (stAt m c n).Y

/-- The invariant before point `n`. -/
def inv (c : Dev nD) (n : ℕ) : sProp 𝕄 :=
  iprop((∃ x12 x13 x14 x15 x16 x17 x18 x19, owns (c : Thread nD τ) (Memref.whole cc0_scratch0) fullShare x12 ∗ owns (c : Thread nD τ) (Memref.whole cc0_scratch1) fullShare x13 ∗ owns (c : Thread nD τ) (Memref.whole cc0_scratch2) fullShare x14 ∗ owns (c : Thread nD τ) (Memref.whole cc0_scratch3) fullShare x15 ∗ owns (c : Thread nD τ) (Memref.whole cc0_scratch4) fullShare x16 ∗ owns (c : Thread nD τ) (Memref.whole cc0_scratch5) fullShare x17 ∗ owns (c : Thread nD τ) (Memref.whole cc0_scratch6) fullShare x18 ∗ owns (c : Thread nD τ) (Memref.whole cc0_scratch7) fullShare x19
    ∗ ⌜Rel m c n x12 x13 x14 x15 x16 x17 x18 x19⌝) ∗ ∃ r, prngReg c r)

/-! ## The pipeline's proof data -/

/-- The arrays as the region finds them; after the body each input's buffer at its block and the output's at the
block's result; the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay15 (iblk m c 0 t) (stAt m c (t.val + 1)).acc
  Φ n := inv m c n.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay15 (iblk m c 0 t) (stAt m c (t.val + 1)).acc := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem defs₀_row (t : Fin cfg0.N) : defs₀ (F := F) .tc cfg0.body (cfg0.bodyArgs t (cfg0.slots t)) = bodyAt0 t := by
  unfold defs₀
  rw [Defs.onTc_tc]

end Cert.KernelIdeal.Gen

end
-- ==== Proof.RunMain.lean ====
module

public import proofs.«01_k».proof.Proof.Run

/-! # The body's obligation, and the run of the whole program -/

@[expose] public section

set_option maxHeartbeats 4000000
set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf ΦA)

variable (m : (ℓ : Loc nD τ sig) → Buf (Elt F) ℓ) (ρ : Dev nD → PrngReg)

/-- What the body leaves in the output's buffer, as the obligation asks for it. -/
theorem out_leaves (c : Dev nD) (t : Fin cfg0.N) (d8) :
    (owns (c : Thread nD τ) (stage0_8 (cfg0.slots t 8)) fullShare
        (if k0_cond7 (grid0.coords t) = 1#1 then k0_pay15 (iblk m c 0 t) (stAt m c (t.val + 1)).acc else (dats m 0 c).before 8 t d8) : sProp 𝕄)
      ⊢ (match idle0 8 (grid0.coords t) with
        | true =>
          match (win0 8).flush t with
          | false => iprop(∃ d, owns (c : Thread nD τ) (stage0_8 (cfg0.slots t 8)) fullShare ((dats m 0 c).before 8 t d))
          | true => owns (c : Thread nD τ) (stage0_8 (cfg0.slots t 8)) fullShare (k0_pay15 (iblk m c 0 t) (stAt m c (t.val + 1)).acc)
        | false => owns (c : Thread nD τ) (stage0_8 (cfg0.slots t 8)) fullShare (k0_pay15 (iblk m c 0 t) (stAt m c (t.val + 1)).acc) : sProp 𝕄) := by
  by_cases h7 : k0_cond7 (grid0.coords t) = 1#1
  · rw [if_pos h7, show idle0 8 (grid0.coords t) = false from by
      show (!(k0_cond7 (grid0.coords t) == 1#1)) = false
      rw [h7]; rfl]
  · have hf : (win0 8).flush t = false := by
      have h := flush0_8 t
      have h' := c7_iff t
      exact Bool.eq_false_iff.mpr fun hh => h7 (h'.2 (h.1 hh))
    rw [if_neg h7, hf, show idle0 8 (grid0.coords t) = true from by
      show (!(k0_cond7 (grid0.coords t) == 1#1)) = true
      simpa using h7]
    iintro H
    iexists d8
    iexact H

theorem body_obligation (hC : CntOK F) (c : Dev nD) : BodyObligation (dats (F := F) m 0 c) (defs₀ (F := F)) 𝒱₀ () Set.univ := fun t => by
  rw [bigSep_W0, bigSep_W0, defs₀_row]
  simp only [before0_0, before0_1, before0_2, before0_3, before0_4, before0_5, before0_6, before0_7]
  rw [show (dats m 0 c).Φ t.succ = inv m c (t.val + 1) from rfl, show (dats m 0 c).Φ t.castSucc = inv m c t.val from rfl,
    show (dats m 0 c).owesAt () t.succ = (dats m 0 c).owesAt () t.castSucc from rfl, after0_0, after0_1, after0_2, after0_3,
    after0_4, after0_5, after0_6, after0_7, after0_8]
  have hi : cfg0.idle 8 (cfg0.grid.coords t) = !(k0_cond7 (grid0.coords t) == 1#1) := rfl
  unfold inv
  iintro ⟨⟨⟨%x12, %x13, %x14, %x15, %x16, %x17, %x18, %x19, H12, H13, H14, H15, H16, H17, H18, H19, %hR⟩, Hr⟩, Ho, ⟨%d0, H3⟩, ⟨%d1, H4⟩, ⟨%d2, H5⟩, ⟨%d3, H6⟩, ⟨%d4, H7⟩, ⟨%d5, H8⟩, ⟨%d6, H9⟩, ⟨%d7, H10⟩, ⟨%d8, H11⟩⟩
  have hs : ¬ C1 (grid0.coords t) → x12 = (stAt m c t.val).hn ∧ x13 = (stAt m c t.val).comb ∧ x14 = (stAt m c t.val).post ∧ x15 = (stAt m c t.val).posr
      ∧ x16 = (stAt m c t.val).cnt ∧ x19 = (stAt m c t.val).acc := by
    intro h
    have h0 : t.val ≠ 0 := fun e => h ((c1_iff t).2 (by omega))
    exact (hR ⟨t.val - 1, lt_of_le_of_lt (Nat.sub_le _ _) t.isLt⟩ (by show t.val - 1 + 1 = t.val; omega)).1
  have ha : ¬ k0_cond2 (grid0.coords t) = 1#1 → ¬ C1 (grid0.coords t)
      ∧ Agree ((stAt m c t.val).cnt (expertIdx (grid0.coords t))) x17 (stAt m c t.val).X x18 (stAt m c t.val).Y := by
    intro h
    have h4 : ¬ t.val % 4 = 0 := fun e => h ((c2_iff t).2 e)
    refine ⟨fun e => h4 (by have := (c1_iff t).1 e; omega), ?_⟩
    have h1 := (hR ⟨t.val - 1, lt_of_le_of_lt (Nat.sub_le _ _) t.isLt⟩ (by show t.val - 1 + 1 = t.val; omega)).2
    rwa [expertIdx_eq ⟨t.val - 1, lt_of_le_of_lt (Nat.sub_le _ _) t.isLt⟩ t (by show (t.val - 1) / 4 % 8 = t.val / 4 % 8; omega)] at h1
  have hcnt : ((st1 (grid0.coords t) (inpAt m c t) (stAt m c t.val)).cnt (expertIdx (grid0.coords t)) : BitVec 32).toNat ≤ 1024 :=
    st1_cnt_le hC _ _ _ (stAt_cnt_le m hC c t.val) _
  iapply (point_triple c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) Set.univ (inpAt m c t) (stAt m c t.val) ((dats m 0 c).before 8 t d8) x12 x13 x14 x15 x16 x17 x18 x19 hs hcnt ha _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H3, H4, H5, H6, H7, H8, H9, H10, H11, H12, H13, H14, H15, H16, H19, %y17, %y18, H17, H18, %hA⟩
  rw [← stAt_succ m c t] at hA
  rw [← stAt_succ m c t]
  isplitl [H12 H13 H14 H15 H16 H17 H18 H19 Hr]
  · isplitl [H12 H13 H14 H15 H16 H17 H18 H19]
    · iexists (stAt m c (t.val + 1)).hn
      iexists (stAt m c (t.val + 1)).comb
      iexists (stAt m c (t.val + 1)).post
      iexists (stAt m c (t.val + 1)).posr
      iexists (stAt m c (t.val + 1)).cnt
      iexists y17
      iexists y18
      iexists (stAt m c (t.val + 1)).acc
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      ipureintro
      intro t' ht'
      obtain rfl : t' = t := Fin.ext (by omega)
      exact ⟨⟨rfl, rfl, rfl, rfl, rfl, rfl⟩, hA⟩
    · iexact Hr
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (out_leaves m c t d8)
  iexact H11

theorem inv_in (c : Dev nD) : (ΦA spec0 c : sProp 𝕄) ⊢ inv m c 0 := by
  unfold ΦA inv
  rw [scopedRest0_eq]
  iintro ⟨⟨⟨%f0, H0⟩, ⟨%f1, H1⟩, ⟨%f2, H2⟩, ⟨%f3, H3⟩, ⟨%f5, H5⟩, ⟨%f6, H6⟩, ⟨%f7, H7⟩, ⟨%f4, H4⟩⟩, Hr⟩
  isplitl [H0 H1 H2 H3 H4 H5 H6 H7]
  · iexists f0
    iexists f1
    iexists f2
    iexists f3
    iexists f4
    iexists f5
    iexists f6
    iexists f7
    rw [owns_whole, owns_whole, owns_whole, owns_whole, owns_whole, owns_whole, owns_whole, owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    ipureintro
    intro t ht
    omega
  · iexact Hr

theorem inv_out (c : Dev nD) (n : ℕ) : (inv m c n : sProp 𝕄) ⊢ ΦA spec0 c := by
  unfold ΦA inv
  rw [scopedRest0_eq]
  simp only [owns_whole]
  iintro ⟨⟨%f0, %f1, %f2, %f3, %f4, %f5, %f6, %f7, H0, H1, H2, H3, H4, H5, H6, H7, -⟩, Hr⟩
  isplitl [H0 H1 H2 H3 H4 H5 H6 H7]
  · isplitl [H0]; · iexists f0; iexact H0
    isplitl [H1]; · iexists f1; iexact H1
    isplitl [H2]; · iexists f2; iexact H2
    isplitl [H3]; · iexists f3; iexact H3
    isplitl [H5]; · iexists f5; iexact H5
    isplitl [H6]; · iexists f6; iexact H6
    isplitl [H7]; · iexists f7; iexact H7
    iexists f4; iexact H4
  · iexact Hr

set_option backward.isDefEq.respectTransparency.types false in
/-- From any memory with zero counters every execution ends, every array of the pipeline at what the proof data
say and every counter at zero. -/
theorem run_main (hC : CntOK F) : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m hC c).loose) (hshare := fun c => (dats m 0 c).share_full fun _ => rfl)
    (howed := fun _ _ => rfl) (V := V m) (hmain := hmain m 𝒱₀) (hA := fun _ _ => rfl)
    (hin := fun c => inv_in m c) (hout := fun c => inv_out m c _)

end Cert.KernelIdeal.Gen

end
-- ==== Proof.Count.lean ====
module

public import proofs.«01_k».proof.Proof.RunSetup
public import Idealize.ShloMosaic.Lib.NatWords
public import Idealize.ShloMosaic.Lib.Pointwise
public import Idealize.ShloMosaic.PureOps.Ideal.Laws

/-! # The counts of the experts

An expert's count is the sum, over the block's 1024 tokens, of an indicator that is zero or one: at most 1024,
in the bit patterns and in the exact numbers. -/

@[expose] public section

set_option maxHeartbeats 4000000
set_option maxRecDepth 100000

noncomputable section

namespace Cert.KernelIdeal.Gen

open Idealize.ShloMosaic Idealize.ShloMosaic.TcCoe Idealize.ShloMosaic.Tactic

variable {F : FTy → Type} [FloatOps F]

section
variable (x3 : Vec F S1024x1024 .f32) (x4 : Vec F S1x1024 .f32) (x5 : Vec F S1024x128 .bf16) (x6 : Vec F S1x128 .f32)

/-- The expert's row of indicators, added. -/
def rowSum (e : S128.Idx) : F .f32 :=
  multiReduction .add [1] S128 (indV x3 x4 x5 x6) 0x00000000#32 reduces_S128x1024_S128 (.inl rfl) rfl e

/-- The indicator as a word, zero or one. -/
def indW (i : S128x1024.Idx) : BitVec 32 :=
  (cmpf .ogt (transpose S128x1024 [1, 0] (combV x3 x4 x5 x6) transposes_S1024x128_p1_0_S128x1024)
    (broadcast S128x1024 (Scalar.ofBits (F := F) .f32 0x00000000#32)) i).setWidth 32

theorem indW_le (i : S128x1024.Idx) : (indW x3 x4 x5 x6 i).toNat ≤ 1 := by
  have : ∀ b : BitVec 1, (b.setWidth 32).toNat ≤ 1 := by
    intro b
    have := b.isLt
    rw [BitVec.toNat_setWidth]
    omega
  exact this _

theorem indV_eq (i : S128x1024.Idx) : indV x3 x4 x5 x6 i = FloatOps.sitofp (F := F) .f32 (indW x3 x4 x5 x6 i) := by
  unfold indV k0_pay25 indW combV k0_pay24
  dsimp only
  generalize k0_pay23 lanes (k0_pay19 x3 x4 x5 x6) (k0_pay20 lanes x3 x4 x5 x6) (k0_pay21 lanes x3 x4 x5 x6) (k0_pay22 lanes x3 x4 x5 x6) = w
  pointwise

theorem cntV_eq (y : S8.Idx) : cntV x3 x4 x5 x6 y
    = Scalar.fptosi 32 (rowSum x3 x4 x5 x6 (ValueIdx.ix1 ⟨(y 0).val, lt_trans (show (y 0).val < 8 from (y 0).isLt) (by decide)⟩)) := by
  obtain ⟨k, hk⟩ : ∃ k : Fin 8, y 0 = k := ⟨y 0, rfl⟩
  unfold cntV
  rw [hk]
  unfold k0_pay38 k0_pay37 k0_pay36 k0_pay35 k0_pay34 k0_pay33 k0_pay32 k0_pay31 k0_pay30 k0_pay29 rowSum
  dsimp only
  generalize multiReduction .add [1] S128 (indV x3 x4 x5 x6) 0x00000000#32 reduces_S128x1024_S128 (.inl rfl) rfl = v
  fin_cases k
  all_goals pointwise
  all_goals rfl

end

/-- At the bit patterns, an indicator decodes as its word's number. -/
theorem nat_indV (x3 : Vec Bits S1024x1024 .f32) (x4 : Vec Bits S1x1024 .f32) (x5 : Vec Bits S1024x128 .bf16) (x6 : Vec Bits S1x128 .f32)
    (i : S128x1024.Idx) : Bits.natOfF32? (indV x3 x4 x5 x6 i) = some (indW x3 x4 x5 x6 i).toNat := by
  have h1 := indW_le x3 x4 x5 x6 i
  rw [indV_eq]
  rw [show FloatOps.sitofp (F := Bits) .f32 (indW x3 x4 x5 x6 i) = Bits.sitofp32 (indW x3 x4 x5 x6 i) from rfl,
    Bits.sitofp32_eq_f32OfNat _ (le_refl _) (by omega)]
  exact Bits.natOfF32?_f32OfNat _ (by omega)

/-- A row's sum of indicators is at most the row's length. -/
theorem sum_fiber (w : S128x1024.Idx → Nat) (hw : ∀ i, w i ≤ 1) (j : S128.Idx) :
    (Bits.reduceFiber reduces_S128x1024_S128 j).sum w ≤ 1024 := by
  refine le_trans (le_of_eq (reduces_S128x1024_S128.sum_filter_drop_single w j)) ?_
  refine le_trans (Finset.sum_le_card_nsmul _ _ 1 fun i _ => hw _) ?_
  simp
  exact le_of_eq (Fintype.card_fin 1024)

theorem cnt_bits (x3 : Vec Bits S1024x1024 .f32) (x4 : Vec Bits S1x1024 .f32) (x5 : Vec Bits S1024x128 .bf16) (x6 : Vec Bits S1x128 .f32)
    (y : S8.Idx) : (cntV x3 x4 x5 x6 y : BitVec 32).toNat ≤ 1024 := by
  rw [cntV_eq]
  generalize (ValueIdx.ix1 _ : S128.Idx) = e
  have hs := sum_fiber (fun i => (indW x3 x4 x5 x6 i).toNat) (indW_le x3 x4 x5 x6) e
  unfold rowSum
  rw [Bits.multiReduction_add_nat [1] reduces_S128x1024_S128 (indV x3 x4 x5 x6) e _ (fun i _ => nat_indV x3 x4 x5 x6 i) (by omega)]
  rw [show ∀ a, Scalar.fptosi (F := Bits) 32 (a : Bits .f32) = Bits.fptosi32 32 a from fun _ => rfl, Bits.fptosi32_nat _ (by omega),
    BitVec.toNat_ofNat]
  exact le_trans (Nat.mod_le _ _) hs

theorem fptosi_nat (n : Nat) (h : n ≤ 1024) : Ideal.fptosi 32 ((n : ℝ) : EReal) = BitVec.ofNat 32 n := by
  unfold Ideal.fptosi
  rw [Ideal.toIntClamped_coe, if_pos (by positivity), Int.floor_natCast]
  have : max (-((2 ^ (32 - 1) : Nat) : Int)) (min (((2 ^ (32 - 1) : Nat) : Int) - 1) (n : Int)) = (n : Int) := by
    norm_num
    omega
  rw [this]
  exact BitVec.ofInt_natCast 32 n

/-- In the exact numbers, an expert's count is the number of its tokens. -/
theorem cnt_ideal (x3 : Vec Ideal S1024x1024 .f32) (x4 : Vec Ideal S1x1024 .f32) (x5 : Vec Ideal S1024x128 .bf16) (x6 : Vec Ideal S1x128 .f32)
    (y : S8.Idx) : ∃ e : S128.Idx, (e 0).val = (y 0).val ∧ (cntV x3 x4 x5 x6 y : BitVec 32)
      = BitVec.ofNat 32 (∑ k : Fin 1024, (indW x3 x4 x5 x6 (reduces_S128x1024_S128.lift e k)).toNat) := by
  rw [cntV_eq]
  refine ⟨ValueIdx.ix1 ⟨(y 0).val, lt_trans (show (y 0).val < 8 from (y 0).isLt) (by decide)⟩, rfl, ?_⟩
  generalize (ValueIdx.ix1 _ : S128.Idx) = e
  have hs := sum_fiber (fun i => (indW x3 x4 x5 x6 i).toNat) (indW_le x3 x4 x5 x6) e
  replace hs := le_trans (ge_of_eq (reduces_S128x1024_S128.sum_filter_drop_single (fun i => (indW x3 x4 x5 x6 i).toNat) e)) hs
  refine Eq.trans ?_ (fptosi_nat _ hs)
  show Ideal.fptosi 32 _ = _
  congr 1
  unfold rowSum
  refine (Ideal.multiReduction_add_single _ _ _ _ _ _).trans ?_
  rw [Nat.cast_sum, show ∀ (f : Fin 1024 → ℝ), ((∑ k, f k : ℝ) : EReal) = ∑ k, ((f k : ℝ) : EReal) from
    fun f => map_sum (⟨⟨Real.toEReal, rfl⟩, fun _ _ => EReal.coe_add _ _⟩ : ℝ →+ EReal) f _]
  refine Finset.sum_congr rfl fun k _ => ?_
  have h1 := indW_le x3 x4 x5 x6 (reduces_S128x1024_S128.lift e k)
  rw [indV_eq]
  show (((indW x3 x4 x5 x6 _).toInt : ℝ) : EReal) = _
  rw [BitVec.toInt_eq_toNat_of_lt (by omega)]
  simp only [Int.cast_natCast]

end Cert.KernelIdeal.Gen
-- ==== Proof.Frames.lean ====
module

public import proofs.«01_k».proof.Proof.RunMain
public import proofs.«01_k».proof.Proof.Count
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Defs

/-! # The frames

The kernel's run is written once, for any numbers whose counts of tokens stay within a block; the bit patterns
and the exact numbers both do. -/

@[expose] public section

set_option maxRecDepth 100000
set_option maxHeartbeats 4000000
set_option cleanup.letToHave false

noncomputable section

namespace Cert.KernelIdeal.Gen

open Idealize.ShloMosaic Idealize.ShloMosaic.TcCoe Idealize.SL.Sem

theorem cntOK_bits : CntOK Bits := fun x3 x4 x5 x6 y => cnt_bits x3 x4 x5 x6 y

theorem cntOK_ideal : CntOK Ideal := by
  intro x3 x4 x5 x6 y
  obtain ⟨e, _, h⟩ := cnt_ideal x3 x4 x5 x6 y
  have hs := sum_fiber (fun i => (indW x3 x4 x5 x6 i).toNat) (indW_le x3 x4 x5 x6) e
  replace hs := le_trans (ge_of_eq (reduces_S128x1024_S128.sum_filter_drop_single (fun i => (indW x3 x4 x5 x6 i).toNat) e)) hs
  rw [h, BitVec.toNat_ofNat]
  exact le_trans (Nat.mod_le _ _) hs

theorem frame_main {F : FTy → Type} [FloatOps F] (hC : CntOK F) (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_with_sems (frame_of m ρ (dats m) (A_eq m)) (run_main m ρ hC)

theorem body_same (i) : @Cert.Kernel.cc0_moe_swiglu Bits _ _ i = @Cert.KernelIdeal.cc0_moe_swiglu Bits _ _ i := rfl

theorem main_same : @Cert.Kernel.main Bits _ _ = @Cert.KernelIdeal.main Bits _ _ := rfl

theorem defs₀_same : @Cert.Kernel.defs₀ Bits _ _ = @Cert.KernelIdeal.defs₀ Bits _ _ := by
  unfold Cert.Kernel.defs₀ Cert.KernelIdeal.defs₀
  refine congrArg Defs.onTc ?_
  funext l x
  match l, x with
  | ⟨0, _⟩, (t, s) =>
    dsimp only
    rw [body_same]
    rfl
  | ⟨_ + 1, h⟩, _ => exact absurd h (Nat.not_lt.2 (Nat.le_add_left _ _))

/-- The program as printed for the bit patterns and the one printed for the exact numbers are one text. -/
theorem defs_same : @Cert.Kernel.defs Bits _ _ = @Cert.KernelIdeal.defs Bits _ _ := by
  show Pipeline.defs Cert.Kernel.pcfgs Cert.Kernel.defs₀ = Pipeline.defs Cert.KernelIdeal.pcfgs Cert.KernelIdeal.defs₀
  rw [defs₀_same]
  rfl

theorem frame_kernel : Cert.quiescent_Kernel := by
  intro m ρ _
  rw [defs_same, main_same]
  exact frame_main cntOK_bits m ρ

theorem frame_ideal : Cert.quiescent_KernelIdeal := fun m ρ _ => frame_main cntOK_ideal m ρ

end Cert.KernelIdeal.Gen

namespace Cert.ReferenceIdeal.Value

open Idealize.ShloMosaic Idealize.ShloMosaic.TcCoe Idealize.SL.Sem

theorem frame_reference : Cert.quiescent_ReferenceIdeal := fun m ρ _ =>
  (θ_run Cert.ReferenceIdeal.defs _ _).mono
    (fun r h => ⟨fun c => (h c).2, sem_eq_zero_of_no_sems (by decide) r.2⟩)
    (run (F := Ideal) m ρ)

end Cert.ReferenceIdeal.Value
-- ==== Proof.ValPay.lean ====
module

public import proofs.«01_k».proof.Proof.RunSetup
public import proofs.«01_k».proof.Proof.Slots
public import Idealize.ShloMosaic.Lib.Pointwise
public import Idealize.ShloMosaic.PureOps.Ideal.Laws

/-! # The body's stores in the exact numbers, entry by entry

Each value the body stores, read at a row and a column, as sums over the extended reals. A token's place is
compared with the place of a slot's row, `j + 256 k`. -/

@[expose] public section

set_option maxHeartbeats 4000000
set_option maxRecDepth 100000

noncomputable section

namespace Cert.KernelIdeal.Gen

open Idealize.ShloMosaic Idealize.ShloMosaic.TcCoe Idealize.ShloMosaic.Tactic

/-- The place of row `j` of slot `k`, as a number. -/
def placeE (k j : ℕ) : EReal := (((j + 256 * k : ℕ) : ℝ) : EReal)

theorem sitofp_nat (n : ℕ) (h : n < 2 ^ 31) : FloatOps.sitofp (F := Ideal) .f32 (BitVec.ofNat 32 n) = ((n : ℝ) : EReal) := by
  have h1 : (BitVec.ofNat 32 n).toInt = (n : ℤ) := by
    rw [BitVec.toInt_eq_toNat_of_lt] <;> rw [BitVec.toNat_ofNat, Nat.mod_eq_of_lt (by omega)]
    omega
  show (((BitVec.ofNat 32 n).toInt : ℝ) : EReal) = _
  rw [h1, Int.cast_natCast]

theorem place_full (j k : ℕ) (hj : j < 256) (hk : k < 4) :
    FloatOps.sitofp (F := Ideal) .f32 (BitVec.ofNat 32 j) + (((Scalar.muli (Scf.iv 0#32 1#32 k) 256#32 : BitVec 32).toInt : ℝ) : EReal)
      = placeE k j := by
  rw [sitofp_nat j (by omega)]
  have : ∀ k : Fin 4, (Scalar.muli (Scf.iv 0#32 1#32 k.val) 256#32 : BitVec 32).toInt = ((256 * k.val : ℕ) : ℤ) := by decide
  rw [this ⟨k, hk⟩, Int.cast_natCast, ← EReal.coe_add, ← Nat.cast_add]
  rfl

theorem half_word (v : BitVec 32) (hv : v.toNat ≤ 1024) :
    (Scalar.muli (Scalar.addi (Scalar.select (w35 v) (w36 v) (w21 v)) (Scalar.extui (Scalar.cmpi .sgt (w17 v) 128#32))) 256#32 : BitVec 32).toInt
      = ((256 * nfull v.toNat : ℕ) : ℤ) :=
  forall_word (P := fun v => (Scalar.muli (Scalar.addi (Scalar.select (w35 v) (w36 v) (w21 v)) (Scalar.extui (Scalar.cmpi .sgt (w17 v) 128#32))) 256#32 : BitVec 32).toInt
      = ((256 * nfull v.toNat : ℕ) : ℤ)) (by decide +kernel) v hv

theorem place_half (v : BitVec 32) (hv : v.toNat ≤ 1024) (j : ℕ) (hj : j < 256) :
    FloatOps.sitofp (F := Ideal) .f32 (BitVec.ofNat 32 j) + (((Scalar.muli (Scalar.addi (Scalar.select (w35 v) (w36 v) (w21 v)) (Scalar.extui (Scalar.cmpi .sgt (w17 v) 128#32))) 256#32 : BitVec 32).toInt : ℝ) : EReal)
      = placeE (nfull v.toNat) j := by
  rw [sitofp_nat j (by omega), half_word v hv, Int.cast_natCast, ← EReal.coe_add, ← Nat.cast_add]
  rfl

theorem pay1_at (v7 : BitVec 32) (v60 : Vec Ideal S1x1024 .f32) (k : Fin (k0_t1_loop v7).trips) (hk : k.val < 4)
    (x : Vec Ideal S1024x1024 .bf16) (j : Fin 256) (c : Fin 1024) :
    k0_pay1 (F := Ideal) v7 v60 k x (ix3 0 j c)
      = ∑ r : Fin 1024, (if v60 (ix2 0 r) = placeE k.val j.val then 1 else 0) * x (ix2 r c) := by
  unfold k0_pay1
  pointwise
  simp only [place_full _ _ j.isLt hk]

theorem pay5_at (v7 : BitVec 32) (hv : v7.toNat ≤ 1024) (v60 : Vec Ideal S1x1024 .f32)
    (x : Vec Ideal S1024x1024 .bf16) (j : Fin 128) (c : Fin 1024) :
    k0_pay5 (F := Ideal) (w17 v7) (w21 v7) (w35 v7) (w36 v7) v60 x (ix3 0 j c)
      = ∑ r : Fin 1024, (if v60 (ix2 0 r) = placeE (nfull v7.toNat) j.val then 1 else 0) * x (ix2 r c) := by
  unfold k0_pay5
  pointwise
  simp only [place_half v7 hv _ (lt_trans j.isLt (by decide))]

/-- A gated unit's gate times its input, at the exact numbers. -/
def gate (z u : EReal) : EReal := z * Ideal.logistic z * u

theorem pay7_at (v60 : Vec Ideal S1x256x1024 .bf16) (v62 v67 : Vec Ideal S1x1024x896 .bf16) (v72 : Vec Ideal S1x256x1024 .f32)
    (v75 : Vec Ideal S1x896x1024 .bf16) (j : Fin 256) (c : Fin 1024) :
    k0_pay7 (F := Ideal) v60 v62 v67 v72 v75 (ix3 0 j c)
      = v72 (ix3 0 j c) + ∑ q : Fin 896, gate (∑ i : Fin 1024, v60 (ix3 0 j i) * v62 (ix3 0 i q)) (∑ i : Fin 1024, v60 (ix3 0 j i) * v67 (ix3 0 i q))
          * v75 (ix3 0 q c) := by
  unfold k0_pay7
  pointwise
  rfl

theorem pay9_at (v60 : Vec Ideal S1x128x1024 .bf16) (v62 v67 : Vec Ideal S1x1024x896 .bf16) (v72 : Vec Ideal S1x128x1024 .f32)
    (v75 : Vec Ideal S1x896x1024 .bf16) (j : Fin 128) (c : Fin 1024) :
    k0_pay9 (F := Ideal) v60 v62 v67 v72 v75 (ix3 0 j c)
      = v72 (ix3 0 j c) + ∑ q : Fin 896, gate (∑ i : Fin 1024, v60 (ix3 0 j i) * v62 (ix3 0 i q)) (∑ i : Fin 1024, v60 (ix3 0 j i) * v67 (ix3 0 i q))
          * v75 (ix3 0 q c) := by
  unfold k0_pay9
  pointwise
  rfl

theorem lanes_at (r : Fin 1024) (l : Fin 128) : lanes (ix2 r l) = BitVec.ofNat 32 l.val := by
  unfold lanes
  pointwise

theorem lane_eq (l e : ℕ) (hl : l < 128) (he : e < 128) :
    IntOp.cmpi .eq (BitVec.ofNat 32 l) (BitVec.ofNat 32 e) = if l = e then 1#1 else 0#1 := by
  have : ∀ l e : Fin 128, IntOp.cmpi .eq (BitVec.ofNat 32 l.val) (BitVec.ofNat 32 e.val) = if l.val = e.val then 1#1 else 0#1 := by
    decide +kernel
  exact this ⟨l, hl⟩ ⟨e, he⟩

theorem pick_lane (f : Fin 128 → EReal) (e : Fin 128) :
    (∑ l : Fin 128, Scalar.select (IntOp.cmpi .eq (BitVec.ofNat 32 l.val) (BitVec.ofNat 32 e.val)) (f l) 0) = f e := by
  rw [Finset.sum_eq_single e]
  · rw [lane_eq _ _ e.isLt e.isLt, if_pos rfl]; rfl
  · intro l _ hl
    rw [lane_eq _ _ l.isLt e.isLt, if_neg fun h => hl (Fin.ext h)]; rfl
  · intro h; exact absurd (Finset.mem_univ _) h

theorem pay10_at (e : Fin 128) (x : Vec Ideal S1024x128 .f32) (r : Fin 1024) :
    k0_pay10 (F := Ideal) (BitVec.ofNat 32 e.val) lanes x (ix2 r 0) = x (ix2 r e) := by
  unfold k0_pay10
  pointwise
  simp only [lanes_at]
  exact pick_lane (fun l => x (ix2 r l)) e

theorem pay11_at (e : Fin 128) (x : Vec Ideal S1024x128 .f32) (r : Fin 1024) :
    k0_pay11 (F := Ideal) (BitVec.ofNat 32 e.val) lanes x (ix2 r 0) = x (ix2 r e) := by
  unfold k0_pay11
  pointwise
  simp only [lanes_at]
  exact pick_lane (fun l => x (ix2 r l)) e

/-- What a slot of `w` rows adds to a token with place `p` and weight `g`. -/
def slotTerm (w : ℕ) (k : ℕ) (p g : EReal) (y : Fin w → EReal) : EReal :=
  g * ((∑ j : Fin w, (if p = placeE k j.val then 1 else 0) * y j) + ∑ j : Fin w, (if p = placeE k j.val then 1 else 0) * (y j - y j))

theorem pay12_at (e : Fin 128) (v7 : BitVec 32) (x y : Vec Ideal S1024x128 .f32) (k : Fin (k0_t5_loop v7).trips) (hk : k.val < 4)
    (z : Vec Ideal S1x256x1024 .f32) (w : Vec Ideal S1024x1024 .f32) (r c : Fin 1024) :
    k0_pay12 (F := Ideal) (BitVec.ofNat 32 e.val) lanes v7 x y k z w (ix2 r c)
      = w (ix2 r c) + slotTerm 256 k.val (x (ix2 r e)) (y (ix2 r e)) (fun j => z (ix3 0 j c)) := by
  unfold k0_pay12
  pointwise
  simp only [pay10_at, pay11_at]
  unfold slotTerm
  congr 3
  · refine Finset.sum_congr rfl fun j _ => ?_
    rw [place_full _ _ j.isLt hk]
  · refine Finset.sum_congr rfl fun j _ => ?_
    rw [place_full _ _ j.isLt hk]

theorem pay14_at (e : Fin 128) (v7 : BitVec 32) (hv : v7.toNat ≤ 1024) (x y : Vec Ideal S1024x128 .f32)
    (z : Vec Ideal S1x128x1024 .f32) (w : Vec Ideal S1024x1024 .f32) (r c : Fin 1024) :
    k0_pay14 (F := Ideal) (BitVec.ofNat 32 e.val) lanes (w17 v7) (w21 v7) (w35 v7) (w36 v7) x y z w (ix2 r c)
      = w (ix2 r c) + slotTerm 128 (nfull v7.toNat) (x (ix2 r e)) (y (ix2 r e)) (fun j => z (ix3 0 j c)) := by
  unfold k0_pay14
  pointwise
  simp only [pay10_at, pay11_at]
  unfold slotTerm
  congr 3
  · refine Finset.sum_congr rfl fun j _ => ?_
    rw [place_half v7 hv _ (lt_trans j.isLt (by decide))]
  · refine Finset.sum_congr rfl fun j _ => ?_
    rw [place_half v7 hv _ (lt_trans j.isLt (by decide))]

theorem pay2_at (j : Fin 256) (c : Fin 1024) : k0_pay2 (F := Ideal) (ix3 0 j c) = (0 : EReal) := by
  unfold k0_pay2
  pointwise

theorem pay39_at (r c : Fin 1024) : k0_pay39 (F := Ideal) (ix2 r c) = (0 : EReal) := by
  unfold k0_pay39
  pointwise

theorem pay15_at (u v : Vec Ideal S1024x1024 .f32) (r c : Fin 1024) : k0_pay15 (F := Ideal) u v (ix2 r c) = u (ix2 r c) + v (ix2 r c) := by
  unfold k0_pay15
  pointwise

end Cert.KernelIdeal.Gen

end
-- ==== Proof.Reals.lean ====
module

public import Idealize.ShloMosaic.PureOps.Ideal.Laws

/-! # Real numbers among the extended reals

The entries that are real numbers, and what keeps them so. -/

@[expose] public section

noncomputable section

namespace Cert.KernelIdeal.Gen

open Idealize.ShloMosaic

/-- Neither infinity. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy
  exact ⟨a + b, (EReal.coe_add a b).symm⟩
theorem IsR.mul {x y : EReal} (hx : IsR x) (hy : IsR y) : IsR (x * y) := by
  obtain ⟨a, rfl⟩ := hx; obtain ⟨b, rfl⟩ := hy
  exact ⟨a * b, (EReal.coe_mul a b).symm⟩
theorem IsR.sub {x y : EReal} (hx : IsR x) (hy : IsR y) : IsR (x - y) := by
  obtain ⟨a, rfl⟩ := hx; obtain ⟨b, rfl⟩ := hy
  exact ⟨a - b, (EReal.coe_sub a b).symm⟩
theorem IsR.sum {ι : Type} (s : Finset ι) {f : ι → EReal} (h : ∀ i, IsR (f i)) : IsR (∑ i ∈ s, f i) := by
  classical
  induction s using Finset.induction_on with
  | empty => simpa using IsR.zero
  | insert a s ha ih => rw [Finset.sum_insert ha]; exact (h a).add ih
theorem IsR.ite {p : Prop} [Decidable p] {x y : EReal} (hx : IsR x) (hy : IsR y) : IsR (if p then x else y) := by
  split
  · exact hx
  · exact hy
theorem IsR.sub_self {x : EReal} (hx : IsR x) : x - x = 0 := by
  obtain ⟨a, rfl⟩ := hx
  rw [← EReal.coe_sub, _root_.sub_self]; rfl
theorem IsR.of_lt {x : EReal} (h1 : ⊥ < x) (h2 : x < ⊤) : IsR x := ⟨x.toReal, (EReal.coe_toReal h2.ne h1.ne').symm⟩
theorem IsR.exp {x : EReal} (hx : IsR x) : IsR (Ideal.exp x) := by
  obtain ⟨a, rfl⟩ := hx
  exact ⟨Real.exp a, rfl⟩
theorem IsR.logistic {x : EReal} (hx : IsR x) : IsR (Ideal.logistic x) := by
  obtain ⟨a, rfl⟩ := hx
  exact ⟨_, Ideal.logistic_coe a⟩

end Cert.KernelIdeal.Gen

end
-- ==== Proof.ValLits.lean ====
module

public import Idealize.ShloMosaic.PureOps.Ideal.Laws
public import proofs.«01_k».proof.Proof.Reals

/-! # The literals, as extended reals -/

@[expose] public section

noncomputable section

namespace Cert.KernelIdeal.Gen

open Idealize.ShloMosaic

theorem lit_minus_one : Ideal.ofBits .f32 3212836864#32 = ((-1 : ℝ) : EReal) := by
  simp [Ideal.ofBits, Ideal.ieee, -EReal.coe_mul, -EReal.coe_neg]; norm_num

theorem lit_bot : Ideal.ofBits .f32 4286578688#32 = ⊥ := by
  simp [Ideal.ofBits, Ideal.ieee]

theorem lit_top : Ideal.ofBits .f32 0x7F800000#32 = ⊤ := by
  simp [Ideal.ofBits, Ideal.ieee]

theorem lit_one : Ideal.ofBits .f32 0x3F800000#32 = 1 := by
  rw [show (1 : EReal) = ((1 : ℝ) : EReal) by norm_cast]
  simp [Ideal.ofBits, Ideal.ieee, -EReal.coe_mul]; norm_num

theorem lit_1024 : Ideal.ofBits .f32 1149239296#32 = ((1024 : ℝ) : EReal) := by
  simp [Ideal.ofBits, Ideal.ieee, -EReal.coe_mul]; norm_num

/-- The literal added to the mean square is a positive real. -/
theorem lit_eps : ∃ r : ℝ, 0 < r ∧ Ideal.ofBits .f32 897988541#32 = (r : EReal) := by
  refine ⟨_, ?_, by simp [Ideal.ofBits, Ideal.ieee, -EReal.coe_mul]; rfl⟩
  positivity

/-- The bias of the spare lanes. -/
theorem lit_spare : ∃ r : ℝ, Ideal.ofBits .f32 0xF149F2CA#32 = (r : EReal) := by
  refine ⟨_, by simp [Ideal.ofBits, Ideal.ieee, -EReal.coe_mul, -EReal.coe_neg]; rfl⟩

/-- The literal that marks the taken lane lies below the bias of the spare lanes. -/
theorem lit_taken_lt : Ideal.ofBits .f32 4284592614#32 < Ideal.ofBits .f32 0xF149F2CA#32 := by
  simp [Ideal.ofBits, Ideal.ieee, -EReal.coe_mul, -EReal.coe_neg]
  norm_num

theorem lit_taken : IsR (Ideal.ofBits .f32 4284592614#32) := by
  refine ⟨_, by simp [Ideal.ofBits, Ideal.ieee, -EReal.coe_mul, -EReal.coe_neg]; rfl⟩

end Cert.KernelIdeal.Gen

end
-- ==== Proof.ValTop2.lean ====
module

public import proofs.«01_k».proof.Proof.ValPay
public import proofs.«01_k».proof.Proof.ValLits
public import Idealize.ShloMosaic.Lib.SortFacts

/-! # The two largest of eight logits

The positions a stable descending sort puts first and second, the softmax weights of the two, and the
kernel's weights: its two rounds of "largest lane, then the first lane that has it" find the same two. -/

@[expose] public section

set_option maxHeartbeats 4000000
set_option maxRecDepth 100000

noncomputable section

namespace Cert.KernelIdeal.Gen

open Idealize.ShloMosaic Idealize.ShloMosaic.TcCoe Idealize.ShloMosaic.Tactic

/-! ## The stable sort -/

/-- `a` goes before `b`: it is larger, or equal and earlier. -/
def Ahead {n : ℕ} (f : Fin n → EReal) (a b : Fin n) : Prop := f b < f a ∨ (f b = f a ∧ a < b)

theorem ahead_insert {n : ℕ} (f : Fin n → EReal) (a : Fin n) : ∀ l : List (Fin n), (∀ b ∈ l, a < b) → l.Pairwise (Ahead f) →
    (insertBefore (fun x y => decide (f y < f x)) a l).Pairwise (Ahead f)
  | [], _, _ => by unfold insertBefore; exact List.pairwise_singleton _ _
  | b :: l, ha, hl => by
    obtain ⟨hb, hl'⟩ := List.pairwise_cons.1 hl
    unfold insertBefore
    split
    · rename_i h
      have h' : f a < f b := of_decide_eq_true h
      refine List.pairwise_cons.2 ⟨fun c hc => ?_, ahead_insert f a l (fun c hc => ha c (List.mem_cons_of_mem _ hc)) hl'⟩
      rcases List.mem_cons.1 ((perm_insertBefore _ a l).mem_iff.1 hc) with rfl | hc'
      · exact .inl h'
      · exact hb c hc'
    · rename_i h
      have h' : f b ≤ f a := not_lt.1 fun hh => h (decide_eq_true hh)
      refine List.pairwise_cons.2 ⟨fun c hc => ?_, hl⟩
      have hca := ha c hc
      have hcb : f c ≤ f b := by
        rcases List.mem_cons.1 hc with rfl | hc'
        · exact le_rfl
        · rcases hb c hc' with h1 | h1
          · exact h1.le
          · exact h1.1.le
      rcases lt_or_eq_of_le (hcb.trans h') with h1 | h1
      · exact .inl h1
      · exact .inr ⟨h1, hca⟩

theorem ahead_sort {n : ℕ} (f : Fin n → EReal) : ∀ l : List (Fin n), l.Pairwise (· < ·) →
    (stableSort (fun x y => decide (f y < f x)) l).Pairwise (Ahead f)
  | [], _ => by unfold stableSort; exact List.Pairwise.nil
  | a :: l, h => by
    obtain ⟨ha, hl⟩ := List.pairwise_cons.1 h
    unfold stableSort
    exact ahead_insert f a _ (fun b hb => ha b ((perm_stableSort _ l).mem_iff.1 hb)) (ahead_sort f l hl)

/-- The position the descending sort puts at `k`. -/
def rankAt {n : ℕ} (f : Fin n → EReal) (k : Fin n) : Fin n := sortedFrom (fun x y => decide (f y < f x)) k

theorem rankAt_ahead {n : ℕ} (f : Fin n → EReal) {i j : Fin n} (h : i < j) : Ahead f (rankAt f i) (rankAt f j) := by
  have hp := ahead_sort f (List.finRange n) (List.pairwise_lt_finRange n)
  have := List.pairwise_iff_get.1 hp
  exact this (i.cast (length_sortPositions n _).symm) (j.cast (length_sortPositions n _).symm) h

theorem rankAt_surj {n : ℕ} (f : Fin n → EReal) (k : Fin n) : ∃ i, rankAt f i = k := sortedFrom_surjective _ k

section
variable (f : Fin 8 → EReal)

theorem first_ahead (k : Fin 8) (hk : k ≠ rankAt f 0) : Ahead f (rankAt f 0) k := by
  obtain ⟨i, rfl⟩ := rankAt_surj f k
  refine rankAt_ahead f (Fin.pos_iff_ne_zero.2 fun h => hk (by rw [h]))

theorem second_ahead (k : Fin 8) (hk : k ≠ rankAt f 0) (hk' : k ≠ rankAt f 1) : Ahead f (rankAt f 1) k := by
  obtain ⟨i, rfl⟩ := rankAt_surj f k
  refine rankAt_ahead f ?_
  have h0 : i ≠ 0 := fun h => hk (by rw [h])
  have h1 : i ≠ 1 := fun h => hk' (by rw [h])
  rw [Fin.lt_def]
  have h0' : i.val ≠ 0 := fun h => h0 (Fin.ext h)
  have h1' : i.val ≠ 1 := fun h => h1 (Fin.ext h)
  show 1 < i.val
  omega

theorem first_ne_second : rankAt f 1 ≠ rankAt f 0 := by
  intro h
  have := sortedFrom_injective (fun x y => decide (f y < f x)) h
  exact absurd this (by decide)

/-- The ratio of the second weight to the first. -/
def ratio : EReal := Ideal.exp (f (rankAt f 1) - f (rankAt f 0))

/-- The softmax weights of the two largest, on their positions. -/
def weight (c : ℕ) : EReal :=
  (if c = (rankAt f 0).val then Ideal.div 1 (1 + ratio f) else 0) + (if c = (rankAt f 1).val then ratio f * Ideal.div 1 (1 + ratio f) else 0)

theorem ratio_real (h : ∀ k, IsR (f k)) : ∃ r : ℝ, 0 < r ∧ ratio f = (r : EReal) := by
  obtain ⟨x, hx⟩ := (h (rankAt f 1)).sub (h (rankAt f 0))
  refine ⟨Real.exp x, Real.exp_pos x, ?_⟩
  unfold ratio
  rw [hx]
  rfl

theorem div_real (a b : ℝ) (hb : b ≠ 0) : Ideal.div (a : EReal) (b : EReal) = ((a * b⁻¹ : ℝ) : EReal) := by
  unfold Ideal.div
  rw [if_neg (fun h => hb (EReal.coe_eq_zero.1 h)), ← EReal.coe_inv, ← EReal.coe_mul]

theorem weight_nonneg (h : ∀ k, IsR (f k)) (c : ℕ) : 0 ≤ weight f c := by
  obtain ⟨r, hr, he⟩ := ratio_real f h
  have h1 : (1 : EReal) + (r : EReal) = ((1 + r : ℝ) : EReal) := by rw [EReal.coe_add, EReal.coe_one]
  have h2 : Ideal.div 1 (1 + (r : EReal)) = (((1 : ℝ) * (1 + r)⁻¹ : ℝ) : EReal) := by
    rw [h1]
    exact div_real 1 (1 + r) (by positivity)
  unfold weight
  rw [he, h2]
  refine add_nonneg ?_ ?_
  · split
    · exact EReal.coe_nonneg.2 (by positivity)
    · exact le_rfl
  · split
    · rw [← EReal.coe_mul]
      exact EReal.coe_nonneg.2 (by positivity)
    · exact le_rfl

end

/-! ## Folds over the lanes -/

theorem fold_max_at {n : ℕ} (f : Fin n → EReal) (a : Fin n) (h : ∀ x, f x ≤ f a) : Finset.fold max ⊥ f Finset.univ = f a := by
  refine le_antisymm ?_ ?_
  · exact (Finset.fold_max_le _).2 ⟨bot_le, fun x _ => h x⟩
  · exact (Finset.le_fold_max _).2 (.inr ⟨a, Finset.mem_univ _, le_rfl⟩)

theorem minsi_toInt (x y : BitVec 32) : (IntOp.minsi x y).toInt = min x.toInt y.toInt := by
  unfold IntOp.minsi
  split
  · rename_i h
    have : x.toInt < y.toInt ∨ x.toInt ≤ y.toInt := by
      first
        | exact .inl (BitVec.slt_iff_toInt_lt.1 h)
        | exact .inr (BitVec.sle_iff_toInt_le.1 h)
    omega
  · rename_i h
    have : y.toInt ≤ x.toInt := by
      by_contra hh
      exact h (by first | exact BitVec.slt_iff_toInt_lt.2 (by omega) | exact BitVec.sle_iff_toInt_le.2 (by omega))
    omega

theorem small_toInt (n : ℕ) (h : n < 2 ^ 31) : (BitVec.ofNat 32 n).toInt = (n : ℤ) := by
  rw [BitVec.toInt_eq_toNat_of_lt] <;> rw [BitVec.toNat_ofNat, Nat.mod_eq_of_lt (by omega)]
  omega

/-- The least lane with a property, as the kernel finds it. -/
theorem fold_min_lane (p : Fin 128 → Prop) [DecidablePred p] (a : Fin 128) (ha : p a) (h : ∀ x, p x → a ≤ x) :
    Finset.fold IntOp.minsi (2147483647#32) (fun x : Fin 128 => if p x then BitVec.ofNat 32 x.val else 128#32) Finset.univ = BitVec.ofNat 32 a.val := by
  apply BitVec.eq_of_toInt_eq
  rw [← Finset.fold_hom (op' := min) (m := BitVec.toInt) minsi_toInt, small_toInt a.val (by omega)]
  refine le_antisymm ?_ ?_
  · refine (Finset.fold_min_le _).2 (.inr ⟨a, Finset.mem_univ _, ?_⟩)
    rw [if_pos ha, small_toInt a.val (by omega)]
  · refine (Finset.le_fold_min _).2 ⟨?_, fun x _ => ?_⟩
    · rw [show (2147483647#32 : BitVec 32).toInt = 2147483647 by decide]
      have := a.isLt
      omega
    · split
      · rename_i hx
        have := h x hx
        rw [small_toInt x.val (by omega)]
        exact_mod_cast this
      · rw [show (128#32 : BitVec 32).toInt = 128 by decide]
        have := a.isLt
        omega

end Cert.KernelIdeal.Gen

end
-- ==== Proof.ValSlots.lean ====
module

public import proofs.«01_k».proof.Proof.ValPay
public import proofs.«01_k».proof.Proof.Reals

/-! # The slots in the exact numbers

What an expert's slots hold after the gather and after its four quarters, and what the scatter adds to a
token: its weight times the row of its place, or nothing when it has no place. -/

@[expose] public section

set_option maxHeartbeats 4000000
set_option maxRecDepth 100000

noncomputable section

namespace Cert.KernelIdeal.Gen

open Idealize.ShloMosaic Idealize.ShloMosaic.TcCoe Idealize.ShloMosaic.Tactic

theorem atSlot_ix (s : Fin 4) (j : Fin 256) (c : Fin 1024) : atSlot s (ix3 0 j c) = ix3 s j c := by
  funext a; match a with | ⟨0, _⟩ => rfl | ⟨1, _⟩ => rfl | ⟨2, _⟩ => rfl

theorem atHalf_ix (s : Fin 4) (j : Fin 128) (c : Fin 1024) :
    atHalf s (ix3 0 j c) = ix3 s (⟨j.val, lt_trans j.isLt (by decide)⟩ : Fin 256) c := by
  funext a; match a with | ⟨0, _⟩ => rfl | ⟨1, _⟩ => rfl | ⟨2, _⟩ => rfl

theorem inSlot_ix (s : Fin 4) (j : Fin 256) (c : Fin 1024) : inSlot (ix3 s j c) = ix3 0 j c := by
  funext a; match a with | ⟨0, _⟩ => rfl | ⟨1, _⟩ => rfl | ⟨2, _⟩ => rfl

theorem inHalf_ix (s : Fin 4) (j : Fin 256) (hj : j.val < 128) (c : Fin 1024) :
    inHalf (ix3 s j c) = ix3 0 (⟨j.val, hj⟩ : Fin 128) c := by
  funext a
  match a with
  | ⟨0, _⟩ => rfl
  | ⟨1, _⟩ => exact Fin.ext (Nat.mod_eq_of_lt hj)
  | ⟨2, _⟩ => rfl

theorem placeE_inj {k j k' j' : ℕ} : placeE k j = placeE k' j' ↔ j + 256 * k = j' + 256 * k' := by
  unfold placeE
  rw [EReal.coe_eq_coe_iff, Nat.cast_inj]

theorem nat_place (p k j : ℕ) : ((p : ℝ) : EReal) = placeE k j ↔ p = j + 256 * k := by
  unfold placeE
  rw [EReal.coe_eq_coe_iff, Nat.cast_inj]

theorem neg_place (k j : ℕ) : ((-1 : ℝ) : EReal) ≠ placeE k j := by
  unfold placeE
  rw [Ne, EReal.coe_eq_coe_iff]
  have : (0 : ℝ) ≤ ((j + 256 * k : ℕ) : ℝ) := Nat.cast_nonneg _
  intro h
  rw [← h] at this
  norm_num at this

theorem slotTerm_miss (w k : ℕ) (p g : EReal) (y : Fin w → EReal) (h : ∀ j : Fin w, p ≠ placeE k j.val) :
    slotTerm w k p g y = 0 := by
  unfold slotTerm
  simp [h]

theorem slotTerm_hit (w k : ℕ) (p g : EReal) (y : Fin w → EReal) (j : Fin w) (h : p = placeE k j.val) (hy : IsR (y j)) :
    slotTerm w k p g y = g * y j := by
  have key : ∀ f : Fin w → EReal, (∑ i : Fin w, (if p = placeE k i.val then 1 else 0) * f i) = f j := by
    intro f
    rw [Finset.sum_eq_single j]
    · rw [if_pos h, one_mul]
    · intro i _ hi
      rw [if_neg, zero_mul]
      intro h'
      exact hi (Fin.ext (by have := placeE_inj.1 (h'.symm.trans h); omega))
    · intro hj; exact absurd (Finset.mem_univ _) hj
  unfold slotTerm
  rw [key y, key (fun i => y i - y i), hy.sub_self, add_zero]

/-- A place below the count lies in a row the expert works on. -/
theorem valid_place {n p : ℕ} (hp : p < n) : p / 256 < nfull n ∨ (p / 256 = nfull n ∧ hasHalf n ∧ p % 256 < 128) := by
  unfold nfull hasHalf
  split <;> omega

/-- The gathered row of a place: the sum of the rows of the tokens with it. -/
theorem gather_valid (v : BitVec 32) (hv : v.toNat ≤ 1024) (v60 : Vec Ideal S1x1024 .f32) (hn : Vec Ideal S1024x1024 .bf16)
    (s : Fin 4) (j : Fin 256) (c : Fin 1024) (h : s.val < nfull v.toNat ∨ (s.val = nfull v.toNat ∧ hasHalf v.toNat ∧ j.val < 128)) :
    gatherV v v60 hn (ix3 s j c) = ∑ r : Fin 1024, (if v60 (ix2 0 r) = placeE s.val j.val then 1 else 0) * hn (ix2 r c) := by
  have ht := (wordFacts v hv).2.1
  unfold gatherV
  rcases h with h | ⟨h1, h2, h3⟩
  · rw [dif_pos (show ((ix3 s j c : S4x256x1024.Idx) 0).val < _ from by rw [ht]; exact h), inSlot_ix, pay1_at _ _ _ s.isLt]
    rfl
  · rw [dif_neg (show ¬ ((ix3 s j c : S4x256x1024.Idx) 0).val < _ from by rw [ht]; show ¬ s.val < _; omega), inHalf_ix _ _ h3, pay5_at _ hv, ← h1]

/-- The outputs after `f` quarters. -/
def quarters (v : BitVec 32) (wg wu : ℕ → Vec Ideal S1x1024x896 .bf16) (wd : ℕ → Vec Ideal S1x896x1024 .bf16)
    (X : S4x256x1024.Idx → Elt Ideal .bf16) : ℕ → S4x256x1024.Idx → Elt Ideal .f32
  | 0 => clearV
  | f + 1 => expertV v (wg f) (wu f) (wd f) X (quarters v wg wu wd X f)

/-- One quarter's share of a row's output. -/
def share (wg wu : Vec Ideal S1x1024x896 .bf16) (wd : Vec Ideal S1x896x1024 .bf16) (row : Fin 1024 → EReal) (c : Fin 1024) : EReal :=
  ∑ q : Fin 896, gate (∑ i : Fin 1024, row i * wg (ix3 0 i q)) (∑ i : Fin 1024, row i * wu (ix3 0 i q)) * wd (ix3 0 q c)

theorem quarters_valid (v : BitVec 32) (wg wu : ℕ → Vec Ideal S1x1024x896 .bf16) (wd : ℕ → Vec Ideal S1x896x1024 .bf16)
    (X : S4x256x1024.Idx → Elt Ideal .bf16) (s : Fin 4) (j : Fin 256)
    (h : s.val < nfull v.toNat ∨ (s.val = nfull v.toNat ∧ hasHalf v.toNat ∧ j.val < 128)) (f : ℕ) (c : Fin 1024) :
    quarters v wg wu wd X f (ix3 s j c) = ∑ k ∈ Finset.range f, share (wg k) (wu k) (wd k) (fun i => X (ix3 s j i)) c := by
  induction f with
  | zero =>
    show clearV (F := Ideal) (ix3 s j c) = _
    unfold clearV
    rw [inSlot_ix, pay2_at]
    simp
  | succ f ih =>
    rw [Finset.sum_range_succ, ← ih]
    show expertV v (wg f) (wu f) (wd f) X (quarters v wg wu wd X f) (ix3 s j c) = _
    unfold expertV
    rcases h with h | ⟨h1, h2, h3⟩
    · rw [if_pos (show ((ix3 s j c : S4x256x1024.Idx) 0).val < _ from h), inSlot_ix, pay7_at]
      show quarters v wg wu wd X f (atSlot s (ix3 0 j c)) + _ = _
      rw [atSlot_ix]
      unfold share
      simp only [← atSlot_ix s j]
      rfl
    · rw [if_neg (show ¬ ((ix3 s j c : S4x256x1024.Idx) 0).val < _ from by show ¬ s.val < _; omega), inHalf_ix _ _ h3, pay9_at]
      show quarters v wg wu wd X f (atHalf s (ix3 0 (⟨j.val, h3⟩ : Fin 128) c)) + _ = _
      rw [atHalf_ix]
      unfold share
      have e : ∀ i : Fin 1024, (ix3 s j i : S4x256x1024.Idx) = atHalf s (ix3 0 (⟨j.val, h3⟩ : Fin 128) i) := fun i => (atHalf_ix s ⟨j.val, h3⟩ i).symm
      simp only [e]
      rfl

section Scatter
variable (v : BitVec 32) (hv : v.toNat ≤ 1024) (e : Fin 128) (posr comb : Vec Ideal S1024x128 .f32)
  (Y : S4x256x1024.Idx → Elt Ideal .f32) (acc : Vec Ideal S1024x1024 .f32) (r c : Fin 1024)

include hv in
theorem scatterK_succ (k : ℕ) (hk : k < nfull v.toNat) :
    scatterK (BitVec.ofNat 32 e.val) lanes v posr comb Y acc (k + 1) (ix2 r c)
      = scatterK (BitVec.ofNat 32 e.val) lanes v posr comb Y acc k (ix2 r c)
        + slotTerm 256 k (posr (ix2 r e)) (comb (ix2 r e)) (fun j => Y (ix3 (Fin.ofNat 4 k) j c)) := by
  have ht := (wordFacts v hv).2.2.2.2.2.2.2.2.2.1
  have h4 := nfull_le hv
  show (if h : k < (k0_t5_loop v).trips then _ else _ : Vec Ideal S1024x1024 .f32) (ix2 r c) = _
  rw [dif_pos (show k < (k0_t5_loop v).trips by omega), pay12_at _ _ _ _ _ (by show k < 4; omega)]
  simp only [atSlot_ix]

include hv in
theorem scatter_none (hp : posr (ix2 r e) = ((-1 : ℝ) : EReal)) :
    scatterV (BitVec.ofNat 32 e.val) lanes v posr comb Y acc (ix2 r c) = acc (ix2 r c) := by
  have hK : ∀ k, k ≤ nfull v.toNat → scatterK (BitVec.ofNat 32 e.val) lanes v posr comb Y acc k (ix2 r c) = acc (ix2 r c) := by
    intro k
    induction k with
    | zero => intro _; rfl
    | succ k ih =>
      intro hk
      rw [scatterK_succ v hv e posr comb Y acc r c k (by omega), ih (by omega), hp, slotTerm_miss _ _ _ _ _ fun j => neg_place _ _, add_zero]
  unfold scatterV
  split
  · rw [pay14_at _ _ hv, hK _ le_rfl, hp, slotTerm_miss _ _ _ _ _ fun j => neg_place _ _, add_zero]
  · exact hK _ le_rfl

include hv in
theorem scatter_hit (p : ℕ) (hp : posr (ix2 r e) = ((p : ℝ) : EReal)) (hpn : p < v.toNat)
    (hY : IsR (Y (ix3 (Fin.ofNat 4 (p / 256)) (⟨p % 256, Nat.mod_lt _ (by decide)⟩ : Fin 256) c))) :
    scatterV (BitVec.ofNat 32 e.val) lanes v posr comb Y acc (ix2 r c)
      = acc (ix2 r c) + comb (ix2 r e) * Y (ix3 (Fin.ofNat 4 (p / 256)) (⟨p % 256, Nat.mod_lt _ (by decide)⟩ : Fin 256) c) := by
  have hK : ∀ k, k ≤ nfull v.toNat → scatterK (BitVec.ofNat 32 e.val) lanes v posr comb Y acc k (ix2 r c)
      = if p < 256 * k then acc (ix2 r c) + comb (ix2 r e) * Y (ix3 (Fin.ofNat 4 (p / 256)) (⟨p % 256, Nat.mod_lt _ (by decide)⟩ : Fin 256) c)
        else acc (ix2 r c) := by
    intro k
    induction k with
    | zero => intro _; rw [if_neg (by omega)]; rfl
    | succ k ih =>
      intro hk
      rw [scatterK_succ v hv e posr comb Y acc r c k (by omega), ih (by omega), hp]
      by_cases h1 : p < 256 * k
      · rw [if_pos h1, if_pos (by omega), slotTerm_miss, add_zero]
        intro j hj
        have := (nat_place _ _ _).1 hj
        omega
      · rw [if_neg h1]
        by_cases h2 : p < 256 * (k + 1)
        · have hk : p / 256 = k := by omega
          subst hk
          rw [if_pos h2, slotTerm_hit _ _ _ _ _ (⟨p % 256, Nat.mod_lt _ (by decide)⟩ : Fin 256) ((nat_place _ _ _).2 (by show p = p % 256 + _; omega)) hY]
        · rw [if_neg h2, slotTerm_miss, add_zero]
          intro j hj
          have := (nat_place _ _ _).1 hj
          have := j.isLt
          omega
  unfold scatterV
  rcases valid_place hpn with h | ⟨h1, h2, h3⟩
  · have h4 : p < 256 * nfull v.toNat := by omega
    split
    · rw [pay14_at _ _ hv, hK _ le_rfl, if_pos h4, hp, slotTerm_miss, add_zero]
      intro j hj
      have := (nat_place _ _ _).1 hj
      omega
    · rw [hK _ le_rfl, if_pos h4]
  · rw [if_pos h2, pay14_at _ _ hv, hK _ le_rfl, if_neg (by omega), hp,
      slotTerm_hit _ _ _ _ _ (⟨p % 256, h3⟩ : Fin 128) ((nat_place _ _ _).2 (by show p = p % 256 + _; omega))]
    · rw [← h1, atHalf_ix]
    · rw [← h1, atHalf_ix]; exact hY

end Scatter

end Cert.KernelIdeal.Gen

end
-- ==== Proof.ValExpert.lean ====
module

public import proofs.«01_k».proof.Proof.ValSlots
public import proofs.«01_k».proof.Proof.Count
public import proofs.«01_k».proof.Proof.ValLits

/-! # One expert in the exact numbers

A token's place among its expert's tokens is the number of them before it; so the gathered row of that place is
the token's own row, and the scatter adds to every token its weight times the expert's output on it. -/

@[expose] public section

set_option maxHeartbeats 4000000
set_option maxRecDepth 100000

noncomputable section

namespace Cert.KernelIdeal.Gen

open Idealize.ShloMosaic Idealize.ShloMosaic.TcCoe Idealize.ShloMosaic.Tactic

/-- How many of the tokens with `S` come before `r`. -/
def posN (S : Fin 1024 → Prop) [DecidablePred S] (r : Fin 1024) : ℕ := (Finset.univ.filter fun x : Fin 1024 => S x ∧ x.val < r.val).card

/-- How many tokens have `S`. -/
def cntN (S : Fin 1024 → Prop) [DecidablePred S] : ℕ := (Finset.univ.filter fun x : Fin 1024 => S x).card

section
variable (S : Fin 1024 → Prop) [DecidablePred S]

theorem posN_lt {r : Fin 1024} (h : S r) : posN S r < cntN S := by
  refine Finset.card_lt_card ⟨fun x hx => ?_, fun hss => ?_⟩
  · simp only [Finset.mem_filter, Finset.mem_univ, true_and] at hx ⊢
    exact hx.1
  · have := hss (show r ∈ _ by simp only [Finset.mem_filter, Finset.mem_univ, true_and]; exact h)
    simp only [Finset.mem_filter, Finset.mem_univ, true_and] at this
    exact lt_irrefl _ this.2

theorem posN_mono {r r' : Fin 1024} (h : S r) (hr : r.val < r'.val) : posN S r < posN S r' := by
  refine Finset.card_lt_card ⟨fun x hx => ?_, fun hss => ?_⟩
  · simp only [Finset.mem_filter, Finset.mem_univ, true_and] at hx ⊢
    exact ⟨hx.1, lt_trans hx.2 hr⟩
  · have := hss (show r ∈ _ by simp only [Finset.mem_filter, Finset.mem_univ, true_and]; exact ⟨h, hr⟩)
    simp only [Finset.mem_filter, Finset.mem_univ, true_and] at this
    exact lt_irrefl _ this.2

theorem posN_inj {r r' : Fin 1024} (h : S r) (h' : S r') (he : posN S r = posN S r') : r = r' := by
  rcases lt_trichotomy r.val r'.val with hl | hl | hl
  · have := posN_mono S h hl; omega
  · exact Fin.ext hl
  · have := posN_mono S h' hl; omega

theorem cntN_le : cntN S ≤ 1024 := by
  refine le_trans (Finset.card_le_univ _) ?_
  rw [Fintype.card_fin]

end

/-- A token's place, and -1 for a token without one. -/
def placeOf (S : Fin 1024 → Prop) [DecidablePred S] (r : Fin 1024) : EReal :=
  if S r then ((posN S r : ℝ) : EReal) else ((-1 : ℝ) : EReal)

theorem placeOf_eq_iff (S : Fin 1024 → Prop) [DecidablePred S] {r : Fin 1024} (h : S r) (r' : Fin 1024) :
    placeOf S r' = placeE (posN S r / 256) (posN S r % 256) ↔ r' = r := by
  unfold placeOf
  split
  · rename_i h'
    rw [nat_place]
    constructor
    · intro he
      exact posN_inj S h' h (by omega)
    · rintro rfl
      omega
  · rename_i h'
    constructor
    · intro he; exact absurd he (neg_place _ _)
    · rintro rfl; exact absurd h h'

theorem share_real (wg wu : Vec Ideal S1x1024x896 .bf16) (wd : Vec Ideal S1x896x1024 .bf16) (row : Fin 1024 → EReal) (c : Fin 1024)
    (h1 : ∀ i q, IsR (wg (ix3 0 i q))) (h2 : ∀ i q, IsR (wu (ix3 0 i q))) (h3 : ∀ q i, IsR (wd (ix3 0 q i))) (hr : ∀ i, IsR (row i)) :
    IsR (share wg wu wd row c) := by
  unfold share gate
  refine IsR.sum _ fun q => (IsR.mul (IsR.mul (IsR.mul ?_ (IsR.logistic ?_)) ?_) (h3 _ _))
  · exact IsR.sum _ fun i => (hr i).mul (h1 _ _)
  · exact IsR.sum _ fun i => (hr i).mul (h1 _ _)
  · exact IsR.sum _ fun i => (hr i).mul (h2 _ _)

theorem expert_at (e : Fin 128) (v : BitVec 32) (v60 : Vec Ideal S1x1024 .f32) (posr comb : Vec Ideal S1024x128 .f32)
    (hn : Vec Ideal S1024x1024 .bf16) (acc : Vec Ideal S1024x1024 .f32)
    (wg wu : ℕ → Vec Ideal S1x1024x896 .bf16) (wd : ℕ → Vec Ideal S1x896x1024 .bf16)
    (S : Fin 1024 → Prop) [DecidablePred S]
    (hS : ∀ r, S r ↔ 0 < comb (ix2 r e)) (h0 : ∀ r, 0 ≤ comb (ix2 r e))
    (hv : v.toNat = cntN S) (h60 : ∀ r, v60 (ix2 0 r) = placeOf S r) (hpr : ∀ r, posr (ix2 r e) = placeOf S r)
    (hh : ∀ r i, IsR (hn (ix2 r i)))
    (h1 : ∀ k i q, IsR (wg k (ix3 0 i q))) (h2 : ∀ k i q, IsR (wu k (ix3 0 i q))) (h3 : ∀ k q i, IsR (wd k (ix3 0 q i)))
    (r c : Fin 1024) :
    scatterV (BitVec.ofNat 32 e.val) lanes v posr comb (quarters v wg wu wd (gatherV v v60 hn) 4) acc (ix2 r c)
      = acc (ix2 r c) + comb (ix2 r e) * ∑ k ∈ Finset.range 4, share (wg k) (wu k) (wd k) (fun i => hn (ix2 r i)) c := by
  have hle : v.toNat ≤ 1024 := by rw [hv]; exact cntN_le S
  by_cases h : S r
  · have hlt : posN S r < v.toNat := by rw [hv]; exact posN_lt S h
    have h4 : posN S r / 256 < 4 := by omega
    have hY : quarters v wg wu wd (gatherV v v60 hn) 4 (ix3 (Fin.ofNat 4 (posN S r / 256)) (⟨posN S r % 256, Nat.mod_lt _ (by decide)⟩ : Fin 256) c)
        = ∑ k ∈ Finset.range 4, share (wg k) (wu k) (wd k) (fun i => hn (ix2 r i)) c := by
      have hs : (Fin.ofNat 4 (posN S r / 256)).val = posN S r / 256 := Nat.mod_eq_of_lt h4
      have hval := valid_place hlt
      rw [← hs] at hval
      rw [quarters_valid _ _ _ _ _ _ _ hval]
      refine Finset.sum_congr rfl fun k _ => ?_
      congr 1
      funext i
      rw [gather_valid _ hle _ _ _ _ _ hval, Finset.sum_eq_single r]
      · rw [h60, hs, if_pos ((placeOf_eq_iff S h r).2 rfl), one_mul]
      · intro r' _ hr'
        rw [h60, hs, if_neg fun hh => hr' ((placeOf_eq_iff S h r').1 hh), zero_mul]
      · intro hj; exact absurd (Finset.mem_univ _) hj
    rw [scatter_hit v hle e posr comb _ acc r c (posN S r) (by rw [hpr]; unfold placeOf; rw [if_pos h]) hlt, hY]
    rw [hY]
    exact IsR.sum _ fun k => share_real _ _ _ _ _ (h1 k) (h2 k) (h3 k) (hh r)
  · rw [scatter_none v hle e posr comb _ acc r c (by rw [hpr]; unfold placeOf; rw [if_neg h])]
    have : comb (ix2 r e) = 0 := le_antisymm (not_lt.1 fun hl => h ((hS r).2 hl)) (h0 r)
    rw [this, zero_mul, add_zero]

/-! ## The set-up's places and counts -/

section
variable (x3 : Vec Ideal S1024x1024 .f32) (x4 : Vec Ideal S1x1024 .f32) (x5 : Vec Ideal S1024x128 .bf16) (x6 : Vec Ideal S1x128 .f32)
  (x7 : Vec Ideal S1024x1024 .bf16)

/-- The tokens of an expert. -/
def has (e : Fin 128) (r : Fin 1024) : Prop := 0 < (combV x3 x4 x5 x6 (ix2 r e) : EReal)

instance (e : Fin 128) : DecidablePred (has x3 x4 x5 x6 e) := fun _ => by unfold has; exact inferInstance

theorem ind_real (p : Prop) [Decidable p] : FloatOps.sitofp (F := Ideal) .f32 (BitVec.setWidth 32 (BitVec.ofBool (decide p)))
    = if p then (1 : EReal) else 0 := by
  by_cases h : p
  · rw [decide_eq_true h, if_pos h]
    refine (sitofp_nat 1 (by omega)).trans ?_
    norm_num
  · rw [decide_eq_false h, if_neg h]
    refine (sitofp_nat 0 (by omega)).trans ?_
    norm_num

theorem sum_ind (p : Fin 1024 → Prop) [DecidablePred p] : (∑ x : Fin 1024, if p x then (1 : EReal) else 0)
    = (((Finset.univ.filter p).card : ℝ) : EReal) := by
  rw [Finset.card_filter, Nat.cast_sum, show ∀ (f : Fin 1024 → ℝ), ((∑ k, f k : ℝ) : EReal) = ∑ k, ((f k : ℝ) : EReal) from
    fun f => map_sum (⟨⟨Real.toEReal, rfl⟩, fun _ _ => EReal.coe_add _ _⟩ : ℝ →+ EReal) f _]
  refine Finset.sum_congr rfl fun x _ => ?_
  split <;> simp

theorem post_at (hb : ∀ x r : Fin 1024, x7 (ix2 x r) = if x.val < r.val then (1 : EReal) else 0) (e : Fin 128) (r : Fin 1024) :
    postV x3 x4 x5 x6 x7 (ix2 e r) = placeOf (has x3 x4 x5 x6 e) r := by
  have hone : ∀ p : Prop, [Decidable p] → ((0 : EReal) < if p then (1 : EReal) else 0) ↔ p := by
    intro p _
    by_cases h : p
    · simp [h]
    · simp [h]
  have hk : ∀ r : Fin 1024, k0_pay23 lanes (k0_pay19 x3 x4 x5 x6) (k0_pay20 lanes x3 x4 x5 x6) (k0_pay21 lanes x3 x4 x5 x6)
      (k0_pay22 lanes x3 x4 x5 x6) (ix2 r e) = combV x3 x4 x5 x6 (ix2 r e) := by
    intro r
    unfold combV k0_pay24
    pointwise
  unfold postV k0_pay27 k0_pay26 k0_pay25
  pointwise
  simp only [hk, ind_real, hb, hone]
  by_cases h : has x3 x4 x5 x6 e r
  · rw [if_pos (show 0 < (combV x3 x4 x5 x6 (ix2 r e) : EReal) from h)]
    unfold placeOf
    rw [if_pos h]
    unfold posN
    rw [← sum_ind]
    refine Finset.sum_congr rfl fun x _ => ?_
    by_cases h1 : has x3 x4 x5 x6 e x
    · rw [if_pos (show 0 < (combV x3 x4 x5 x6 (ix2 x e) : EReal) from h1), one_mul]
      by_cases h2 : x.val < r.val
      · rw [if_pos h2, if_pos ⟨h1, h2⟩]
      · rw [if_neg h2, if_neg fun hh => h2 hh.2]
    · rw [if_neg (show ¬ 0 < (combV x3 x4 x5 x6 (ix2 x e) : EReal) from h1), zero_mul, if_neg fun hh => h1 hh.1]
  · rw [if_neg (show ¬ 0 < (combV x3 x4 x5 x6 (ix2 r e) : EReal) from h)]
    unfold placeOf
    rw [if_neg h]
    exact lit_minus_one

theorem posr_at (hb : ∀ x r : Fin 1024, x7 (ix2 x r) = if x.val < r.val then (1 : EReal) else 0) (e : Fin 128) (r : Fin 1024) :
    posrV x3 x4 x5 x6 x7 (ix2 r e) = placeOf (has x3 x4 x5 x6 e) r := by
  rw [← post_at x3 x4 x5 x6 x7 hb e r]
  unfold posrV k0_pay28
  pointwise

theorem cnt_at (y : S8.Idx) (e : Fin 128) (he : e.val = (y 0).val) : (cntV x3 x4 x5 x6 y : BitVec 32).toNat = cntN (has x3 x4 x5 x6 e) := by
  obtain ⟨e', h1, h2⟩ := cnt_ideal x3 x4 x5 x6 y
  have hs : (∑ k : Fin 1024, (indW x3 x4 x5 x6 (reduces_S128x1024_S128.lift e' k)).toNat) = cntN (has x3 x4 x5 x6 e) := by
    unfold cntN
    rw [Finset.card_filter]
    refine Finset.sum_congr rfl fun k _ => ?_
    have hl : reduces_S128x1024_S128.lift e' k = (ix2 e k : S128x1024.Idx) := by
      have he' : (e' 0).val = e.val := by rw [he, h1]
      funext a
      match a with
      | ⟨0, _⟩ => exact Fin.ext he'
      | ⟨1, _⟩ => rfl
    rw [hl]
    have hw : indW x3 x4 x5 x6 (ix2 e k) = BitVec.setWidth 32 (BitVec.ofBool (decide (0 < (combV x3 x4 x5 x6 (ix2 k e) : EReal)))) := by
      unfold indW
      pointwise
    rw [hw]
    by_cases h : has x3 x4 x5 x6 e k
    · rw [if_pos h, decide_eq_true (show 0 < (combV x3 x4 x5 x6 (ix2 k e) : EReal) from h)]; rfl
    · rw [if_neg h, decide_eq_false (show ¬ 0 < (combV x3 x4 x5 x6 (ix2 k e) : EReal) from h)]; rfl
  rw [h2, hs, BitVec.toNat_ofNat, Nat.mod_eq_of_lt]
  have := cntN_le (has x3 x4 x5 x6 e)
  omega

end

end Cert.KernelIdeal.Gen

end
-- ==== Proof.ValSpec.lean ====
module

public import proofs.«01_k».proof.Proof.ValTop2
public import proofs.«01_k».proof.Proof.ValExpert

/-! # The layer, one token at a time

A token's normalised row, its eight logits and an expert's output for it, as sums over the extended reals, and
where they are real. -/

@[expose] public section

set_option maxHeartbeats 4000000
set_option maxRecDepth 100000

noncomputable section

namespace Cert.KernelIdeal.Gen

open Idealize.ShloMosaic Idealize.ShloMosaic.TcCoe Idealize.ShloMosaic.Tactic

/-- A token's row over its root mean square, scaled. -/
def hRow (x g : Fin 1024 → EReal) (c : Fin 1024) : EReal :=
  x c * Ideal.rsqrt (Ideal.div (∑ i, x i * x i) (Ideal.ofBits .f32 1149239296#32) + Ideal.ofBits .f32 897988541#32) * g c

/-- A token's logits. -/
def lgRow (h : Fin 1024 → EReal) (R : Fin 1024 → Fin 8 → EReal) (B : Fin 8 → EReal) (k : Fin 8) : EReal := (∑ i, h i * R i k) + B k

/-- An expert's output for a token. -/
def expRow (h : Fin 1024 → EReal) (wg wu : Fin 1024 → Fin 3584 → EReal) (wd : Fin 3584 → Fin 1024 → EReal) (c : Fin 1024) : EReal :=
  ∑ q, gate (∑ i, h i * wg i q) (∑ i, h i * wu i q) * wd q c

theorem hRow_real (x g : Fin 1024 → EReal) (hx : ∀ i, IsR (x i)) (hg : ∀ i, IsR (g i)) (c : Fin 1024) : IsR (hRow x g c) := by
  choose xr hxr using hx
  obtain ⟨e, he, hee⟩ := lit_eps
  have hs : (∑ i, x i * x i) = ((∑ i, xr i * xr i : ℝ) : EReal) := by
    have h1 : ∀ i, x i * x i = ((xr i * xr i : ℝ) : EReal) := fun i => by rw [hxr, EReal.coe_mul]
    rw [Finset.sum_congr rfl fun i _ => h1 i]
    exact (map_sum (⟨⟨Real.toEReal, rfl⟩, fun _ _ => EReal.coe_add _ _⟩ : ℝ →+ EReal) (fun i => xr i * xr i) _).symm
  have h0 : 0 ≤ ∑ i, xr i * xr i := Finset.sum_nonneg fun i _ => mul_self_nonneg _
  have hr : IsR (Ideal.rsqrt (Ideal.div (∑ i, x i * x i) (Ideal.ofBits .f32 1149239296#32) + Ideal.ofBits .f32 897988541#32)) := by
    rw [hs, lit_1024, hee, div_real _ _ (by norm_num), ← EReal.coe_add]
    have hp : 0 < (∑ i, xr i * xr i) * (1024 : ℝ)⁻¹ + e := by positivity
    rw [Ideal.rsqrt_coe, if_neg (not_lt.2 hp.le), if_neg hp.ne']
    exact IsR.coe _
  unfold hRow
  exact ((IsR.mul ⟨_, hxr c⟩ hr)).mul (hg c)

theorem lgRow_real (h : Fin 1024 → EReal) (R : Fin 1024 → Fin 8 → EReal) (B : Fin 8 → EReal) (hh : ∀ i, IsR (h i)) (hR : ∀ i k, IsR (R i k))
    (hB : ∀ k, IsR (B k)) (k : Fin 8) : IsR (lgRow h R B k) := by
  unfold lgRow
  exact (IsR.sum _ fun i => (hh i).mul (hR i k)).add (hB k)

end Cert.KernelIdeal.Gen

end
-- ==== Proof.ValComb.lean ====
module

public import proofs.«01_k».proof.Proof.ValTop2
public import proofs.«01_k».proof.Proof.ValExpert

/-! # The kernel's router weights

A row's combine weights on the 128 lanes, from its eight logits: the two rounds of "largest lane, then the
first lane that has it" find the two the stable sort puts first. -/

@[expose] public section

set_option maxHeartbeats 4000000
set_option maxRecDepth 100000

noncomputable section

namespace Cert.KernelIdeal.Gen

open Idealize.ShloMosaic Idealize.ShloMosaic.TcCoe Idealize.ShloMosaic.Tactic

variable (x3 : Vec Ideal S1024x1024 .f32) (x4 : Vec Ideal S1x1024 .f32) (x5 : Vec Ideal S1024x128 .bf16) (x6 : Vec Ideal S1x128 .f32)
  (r : Fin 1024) (f : Fin 8 → EReal) (w : EReal)

/-- A logit's lane. -/
def lane (k : Fin 8) : Fin 128 := ⟨k.val, lt_trans k.isLt (by decide)⟩

theorem lane_cases (l : Fin 128) : (∃ k, l = lane k) ∨ 8 ≤ l.val := by
  by_cases h : l.val < 8
  · exact .inl ⟨⟨l.val, h⟩, rfl⟩
  · exact .inr (by omega)

theorem select_if {α : Type} (p : Prop) [Decidable p] (a b : α) : Scalar.select (if p then 1#1 else 0#1) a b = if p then a else b := by
  split <;> rfl

theorem max_first (k : Fin 8) : f k ≤ f (rankAt f 0) := by
  by_cases hk : k = rankAt f 0
  · rw [hk]
  · rcases first_ahead f k hk with h | h
    · exact h.le
    · exact h.1.le

/-- The row's logits on their lanes, the spare value on the other lanes. -/
structure RowLogits : Prop where
  at_lane : ∀ k : Fin 8, k0_pay18 x3 x4 x5 x6 (ix2 r (lane k)) = f k
  spare : ∀ l : Fin 128, 8 ≤ l.val → k0_pay18 x3 x4 x5 x6 (ix2 r l) = w
  above : ∀ k, w < f k
  below : Ideal.ofBits .f32 4284592614#32 < w

variable {x3 x4 x5 x6 r f w}

theorem largest (H : RowLogits x3 x4 x5 x6 r f w) : k0_pay19 x3 x4 x5 x6 (ix2 r 0) = f (rankAt f 0) := by
  unfold k0_pay19
  pointwise
  rw [lit_bot, ← H.at_lane (rankAt f 0)]
  refine fold_max_at (fun x => k0_pay18 x3 x4 x5 x6 (ix2 r x)) (lane (rankAt f 0)) fun x => ?_
  show _ ≤ k0_pay18 x3 x4 x5 x6 (ix2 r (lane (rankAt f 0)))
  rw [H.at_lane]
  rcases lane_cases x with ⟨k, rfl⟩ | hx
  · rw [H.at_lane]; exact max_first f k
  · rw [H.spare x hx]; exact (H.above _).le

theorem largest_lane (H : RowLogits x3 x4 x5 x6 r f w) : k0_pay20 lanes x3 x4 x5 x6 (ix2 r 0) = BitVec.ofNat 32 (rankAt f 0).val := by
  have h19 := largest H
  unfold k0_pay20
  pointwise
  simp only [lanes_at, h19]
  refine fold_min_lane (fun x => k0_pay18 x3 x4 x5 x6 (ix2 r x) = f (rankAt f 0)) (lane (rankAt f 0)) (H.at_lane _) fun x hx => ?_
  rcases lane_cases x with ⟨k, rfl⟩ | h8
  · rw [H.at_lane] at hx
    by_cases hk : k = rankAt f 0
    · rw [hk]
    · rcases first_ahead f k hk with h | h
      · exact absurd hx h.ne
      · exact h.2.le
  · show (rankAt f 0).val ≤ x.val
    omega

theorem masked_at (H : RowLogits x3 x4 x5 x6 r f w) (x : Fin 128) : k0_pay21 lanes x3 x4 x5 x6 (ix2 r x)
    = if x.val = (rankAt f 0).val then Ideal.ofBits .f32 4284592614#32 else k0_pay18 x3 x4 x5 x6 (ix2 r x) := by
  have h20 := largest_lane H
  unfold k0_pay21
  pointwise
  rw [lanes_at, h20, lane_eq _ _ x.isLt (by omega), select_if]

theorem masked_second (H : RowLogits x3 x4 x5 x6 r f w) : k0_pay21 lanes x3 x4 x5 x6 (ix2 r (lane (rankAt f 1))) = f (rankAt f 1) := by
  rw [masked_at H]
  refine (if_neg fun h => first_ne_second f (Fin.ext h)).trans (H.at_lane _)

theorem masked_le (H : RowLogits x3 x4 x5 x6 r f w) (x : Fin 128) : k0_pay21 lanes x3 x4 x5 x6 (ix2 r x) ≤ f (rankAt f 1) := by
  rw [masked_at H]
  split
  · exact (H.below.trans (H.above _)).le
  · rename_i hx
    rcases lane_cases x with ⟨k, rfl⟩ | h8
    · rw [H.at_lane]
      by_cases hk : k = rankAt f 1
      · rw [hk]
      · rcases second_ahead f k (fun h => hx (by rw [h]; rfl)) hk with h | h
        · exact h.le
        · exact h.1.le
    · rw [H.spare x h8]; exact (H.above _).le

theorem second (H : RowLogits x3 x4 x5 x6 r f w) : k0_pay22 lanes x3 x4 x5 x6 (ix1 r) = f (rankAt f 1) := by
  have hb := masked_second H
  have hl := masked_le H
  unfold k0_pay22
  pointwise
  rw [lit_bot]
  refine (fold_max_at (fun x => k0_pay21 lanes x3 x4 x5 x6 (ix2 r x)) (lane (rankAt f 1)) fun x => ?_).trans hb
  exact (hl x).trans hb.symm.le

theorem second_lane (H : RowLogits x3 x4 x5 x6 r f w) : Finset.fold IntOp.minsi (2147483647#32)
    (fun x : Fin 128 => if k0_pay21 lanes x3 x4 x5 x6 (ix2 r x) = f (rankAt f 1) then BitVec.ofNat 32 x.val else 128#32) Finset.univ
    = BitVec.ofNat 32 (rankAt f 1).val := by
  refine fold_min_lane (fun x => k0_pay21 lanes x3 x4 x5 x6 (ix2 r x) = f (rankAt f 1)) (lane (rankAt f 1)) (masked_second H) fun x hx => ?_
  rw [masked_at H] at hx
  by_cases h0 : x.val = (rankAt f 0).val
  · rw [if_pos h0] at hx
    exact absurd hx (H.below.trans (H.above _)).ne
  · rw [if_neg h0] at hx
    rcases lane_cases x with ⟨k, rfl⟩ | h8
    · rw [H.at_lane] at hx
      by_cases hk : k = rankAt f 1
      · rw [hk]
      · rcases second_ahead f k (fun h => h0 (by rw [h]; rfl)) hk with h | h
        · exact absurd hx h.ne
        · exact h.2.le
    · rw [H.spare x h8] at hx
      exact absurd hx (H.above _).ne

theorem pay24_at (u : IVec S1024x128 32) (x : Vec Ideal S1024x1 .f32) (y : IVec S1024x1 32) (z : Vec Ideal S1024x128 .f32) (v : Vec Ideal S1024 .f32) (l : Fin 128) :
    k0_pay24 (F := Ideal) u x y z v (ix2 r l)
      = (Scalar.select (α := EReal) (IntOp.cmpi .eq (u (ix2 r l)) (y (ix2 r 0))) (Ideal.div 1 (1 + Ideal.exp (v (ix1 r) - x (ix2 r 0)))) 0 : EReal)
        + Scalar.select (α := EReal) (IntOp.cmpi .eq (u (ix2 r l)) (Finset.fold IntOp.minsi (2147483647#32)
            (fun l : Fin 128 => if z (ix2 r l) = v (ix1 r) then u (ix2 r l) else 128#32) Finset.univ))
          (Ideal.exp (v (ix1 r) - x (ix2 r 0)) * Ideal.div 1 (1 + Ideal.exp (v (ix1 r) - x (ix2 r 0)))) 0 := by
  unfold k0_pay24 k0_pay23
  pointwise

theorem comb_at (H : RowLogits x3 x4 x5 x6 r f w) (l : Fin 128) : combV x3 x4 x5 x6 (ix2 r l) = weight f l.val := by
  have h2 := second_lane H
  unfold combV
  rw [pay24_at]
  simp only [lanes_at]
  rw [largest H, largest_lane H, second H, h2, lane_eq _ _ l.isLt (by omega), lane_eq _ _ l.isLt (by omega), select_if, select_if]
  rfl

end Cert.KernelIdeal.Gen

end
-- ==== Proof.ValPrep.lean ====
module

public import proofs.«01_k».proof.Proof.RunMain
public import Idealize.ShloMosaic.Lib.Routing.OpsSet
public import Idealize.ShloMosaic.Lib.StableHlo

/-! # The arrays the pipeline stages, as the host prepares them -/

@[expose] public section

set_option maxHeartbeats 4000000
set_option maxRecDepth 100000

noncomputable section

namespace Cert.KernelIdeal.Gen

open Idealize.ShloMosaic Idealize.ShloMosaic.TcCoe Idealize.ShloMosaic.Tactic

variable {F : FTy → Type} [FloatOps F]
variable (m : (ℓ : Loc nD τ sig) → Buf (Elt F) ℓ) (c : Dev nD)

theorem prep_v0 : (V m c main_v0 : Vec F S16384x1024 .f32) = shapeCast S16384x1024 (m ((c : Thread nD τ).loc main_arg0) : Vec F S8x2048x1024 .f32) shapeCasts_S8x2048x1024_S16384x1024 := by
  simp only [V, hostOps0, hostOps0_1, hostOps0_2, List.flatten_cons, List.flatten_nil, List.append_nil, List.cons_append, List.nil_append]
  after_results_simp
  try rfl

theorem prep_v4 : (V m c main_v4 : Vec F S1024x128 .bf16) = truncf .bf16 (Host.scatter scatter_S1024x128_S1_S1024x8_01_n_1_0 (fun _ b => b)
    (broadcastInDim S1024x128 ![] bcast_S_S1024x128 (constant S_ .f32 0x00000000#32)) (broadcastInDim S1 ![] bcast_S_S1 (constantI S_ 32 0#32))
      (m ((c : Thread nD τ).loc main_arg2) : Vec F S1024x8 .f32)) bitsLt_bf16_f32 := by
  simp only [V, hostOps0, hostOps0_1, hostOps0_2, List.flatten_cons, List.flatten_nil, List.append_nil, List.cons_append, List.nil_append]
  after_results_simp
  try rfl

theorem prep_v9 : (V m c main_v9 : Vec F S1x128 .f32) = (Host.scatter scatter_S1x128_S2_S8_0_0_01_0 (fun _ b => b)
    (broadcastInDim S1x128 ![] bcast_S_S1x128 (constant S_ .f32 0xF149F2CA#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((c : Thread nD τ).loc main_arg3) : Vec F S8 .f32)) := by
  simp only [V, hostOps0, hostOps0_1, hostOps0_2, List.flatten_cons, List.flatten_nil, List.append_nil, List.cons_append, List.nil_append]
  after_results
  try rfl

theorem prep_v14 : (V m c main_v14 : Vec F S1024x1024 .bf16) = truncf .bf16 (select (cmpi .slt (iotaInDim S1024x1024 32 0) (iotaInDim S1024x1024 32 1))
    (broadcastInDim S1024x1024 ![] bcast_S_S1024x1024 (constant S_ .f32 0x3F800000#32 : Vec F S_ .f32))
    (broadcastInDim S1024x1024 ![] bcast_S_S1024x1024 (constant S_ .f32 0x00000000#32 : Vec F S_ .f32))) bitsLt_bf16_f32 := by
  simp only [V, hostOps0, hostOps0_1, hostOps0_2, List.flatten_cons, List.flatten_nil, List.append_nil, List.cons_append, List.nil_append]
  after_results_simp
  try rfl

theorem prep_v15 : (V m c main_v15 : Vec F S1x1024 .f32) = shapeCast S1x1024 (m ((c : Thread nD τ).loc main_arg1) : Vec F S1024 .f32) shapeCasts_S1024_S1x1024 := by
  simp only [V, hostOps0, hostOps0_1, hostOps0_2, List.flatten_cons, List.flatten_nil, List.append_nil, List.cons_append, List.nil_append]
  after_results_simp
  try rfl

theorem prep_v16 : (V m c main_v16 : Vec F S8x1024x3584 .bf16) = truncf .bf16 (m ((c : Thread nD τ).loc main_arg4) : Vec F S8x1024x3584 .f32) bitsLt_bf16_f32 := by
  simp only [V, hostOps0, hostOps0_1, hostOps0_2, List.flatten_cons, List.flatten_nil, List.append_nil, List.cons_append, List.nil_append]
  after_results_simp
  try rfl

theorem prep_v17 : (V m c main_v17 : Vec F S8x1024x3584 .bf16) = truncf .bf16 (m ((c : Thread nD τ).loc main_arg5) : Vec F S8x1024x3584 .f32) bitsLt_bf16_f32 := by
  simp only [V, hostOps0, hostOps0_1, hostOps0_2, List.flatten_cons, List.flatten_nil, List.append_nil, List.cons_append, List.nil_append]
  after_results_simp
  try rfl

theorem prep_v18 : (V m c main_v18 : Vec F S8x3584x1024 .bf16) = truncf .bf16 (m ((c : Thread nD τ).loc main_arg6) : Vec F S8x3584x1024 .f32) bitsLt_bf16_f32 := by
  simp only [V, hostOps0, hostOps0_1, hostOps0_2, List.flatten_cons, List.flatten_nil, List.append_nil, List.cons_append, List.nil_append]
  after_results_simp
  try rfl

end Cert.KernelIdeal.Gen

end
-- ==== Proof.ValBlocks.lean ====
module

public import proofs.«01_k».proof.Proof.ValPrep
public import proofs.«01_k».proof.Proof.ValLits
public import proofs.«01_k».proof.Proof.ValPay

/-! # The blocks a point reads, out of the arguments

Exact numbers. Point `t` is block `t / 32` of the tokens, expert `t / 4 % 8` and quarter `t % 4` of its hidden
features. The router and its bias stand on 128 lanes, the spare ones at zero and at the spare value. -/

@[expose] public section

set_option maxHeartbeats 4000000
set_option maxRecDepth 100000

noncomputable section

namespace Cert.KernelIdeal.Gen

open Idealize.ShloMosaic Idealize.ShloMosaic.TcCoe Idealize.ShloMosaic.Tactic

/-- Block `b` of the tokens. -/
def xBlk (X : Vec Ideal S16384x1024 .f32) (b : ℕ) : Vec Ideal S1024x1024 .f32 := fun y => X (ix2 (Fin.ofNat 16384 (1024 * b + (y 0).val)) (y 1))
/-- The norm's scale as a row. -/
def gRow (g : Vec Ideal S1024 .f32) : Vec Ideal S1x1024 .f32 := fun y => g (ix1 (y 1))
/-- The router on its lanes. -/
def rLanes (R : Vec Ideal S1024x8 .f32) : Vec Ideal S1024x128 .bf16 := fun y => if h : (y 1).val < 8 then R (ix2 (y 0) (⟨(y 1).val, h⟩ : Fin 8)) else (0 : EReal)
/-- The router's bias on its lanes. -/
def bLanes (B : Vec Ideal S8 .f32) : Vec Ideal S1x128 .f32 := fun y => if h : (y 1).val < 8 then B (ix1 (⟨(y 1).val, h⟩ : Fin 8)) else Ideal.ofBits .f32 0xF149F2CA#32
/-- One where the first token comes before the second. -/
def earlier : Vec Ideal S1024x1024 .bf16 := fun y => if (y 0).val < (y 1).val then (1 : EReal) else 0
/-- Quarter `f` of expert `e`'s first or second matrix. -/
def colQ (W : Vec Ideal S8x1024x3584 .f32) (e f : ℕ) : Vec Ideal S1x1024x896 .bf16 := fun y => W (ix3 (Fin.ofNat 8 e) (y 1) (Fin.ofNat 3584 (896 * f + (y 2).val)))
/-- Quarter `f` of expert `e`'s third matrix. -/
def rowQ (W : Vec Ideal S8x3584x1024 .f32) (e f : ℕ) : Vec Ideal S1x896x1024 .bf16 := fun y => W (ix3 (Fin.ofNat 8 e) (Fin.ofNat 3584 (896 * f + (y 1).val)) (y 2))

/-! ## The scatters that pad -/

theorem pad_router (R : Vec Ideal S1024x8 .f32) (i : Fin 1024) (l : Fin 128) :
    Host.scatter scatter_S1024x128_S1_S1024x8_01_n_1_0 (fun _ b => b)
      (broadcastInDim S1024x128 ![] bcast_S_S1024x128 (constant (F := Ideal) S_ .f32 0x00000000#32)) (broadcastInDim S1 ![] bcast_S_S1 (constantI S_ 32 0#32)) R (ix2 i l)
      = rLanes R (ix2 i l) := by
  have lands : ∀ (a : Fin 1024) (b : Fin 8), scatter_S1024x128_S1_S1024x8_01_n_1_0.resultIdx? (ix2 a b) (broadcastInDim S1 ![] bcast_S_S1 (constantI S_ 32 0#32)) = some (ix2 i l)
      ↔ i = a ∧ l.val = b.val := by
    intro a b
    have hs : ∀ x : Fin 2, scatter_S1024x128_S1_S1024x8_01_n_1_0.start (ix2 a b) (broadcastInDim S1 ![] bcast_S_S1 (constantI S_ 32 0#32)) x = 0 := by
      intro x
      unfold ScatterDims.start
      split <;> rfl
    have h0 : scatter_S1024x128_S1_S1024x8_01_n_1_0.window (ix2 a b) 0 = a.val := rfl
    have h1 : scatter_S1024x128_S1_S1024x8_01_n_1_0.window (ix2 a b) 1 = b.val := rfl
    refine (Routing.resultIdx?_ix2 (R := 1024) (C := 128) scatter_S1024x128_S1_S1024x8_01_n_1_0 (ix2 a b) _ i l).trans ?_
    rw [hs, hs, h0, h1, Fin.ext_iff]
    omega
  have lands' : ∀ k : S1024x8.Idx, scatter_S1024x128_S1_S1024x8_01_n_1_0.resultIdx? k (broadcastInDim S1 ![] bcast_S_S1 (constantI S_ 32 0#32)) = some (ix2 i l)
      → i = k 0 ∧ l.val = (k 1).val := fun k hk => (lands (k 0) (k 1)).1 (by rw [← hk]; congr 1; exact (ValueIdx.eq_ix2 k).symm)
  unfold rLanes
  by_cases h : l.val < 8
  · have hr : rLanes R (ix2 i l) = R (ix2 i (⟨l.val, h⟩ : Fin 8)) := dif_pos h
    refine (Routing.scatter_set_hit _ _ _ _ _ (R (ix2 i (⟨l.val, h⟩ : Fin 8))) (fun k hk => ?_) (ix2 i (⟨l.val, h⟩ : Fin 8)) ((lands _ _).2 ⟨rfl, rfl⟩)).trans hr.symm
    obtain ⟨q0, q1⟩ := lands' k hk
    rw [ValueIdx.eq_ix2 k, q0]
    congr 2
    exact Fin.ext q1.symm
  · have hr : rLanes R (ix2 i l) = (0 : EReal) := dif_neg h
    refine (Routing.scatter_set_miss _ _ _ _ _ fun k hk => ?_).trans (Eq.trans ?_ hr.symm)
    · have := (lands' k hk).2
      have h8 : (k 1).val < 8 := (k 1).isLt
      omega
    · pointwise

theorem pad_bias (B : Vec Ideal S8 .f32) (l : Fin 128) :
    Host.scatter scatter_S1x128_S2_S8_0_0_01_0 (fun _ b => b)
      (broadcastInDim S1x128 ![] bcast_S_S1x128 (constant (F := Ideal) S_ .f32 0xF149F2CA#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) B (ix2 0 l)
      = bLanes B (ix2 0 l) := by
  have hz : ∀ y : S2.Idx, (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) y = 0#32 := by
    intro y
    have h2 : (y 0).val = 0 ∨ (y 0).val = 1 := by have : (y 0).val < 2 := (y 0).isLt; omega
    rcases h2 with h | h
    · have : y = ix1 (0 : Fin 2) := by funext a; match a with | ⟨0, _⟩ => exact Fin.ext h
      rw [this]
      rfl
    · have : y = ix1 (1 : Fin 2) := by funext a; match a with | ⟨0, _⟩ => exact Fin.ext h
      rw [this]
      rfl
  generalize (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) = z at hz ⊢
  have lands : ∀ (b : Fin 8), scatter_S1x128_S2_S8_0_0_01_0.resultIdx? (ix1 b) z = some (ix2 0 l) ↔ l.val = b.val := by
    intro b
    have hs : ∀ x : Fin 2, scatter_S1x128_S2_S8_0_0_01_0.start (ix1 b) z x = 0 := by
      intro x
      unfold ScatterDims.start
      split
      · rw [hz]; rfl
      · rfl
    have h0 : scatter_S1x128_S2_S8_0_0_01_0.window (ix1 b) 0 = 0 := rfl
    have h1 : scatter_S1x128_S2_S8_0_0_01_0.window (ix1 b) 1 = b.val := rfl
    refine (Routing.resultIdx?_ix2 (R := 1) (C := 128) scatter_S1x128_S2_S8_0_0_01_0 (ix1 b) z 0 l).trans ?_
    rw [hs, hs, h0, h1]
    show (0 : ℤ) + ((0 : ℕ) : ℤ) = ((0 : ℕ) : ℤ) ∧ _ ↔ _
    omega
  have lands' : ∀ k : S8.Idx, scatter_S1x128_S2_S8_0_0_01_0.resultIdx? k z = some (ix2 0 l) → l.val = (k 0).val :=
    fun k hk => (lands (k 0)).1 (by rw [← hk]; congr 1; exact (ValueIdx.eq_ix1 k).symm)
  by_cases h : l.val < 8
  · have hr : bLanes B (ix2 0 l) = B (ix1 (⟨l.val, h⟩ : Fin 8)) := dif_pos h
    refine (Routing.scatter_set_hit _ _ _ _ _ (B (ix1 (⟨l.val, h⟩ : Fin 8))) (fun k hk => ?_) (ix1 (⟨l.val, h⟩ : Fin 8)) ((lands _).2 rfl)).trans hr.symm
    have q1 := lands' k hk
    rw [ValueIdx.eq_ix1 k]
    congr 2
    exact Fin.ext q1.symm
  · have hr : bLanes B (ix2 0 l) = Ideal.ofBits .f32 0xF149F2CA#32 := dif_neg h
    refine (Routing.scatter_set_miss _ _ _ _ _ fun k hk => ?_).trans (Eq.trans ?_ hr.symm)
    · have := lands' k hk
      have h8 : (k 0).val < 8 := (k 0).isLt
      omega
    · pointwise

theorem earlier_at (x r : Fin 1024) : (truncf (F := Ideal) .bf16 (select (cmpi .slt (iotaInDim S1024x1024 32 0) (iotaInDim S1024x1024 32 1))
    (broadcastInDim S1024x1024 ![] bcast_S_S1024x1024 (constant (F := Ideal) S_ .f32 0x3F800000#32))
    (broadcastInDim S1024x1024 ![] bcast_S_S1024x1024 (constant (F := Ideal) S_ .f32 0x00000000#32))) bitsLt_bf16_f32) (ix2 x r) = earlier (ix2 x r) := by
  have hc : ∀ x r : Fin 1024, IntOp.cmpi .slt (BitVec.ofNat 32 x.val) (BitVec.ofNat 32 r.val) = if x.val < r.val then 1#1 else 0#1 := by
    intro x r
    unfold IntOp.cmpi
    have hx := x.isLt
    have hr := r.isLt
    have h : (BitVec.ofNat 32 x.val).slt (BitVec.ofNat 32 r.val) = decide (x.val < r.val) := by
      rw [BitVec.slt_eq_decide, BitVec.toInt_eq_toNat_of_lt (by rw [BitVec.toNat_ofNat]; omega), BitVec.toInt_eq_toNat_of_lt (by rw [BitVec.toNat_ofNat]; omega),
        BitVec.toNat_ofNat, BitVec.toNat_ofNat, Nat.mod_eq_of_lt (by omega), Nat.mod_eq_of_lt (by omega)]
      simp
    show BitVec.ofBool ((BitVec.ofNat 32 x.val).slt (BitVec.ofNat 32 r.val)) = _
    rw [h]
    by_cases hh : x.val < r.val <;> simp [hh]
  have hr : earlier (ix2 x r) = if x.val < r.val then (1 : EReal) else 0 := rfl
  rw [hr]
  pointwise
  rw [hc]
  by_cases hh : x.val < r.val
  · rw [if_pos hh, if_pos hh]
    first | exact lit_one | rfl
  · rw [if_neg hh, if_neg hh]; rfl

end Cert.KernelIdeal.Gen

end
-- ==== Proof.ValBlock.lean ====
module

public import proofs.«01_k».proof.Proof.RunMain
public import proofs.«01_k».proof.Proof.ValSlots
public import proofs.«01_k».proof.Proof.ValExpert

/-! # A block of tokens, point by point

The scratch after each of a block's 32 points: the set-up's arrays from the first point on, the gathered tokens
of the expert at hand, its output after the quarters so far, and the block's sum after the experts so far. -/

@[expose] public section

set_option maxHeartbeats 4000000
set_option maxRecDepth 100000

noncomputable section

namespace Cert.KernelIdeal.Gen

open Idealize.ShloMosaic Idealize.ShloMosaic.TcCoe Idealize.ShloMosaic.Tactic

section
variable (x3 : Vec Ideal S1024x1024 .f32) (x4 : Vec Ideal S1x1024 .f32) (x5 : Vec Ideal S1024x128 .bf16) (x6 : Vec Ideal S1x128 .f32)
  (x7 : Vec Ideal S1024x1024 .bf16) (wg wu : ℕ → ℕ → Vec Ideal S1x1024x896 .bf16) (wd : ℕ → ℕ → Vec Ideal S1x896x1024 .bf16)

/-- How many of the block's tokens expert `e` has. -/
def cntE (e : ℕ) : BitVec 32 := cntV x3 x4 x5 x6 (ix1 (Fin.ofNat 8 e))
/-- The places of the block's tokens at expert `e`, as a row. -/
def rowE (e : ℕ) : Vec Ideal S1x1024 .f32 := fun y => postV x3 x4 x5 x6 x7 (ix2 (Fin.ofNat 128 e) (y 1))
/-- The tokens of expert `e`, gathered. -/
def tokE (e : ℕ) : S4x256x1024.Idx → Elt Ideal .bf16 := gatherV (cntE x3 x4 x5 x6 e) (rowE x3 x4 x5 x6 x7 e) (hnV x3 x4)
/-- Expert `e`'s output after `f` quarters. -/
def outE (e f : ℕ) : S4x256x1024.Idx → Elt Ideal .f32 := quarters (cntE x3 x4 x5 x6 e) (wg e) (wu e) (wd e) (tokE x3 x4 x5 x6 x7 e) f
/-- The block's sum after `g` experts. -/
def accE : ℕ → Vec Ideal S1024x1024 .f32
  | 0 => k0_pay39 (F := Ideal)
  | g + 1 => scatterV (BitVec.ofNat 32 g) lanes (cntE x3 x4 x5 x6 g) (posrV x3 x4 x5 x6 x7) (combV x3 x4 x5 x6)
      (outE x3 x4 x5 x6 x7 wg wu wd g 4) (accE g)

/-- The scratch: expert `e` at hand, `f` quarters of it done, `g` experts added. -/
def scr (e f g : ℕ) : St Ideal := ⟨hnV x3 x4, combV x3 x4 x5 x6, postV x3 x4 x5 x6 x7, posrV x3 x4 x5 x6 x7, cntV x3 x4 x5 x6,
  tokE x3 x4 x5 x6 x7 e, outE x3 x4 x5 x6 x7 wg wu wd e f, accE x3 x4 x5 x6 x7 wg wu wd g⟩

theorem expertIdx_ix (i : grid0.Coords) : expertIdx i = ix1 (Fin.ofNat 8 (i 1).val) := by
  have h : (i 1).val < 8 := (i 1).isLt
  funext a
  match a with
  | ⟨0, _⟩ => exact Fin.ext (Nat.mod_eq_of_lt h).symm

theorem window_row (i : grid0.Coords) (h2 : k0_cond2 i = 1#1) :
    VecWindow.window (postV x3 x4 x5 x6 x7) (k0_off2 i) S1x1024.size (k0_off2_inb i h2) = rowE x3 x4 x5 x6 x7 (i 1).val := by
  have h : (i 1).val < 8 := (i 1).isLt
  have ho := k0_off2_eq i
  funext y
  unfold VecWindow.window rowE
  congr 1
  have h0 : (y 0).val < 1 := (y 0).isLt
  funext a
  apply Fin.ext
  match a with
  | ⟨0, _⟩ =>
    show k0_off2 i 0 + 1 * (y 0).val = (i 1).val % 128
    have h' : k0_off2 i 0 = (i 1).val := by rw [ho]; rfl
    have h'' := h0
    refine (congrArg (· + 1 * (y 0).val) h').trans ?_
    show (i 1).val + 1 * (y 0).val = (i 1).val % 128
    omega
  | ⟨1, _⟩ =>
    show k0_off2 i 1 + 1 * (y 1).val = (y 1).val
    have h' : k0_off2 i 1 = 0 := by rw [ho]; rfl
    refine (congrArg (· + 1 * (y 1).val) h').trans ?_
    show 0 + 1 * (y 1).val = (y 1).val
    omega

/-- The first point of a block sets the scratch up. -/
theorem st1_first (i : grid0.Coords) (h : C1 i) (x8 x9 x10) (s : St Ideal) :
    st1 i ⟨x3, x4, x5, x6, x7, x8, x9, x10⟩ s = ⟨hnV x3 x4, combV x3 x4 x5 x6, postV x3 x4 x5 x6 x7, posrV x3 x4 x5 x6 x7, cntV x3 x4 x5 x6,
      s.X, s.Y, accE x3 x4 x5 x6 x7 wg wu wd 0⟩ := by
  unfold st1
  rw [if_pos h]
  rfl

/-- An expert's first point gathers its tokens. -/
theorem st2_first (i : grid0.Coords) (h2 : k0_cond2 i = 1#1) (X Y g) :
    st2 i ⟨hnV x3 x4, combV x3 x4 x5 x6, postV x3 x4 x5 x6 x7, posrV x3 x4 x5 x6 x7, cntV x3 x4 x5 x6, X, Y, accE x3 x4 x5 x6 x7 wg wu wd g⟩
      = scr x3 x4 x5 x6 x7 wg wu wd (i 1).val 0 g := by
  unfold st2
  rw [dif_pos h2]
  dsimp only
  rw [window_row x3 x4 x5 x6 x7 i h2, expertIdx_ix]
  rfl

theorem st3_quarter (i : grid0.Coords) (f g : ℕ) (y3 y4 y5 y6 y7) :
    st3 i ⟨y3, y4, y5, y6, y7, wg (i 1).val f, wu (i 1).val f, wd (i 1).val f⟩ (scr x3 x4 x5 x6 x7 wg wu wd (i 1).val f g)
      = scr x3 x4 x5 x6 x7 wg wu wd (i 1).val (f + 1) g := by
  unfold st3 scr
  dsimp only
  rw [expertIdx_ix]
  rfl

theorem st4_last (i : grid0.Coords) (h5 : k0_cond5 i = 1#1) :
    st4 i (scr x3 x4 x5 x6 x7 wg wu wd (i 1).val 4 (i 1).val) = scr x3 x4 x5 x6 x7 wg wu wd (i 1).val 4 ((i 1).val + 1) := by
  unfold st4
  rw [if_pos h5]
  unfold scr
  dsimp only
  rw [expertIdx_ix]
  rfl

end

/-! ## The whole block -/

section
variable (m : (ℓ : Loc nD τ sig) → Buf (Elt Ideal) ℓ) (c : Dev nD) (b : ℕ) (hb : b < 16)
variable (x3 : Vec Ideal S1024x1024 .f32) (x4 : Vec Ideal S1x1024 .f32) (x5 : Vec Ideal S1024x128 .bf16) (x6 : Vec Ideal S1x128 .f32)
  (x7 : Vec Ideal S1024x1024 .bf16) (wg wu : ℕ → ℕ → Vec Ideal S1x1024x896 .bf16) (wd : ℕ → ℕ → Vec Ideal S1x896x1024 .bf16)

include hb in
theorem block_state (hin : ∀ t : Fin grid0.N, t.val / 32 = b → inpAt m c t = ⟨x3, x4, x5, x6, x7, wg (t.val / 4 % 8) (t.val % 4), wu (t.val / 4 % 8) (t.val % 4), wd (t.val / 4 % 8) (t.val % 4)⟩) :
    ∀ k < 32, stAt m c (32 * b + k + 1) = scr x3 x4 x5 x6 x7 wg wu wd (k / 4) (k % 4 + 1) ((k + 1) / 4) := by
  intro k
  induction k with
  | zero =>
    intro _
    have ht : 32 * b < grid0.N := by rw [N_0]; omega
    have hs := stAt_succ m c ⟨32 * b, ht⟩
    obtain ⟨-, he, hf⟩ := coords_val ⟨32 * b, ht⟩
    have he' : (grid0.coords ⟨32 * b, ht⟩ 1).val = 0 := by rw [he]; show 32 * b / 4 % 8 = 0; omega
    have e1 : 32 * b / 4 % 8 = 0 := by omega
    have e2 : 32 * b % 4 = 0 := by omega
    have h5 : ¬ k0_cond5 (grid0.coords ⟨32 * b, ht⟩) = 1#1 := fun h => by have := (c5_iff _).1 h; dsimp only at this; omega
    refine hs.trans ?_
    rw [hin ⟨32 * b, ht⟩ (by show 32 * b / 32 = b; omega)]
    dsimp only
    rw [e1, e2]
    unfold step
    rw [st1_first x3 x4 x5 x6 x7 wg wu wd _ ((c1_iff _).2 (by show 32 * b % 32 = 0; omega)),
      st2_first x3 x4 x5 x6 x7 wg wu wd _ ((c2_iff _).2 (by show 32 * b % 4 = 0; omega))]
    have h3 := st3_quarter x3 x4 x5 x6 x7 wg wu wd (grid0.coords ⟨32 * b, ht⟩) 0 0 x3 x4 x5 x6 x7
    rw [he'] at h3 ⊢
    rw [h3]
    unfold st4
    rw [if_neg h5]
  | succ k ih =>
    intro hk
    have ih' := ih (by omega)
    have ht : 32 * b + k + 1 < grid0.N := by rw [N_0]; omega
    have hs := stAt_succ m c ⟨32 * b + k + 1, ht⟩
    obtain ⟨-, he, hf⟩ := coords_val ⟨32 * b + k + 1, ht⟩
    have he' : (grid0.coords ⟨32 * b + k + 1, ht⟩ 1).val = (k + 1) / 4 := by rw [he]; show (32 * b + k + 1) / 4 % 8 = _; omega
    have e1 : (32 * b + k + 1) / 4 % 8 = (k + 1) / 4 := by omega
    have e2 : (32 * b + k + 1) % 4 = (k + 1) % 4 := by omega
    have h1 : ¬ C1 (grid0.coords ⟨32 * b + k + 1, ht⟩) := fun h => by have := (c1_iff _).1 h; dsimp only at this; omega
    have h2 := c2_iff ⟨32 * b + k + 1, ht⟩
    have h5 := c5_iff ⟨32 * b + k + 1, ht⟩
    dsimp only at h2 h5
    refine hs.trans ?_
    rw [hin ⟨32 * b + k + 1, ht⟩ (by show (32 * b + k + 1) / 32 = b; omega)]
    dsimp only
    rw [e1, e2, ih']
    generalize hi : grid0.coords ⟨32 * b + k + 1, ht⟩ = i at he' h1 h2 h5 ⊢
    have h3 := st3_quarter x3 x4 x5 x6 x7 wg wu wd i ((k + 1) % 4) ((k + 1) / 4) x3 x4 x5 x6 x7
    rw [he'] at h3
    have hst1 : ∀ a s, st1 (F := Ideal) i a s = s := fun a s => by unfold st1; rw [if_neg h1]
    have hst2 : st2 i (scr x3 x4 x5 x6 x7 wg wu wd (k / 4) (k % 4 + 1) ((k + 1) / 4)) = scr x3 x4 x5 x6 x7 wg wu wd ((k + 1) / 4) ((k + 1) % 4) ((k + 1) / 4) := by
      by_cases h4 : (k + 1) % 4 = 0
      · rw [h4]
        have := st2_first x3 x4 x5 x6 x7 wg wu wd i (h2.2 (by omega)) (tokE x3 x4 x5 x6 x7 (k / 4)) (outE x3 x4 x5 x6 x7 wg wu wd (k / 4) (k % 4 + 1)) ((k + 1) / 4)
        rw [he'] at this
        exact this
      · unfold st2
        rw [dif_neg fun h => h4 (by have := h2.1 h; omega)]
        rw [show (k + 1) / 4 = k / 4 by omega, show (k + 1) % 4 = k % 4 + 1 by omega]
    unfold step
    rw [hst1, hst2, h3]
    by_cases h4 : (k + 1) % 4 = 3
    · have := st4_last x3 x4 x5 x6 x7 wg wu wd i (h5.2 (by omega))
      rw [he'] at this
      rw [h4, show (k + 1 + 1) / 4 = (k + 1) / 4 + 1 by omega]
      exact this
    · unfold st4
      rw [if_neg fun h => h4 (by have := h5.1 h; omega), show (k + 1 + 1) / 4 = (k + 1) / 4 by omega]

end

end Cert.KernelIdeal.Gen

end
-- ==== Proof.ValLayer.lean ====
module

public import proofs.«01_k».proof.Proof.ValSpec
public import proofs.«01_k».proof.Proof.ValComb
public import proofs.«01_k».proof.Proof.ValBlocks
public import proofs.«01_k».proof.Proof.ValBlock

/-! # A block's sum, one token at a time

The block's sum after all experts is, at each token, the sum over the experts of the weight the softmax of the two
largest logits gives it times the expert's output for the token. -/

@[expose] public section

set_option maxHeartbeats 4000000
set_option maxRecDepth 100000

noncomputable section

namespace Cert.KernelIdeal.Gen

open Idealize.ShloMosaic Idealize.ShloMosaic.TcCoe Idealize.ShloMosaic.Tactic

theorem quarter_sum (g : Fin 3584 → EReal) : (∑ k ∈ Finset.range 4, ∑ q : Fin 896, g (Fin.ofNat 3584 (896 * k + q.val))) = ∑ q, g q := by
  rw [Finset.sum_range, ← Fintype.sum_prod_type' (fun (k : Fin 4) (q : Fin 896) => g (Fin.ofNat 3584 (896 * k.val + q.val)))]
  refine Fintype.sum_equiv (finProdFinEquiv (m := 4) (n := 896)) _ _ fun p => ?_
  obtain ⟨k, q⟩ := p
  refine congrArg g (Fin.ext ?_)
  have hk := k.isLt
  have hq := q.isLt
  show (896 * k.val + q.val) % 3584 = q.val + 896 * k.val
  omega

/-- The sum of the first terms. -/
def sumTo (f : ℕ → EReal) : ℕ → EReal
  | 0 => 0
  | n + 1 => sumTo f n + f n

section
variable (X : Vec Ideal S16384x1024 .f32) (G : Vec Ideal S1024 .f32) (R : Vec Ideal S1024x8 .f32) (B : Vec Ideal S8 .f32)
  (Wg Wu : Vec Ideal S8x1024x3584 .f32) (Wd : Vec Ideal S8x3584x1024 .f32)

def kH (T : Fin 16384) : Fin 1024 → EReal := hRow (fun i => X (ix2 T i)) (fun i => G (ix1 i))
def kL (T : Fin 16384) : Fin 8 → EReal := lgRow (kH X G T) (fun i k => R (ix2 i k)) (fun k => B (ix1 k))
def kE (T : Fin 16384) (e : Fin 8) (c : Fin 1024) : EReal :=
  weight (kL X G R B T) e.val * expRow (kH X G T) (fun i q => Wg (ix3 e i q)) (fun i q => Wu (ix3 e i q)) (fun q c => Wd (ix3 e q c)) c

variable (hX : ∀ i, IsR (X i)) (hG : ∀ i, IsR (G i)) (hR : ∀ i, IsR (R i)) (hB : ∀ i, IsR (B i))
  (hWg : ∀ i, IsR (Wg i)) (hWu : ∀ i, IsR (Wu i)) (hWd : ∀ i, IsR (Wd i))
  (hl : ∀ T k, Ideal.ofBits .f32 0xF149F2CA#32 < kL X G R B T k)

include hX hG in
theorem kH_real (T : Fin 16384) (i : Fin 1024) : IsR (kH X G T i) := hRow_real _ _ (fun _ => hX _) (fun _ => hG _) i

include hX hG hR hB in
theorem kL_real (T : Fin 16384) (k : Fin 8) : IsR (kL X G R B T k) :=
  lgRow_real _ _ _ (kH_real X G hX hG T) (fun _ _ => hR _) (fun _ => hB _) k

section
variable (b : ℕ) (r : Fin 1024)

/-- Token `r` of block `b`. -/
def tok : Fin 16384 := Fin.ofNat 16384 (1024 * b + r.val)

theorem norm_at (i : Fin 1024) : (k0_pay16 (F := Ideal) (xBlk X b) (gRow G) : Vec Ideal S1024x1024 .bf16) (ix2 r i) = kH X G (tok b r) i := by
  unfold k0_pay16
  pointwise
  rfl

theorem hn_at (i : Fin 1024) : (hnV (F := Ideal) (xBlk X b) (gRow G) : Vec Ideal S1024x1024 .bf16) (ix2 r i) = kH X G (tok b r) i := by
  unfold hnV k0_pay17
  rw [← norm_at]
  pointwise

include hX hG in
theorem logit_at (l : Fin 128) : (k0_pay18 (F := Ideal) (xBlk X b) (gRow G) (rLanes R) (bLanes B) : Vec Ideal S1024x128 .f32) (ix2 r l)
    = if h : l.val < 8 then kL X G R B (tok b r) ⟨l.val, h⟩ else Ideal.ofBits .f32 0xF149F2CA#32 := by
  have hp : (k0_pay18 (F := Ideal) (xBlk X b) (gRow G) (rLanes R) (bLanes B) : Vec Ideal S1024x128 .f32) (ix2 r l)
      = (∑ k : Fin 1024, kH X G (tok b r) k * (rLanes R (ix2 k l) : EReal)) + (bLanes B (ix2 0 l) : EReal) := by
    unfold k0_pay18
    pointwise
    refine congrArg₂ (· + ·) (Finset.sum_congr rfl fun k _ => ?_) rfl
    exact congrArg₂ (· * ·) (norm_at X G b r k) rfl
  rw [hp]
  by_cases h : l.val < 8
  · rw [dif_pos h]
    have h1 : ∀ k : Fin 1024, (rLanes R (ix2 k l) : EReal) = R (ix2 k (⟨l.val, h⟩ : Fin 8)) := fun k => dif_pos h
    have h2 : (bLanes B (ix2 0 l) : EReal) = B (ix1 (⟨l.val, h⟩ : Fin 8)) := dif_pos h
    rw [h2]
    simp only [h1]
    rfl
  · rw [dif_neg h]
    have h1 : ∀ k : Fin 1024, (rLanes R (ix2 k l) : EReal) = 0 := fun k => dif_neg h
    have h2 : (bLanes B (ix2 0 l) : EReal) = Ideal.ofBits .f32 0xF149F2CA#32 := dif_neg h
    rw [h2]
    simp only [h1, mul_zero, Finset.sum_const_zero, zero_add]

include hX hG hl in
theorem row_logits : RowLogits (xBlk X b) (gRow G) (rLanes R) (bLanes B) r (kL X G R B (tok b r)) (Ideal.ofBits .f32 0xF149F2CA#32) where
  at_lane k := by
    have h : (lane k).val < 8 := k.isLt
    exact (logit_at X G R B hX hG b r (lane k)).trans (dif_pos h)
  spare l h := (logit_at X G R B hX hG b r l).trans (dif_neg (not_lt.2 h))
  above k := hl _ k
  below := lit_taken_lt

include hX hG hl in
theorem comb_weight (l : Fin 128) : (combV (F := Ideal) (xBlk X b) (gRow G) (rLanes R) (bLanes B) : Vec Ideal S1024x128 .f32) (ix2 r l) = weight (kL X G R B (tok b r)) l.val :=
  comb_at (row_logits X G R B hX hG hl b r) l

end

include hX hG hR hB hWg hWu hWd hl in
/-- The block's sum after `g` experts, at a token. -/
theorem acc_at (b : ℕ) (r c : Fin 1024) : ∀ g ≤ 8, accE (xBlk X b) (gRow G) (rLanes R) (bLanes B) earlier (colQ Wg) (colQ Wu) (rowQ Wd) g (ix2 r c)
    = sumTo (fun e => kE X G R B Wg Wu Wd (tok b r) (Fin.ofNat 8 e) c) g := by
  intro g
  induction g with
  | zero =>
    intro _
    exact pay39_at r c
  | succ g ih =>
    intro hg
    have hlt : g < 8 := hg
    have hcw : ∀ r, (combV (F := Ideal) (xBlk X b) (gRow G) (rLanes R) (bLanes B) : Vec Ideal S1024x128 .f32) (ix2 r (⟨g, by omega⟩ : Fin 128)) = weight (kL X G R B (tok b r)) g :=
      fun r => comb_weight X G R B hX hG hl b r ⟨g, by omega⟩
    have hbe : ∀ x r : Fin 1024, (earlier : Vec Ideal S1024x1024 .bf16) (ix2 x r) = if x.val < r.val then (1 : EReal) else 0 := fun _ _ => rfl
    have he : Fin.ofNat 128 g = (⟨g, by omega⟩ : Fin 128) := Fin.ext (Nat.mod_eq_of_lt (by omega))
    have hx := expert_at (⟨g, by omega⟩ : Fin 128) (cntE (xBlk X b) (gRow G) (rLanes R) (bLanes B) g) (rowE (xBlk X b) (gRow G) (rLanes R) (bLanes B) earlier g)
      (posrV (xBlk X b) (gRow G) (rLanes R) (bLanes B) earlier) (combV (xBlk X b) (gRow G) (rLanes R) (bLanes B)) (hnV (xBlk X b) (gRow G))
      (accE (xBlk X b) (gRow G) (rLanes R) (bLanes B) earlier (colQ Wg) (colQ Wu) (rowQ Wd) g)
      (colQ Wg g) (colQ Wu g) (rowQ Wd g) (has (xBlk X b) (gRow G) (rLanes R) (bLanes B) ⟨g, by omega⟩)
      (fun _ => Iff.rfl) (fun r => by rw [hcw]; exact weight_nonneg _ (kL_real X G R B hX hG hR hB _) _)
      (cnt_at _ _ _ _ _ _ (Nat.mod_eq_of_lt hlt).symm)
      (fun r => by
        have := post_at (xBlk X b) (gRow G) (rLanes R) (bLanes B) earlier hbe ⟨g, by omega⟩ r
        rw [← this, ← he]
        rfl)
      (fun r => posr_at _ _ _ _ _ hbe _ r)
      (fun r i => by rw [hn_at]; exact kH_real X G hX hG _ i)
      (fun _ _ _ => hWg _) (fun _ _ _ => hWu _) (fun _ _ _ => hWd _) r c
    refine hx.trans ?_
    rw [ih (by omega), hcw]
    show _ + _ = sumTo _ g + _
    refine congrArg (sumTo (fun e => kE X G R B Wg Wu Wd (tok b r) (Fin.ofNat 8 e) c) g + ·) ?_
    have hw : (Fin.ofNat 8 g).val = g := Nat.mod_eq_of_lt hlt
    unfold kE
    dsimp only
    rw [hw]
    refine congrArg (weight (kL X G R B (tok b r)) g * ·) ?_
    have hrow : (fun i => (hnV (F := Ideal) (xBlk X b) (gRow G) : Vec Ideal S1024x1024 .bf16) (ix2 r i)) = kH X G (tok b r) := funext fun i => hn_at X G b r i
    unfold expRow
    refine Eq.trans ?_ (quarter_sum _)
    refine Finset.sum_congr rfl fun k _ => ?_
    unfold share
    refine Finset.sum_congr rfl fun q _ => ?_
    rw [← hrow]
    rfl

end

end Cert.KernelIdeal.Gen

end
-- ==== Proof.ValIndex.lean ====
module

public import proofs.«01_k».proof.Proof.RunMain

/-! # Which block of its array each window is on at a point -/

@[expose] public section

set_option maxHeartbeats 4000000
set_option maxRecDepth 100000

noncomputable section

namespace Cert.KernelIdeal.Gen

open Idealize.ShloMosaic Idealize.ShloMosaic.TcCoe Idealize.ShloMosaic.Tactic

theorem win0_at : ∀ t : Fin grid0.N, win0_0.index t 0 = t.val / 32 ∧ win0_0.index t 1 = 0 := by decide +kernel
theorem win1_at : ∀ t : Fin grid0.N, win0_1.index t 0 = 0 ∧ win0_1.index t 1 = 0 := by decide +kernel
theorem win2_at : ∀ t : Fin grid0.N, win0_2.index t 0 = 0 ∧ win0_2.index t 1 = 0 := by decide +kernel
theorem win3_at : ∀ t : Fin grid0.N, win0_3.index t 0 = 0 ∧ win0_3.index t 1 = 0 := by decide +kernel
theorem win4_at : ∀ t : Fin grid0.N, win0_4.index t 0 = 0 ∧ win0_4.index t 1 = 0 := by decide +kernel
theorem win5_at : ∀ t : Fin grid0.N, win0_5.index t 0 = t.val / 4 % 8 ∧ win0_5.index t 1 = 0 ∧ win0_5.index t 2 = t.val % 4 := by decide +kernel
theorem win6_at : ∀ t : Fin grid0.N, win0_6.index t 0 = t.val / 4 % 8 ∧ win0_6.index t 1 = 0 ∧ win0_6.index t 2 = t.val % 4 := by decide +kernel
theorem win7_at : ∀ t : Fin grid0.N, win0_7.index t 0 = t.val / 4 % 8 ∧ win0_7.index t 1 = t.val % 4 ∧ win0_7.index t 2 = 0 := by decide +kernel

end Cert.KernelIdeal.Gen

end
-- ==== Proof.ValWin.lean ====
module

public import proofs.«01_k».proof.Proof.ValBlocks
public import proofs.«01_k».proof.Proof.ValIndex

/-! # The windows' blocks at a point -/

@[expose] public section

set_option maxHeartbeats 4000000
set_option maxRecDepth 100000

noncomputable section

namespace Cert.KernelIdeal.Gen

open Idealize.ShloMosaic Idealize.ShloMosaic.TcCoe Idealize.ShloMosaic.Tactic

variable (m : (ℓ : Loc nD τ sig) → Buf (Elt Ideal) ℓ) (c : Dev nD)

/-- The tokens' array: the argument, its first two axes as one. -/
def tokens : Vec Ideal S16384x1024 .f32 := shapeCast S16384x1024 (m ((c : Thread nD τ).loc main_arg0) : Vec Ideal S8x2048x1024 .f32) shapeCasts_S8x2048x1024_S16384x1024

theorem read_x (t : Fin grid0.N) : (iblk m c 0 t : Vec Ideal S1024x1024 .f32) = xBlk (tokens m c) (t.val / 32) := by
  funext y
  unfold xBlk tokens iblk
  rw [View.read_apply, ← prep_v0 m c]
  show V m c main_v0 _ = V m c main_v0 _
  congr 1
  have ht : t.val < 512 := t.isLt
  have h0 : (y 0).val < 1024 := (y 0).isLt
  funext a
  apply Fin.ext
  match a with
  | ⟨0, _⟩ =>
    show win0_0.index t 0 * 1024 + 1 * (y 0).val = (1024 * (t.val / 32) + (y 0).val) % 16384
    rw [(win0_at t).1]; omega
  | ⟨1, _⟩ =>
    show win0_0.index t 1 * 1024 + 1 * (y 1).val = (y 1).val
    rw [(win0_at t).2]; omega

theorem read_g (t : Fin grid0.N) : (iblk m c 1 t : Vec Ideal S1x1024 .f32) = gRow (m ((c : Thread nD τ).loc main_arg1) : Vec Ideal S1024 .f32) := by
  funext y
  have h : (iblk m c 1 t : Vec Ideal S1x1024 .f32) y = (V m c main_v15 : Vec Ideal S1x1024 .f32) y := by
    unfold iblk
    rw [View.read_apply]
    show V m c main_v15 _ = V m c main_v15 _
    congr 1
    funext a
    apply Fin.ext
    match a with
    | ⟨0, _⟩ => show win0_1.index t 0 * 1 + 1 * (y 0).val = (y 0).val; rw [(win1_at t).1]; omega
    | ⟨1, _⟩ => show win0_1.index t 1 * 1024 + 1 * (y 1).val = (y 1).val; rw [(win1_at t).2]; omega
  rw [h, prep_v15]
  have h0 : (show Fin 1 from y 0) = 0 := Subsingleton.elim (α := Fin 1) _ _
  rw [ValueIdx.eq_ix2 y]
  unfold gRow
  have : ∀ (g : Vec Ideal S1024 .f32) (a : Fin 1) (j : Fin 1024), (shapeCast S1x1024 g shapeCasts_S1024_S1x1024) (ix2 a j) = g (ix1 j) := by
    intro g a j
    obtain rfl : a = 0 := Subsingleton.elim _ _
    pointwise
  exact this _ _ _

theorem read_router (t : Fin grid0.N) : (iblk m c 2 t : Vec Ideal S1024x128 .bf16) = rLanes (m ((c : Thread nD τ).loc main_arg2) : Vec Ideal S1024x8 .f32) := by
  funext y
  have h : (iblk m c 2 t : Vec Ideal S1024x128 .bf16) y = (V m c main_v4 : Vec Ideal S1024x128 .bf16) y := by
    unfold iblk
    rw [View.read_apply]
    show V m c main_v4 _ = V m c main_v4 _
    congr 1
    funext a
    apply Fin.ext
    match a with
    | ⟨0, _⟩ => show win0_2.index t 0 * 1024 + 1 * (y 0).val = (y 0).val; rw [(win2_at t).1]; omega
    | ⟨1, _⟩ => show win0_2.index t 1 * 128 + 1 * (y 1).val = (y 1).val; rw [(win2_at t).2]; omega
  rw [h, prep_v4, ValueIdx.eq_ix2 y]
  exact pad_router _ (y 0) (y 1)

theorem read_bias (t : Fin grid0.N) : (iblk m c 3 t : Vec Ideal S1x128 .f32) = bLanes (m ((c : Thread nD τ).loc main_arg3) : Vec Ideal S8 .f32) := by
  funext y
  have h : (iblk m c 3 t : Vec Ideal S1x128 .f32) y = (V m c main_v9 : Vec Ideal S1x128 .f32) y := by
    unfold iblk
    rw [View.read_apply]
    show V m c main_v9 _ = V m c main_v9 _
    congr 1
    funext a
    apply Fin.ext
    match a with
    | ⟨0, _⟩ => show win0_3.index t 0 * 1 + 1 * (y 0).val = (y 0).val; rw [(win3_at t).1]; omega
    | ⟨1, _⟩ => show win0_3.index t 1 * 128 + 1 * (y 1).val = (y 1).val; rw [(win3_at t).2]; omega
  have h0 : (show Fin 1 from y 0) = 0 := Subsingleton.elim (α := Fin 1) _ _
  rw [h, prep_v9, ValueIdx.eq_ix2 y]
  have : ∀ (a : Fin 1) (l : Fin 128), a = 0 → (Host.scatter scatter_S1x128_S2_S8_0_0_01_0 (fun _ b => b)
      (broadcastInDim S1x128 ![] bcast_S_S1x128 (constant (F := Ideal) S_ .f32 0xF149F2CA#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((c : Thread nD τ).loc main_arg3) : Vec Ideal S8 .f32)) (ix2 a l) = bLanes (m ((c : Thread nD τ).loc main_arg3) : Vec Ideal S8 .f32) (ix2 a l) := by
    intro a l ha
    subst ha
    exact pad_bias _ l
  exact this (y 0) (y 1) h0

theorem read_earlier (t : Fin grid0.N) : (iblk m c 4 t : Vec Ideal S1024x1024 .bf16) = earlier := by
  funext y
  have h : (iblk m c 4 t : Vec Ideal S1024x1024 .bf16) y = (V m c main_v14 : Vec Ideal S1024x1024 .bf16) y := by
    unfold iblk
    rw [View.read_apply]
    show V m c main_v14 _ = V m c main_v14 _
    congr 1
    funext a
    apply Fin.ext
    match a with
    | ⟨0, _⟩ => show win0_4.index t 0 * 1024 + 1 * (y 0).val = (y 0).val; rw [(win4_at t).1]; omega
    | ⟨1, _⟩ => show win0_4.index t 1 * 1024 + 1 * (y 1).val = (y 1).val; rw [(win4_at t).2]; omega
  rw [h, prep_v14, ValueIdx.eq_ix2 y]
  exact earlier_at (y 0) (y 1)

theorem read_wg (t : Fin grid0.N) : (iblk m c 5 t : Vec Ideal S1x1024x896 .bf16) = colQ (m ((c : Thread nD τ).loc main_arg4) : Vec Ideal S8x1024x3584 .f32) (t.val / 4 % 8) (t.val % 4) := by
  funext y
  unfold iblk
  rw [View.read_apply]
  show (V m c main_v16 : Vec Ideal S8x1024x3584 .bf16) _ = _
  rw [prep_v16]
  show (m ((c : Thread nD τ).loc main_arg4) : Vec Ideal S8x1024x3584 .f32) _ = (m ((c : Thread nD τ).loc main_arg4) : Vec Ideal S8x1024x3584 .f32) _
  congr 1
  have h0 : (y 0).val < 1 := (y 0).isLt
  have h2 : (y 2).val < 896 := (y 2).isLt
  funext a
  apply Fin.ext
  match a with
  | ⟨0, _⟩ => show win0_5.index t 0 * 1 + 1 * (y 0).val = t.val / 4 % 8 % 8; rw [(win5_at t).1]; omega
  | ⟨1, _⟩ => show win0_5.index t 1 * 1024 + 1 * (y 1).val = (y 1).val; rw [(win5_at t).2.1]; omega
  | ⟨2, _⟩ => show win0_5.index t 2 * 896 + 1 * (y 2).val = (896 * (t.val % 4) + (y 2).val) % 3584; rw [(win5_at t).2.2]; omega

theorem read_wu (t : Fin grid0.N) : (iblk m c 6 t : Vec Ideal S1x1024x896 .bf16) = colQ (m ((c : Thread nD τ).loc main_arg5) : Vec Ideal S8x1024x3584 .f32) (t.val / 4 % 8) (t.val % 4) := by
  funext y
  unfold iblk
  rw [View.read_apply]
  show (V m c main_v17 : Vec Ideal S8x1024x3584 .bf16) _ = _
  rw [prep_v17]
  show (m ((c : Thread nD τ).loc main_arg5) : Vec Ideal S8x1024x3584 .f32) _ = (m ((c : Thread nD τ).loc main_arg5) : Vec Ideal S8x1024x3584 .f32) _
  congr 1
  have h0 : (y 0).val < 1 := (y 0).isLt
  have h2 : (y 2).val < 896 := (y 2).isLt
  funext a
  apply Fin.ext
  match a with
  | ⟨0, _⟩ => show win0_6.index t 0 * 1 + 1 * (y 0).val = t.val / 4 % 8 % 8; rw [(win6_at t).1]; omega
  | ⟨1, _⟩ => show win0_6.index t 1 * 1024 + 1 * (y 1).val = (y 1).val; rw [(win6_at t).2.1]; omega
  | ⟨2, _⟩ => show win0_6.index t 2 * 896 + 1 * (y 2).val = (896 * (t.val % 4) + (y 2).val) % 3584; rw [(win6_at t).2.2]; omega

theorem read_wd (t : Fin grid0.N) : (iblk m c 7 t : Vec Ideal S1x896x1024 .bf16) = rowQ (m ((c : Thread nD τ).loc main_arg6) : Vec Ideal S8x3584x1024 .f32) (t.val / 4 % 8) (t.val % 4) := by
  funext y
  unfold iblk
  rw [View.read_apply]
  show (V m c main_v18 : Vec Ideal S8x3584x1024 .bf16) _ = _
  rw [prep_v18]
  show (m ((c : Thread nD τ).loc main_arg6) : Vec Ideal S8x3584x1024 .f32) _ = (m ((c : Thread nD τ).loc main_arg6) : Vec Ideal S8x3584x1024 .f32) _
  congr 1
  have h0 : (y 0).val < 1 := (y 0).isLt
  have h1 : (y 1).val < 896 := (y 1).isLt
  funext a
  apply Fin.ext
  match a with
  | ⟨0, _⟩ => show win0_7.index t 0 * 1 + 1 * (y 0).val = t.val / 4 % 8 % 8; rw [(win7_at t).1]; omega
  | ⟨1, _⟩ => show win0_7.index t 1 * 896 + 1 * (y 1).val = (896 * (t.val % 4) + (y 1).val) % 3584; rw [(win7_at t).2.1]; omega
  | ⟨2, _⟩ => show win0_7.index t 2 * 1024 + 1 * (y 2).val = (y 2).val; rw [(win7_at t).2.2]; omega

end Cert.KernelIdeal.Gen

end
-- ==== Proof.ValOutIndex.lean ====
module

public import proofs.«01_k».proof.Proof.RunMain

/-! # Where the result's blocks lie

The block of the result a point writes is its block of tokens. -/

@[expose] public section

set_option maxHeartbeats 4000000
set_option maxRecDepth 100000

noncomputable section

namespace Cert.KernelIdeal.Gen

open Idealize.ShloMosaic Idealize.ShloMosaic.TcCoe Idealize.ShloMosaic.Tactic

theorem win8_at : ∀ t : Fin grid0.N, win0_8.index t 0 = t.val / 32 ∧ win0_8.index t 1 = 0 := by decide +kernel

theorem size8 (t : Fin grid0.N) : win0_8.xsize (grid0.coords t) 0 = 1024 ∧ win0_8.xsize (grid0.coords t) 1 = 1024 := by
  revert t; decide +kernel

end Cert.KernelIdeal.Gen

end
-- ==== Proof.ValOut.lean ====
module

public import proofs.«01_k».proof.Proof.ValLayer
public import proofs.«01_k».proof.Proof.ValWin
public import proofs.«01_k».proof.Proof.ValOutIndex
public import proofs.«01_k».proof.Proof.Frames

/-! # The kernel's result

Each block of the result is written once, after the block's last point, and holds the tokens plus the block's sum:
the result array ends at the layer's result at every token. -/

@[expose] public section

set_option maxHeartbeats 4000000
set_option maxRecDepth 100000

noncomputable section

namespace Cert.KernelIdeal.Gen

open Idealize.ShloMosaic Idealize.ShloMosaic.TcCoe Idealize.ShloMosaic.Tactic Idealize.SL.Sem

section
variable (m : (ℓ : Loc nD τ sig) → Buf (Elt Ideal) ℓ) (c : Dev nD)

def aG : Vec Ideal S1024 .f32 := m ((c : Thread nD τ).loc main_arg1)
def aR : Vec Ideal S1024x8 .f32 := m ((c : Thread nD τ).loc main_arg2)
def aB : Vec Ideal S8 .f32 := m ((c : Thread nD τ).loc main_arg3)
def aWg : Vec Ideal S8x1024x3584 .f32 := m ((c : Thread nD τ).loc main_arg4)
def aWu : Vec Ideal S8x1024x3584 .f32 := m ((c : Thread nD τ).loc main_arg5)
def aWd : Vec Ideal S8x3584x1024 .f32 := m ((c : Thread nD τ).loc main_arg6)

/-- The arguments are real, and the logits lie above the bias of the spare lanes. -/
structure Fine : Prop where
  x : ∀ i, IsR (tokens m c i)
  g : ∀ i, IsR (aG m c i)
  r : ∀ i, IsR (aR m c i)
  b : ∀ i, IsR (aB m c i)
  wg : ∀ i, IsR (aWg m c i)
  wu : ∀ i, IsR (aWu m c i)
  wd : ∀ i, IsR (aWd m c i)
  l : ∀ T k, Ideal.ofBits .f32 0xF149F2CA#32 < kL (tokens m c) (aG m c) (aR m c) (aB m c) T k

/-- Expert `e`'s share of token `T`'s result. -/
def eOut (T : Fin 16384) (col : Fin 1024) (e : Fin 8) : EReal :=
  kE (tokens m c) (aG m c) (aR m c) (aB m c) (aWg m c) (aWu m c) (aWd m c) T e col
/-- The layer's result. -/
def outV : Vec Ideal S16384x1024 .f32 := fun i => tokens m c (ix2 (i 0) (i 1)) + sumTo (fun e => eOut m c (i 0) (i 1) (Fin.ofNat 8 e)) 8

theorem inp_eq (b : ℕ) (t : Fin grid0.N) (ht : t.val / 32 = b) : inpAt m c t
    = ⟨xBlk (tokens m c) b, gRow (aG m c), rLanes (aR m c), bLanes (aB m c), earlier,
        colQ (aWg m c) (t.val / 4 % 8) (t.val % 4), colQ (aWu m c) (t.val / 4 % 8) (t.val % 4), rowQ (aWd m c) (t.val / 4 % 8) (t.val % 4)⟩ := by
  subst ht
  unfold inpAt
  rw [read_x, read_g, read_router, read_bias, read_earlier, read_wg, read_wu, read_wd]
  rfl

theorem scr_acc (x3 x4 x5 x6 x7 wg wu wd) (e f g : ℕ) : (scr x3 x4 x5 x6 x7 wg wu wd e f g).acc = accE x3 x4 x5 x6 x7 wg wu wd g := rfl

theorem block_end (t : Fin grid0.N) (ht : t.val % 32 = 31) :
    (stAt m c (t.val + 1)).acc = accE (xBlk (tokens m c) (t.val / 32)) (gRow (aG m c)) (rLanes (aR m c)) (bLanes (aB m c)) earlier
      (colQ (aWg m c)) (colQ (aWu m c)) (rowQ (aWd m c)) 8 := by
  have hlt : t.val < 512 := t.isLt
  have h := block_state m c (t.val / 32) (by omega) _ _ _ _ _ (colQ (aWg m c)) (colQ (aWu m c)) (rowQ (aWd m c)) (fun s hs => inp_eq m c (t.val / 32) s hs) 31 (by omega)
  have he : 32 * (t.val / 32) + 31 + 1 = t.val + 1 := by omega
  have h8 : (31 + 1) / 4 = 8 := rfl
  rw [he, h8] at h
  exact (congrArg (fun s : St Ideal => s.acc) h).trans (scr_acc _ _ _ _ _ _ _ _ _ _ _)

variable (hf : Fine m c)
include hf

theorem flushed_eq (t : Fin cfg0.N) (ht : (cfg0.win 8).flush t = true) :
    (dats m 0 c).flushed 8 t = ((cfg0.win 8).blk t).view.read (Elt Ideal) (outV m c) := by
  have h31 : t.val % 32 = 31 := (flush0_8 t).1 ht
  have hlt : t.val < 512 := t.isLt
  show (cfg0.win 8).cut (grid0.coords t) ((dats m 0 c).after 8 t) = _
  rw [after0_8, block_end m c t h31, read_x]
  funext y
  rw [View.read_apply]
  obtain ⟨r, col, rfl⟩ : ∃ (r : Fin 1024) (col : Fin 1024), y = (ix2 r col : S1024x1024.Idx) := ⟨y 0, y 1, ValueIdx.eq_ix2 (n0 := 1024) (n1 := 1024) y⟩
  have hi : ((cfg0.win 8).blk t).view.emb (ix2 r col : S1024x1024.Idx) = (ix2 (tok (t.val / 32) r) col : S16384x1024.Idx) := by
    funext a
    apply Fin.ext
    match a with
    | ⟨0, _⟩ =>
      show win0_8.index t 0 * 1024 + 1 * r.val = (1024 * (t.val / 32) + r.val) % 16384
      rw [(win8_at t).1]; omega
    | ⟨1, _⟩ =>
      show win0_8.index t 1 * 1024 + 1 * col.val = col.val
      rw [(win8_at t).2]; omega
  show k0_pay15 (F := Ideal) (xBlk (tokens m c) (t.val / 32)) _ (ix2 r col) = outV m c (((cfg0.win 8).blk t).view.emb (ix2 r col : S1024x1024.Idx))
  rw [hi, pay15_at, acc_at _ _ _ _ _ _ _ hf.x hf.g hf.r hf.b hf.wg hf.wu hf.wd hf.l _ _ _ 8 le_rfl]
  rfl
end

theorem cover (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  have hN : cfg0.N = 512 := N_0
  refine ⟨⟨32 * ((i 0).val / 1024) + 31, by omega⟩, (flush0_8 _).2 (by show (32 * ((i 0).val / 1024) + 31) % 32 = 31; omega), ?_⟩
  generalize ht : (⟨32 * ((i 0).val / 1024) + 31, by omega⟩ : Fin cfg0.N) = t
  have hv : t.val = 32 * ((i 0).val / 1024) + 31 := by rw [← ht]
  show i ∈ ((View.whole main_v19).slice (win0_8.rect t)).set
  rw [View.set_slice_whole, Rect.mem_set_unit]
  intro a
  match a with
  | ⟨0, _⟩ =>
    show win0_8.index t 0 * 1024 ≤ (i 0).val ∧ (i 0).val < win0_8.index t 0 * 1024 + win0_8.xsize (grid0.coords t) 0
    rw [(win8_at t).1, (size8 t).1]; omega
  | ⟨1, _⟩ =>
    show win0_8.index t 1 * 1024 ≤ (i 1).val ∧ (i 1).val < win0_8.index t 1 * 1024 + win0_8.xsize (grid0.coords t) 1
    rw [(win8_at t).2, (size8 t).2]; omega

/-- The run: the result array at the layer's result, the arguments unchanged. -/
theorem run_out (m : (ℓ : Loc nD τ sig) → Buf (Elt Ideal) ℓ) (ρ : Dev nD → PrngReg) (hf : ∀ c, Fine m c) :
    θ_run defs (onTc (τ := τ) (main (F := Ideal))) ⟨m, fun _ => 0, ρ⟩ fun r => ∀ c : Dev nD,
      r.2.mem ((c.tc : Thread nD τ).loc main_v19) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run_main m ρ cntOK_ideal)
  obtain ⟨h, -⟩ := h
  refine ⟨((h c).1 8).trans ((dats m 0 c).arrAt_eq_of_cover 8 (outV m c) (fun t ht => flushed_eq m c (hf c) t ht) cover), ?_⟩
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

end Cert.KernelIdeal.Gen

end
-- ==== Proof.ValPre.lean ====
module

public import proofs.«01_k».proof.Proof.ValSpec
public import proofs.«01_k».proof.Pre_routable
public import proofs.«01_k».proof.Proof.Gen.KernelIdeal
public import Idealize.ShloMosaic.Lib.ReduceAll

/-! # What the precondition says

Every argument is real at every index, and every logit lies above the bias of the spare lanes. -/

@[expose] public section

set_option maxHeartbeats 4000000
set_option maxRecDepth 100000

noncomputable section

namespace Cert.Pre_routable

open Idealize.ShloMosaic Idealize.ShloMosaic.TcCoe Idealize.ShloMosaic.Tactic Cert.KernelIdeal.Gen

theorem stated : Facts where
  shapeCasts_S8x2048x1024_S16384x1024 := by decide
  reducesTo_S16384x1024_S16384_d1 := by decide
  h_S_ := by decide
  bcast_S16384_S16384x1_0 := by decide
  bcast_S_S16384x1 := by decide
  bcast_S16384x1_S16384x1024_0_1 := by decide
  bcast_S1024_S1x1024_1 := by decide
  bcast_S1x1024_S16384x1024_0_1 := by decide
  bcast_S8_S1x8_1 := by decide
  bcast_S1x8_S16384x8_0_1 := by decide
  bcast_S_S8x2048x1024 := by decide
  reducesTo_S8x2048x1024_S_d0_1_2 := by decide
  bcast_S_S1024 := by decide
  reducesTo_S1024_S_d0 := by decide
  bcast_S_S1024x8 := by decide
  reducesTo_S1024x8_S_d0_1 := by decide
  bcast_S_S8 := by decide
  reducesTo_S8_S_d0 := by decide
  bcast_S_S8x1024x3584 := by decide
  reducesTo_S8x1024x3584_S_d0_1_2 := by decide
  bcast_S_S8x3584x1024 := by decide
  reducesTo_S8x3584x1024_S_d0_1_2 := by decide
  bcast_S_S16384x8 := by decide
  reducesTo_S16384x8_S_d0_1 := by decide
  dot_S16384x1024_S1024x8_S16384x8_1_0_0_1_n_n_wf := by decide

theorem both (a b : BitVec 1) (h : IntOp.andi a b = 1#1) : a = 1#1 ∧ b = 1#1 := by
  have : ∀ a b : BitVec 1, IntOp.andi a b = 1#1 → a = 1#1 ∧ b = 1#1 := by decide
  exact this a b h

instance one_index : Subsingleton S_.Idx := ⟨fun a b => funext fun x => x.elim0⟩

theorem bit_true (b : Bool) (h : BitVec.ofBool b = 1#1) : b = true := by
  cases b
  · exact absurd h (by decide)
  · rfl

theorem real_of_bit (a : EReal) (h : FloatOps.cmpf (F := Ideal) (φ := .f32) .olt (FloatOps.hostAbsf (F := Ideal) (φ := .f32) a) (Ideal.ofBits .f32 0x7F800000#32) = 1#1) : IsR a := by
  rw [lit_top] at h
  have h' : max a (-a) < ⊤ := of_decide_eq_true (bit_true _ h)
  refine IsR.of_lt (bot_lt_iff_ne_bot.2 fun hb => ?_) (lt_of_le_of_lt (le_max_left _ _) h')
  rw [hb, EReal.neg_bot] at h'
  exact absurd (lt_of_le_of_lt (le_max_right _ _) h') (lt_irrefl _)

theorem all_real {s : Shape} {axes : List (Fin s.rank)} (a : Vec Ideal s .f32) (hb : S_.BroadcastsInDim s (![] : Fin 0 → Fin s.rank)) (hr : s.ReducesTo axes S_)
    (hS : 0 < S_.numel) (j : S_.Idx)
    (h : Host.reduce IntOp.andi (cmpf .olt (Host.absf a) (broadcastInDim s ![] hb (constant (F := Ideal) S_ .f32 0x7F800000#32))) (constantI S_ 1 1#1) hr hS j = 1#1)
    (i : s.Idx) : IsR (a i) := by
  have := Host.reduce_andi_all _ _ _ _ j h i
  exact real_of_bit (a i) this

section
variable [Facts]
variable (a0 : FVec Ideal S8x2048x1024 .f32) (a1 : FVec Ideal S1024 .f32) (a2 : FVec Ideal S1024x8 .f32) (a3 : FVec Ideal S8 .f32)
  (a4 a5 : FVec Ideal S8x1024x3584 .f32) (a6 : FVec Ideal S8x3584x1024 .f32)

/-- The rows of tokens. -/
def rows : Vec Ideal S16384x1024 .f32 := shapeCast S16384x1024 a0 Facts.shapeCasts_S8x2048x1024_S16384x1024

theorem decode (h : fn (F := Ideal) a0 a1 a2 a3 a4 a5 a6 = fun _ => 1#1) :
    (∀ i, IsR (a0 i)) ∧ (∀ i, IsR (a1 i)) ∧ (∀ i, IsR (a2 i)) ∧ (∀ i, IsR (a3 i)) ∧ (∀ i, IsR (a4 i)) ∧ (∀ i, IsR (a5 i)) ∧ (∀ i, IsR (a6 i))
    ∧ ∀ (T : Fin 16384) (k : Fin 8), Ideal.ofBits .f32 0xF149F2CA#32
      < lgRow (hRow (fun i => rows a0 (ix2 T i)) fun i => a1 (ix1 i)) (fun i k => a2 (ix2 i k)) (fun k => a3 (ix1 k)) k := by
  have j : S_.Idx := fun x => x.elim0
  have h := congrFun h j
  unfold fn fn_part1 fn_part2 fn_part3 at h
  obtain ⟨h, hl⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h0, h1⟩ := both _ _ h
  refine ⟨all_real a0 _ _ _ j h0, all_real a1 _ _ _ j h1, all_real a2 _ _ _ j h2, all_real a3 _ _ _ j h3, all_real a4 _ _ _ j h4, all_real a5 _ _ _ j h5, all_real a6 _ _ _ j h6, fun T k => ?_⟩
  have hl := Host.reduce_andi_all _ _ _ _ j hl (ix2 T k)
  dsimp only at hl
  pointwise at hl
  have hr : ∀ i : Fin 1024, rows a0 (ix2 T i) = a0 (ix3 ⟨T.val / 2048, by omega⟩ ⟨T.val % 2048, by omega⟩ i) := by
    intro i
    unfold rows
    pointwise
  unfold lgRow hRow
  simp only [hr]
  exact of_decide_eq_true (bit_true _ hl)
end

end Cert.Pre_routable

end
-- ==== Proof.ValRef.lean ====
module

public import proofs.«01_k».proof.Proof.Gen.ReferenceIdeal.Run
public import proofs.«01_k».proof.Proof.ValSpec
public import proofs.«01_k».proof.Proof.ValComb

/-! # The reference, one token at a time

The reference's terms read at an index: the normalised rows, the logits, the two largest of them, and the weights
their softmax puts on the experts. -/

@[expose] public section

set_option maxHeartbeats 4000000
set_option maxRecDepth 100000

noncomputable section

namespace Cert.ReferenceIdeal.Value

open Idealize.ShloMosaic Idealize.ShloMosaic.TcCoe Idealize.ShloMosaic.Tactic Cert.KernelIdeal.Gen

section
variable (V0 : Valuation τ sig (Elt Ideal)) (T : Fin 16384)

/-- The token's row. -/
def rX (i : Fin 1024) : EReal := (res_main_v0 V0 : Vec Ideal S16384x1024 .f32) (ix2 T i)
def rG (i : Fin 1024) : EReal := (V0 (Proc.devRef .tc main_arg1) : Vec Ideal S1024 .f32) (ix1 i)
def rR (i : Fin 1024) (k : Fin 8) : EReal := (V0 (Proc.devRef .tc main_arg2) : Vec Ideal S1024x8 .f32) (ix2 i k)
def rB (k : Fin 8) : EReal := (V0 (Proc.devRef .tc main_arg3) : Vec Ideal S8 .f32) (ix1 k)
def rH : Fin 1024 → EReal := hRow (rX V0 T) (rG V0)
def rL : Fin 8 → EReal := lgRow (rH V0 T) (rR V0) (rB V0)

theorem ref_h (c : Fin 1024) : (res_main_v13 V0 : Vec Ideal S16384x1024 .f32) (ix2 T c) = rH V0 T c := by
  unfold res_main_v13
  pointwise
  rfl

theorem ref_lg (k : Fin 8) : (res_main_v17 V0 : Vec Ideal S16384x8 .f32) (ix2 T k) = rL V0 T k := by
  unfold res_main_v17
  pointwise
  unfold rL lgRow
  refine congrArg₂ (· + ·) (Finset.sum_congr rfl fun i _ => ?_) rfl
  rw [← ref_h]
  rfl

end

/-- Position `j` of two among the eight. -/
def two (j : Fin 2) : Fin 8 := j.castLE (by decide)

theorem gt_bit (a b : EReal) : ((FloatOps.cmpfTotal (F := Ideal) (φ := .f32) .gt a b : BitVec 1) == 1#1) = decide (b < a) := by
  show ((BitVec.ofBool (decide (b < a))) == 1#1) = _
  cases decide (b < a) <;> rfl

section
variable (x : Vec Ideal S16384x8 .f32) (T : Fin 16384) (j : Fin 2)

theorem along_row (J : S16384x8.Idx) (hJ : (J 0).val = T.val) (k : Fin 8) : Shape.Idx.along J (⟨1, Nat.lt_succ_self 1⟩ : Fin S16384x8.rank) k = ix2 T k := by
  funext a
  match a with
  | ⟨0, _⟩ => exact Fin.ext hJ
  | ⟨1, _⟩ => rfl

theorem sorted_row (J : S16384x8.Idx) (hJ : (J 0).val = T.val) (p : Fin 8) (hp : p = two j) :
    sortedFrom (fun k k' => FloatOps.cmpfTotal (F := Ideal) (φ := .f32) .gt (x (Shape.Idx.along J (⟨1, Nat.lt_succ_self 1⟩ : Fin S16384x8.rank) k)) (x (Shape.Idx.along J (⟨1, Nat.lt_succ_self 1⟩ : Fin S16384x8.rank) k')) == 1#1) p
      = rankAt (fun k => x (ix2 T k)) (two j) := by
  subst hp
  unfold rankAt
  refine congrArg (fun g => sortedFrom g (two j)) ?_
  funext k k'
  rw [along_row T J hJ k, along_row T J hJ k']
  exact gt_bit _ _

theorem topk_value : ((Host.topK S16384x2 1 (FloatOps.cmpfTotal (F := Ideal) (φ := .f32) .gt) x Gen.sliceFits_S16384x8_S16384x2).1 : Vec Ideal S16384x2 .f32) (ix2 T j)
    = x (ix2 T (rankAt (fun k => x (ix2 T k)) (two j))) := by
  unfold Host.topK extractStridedSlice Host.sort2
  dsimp only
  rw [dif_pos (by decide)]
  dsimp only
  refine (congrArg x (along_row T _ ?_ _)).trans (congrArg (fun q => x (ix2 T q)) (sorted_row x T j _ ?_ _ (Fin.ext ?_)))
  · exact Nat.zero_add _
  · exact Nat.zero_add _
  · exact Nat.zero_add _

theorem topk_index : (Host.topK S16384x2 1 (FloatOps.cmpfTotal (F := Ideal) (φ := .f32) .gt) x Gen.sliceFits_S16384x8_S16384x2).2 (ix2 T j)
    = BitVec.ofNat 32 (rankAt (fun k => x (ix2 T k)) (two j)).val := by
  unfold Host.topK extractStridedSlice Host.sort2
  dsimp only
  rw [dif_pos (by decide)]
  dsimp only
  rw [dif_pos (by decide)]
  refine (congrArg (iotaInDim S16384x8 32 (⟨1, Nat.lt_succ_self 1⟩ : Fin S16384x8.rank)) (along_row T _ ?_ _)).trans
    (congrArg (fun q : Fin 8 => BitVec.ofNat 32 q.val) (sorted_row x T j _ ?_ _ (Fin.ext ?_)))
  · exact Nat.zero_add _
  · exact Nat.zero_add _
  · exact Nat.zero_add _
end

section
variable (V0 : Valuation τ sig (Elt Ideal)) (T : Fin 16384) (j : Fin 2)

theorem lg_row : (fun k : Fin 8 => (res_main_v17 V0 : Vec Ideal S16384x8 .f32) (ix2 T k)) = rL V0 T := funext fun k => ref_lg V0 T k

theorem ref_value : (res_main_values V0 : Vec Ideal S16384x2 .f32) (ix2 T j) = rL V0 T (rankAt (rL V0 T) (two j)) := by
  unfold res_main_values
  refine (topk_value (res_main_v17 V0) T j).trans ?_
  rw [lg_row]
  exact ref_lg V0 T _

theorem ref_index : (Host.topK S16384x2 1 (FloatOps.cmpfTotal (F := Ideal) (φ := .f32) .gt) (res_main_v17 V0) Gen.sliceFits_S16384x8_S16384x2).2 (ix2 T j)
    = BitVec.ofNat 32 (rankAt (rL V0 T) (two j)).val := by
  refine (topk_index (res_main_v17 V0) T j).trans ?_
  rw [lg_row]

theorem max_two (W : S16384x2.Idx → EReal) (w : Fin 2 → EReal) (hW : ∀ k, W (ix2 T k) = w k) (hw : ∀ k, w k ≤ w 0) (z : S_.Idx → EReal) (hz : ∀ i, z i = ⊥) :
    Host.reduce (α := EReal) max W z Gen.reducesTo_S16384x2_S16384_d1 Gen.h_S_ (ix1 T) = w 0 := by
  have hr : S16384x2.Reduces [1] S16384 := by decide
  refine (Host.reduce_eq_fold_single (α := EReal) (a := 1) max W z Gen.reducesTo_S16384x2_S16384_d1 hr Gen.h_S_ (ix1 T)).trans ?_
  have hl : ∀ k : Fin 2, hr.lift (ix1 T) k = ix2 T k := by
    intro k
    funext a
    match a with
    | ⟨0, _⟩ => rfl
    | ⟨1, _⟩ => rfl
  have hf : (W ∘ hr.lift (ix1 T)) = w := by
    funext k
    exact (congrArg W (hl k)).trans (hW k)
  rw [hz, hf]
  exact fold_max_at (n := 2) w 0 hw

theorem ref_max : (Host.reduce (FloatOps.maximumf (F := Ideal) (φ := .f32)) (res_main_values V0) (constant (F := Ideal) S_ .f32 0xFF800000#32) Gen.reducesTo_S16384x2_S16384_d1 Gen.h_S_ : Vec Ideal S16384 .f32) (ix1 T)
    = rL V0 T (rankAt (rL V0 T) 0) :=
  max_two T (res_main_values V0) (fun k => rL V0 T (rankAt (rL V0 T) (two k))) (fun k => ref_value V0 T k) (fun k => max_first _ _)
    (constant (F := Ideal) S_ .f32 0xFF800000#32) (fun _ => lit_bot)

theorem ref_exp : (res_main_v24 V0 : Vec Ideal S16384x2 .f32) (ix2 T j) = Ideal.exp (rL V0 T (rankAt (rL V0 T) (two j)) - rL V0 T (rankAt (rL V0 T) 0)) := by
  have hm := ref_max V0 T
  unfold res_main_v24
  generalize Host.reduce (FloatOps.maximumf (F := Ideal) (φ := .f32)) (res_main_values V0) (constant (F := Ideal) S_ .f32 0xFF800000#32) Gen.reducesTo_S16384x2_S16384_d1 Gen.h_S_ = M at hm ⊢
  pointwise
  rw [lit_bot, max_eq_right bot_le]
  refine congrArg Ideal.exp ?_
  exact congrArg₂ (· - ·) (ref_value V0 T j) hm

theorem bit_val (a e : ℕ) (ha : a < 8) (he : e < 8) :
    FloatOps.uitofp (F := Ideal) .f32 (IntOp.cmpi .eq (BitVec.ofNat 32 a) (BitVec.ofNat 32 e)) = if e = a then (1 : EReal) else 0 := by
  have h : IntOp.cmpi .eq (BitVec.ofNat 32 a) (BitVec.ofNat 32 e) = BitVec.ofBool (decide (e = a)) := by
    interval_cases a <;> interval_cases e <;> rfl
  rw [h]
  by_cases hh : e = a
  · rw [decide_eq_true hh, if_pos hh]
    show ((BitVec.toNat (BitVec.ofBool true) : ℝ) : EReal) = 1
    simp
  · rw [decide_eq_false hh, if_neg hh]
    show ((BitVec.toNat (BitVec.ofBool false) : ℝ) : EReal) = 0
    simp

/-- The weight the reference gives expert `e`. -/
theorem ref_weight (hL : ∀ k, IsR (rL V0 T k)) (e : Fin 8) : (res_main_v33 V0 : Vec Ideal S16384x8 .f32) (ix2 T e) = weight (rL V0 T) e.val := by
  have h0 : (res_main_v24 V0 : Vec Ideal S16384x2 .f32) (ix2 T 0) = (1 : EReal) := by
    rw [ref_exp]
    show Ideal.exp (rL V0 T (rankAt (rL V0 T) 0) - rL V0 T (rankAt (rL V0 T) 0)) = 1
    rw [(hL _).sub_self]
    exact congrArg Real.toEReal Real.exp_zero
  have h1 : (res_main_v24 V0 : Vec Ideal S16384x2 .f32) (ix2 T 1) = ratio (rL V0 T) := ref_exp V0 T 1
  have i0 := ref_index V0 T 0
  have i1 := ref_index V0 T 1
  have b0 := bit_val (rankAt (rL V0 T) (two 0)).val e.val (rankAt (rL V0 T) (two 0)).isLt e.isLt
  have b1 := bit_val (rankAt (rL V0 T) (two 1)).val e.val (rankAt (rL V0 T) (two 1)).isLt e.isLt
  unfold res_main_v33
  generalize (Host.topK S16384x2 1 (FloatOps.cmpfTotal (F := Ideal) (φ := .f32) .gt) (res_main_v17 V0) Gen.sliceFits_S16384x8_S16384x2).2 = I at i0 i1 ⊢
  generalize (res_main_v24 V0 : Vec Ideal S16384x2 .f32) = E at h0 h1 ⊢
  pointwise
  rw [Fin.sum_univ_two, Fin.sum_univ_two, i0, i1, b0, b1, h0, h1]
  obtain ⟨r, hr, he⟩ := ratio_real (rL V0 T) hL
  have hd : Ideal.div (r : EReal) (1 + (r : EReal)) = (r : EReal) * Ideal.div 1 (1 + (r : EReal)) := by
    have h2 : (1 : EReal) + (r : EReal) = ((1 + r : ℝ) : EReal) := by rw [EReal.coe_add, EReal.coe_one]
    have h3 := div_real 1 (1 + r) (by positivity)
    rw [EReal.coe_one] at h3
    rw [h2, h3, div_real r (1 + r) (by positivity), ← EReal.coe_mul, one_mul]
  unfold weight
  rw [he, hd]
  refine congrArg₂ (· + ·) ?_ ?_
  · show (if e.val = (rankAt (rL V0 T) 0).val then (1 : EReal) else 0) * _ = _
    split
    · rw [one_mul]
    · rw [zero_mul]
  · show (if e.val = (rankAt (rL V0 T) 1).val then (1 : EReal) else 0) * _ = _
    split
    · rw [one_mul]
    · rw [zero_mul]
end

end Cert.ReferenceIdeal.Value

end
-- ==== Proof.ValRefOut.lean ====
module

public import proofs.«01_k».proof.Proof.ValRef

/-! # The reference's result, one token at a time -/

@[expose] public section

set_option maxHeartbeats 4000000
set_option maxRecDepth 100000

noncomputable section

namespace Cert.ReferenceIdeal.Value

open Idealize.ShloMosaic Idealize.ShloMosaic.TcCoe Idealize.ShloMosaic.Tactic Idealize.SL.Sem Cert.KernelIdeal.Gen
open StableHlo (launchContents)

theorem sum_eq {n : ℕ} (f g : Fin n → EReal) (h : ∀ i, f i = g i) : (∑ i, f i) = ∑ i, g i := Finset.sum_congr rfl fun i _ => h i

section
variable (V0 : Valuation τ sig (Elt Ideal)) (T : Fin 16384)

def rWg (e : Fin 8) (i : Fin 1024) (q : Fin 3584) : EReal := (V0 (Proc.devRef .tc main_arg4) : Vec Ideal S8x1024x3584 .f32) (ix3 e i q)
def rWu (e : Fin 8) (i : Fin 1024) (q : Fin 3584) : EReal := (V0 (Proc.devRef .tc main_arg5) : Vec Ideal S8x1024x3584 .f32) (ix3 e i q)
def rWd (e : Fin 8) (q : Fin 3584) (c : Fin 1024) : EReal := (V0 (Proc.devRef .tc main_arg6) : Vec Ideal S8x3584x1024 .f32) (ix3 e q c)
/-- Expert `e`'s share of the token's result. -/
def rE (e : Fin 8) (c : Fin 1024) : EReal := weight (rL V0 T) e.val * expRow (rH V0 T) (rWg V0 e) (rWu V0 e) (rWd V0 e) c
/-- The token's result. -/
def rOut (c : Fin 1024) : EReal := rX V0 T c + (((((((rE V0 T 0 c + rE V0 T 1 c) + rE V0 T 2 c) + rE V0 T 3 c) + rE V0 T 4 c) + rE V0 T 5 c) + rE V0 T 6 c) + rE V0 T 7 c)

theorem pre_0 (q : Fin 3584) : (res_main_v42 V0 : Vec Ideal S16384x3584 .f32) (ix2 T q) = ∑ i, rH V0 T i * rWg V0 0 i q := by
  unfold res_main_v42
  pointwise
  exact sum_eq _ _ fun i => congrArg₂ (· * ·) (ref_h V0 T i) rfl
theorem pre_1 (q : Fin 3584) : (res_main_v57 V0 : Vec Ideal S16384x3584 .f32) (ix2 T q) = ∑ i, rH V0 T i * rWg V0 1 i q := by
  unfold res_main_v57
  pointwise
  exact sum_eq _ _ fun i => congrArg₂ (· * ·) (ref_h V0 T i) rfl
theorem pre_2 (q : Fin 3584) : (res_main_v72 V0 : Vec Ideal S16384x3584 .f32) (ix2 T q) = ∑ i, rH V0 T i * rWg V0 2 i q := by
  unfold res_main_v72
  pointwise
  exact sum_eq _ _ fun i => congrArg₂ (· * ·) (ref_h V0 T i) rfl
theorem pre_3 (q : Fin 3584) : (res_main_v87 V0 : Vec Ideal S16384x3584 .f32) (ix2 T q) = ∑ i, rH V0 T i * rWg V0 3 i q := by
  unfold res_main_v87
  pointwise
  exact sum_eq _ _ fun i => congrArg₂ (· * ·) (ref_h V0 T i) rfl
theorem pre_4 (q : Fin 3584) : (res_main_v102 V0 : Vec Ideal S16384x3584 .f32) (ix2 T q) = ∑ i, rH V0 T i * rWg V0 4 i q := by
  unfold res_main_v102
  pointwise
  exact sum_eq _ _ fun i => congrArg₂ (· * ·) (ref_h V0 T i) rfl
theorem pre_5 (q : Fin 3584) : (res_main_v117 V0 : Vec Ideal S16384x3584 .f32) (ix2 T q) = ∑ i, rH V0 T i * rWg V0 5 i q := by
  unfold res_main_v117
  pointwise
  exact sum_eq _ _ fun i => congrArg₂ (· * ·) (ref_h V0 T i) rfl
theorem pre_6 (q : Fin 3584) : (res_main_v132 V0 : Vec Ideal S16384x3584 .f32) (ix2 T q) = ∑ i, rH V0 T i * rWg V0 6 i q := by
  unfold res_main_v132
  pointwise
  exact sum_eq _ _ fun i => congrArg₂ (· * ·) (ref_h V0 T i) rfl
theorem pre_7 (q : Fin 3584) : (res_main_v147 V0 : Vec Ideal S16384x3584 .f32) (ix2 T q) = ∑ i, rH V0 T i * rWg V0 7 i q := by
  unfold res_main_v147
  pointwise
  exact sum_eq _ _ fun i => congrArg₂ (· * ·) (ref_h V0 T i) rfl

/-- One expert's term, once its two inner products and its weight are read. -/
theorem share_eq (e : Fin 8) (c : Fin 1024) (w : EReal) (z : Fin 3584 → EReal) (h : Fin 1024 → EReal)
    (hw : w = weight (rL V0 T) e.val) (hz : ∀ q, z q = ∑ i, rH V0 T i * rWg V0 e i q) (hh : ∀ i, h i = rH V0 T i) :
    w * (∑ q, z q * Ideal.div 1 (1 + Ideal.exp (-z q)) * (∑ i, h i * rWu V0 e i q) * rWd V0 e q c) = rE V0 T e c := by
  subst hw
  rw [funext hh]
  unfold rE expRow
  refine congrArg (weight (rL V0 T) e.val * ·) (Finset.sum_congr rfl fun q _ => ?_)
  rw [hz q]
  rfl

theorem ref_five (hL : ∀ k, IsR (rL V0 T k)) (c : Fin 1024) : (res_main_v109 V0 : Vec Ideal S16384x1024 .f32) (ix2 T c)
    = (((rE V0 T 0 c + rE V0 T 1 c) + rE V0 T 2 c) + rE V0 T 3 c) + rE V0 T 4 c := by
  have hw := ref_weight V0 T hL
  unfold res_main_v109
  pointwise
  refine congrArg₂ (· + ·) (congrArg₂ (· + ·) (congrArg₂ (· + ·) (congrArg₂ (· + ·) ?_ ?_) ?_) ?_) ?_
  · exact share_eq V0 T 0 c _ _ _ (hw 0) (pre_0 V0 T) (ref_h V0 T)
  · exact share_eq V0 T 1 c _ _ _ (hw 1) (pre_1 V0 T) (ref_h V0 T)
  · exact share_eq V0 T 2 c _ _ _ (hw 2) (pre_2 V0 T) (ref_h V0 T)
  · exact share_eq V0 T 3 c _ _ _ (hw 3) (pre_3 V0 T) (ref_h V0 T)
  · exact share_eq V0 T 4 c _ _ _ (hw 4) (pre_4 V0 T) (ref_h V0 T)
end

/-- The reference ends with the layer's result at every token, when the logits are real. -/
theorem run_out (m : (ℓ : Loc nD τ sig) → Buf (Elt Ideal) ℓ) (ρ : Dev nD → PrngReg) (hL : ∀ c T k, IsR (rL (launchContents m c) T k)) :
    θ_run defs (onTc (τ := τ) (main (F := Ideal))) ⟨m, fun _ => 0, ρ⟩ fun r => ∀ c : Dev nD,
      r.2.mem ((c.tc : Thread nD τ).loc main_v155) = (fun i => rOut (launchContents m c) (i 0) (i 1) : Vec Ideal S16384x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (run (F := Ideal) m ρ)
  have hL' := hL c
  generalize launchContents m c = V0 at hL' ⊢
  funext i
  obtain ⟨T, col, rfl⟩ : ∃ (T : Fin 16384) (col : Fin 1024), i = ix2 T col := ⟨i 0, i 1, ValueIdx.eq_ix2 i⟩
  have hw := ref_weight V0 T (hL' T)
  have h5 := ref_five V0 T (hL' T) col
  generalize (res_main_v109 V0 : Vec Ideal S16384x1024 .f32) = A at h5 ⊢
  pointwise
  refine congrArg₂ (· + ·) rfl (congrArg₂ (· + ·) (congrArg₂ (· + ·) (congrArg₂ (· + ·) h5 ?_) ?_) ?_)
  · exact share_eq V0 T 5 col _ _ _ (hw 5) (pre_5 V0 T) (ref_h V0 T)
  · exact share_eq V0 T 6 col _ _ _ (hw 6) (pre_6 V0 T) (ref_h V0 T)
  · exact share_eq V0 T 7 col _ _ _ (hw 7) (pre_7 V0 T) (ref_h V0 T)

end Cert.ReferenceIdeal.Value

end
-- ==== Proof.ValMain.lean ====
module

public import proofs.«01_k».proof.Defs
public import proofs.«01_k».proof.Proof.ValOut
public import proofs.«01_k».proof.Proof.ValPre
public import proofs.«01_k».proof.Proof.ValRefOut

/-! # The two results agree

The reference's result at a token is the token plus the experts' shares, the same sum the kernel's blocks hold. -/

@[expose] public section

set_option maxHeartbeats 4000000
set_option maxRecDepth 100000

noncomputable section

namespace Cert.ReferenceIdeal.Value

open Idealize.ShloMosaic Idealize.ShloMosaic.TcCoe Idealize.ShloMosaic.Tactic Idealize.SL.Sem Cert.KernelIdeal.Gen
open StableHlo (launchContents)

section
variable (V0 : Valuation τ sig (Elt Ideal)) (T : Fin 16384)
variable (X : Vec Ideal S16384x1024 .f32) (G : Vec Ideal S1024 .f32) (R : Vec Ideal S1024x8 .f32) (B : Vec Ideal S8 .f32)
  (Wg Wu : Vec Ideal S8x1024x3584 .f32) (Wd : Vec Ideal S8x3584x1024 .f32)

/-- The arrays the reference reads are these. -/
structure Reads : Prop where
  x : ∀ T, rX V0 T = fun i => X (ix2 T i)
  g : rG V0 = fun i => G (ix1 i)
  r : rR V0 = fun i k => R (ix2 i k)
  b : rB V0 = fun k => B (ix1 k)
  wg : rWg V0 = fun e i q => Wg (ix3 e i q)
  wu : rWu V0 = fun e i q => Wu (ix3 e i q)
  wd : rWd V0 = fun e q c => Wd (ix3 e q c)

variable (h : Reads V0 X G R B Wg Wu Wd)
include h

theorem rL_eq : rL V0 T = kL X G R B T := by
  unfold rL rH kL kH
  rw [h.x, h.g, h.r, h.b]

theorem rE_eq (e : Fin 8) (c : Fin 1024) : rE V0 T e c = kE X G R B Wg Wu Wd T e c := by
  unfold rE kE
  rw [rL_eq V0 T X G R B Wg Wu Wd h]
  unfold rH kH
  rw [h.x, h.g, h.wg, h.wu, h.wd]

theorem rOut_eq (c : Fin 1024) : rOut V0 T c = X (ix2 T c) + sumTo (fun e => kE X G R B Wg Wu Wd T (Fin.ofNat 8 e) c) 8 := by
  unfold rOut
  simp only [rE_eq V0 T X G R B Wg Wu Wd h, h.x, sumTo, zero_add]
  rfl
end

end Cert.ReferenceIdeal.Value

namespace Cert.Proof

open Idealize.ShloMosaic Idealize.ShloMosaic.TcCoe Idealize.SL.Sem Cert.KernelIdeal Cert.KernelIdeal.Gen
open StableHlo (launchContents)

attribute [local instance] Cert.Pre_routable.stated

/-- The precondition, read: every argument real, every logit above the bias of the spare lanes. -/
theorem fine (m : (ℓ : Loc nD τ sig) → Buf (Elt Ideal) ℓ) (h : Cert.Pre_KernelIdeal_routable m) (c : Dev nD) : Fine m c := by
  obtain ⟨h0, h1, h2, h3, h4, h5, h6, hl⟩ := Cert.Pre_routable.decode _ _ _ _ _ _ _ (h c)
  exact ⟨fun i => h0 _, h1, h2, h3, h4, h5, h6, hl⟩

theorem algebraic : Cert.algebraic_KernelIdeal_ReferenceIdeal_pre_routable := by
  intro m g m' g' hp ha
  have hf := fine m hp
  have hr : ∀ c, Cert.ReferenceIdeal.Value.Reads (launchContents m' c) (tokens m c) (aG m c) (aR m c) (aB m c) (aWg m c) (aWu m c) (aWd m c) := by
    intro c
    obtain ⟨a0, a1, a2, a3, a4, a5, a6⟩ := ha c
    refine ⟨fun T => ?_, ?_, ?_, ?_, ?_, ?_, ?_⟩
    · unfold tokens; rw [← a0]; rfl
    · unfold aG; rw [← a1]; rfl
    · unfold aR; rw [← a2]; rfl
    · unfold aB; rw [← a3]; rfl
    · unfold aWg; rw [← a4]; rfl
    · unfold aWu; rw [← a5]; rfl
    · unfold aWd; rw [← a6]; rfl
  have hL : ∀ c T k, IsR (Cert.ReferenceIdeal.Value.rL (launchContents m' c) T k) := fun c T k => by
    rw [Cert.ReferenceIdeal.Value.rL_eq _ _ _ _ _ _ _ _ _ (hr c)]
    exact kL_real _ _ _ _ (hf c).x (hf c).g (hf c).r (hf c).b T k
  refine ⟨fun c => outV m c, run_out m g hf, ?_⟩
  refine (θ_run Cert.ReferenceIdeal.defs _ _).mono (fun r h c => ⟨(h c).1.trans ?_, (h c).2⟩) (Cert.ReferenceIdeal.Value.run_out m' g' hL)
  funext i
  exact Cert.ReferenceIdeal.Value.rOut_eq _ _ _ _ _ _ _ _ _ (hr c) _

end Cert.Proof

end
-- ==== Proof.FfnRead.lean ====
module

public import proofs.«01_k».proof.Proof.ValSpec
public import proofs.«01_k».proof.Proof.Gen.Kernel2Ideal.Value
public import Idealize.ShloMosaic.Lib.Pipeline.ValueKit.Acc

/-! # The shared feed-forward layer's blocks at a point

Point `t` holds 512 tokens, block `t / 2`, and half of the hidden columns, half `t % 2`. -/

@[expose] public section

set_option maxHeartbeats 4000000
set_option maxRecDepth 100000

noncomputable section

namespace Cert.Kernel2Ideal.Gen

open Idealize.ShloMosaic Idealize.ShloMosaic.TcCoe Idealize.ShloMosaic.Tactic

theorem win0_at : ∀ t : Fin grid0.N, win0_0.index t 0 = t.val / 2 ∧ win0_0.index t 1 = 0 := by decide +kernel
theorem win1_at : ∀ t : Fin grid0.N, win0_1.index t 0 = 0 ∧ win0_1.index t 1 = 0 := by decide +kernel
theorem win2_at : ∀ t : Fin grid0.N, win0_2.index t 0 = 0 ∧ win0_2.index t 1 = t.val % 2 := by decide +kernel
theorem win3_at : ∀ t : Fin grid0.N, win0_3.index t 0 = 0 ∧ win0_3.index t 1 = t.val % 2 := by decide +kernel
theorem win4_at : ∀ t : Fin grid0.N, win0_4.index t 0 = t.val % 2 ∧ win0_4.index t 1 = 0 := by decide +kernel
theorem win5_at : ∀ t : Fin grid0.N, win0_5.index t 0 = t.val / 2 ∧ win0_5.index t 1 = 0 := by decide +kernel
theorem size5 : ∀ t : Fin grid0.N, win0_5.xsize (grid0.coords t) 0 = 512 ∧ win0_5.xsize (grid0.coords t) 1 = 1024 := by decide +kernel

variable (m : (ℓ : Loc nD τ sig) → Buf (Elt Ideal) ℓ) (c : Dev nD)

/-- The tokens' array, the argument with its first two axes as one; the scale; the weights. -/
def aX : Vec Ideal S16384x1024 .f32 := shapeCast S16384x1024 (m ((c : Thread nD τ).loc main_arg0) : Vec Ideal S8x2048x1024 .f32) shapeCasts_S8x2048x1024_S16384x1024
def aG : Vec Ideal S1024 .f32 := m ((c : Thread nD τ).loc main_arg1)
def aWg : Vec Ideal S1024x2816 .f32 := m ((c : Thread nD τ).loc main_arg2)
def aWu : Vec Ideal S1024x2816 .f32 := m ((c : Thread nD τ).loc main_arg3)
def aWd : Vec Ideal S2816x1024 .f32 := m ((c : Thread nD τ).loc main_arg4)

theorem prep_v0 : (V m c main_v0 : Vec Ideal S16384x1024 .f32) = aX m c := by
  simp only [V, hostOps0, List.flatten_cons, List.flatten_nil, List.append_nil, List.cons_append, List.nil_append]
  after_results_simp
  try rfl
theorem prep_v1 : (V m c main_v1 : Vec Ideal S1x1024 .f32) = shapeCast S1x1024 (aG m c) shapeCasts_S1024_S1x1024 := by
  simp only [V, hostOps0, List.flatten_cons, List.flatten_nil, List.append_nil, List.cons_append, List.nil_append]
  after_results_simp
  try rfl
theorem prep_v2 : (V m c main_v2 : Vec Ideal S1024x2816 .bf16) = (truncf .bf16 (aWg m c : FVec Ideal S1024x2816 .f32) bitsLt_bf16_f32 : FVec Ideal S1024x2816 .bf16) := by
  simp only [V, hostOps0, List.flatten_cons, List.flatten_nil, List.append_nil, List.cons_append, List.nil_append]
  after_results_simp
  try rfl
theorem prep_v3 : (V m c main_v3 : Vec Ideal S1024x2816 .bf16) = (truncf .bf16 (aWu m c : FVec Ideal S1024x2816 .f32) bitsLt_bf16_f32 : FVec Ideal S1024x2816 .bf16) := by
  simp only [V, hostOps0, List.flatten_cons, List.flatten_nil, List.append_nil, List.cons_append, List.nil_append]
  after_results_simp
  try rfl
theorem prep_v4 : (V m c main_v4 : Vec Ideal S2816x1024 .bf16) = (truncf .bf16 (aWd m c : FVec Ideal S2816x1024 .f32) bitsLt_bf16_f32 : FVec Ideal S2816x1024 .bf16) := by
  simp only [V, hostOps0, List.flatten_cons, List.flatten_nil, List.append_nil, List.cons_append, List.nil_append]
  after_results_simp
  try rfl

theorem row_cast (g : Vec Ideal S1024 .f32) (j : Fin 1024) : (shapeCast S1x1024 g shapeCasts_S1024_S1x1024) (ix2 0 j) = g (ix1 j) := by
  pointwise

/-- Row `r` of block `b`. -/
def tok (b : ℕ) (r : Fin 512) : Fin 16384 := Fin.ofNat 16384 (512 * b + r.val)
/-- Column `q` of half `j` of the hidden columns. -/
def hid (j : ℕ) (q : Fin 1408) : Fin 2816 := Fin.ofNat 2816 (1408 * j + q.val)

theorem read_x (t : Fin grid0.N) (r : Fin 512) (i : Fin 1024) : (iblk m c 0 t : Vec Ideal S512x1024 .f32) (ix2 r i) = aX m c (ix2 (tok (t.val / 2) r) i) := by
  have ht : t.val < 64 := t.isLt
  unfold iblk
  rw [View.read_apply, ← prep_v0 m c]
  show V m c main_v0 _ = V m c main_v0 _
  congr 1
  funext a
  apply Fin.ext
  match a with
  | ⟨0, _⟩ =>
    show win0_0.index t 0 * 512 + 1 * r.val = (512 * (t.val / 2) + r.val) % 16384
    rw [(win0_at t).1]; omega
  | ⟨1, _⟩ =>
    show win0_0.index t 1 * 1024 + 1 * i.val = i.val
    rw [(win0_at t).2]; omega

theorem read_g (t : Fin grid0.N) (i : Fin 1024) : (iblk m c 1 t : Vec Ideal S1x1024 .f32) (ix2 0 i) = aG m c (ix1 i) := by
  rw [← row_cast (aG m c), ← prep_v1 m c]
  unfold iblk
  rw [View.read_apply]
  show V m c main_v1 _ = V m c main_v1 _
  congr 1
  funext a
  apply Fin.ext
  match a with
  | ⟨0, _⟩ => show win0_1.index t 0 * 1 + 1 * 0 = 0; rw [(win1_at t).1]
  | ⟨1, _⟩ => show win0_1.index t 1 * 1024 + 1 * i.val = i.val; rw [(win1_at t).2]; omega

theorem read_wg (t : Fin grid0.N) (i : Fin 1024) (q : Fin 1408) : (iblk m c 2 t : Vec Ideal S1024x1408 .bf16) (ix2 i q) = aWg m c (ix2 i (hid (t.val % 2) q)) := by
  have h : (iblk m c 2 t : Vec Ideal S1024x1408 .bf16) (ix2 i q) = (V m c main_v2 : Vec Ideal S1024x2816 .bf16) (ix2 i (hid (t.val % 2) q)) := by
    unfold iblk
    rw [View.read_apply]
    show V m c main_v2 _ = V m c main_v2 _
    congr 1
    funext a
    apply Fin.ext
    match a with
    | ⟨0, _⟩ => show win0_2.index t 0 * 1024 + 1 * i.val = i.val; rw [(win2_at t).1]; omega
    | ⟨1, _⟩ => show win0_2.index t 1 * 1408 + 1 * q.val = (1408 * (t.val % 2) + q.val) % 2816; rw [(win2_at t).2]; omega
  rw [h, prep_v2]
  rfl

theorem read_wu (t : Fin grid0.N) (i : Fin 1024) (q : Fin 1408) : (iblk m c 3 t : Vec Ideal S1024x1408 .bf16) (ix2 i q) = aWu m c (ix2 i (hid (t.val % 2) q)) := by
  have h : (iblk m c 3 t : Vec Ideal S1024x1408 .bf16) (ix2 i q) = (V m c main_v3 : Vec Ideal S1024x2816 .bf16) (ix2 i (hid (t.val % 2) q)) := by
    unfold iblk
    rw [View.read_apply]
    show V m c main_v3 _ = V m c main_v3 _
    congr 1
    funext a
    apply Fin.ext
    match a with
    | ⟨0, _⟩ => show win0_3.index t 0 * 1024 + 1 * i.val = i.val; rw [(win3_at t).1]; omega
    | ⟨1, _⟩ => show win0_3.index t 1 * 1408 + 1 * q.val = (1408 * (t.val % 2) + q.val) % 2816; rw [(win3_at t).2]; omega
  rw [h, prep_v3]
  rfl

theorem read_wd (t : Fin grid0.N) (q : Fin 1408) (j : Fin 1024) : (iblk m c 4 t : Vec Ideal S1408x1024 .bf16) (ix2 q j) = aWd m c (ix2 (hid (t.val % 2) q) j) := by
  have h : (iblk m c 4 t : Vec Ideal S1408x1024 .bf16) (ix2 q j) = (V m c main_v4 : Vec Ideal S2816x1024 .bf16) (ix2 (hid (t.val % 2) q) j) := by
    unfold iblk
    rw [View.read_apply]
    show V m c main_v4 _ = V m c main_v4 _
    congr 1
    funext a
    apply Fin.ext
    match a with
    | ⟨0, _⟩ => show win0_4.index t 0 * 1408 + 1 * q.val = (1408 * (t.val % 2) + q.val) % 2816; rw [(win4_at t).1]; omega
    | ⟨1, _⟩ => show win0_4.index t 1 * 1024 + 1 * j.val = j.val; rw [(win4_at t).2]; omega
  rw [h, prep_v4]
  rfl

end Cert.Kernel2Ideal.Gen

end
-- ==== Proof.FfnOut.lean ====
module

public import proofs.«01_k».proof.Proof.FfnRead

/-! # The shared feed-forward layer's result

The normalised rows are kept from a block's first point to its second; the second adds its half of the hidden columns
and writes the tokens plus the sum. -/

@[expose] public section

set_option maxHeartbeats 4000000
set_option maxRecDepth 100000

noncomputable section

namespace Cert.Kernel2Ideal.Gen

open Idealize.ShloMosaic Idealize.ShloMosaic.TcCoe Idealize.ShloMosaic.Tactic Idealize.SL.Sem Cert.KernelIdeal.Gen

section
variable (x : Vec Ideal S512x1024 .f32) (g : Vec Ideal S1x1024 .f32) (h : Vec Ideal S512x1024 .bf16) (wg wu : Vec Ideal S1024x1408 .bf16)
  (wd : Vec Ideal S1408x1024 .bf16) (s : Vec Ideal S512x1024 .f32) (r : Fin 512) (c : Fin 1024)

theorem norm_at : k0_pay1 (F := Ideal) x g (ix2 r c) = hRow (fun i => x (ix2 r i)) (fun i => g (ix2 0 i)) c := by
  unfold k0_pay1
  pointwise
  rfl

theorem zero_at : k0_pay2 (F := Ideal) (ix2 r c) = (0 : EReal) := by
  unfold k0_pay2
  pointwise

theorem half_at : k0_pay3 (F := Ideal) h wg wu s wd (ix2 r c)
    = (s (ix2 r c) : EReal) + ∑ q : Fin 1408, gate (∑ i, h (ix2 r i) * wg (ix2 i q)) (∑ i, h (ix2 r i) * wu (ix2 i q)) * wd (ix2 q c) := by
  unfold k0_pay3
  pointwise
  rfl

theorem last_at : k0_pay4 (F := Ideal) x s (ix2 r c) = x (ix2 r c) + s (ix2 r c) := by
  unfold k0_pay4
  pointwise

end

/-- One hidden column's share of a token's result. -/
def hidRow (x g : Fin 1024 → EReal) (wg wu : Fin 1024 → Fin 2816 → EReal) (wd : Fin 2816 → Fin 1024 → EReal) (c : Fin 1024) (q : Fin 2816) : EReal :=
  gate (∑ i, hRow x g i * wg i q) (∑ i, hRow x g i * wu i q) * wd q c

/-- Token `T`'s row of the result. -/
def ffnRow (X : Vec Ideal S16384x1024 .f32) (G : Vec Ideal S1024 .f32) (Wg Wu : Vec Ideal S1024x2816 .f32) (Wd : Vec Ideal S2816x1024 .f32) (T : Fin 16384) (c : Fin 1024) : EReal :=
  X (ix2 T c) + ∑ q, hidRow (fun i => X (ix2 T i)) (fun i => G (ix1 i)) (fun i j => Wg (ix2 i j)) (fun i j => Wu (ix2 i j)) (fun i j => Wd (ix2 i j)) c q

theorem two_halves (f : Fin 2816 → EReal) : (∑ q, f q) = (∑ q, f (hid 0 q)) + ∑ q, f (hid 1 q) := by
  have h := Fin.sum_univ_add (a := 1408) (b := 1408) f
  refine h.trans (congrArg₂ (· + ·) (Finset.sum_congr rfl fun q _ => congrArg f (Fin.ext ?_)) (Finset.sum_congr rfl fun q _ => congrArg f (Fin.ext ?_)))
  · show q.val = (1408 * 0 + q.val) % 2816
    omega
  · show 1408 + q.val = (1408 * 1 + q.val) % 2816
    omega

section
variable (m : (ℓ : Loc nD τ sig) → Buf (Elt Ideal) ℓ) (c : Dev nD)

/-- The result. -/
def outV : Vec Ideal S16384x1024 .f32 := fun i => ffnRow (aX m c) (aG m c) (aWg m c) (aWu m c) (aWd m c) (i 0) (i 1)

theorem first_norm (t : Fin cfg0.N) (h0 : t.val % 2 = 0) (h1 : ¬t.val % 2 = 1) :
    (outsAt0 m c t.val t.isLt).2.1 = k0_pay1 (F := Ideal) (iblk m c 0 t) (iblk m c 1 t) := by
  rw [outsAt0_A m c t h0 h1]
  frame_out

theorem first_sum (t : Fin cfg0.N) (h0 : t.val % 2 = 0) (h1 : ¬t.val % 2 = 1) :
    (outsAt0 m c t.val t.isLt).2.2 = k0_pay3 (F := Ideal) (k0_pay1 (F := Ideal) (iblk m c 0 t) (iblk m c 1 t)) (iblk m c 2 t) (iblk m c 3 t) (k0_pay2 (F := Ideal)) (iblk m c 4 t) := by
  rw [outsAt0_A m c t h0 h1]
  frame_out

theorem second_out (t t' : Fin cfg0.N) (h0 : ¬t.val % 2 = 0) (h1 : t.val % 2 = 1) (ht : t'.val = t.val - 1) :
    (dats m 0 c).after 5 t = k0_pay4 (F := Ideal) (iblk m c 0 t)
      (k0_pay3 (F := Ideal) (k0_pay1 (F := Ideal) (iblk m c 0 t') (iblk m c 1 t')) (iblk m c 2 t) (iblk m c 3 t)
        (k0_pay3 (F := Ideal) (k0_pay1 (F := Ideal) (iblk m c 0 t') (iblk m c 1 t')) (iblk m c 2 t') (iblk m c 3 t') (k0_pay2 (F := Ideal)) (iblk m c 4 t')) (iblk m c 4 t)) := by
  obtain ⟨n, hn⟩ := t'
  obtain rfl : n = t.val - 1 := ht
  have e1 := first_norm m c ⟨t.val - 1, hn⟩ (by show (t.val - 1) % 2 = 0; omega) (by show ¬(t.val - 1) % 2 = 1; omega)
  have e2 := first_sum m c ⟨t.val - 1, hn⟩ (by show (t.val - 1) % 2 = 0; omega) (by show ¬(t.val - 1) % 2 = 1; omega)
  rw [after0_5, outsAt0_B m c t h0 h1]
  frame_out
  rw [← e2, ← e1]
  exact congrArg₂ (fun u v => k0_pay4 (F := Ideal) (iblk m c 0 t) (k0_pay3 (F := Ideal) u (iblk m c 2 t) (iblk m c 3 t) v (iblk m c 4 t))) ((Memref.isWhole_whole cc0_scratch0).read_unread _) ((Memref.isWhole_whole cc0_scratch1).read_unread _)

theorem share (t : Fin grid0.N) (h : Vec Ideal S512x1024 .bf16) (r : Fin 512) (col : Fin 1024)
    (hh : ∀ i, (h (ix2 r i) : EReal) = hRow (fun i => aX m c (ix2 (tok (t.val / 2) r) i)) (fun i => aG m c (ix1 i)) i) :
    (∑ q : Fin 1408, gate (∑ i, (h (ix2 r i) : EReal) * (iblk m c 2 t : Vec Ideal S1024x1408 .bf16) (ix2 i q)) (∑ i, (h (ix2 r i) : EReal) * (iblk m c 3 t : Vec Ideal S1024x1408 .bf16) (ix2 i q)) * (iblk m c 4 t : Vec Ideal S1408x1024 .bf16) (ix2 q col))
      = ∑ q, hidRow (fun i => aX m c (ix2 (tok (t.val / 2) r) i)) (fun i => aG m c (ix1 i)) (fun i j => aWg m c (ix2 i j)) (fun i j => aWu m c (ix2 i j)) (fun i j => aWd m c (ix2 i j)) col (hid (t.val % 2) q) := by
  refine Finset.sum_congr rfl fun q _ => ?_
  unfold hidRow
  refine congrArg₂ (· * ·) (congrArg₂ gate (Finset.sum_congr rfl fun i _ => congrArg₂ (· * ·) (hh i) (read_wg m c t i q)) (Finset.sum_congr rfl fun i _ => congrArg₂ (· * ·) (hh i) (read_wu m c t i q))) (read_wd m c t q col)

theorem norm_row (t : Fin grid0.N) (r : Fin 512) (i : Fin 1024) : (k0_pay1 (F := Ideal) (iblk m c 0 t) (iblk m c 1 t) (ix2 r i) : EReal)
    = hRow (fun i => aX m c (ix2 (tok (t.val / 2) r) i)) (fun i => aG m c (ix1 i)) i := by
  refine (norm_at _ _ r i).trans ?_
  exact congrArg₂ (fun u v => hRow u v i) (funext fun i => read_x m c t r i) (funext fun i => read_g m c t i)

theorem block_at (t : Fin cfg0.N) (h1 : t.val % 2 = 1) (r : Fin 512) (col : Fin 1024) :
    ((dats m 0 c).after 5 t : Vec Ideal S512x1024 .f32) (ix2 r col) = ffnRow (aX m c) (aG m c) (aWg m c) (aWu m c) (aWd m c) (tok (t.val / 2) r) col := by
  have hlt : t.val < 64 := t.isLt
  have hN : cfg0.N = 64 := N_0
  obtain ⟨t', ht'⟩ : ∃ t' : Fin cfg0.N, t'.val = t.val - 1 := ⟨⟨t.val - 1, by omega⟩, rfl⟩
  have hb : t'.val / 2 = t.val / 2 := by omega
  have h0' : t'.val % 2 = 0 := by omega
  rw [second_out m c t t' (by omega) h1 ht']
  refine (last_at _ _ r col).trans ?_
  rw [half_at, half_at, zero_at, zero_add]
  rw [share m c t _ r col (fun i => by rw [← hb]; exact norm_row m c t' r i), share m c t' _ r col (fun i => norm_row m c t' r i), hb, h0', h1]
  unfold ffnRow
  rw [two_halves]
  exact congrArg (· + _) (read_x m c t r col)

theorem flushed_eq (t : Fin cfg0.N) (ht : (cfg0.win 5).flush t = true) : (dats m 0 c).flushed 5 t = ((cfg0.win 5).blk t).view.read (Elt Ideal) (outV m c) := by
  have hlt : t.val < 64 := t.isLt
  have h1 : t.val % 2 = 1 := (flush0_5 t).1 ht
  show (cfg0.win 5).cut (grid0.coords t) ((dats m 0 c).after 5 t) = _
  funext y
  rw [View.read_apply]
  obtain ⟨r, col, rfl⟩ : ∃ (r : Fin 512) (col : Fin 1024), y = (ix2 r col : S512x1024.Idx) := ⟨y 0, y 1, ValueIdx.eq_ix2 (n0 := 512) (n1 := 1024) y⟩
  have hi : ((cfg0.win 5).blk t).view.emb (ix2 r col : S512x1024.Idx) = (ix2 (tok (t.val / 2) r) col : S16384x1024.Idx) := by
    funext a
    apply Fin.ext
    match a with
    | ⟨0, _⟩ =>
      show win0_5.index t 0 * 512 + 1 * r.val = (512 * (t.val / 2) + r.val) % 16384
      rw [(win5_at t).1]; omega
    | ⟨1, _⟩ =>
      show win0_5.index t 1 * 1024 + 1 * col.val = col.val
      rw [(win5_at t).2]; omega
  show ((dats m 0 c).after 5 t : Vec Ideal S512x1024 .f32) (ix2 r col) = outV m c (((cfg0.win 5).blk t).view.emb (ix2 r col : S512x1024.Idx))
  rw [hi]
  exact block_at m c t h1 r col
end

theorem cover (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  exact (Value.covered_iff5 i).2 ⟨Nat.zero_le _, h0, Nat.zero_le _, h1⟩

theorem result (m : (ℓ : Loc nD τ sig) → Buf (Elt Ideal) ℓ) (c : Dev nD) : (dats m 0 c).arrAt 5 cfg0.N = outV m c :=
  (dats m 0 c).arrAt_eq_of_cover 5 (outV m c) (fun t ht => flushed_eq m c t ht) cover

end Cert.Kernel2Ideal.Gen

end
-- ==== Proof.FfnMain.lean ====
module

public import proofs.«01_k».proof.Defs
public import proofs.«01_k».proof.Proof.FfnOut
public import proofs.«01_k».proof.Proof.Gen.Reference2Ideal.Run

/-! # The feed-forward layer: the two results agree -/
@[expose] public section

set_option maxHeartbeats 4000000
set_option maxRecDepth 100000

noncomputable section

namespace Cert.Reference2Ideal.Value

open Idealize.ShloMosaic Idealize.ShloMosaic.TcCoe Idealize.ShloMosaic.Tactic Idealize.SL.Sem Cert.KernelIdeal.Gen Cert.Kernel2Ideal.Gen

section
variable (m : (ℓ : Loc nD τ sig) → Buf (Elt Ideal) ℓ) (c : Dev nD)

/-! The arguments as the reference reads them: the stream as 16384 rows, the gains and the three weight matrices. -/

def rX : Vec Ideal S16384x1024 .f32 := shapeCast S16384x1024 (m ((c.tc : Thread nD τ).loc main_arg0) : Vec Ideal S8x2048x1024 .f32) Gen.shapeCasts_S8x2048x1024_S16384x1024
def rG : Vec Ideal S1024 .f32 := m ((c.tc : Thread nD τ).loc main_arg1)
def rWg : Vec Ideal S1024x2816 .f32 := m ((c.tc : Thread nD τ).loc main_arg2)
def rWu : Vec Ideal S1024x2816 .f32 := m ((c.tc : Thread nD τ).loc main_arg3)
def rWd : Vec Ideal S2816x1024 .f32 := m ((c.tc : Thread nD τ).loc main_arg4)

/-- The normalisation the reference writes, read at one entry. -/
theorem norm_at (U : FVec Ideal S16384x1024 .f32) (v : FVec Ideal S1024 .f32) (T : Fin 16384) (col : Fin 1024) :
    mulf (mulf U (broadcastInDim S16384x1024 ![0, 1] Gen.bcast_S16384x1_S16384x1024_0_1 (Host.rsqrt (addf (Host.divf (broadcastInDim S16384x1 ![0] Gen.bcast_S16384_S16384x1_0 (Host.reduceAdd (mulf U U) (constant (F := Ideal) S_ .f32 0x00000000#32) Gen.reducesTo_S16384x1024_S16384_d1 Gen.h_S_)) (broadcastInDim S16384x1 ![] Gen.bcast_S_S16384x1 (constant (F := Ideal) S_ .f32 0x44800000#32))) (broadcastInDim S16384x1 ![] Gen.bcast_S_S16384x1 (constant (F := Ideal) S_ .f32 0x358637BD#32))))))
      (broadcastInDim S16384x1024 ![0, 1] Gen.bcast_S1x1024_S16384x1024_0_1 (broadcastInDim S1x1024 ![1] Gen.bcast_S1024_S1x1024_1 v)) (ix2 T col)
      = hRow (fun i => U (ix2 T i)) (fun i => v (ix1 i)) col := by
  pointwise
  rfl

/-- The gated hidden layer, read at one entry. -/
theorem gated_at (H : FVec Ideal S16384x1024 .f32) (Wg Wu : FVec Ideal S1024x2816 .f32) (T : Fin 16384) (q : Fin 2816) :
    mulf (mulf (Host.dotGeneral dot_S16384x1024_S1024x2816_S16384x2816_1_0_0_1_n_n none H Wg) (Host.divf (broadcastInDim S16384x2816 ![] Gen.bcast_S_S16384x2816 (constant (F := Ideal) S_ .f32 0x3F800000#32)) (addf (broadcastInDim S16384x2816 ![] Gen.bcast_S_S16384x2816 (constant (F := Ideal) S_ .f32 0x3F800000#32)) (Host.exp (Host.negf (Host.dotGeneral dot_S16384x1024_S1024x2816_S16384x2816_1_0_0_1_n_n none H Wg)))))) (Host.dotGeneral dot_S16384x1024_S1024x2816_S16384x2816_1_0_0_1_n_n none H Wu) (ix2 T q)
      = gate (∑ i, H (ix2 T i) * Wg (ix2 i q)) (∑ i, H (ix2 T i) * Wu (ix2 i q)) := by
  pointwise
  rfl

/-- The last product and the residual, read at one entry. -/
theorem down_at (X : FVec Ideal S16384x1024 .f32) (A : FVec Ideal S16384x2816 .f32) (Wd : FVec Ideal S2816x1024 .f32) (T : Fin 16384) (col : Fin 1024) :
    addf X (Host.dotGeneral dot_S16384x2816_S2816x1024_S16384x1024_1_0_0_1_n_n none A Wd) (ix2 T col)
      = X (ix2 T col) + ∑ q, A (ix2 T q) * Wd (ix2 q col) := by
  pointwise
end

end Cert.Reference2Ideal.Value

namespace Cert.Proof

open Idealize.ShloMosaic Idealize.ShloMosaic.TcCoe Idealize.SL.Sem Cert.Kernel2Ideal Cert.Kernel2Ideal.Gen

theorem algebraic_ffn : Cert.algebraic_Kernel2Ideal_Reference2Ideal := by
  intro m g m' g' _ ha
  refine ⟨fun c => outV m c, ?_, ?_⟩
  · exact (θ_run Cert.Kernel2Ideal.defs _ _).mono (fun r h c => ⟨(h c).1.trans (result m c), (h c).2⟩) (Cert.Kernel2Ideal.Value.run_blocks m g)
  refine (θ_run Cert.Reference2Ideal.defs _ _).mono (fun r h c => ⟨(h c).1.trans ?_, (h c).2⟩) (Cert.Reference2Ideal.Value.run (F := Ideal) m' g')
  obtain ⟨a0, a1, a2, a3, a4⟩ := ha c
  have hX : Cert.Reference2Ideal.Value.rX m' c = aX m c := by unfold aX; rw [← a0]; rfl
  have hG : Cert.Reference2Ideal.Value.rG m' c = aG m c := by unfold aG; rw [← a1]; rfl
  have hWg : Cert.Reference2Ideal.Value.rWg m' c = aWg m c := by unfold aWg; rw [← a2]; rfl
  have hWu : Cert.Reference2Ideal.Value.rWu m' c = aWu m c := by unfold aWu; rw [← a3]; rfl
  have hWd : Cert.Reference2Ideal.Value.rWd m' c = aWd m c := by unfold aWd; rw [← a4]; rfl
  funext i
  obtain ⟨T, col, rfl⟩ : ∃ (T : Fin 16384) (col : Fin 1024), i = (ix2 T col : S16384x1024.Idx) := ⟨i 0, i 1, ValueIdx.eq_ix2 (n0 := 16384) (n1 := 1024) i⟩
  show _ = ffnRow (aX m c) (aG m c) (aWg m c) (aWu m c) (aWd m c) T col
  rw [← hX, ← hG, ← hWg, ← hWu, ← hWd]
  refine (Cert.Reference2Ideal.Value.down_at _ _ _ T col).trans ?_
  unfold ffnRow
  refine congrArg (fun z => Cert.Reference2Ideal.Value.rX m' c (ix2 T col) + z) (Finset.sum_congr rfl fun q _ => ?_)
  unfold hidRow
  refine congrArg (fun z => z * Cert.Reference2Ideal.Value.rWd m' c (ix2 q col)) ?_
  refine (Cert.Reference2Ideal.Value.gated_at _ _ _ T q).trans ?_
  refine congrArg₂ Cert.KernelIdeal.Gen.gate (Finset.sum_congr rfl fun k _ => ?_) (Finset.sum_congr rfl fun k _ => ?_)
  · exact congrArg (fun z => z * Cert.Reference2Ideal.Value.rWg m' c (ix2 k q)) (Cert.Reference2Ideal.Value.norm_at _ _ T k)
  · exact congrArg (fun z => z * Cert.Reference2Ideal.Value.rWu m' c (ix2 k q)) (Cert.Reference2Ideal.Value.norm_at _ _ T k)

end Cert.Proof

end
-- ==== Proof.EmbedVal.lean ====
module

public import proofs.«01_k».proof.Proof.ValSpec
public import proofs.«01_k».proof.Proof.Gen.Kernel3Ideal.Value

/-! # A token's row after the per-layer inputs

The gated projection of a token's per-layer input added to its row, and the row's last normalisation; the kernel's
stored block, entry by entry. -/

@[expose] public section

set_option maxHeartbeats 4000000
set_option maxRecDepth 100000

noncomputable section

namespace Cert.Kernel3Ideal.Gen

open Idealize.ShloMosaic Idealize.ShloMosaic.TcCoe Idealize.ShloMosaic.Tactic Cert.KernelIdeal.Gen

/-- A token's row with its per-layer input added, gated by the normalised row. -/
def addRow (x g : Fin 1024 → EReal) (p : Fin 256 → EReal) (wg : Fin 1024 → Fin 1024 → EReal) (wp : Fin 256 → Fin 1024 → EReal) (c : Fin 1024) : EReal :=
  x c + Ideal.logistic (∑ i, hRow x g i * wg i c) * ∑ k, p k * wp k c

section
variable (x : Vec Ideal S512x1024 .f32) (p : Vec Ideal S512x256 .f32) (g fg : Vec Ideal S1x1024 .f32) (wg : Vec Ideal S1024x1024 .bf16)
  (wp : Vec Ideal S256x1024 .bf16) (r : Fin 512) (c : Fin 1024)

theorem added_at : k0_pay2 (F := Ideal) x g wg p wp (ix2 r c)
    = addRow (fun i => x (ix2 r i)) (fun i => g (ix2 0 i)) (fun k => p (ix2 r k)) (fun i j => wg (ix2 i j)) (fun k j => wp (ix2 k j)) c := by
  unfold k0_pay2
  pointwise
  rfl

theorem scale_at : k0_pay4 (F := Ideal) x g wg p wp (ix2 r 0)
    = Ideal.rsqrt (Ideal.div (∑ i, (k0_pay2 (F := Ideal) x g wg p wp (ix2 r i) : EReal) * k0_pay2 (F := Ideal) x g wg p wp (ix2 r i)) (Ideal.ofBits .f32 1149239296#32) + Ideal.ofBits .f32 897988541#32) := by
  unfold k0_pay4
  pointwise

theorem last_at (u : Vec Ideal S512x1024 .f32) (v : Vec Ideal S1x1024 .f32) (s : Vec Ideal S512x1 .f32) :
    k0_pay1 (F := Ideal) u v s (ix2 r c) = u (ix2 r c) * s (ix2 r 0) * v (ix2 0 c) := by
  unfold k0_pay1
  pointwise

theorem row_at : k0_pay1 (F := Ideal) (k0_pay2 x g wg p wp) (k0_pay3 fg) (k0_pay4 x g wg p wp) (ix2 r c)
    = hRow (addRow (fun i => x (ix2 r i)) (fun i => g (ix2 0 i)) (fun k => p (ix2 r k)) (fun i j => wg (ix2 i j)) (fun k j => wp (ix2 k j))) (fun i => fg (ix2 0 i)) c := by
  have h3 : k0_pay3 (F := Ideal) fg (ix2 0 c) = fg (ix2 0 c) := by
    unfold k0_pay3
    pointwise
  rw [last_at, scale_at, h3]
  simp only [added_at]
  rfl

theorem out_at : out0_6 (F := Ideal) x p g wg wp fg (ix2 r c)
    = hRow (addRow (fun i => x (ix2 r i)) (fun i => g (ix2 0 i)) (fun k => p (ix2 r k)) (fun i j => wg (ix2 i j)) (fun k j => wp (ix2 k j))) (fun i => fg (ix2 0 i)) c := by
  have hz : (![0, 0] : Fin 2 → ℕ) = fun _ => 0 := funext fun a => by match a with | ⟨0, _⟩ => rfl | ⟨1, _⟩ => rfl
  have e0 : View.ld x r0_0 = x := View.ld_unit_zero (S := S512x1024) hz _ x
  have e1 : View.ld g r0_1 = g := View.ld_unit_zero (S := S1x1024) hz _ g
  have e5 : View.ld fg r0_1 = fg := View.ld_unit_zero (S := S1x1024) hz _ fg
  have e2 : View.ld wg r0_2 = wg := View.ld_unit_zero (S := S1024x1024) hz _ wg
  have e3 : View.ld p r0_3 = p := View.ld_unit_zero (S := S512x256) hz _ p
  have e4 : View.ld wp r0_4 = wp := View.ld_unit_zero (S := S256x1024) hz _ wp
  unfold out0_6
  rw [e0, e1, e2, e3, e4, e5]
  exact (congrFun (View.canon_unit_zero (S := S512x1024) hz _ _) _).trans (row_at x p g fg wg wp r c)

end

end Cert.Kernel3Ideal.Gen

end
-- ==== Proof.EmbedRead.lean ====
module

public import proofs.«01_k».proof.Proof.ValPay
public import proofs.«01_k».proof.Proof.Gen.Kernel3Ideal.Value

/-! # The per-layer inputs' blocks at a point -/

@[expose] public section

set_option maxHeartbeats 4000000
set_option maxRecDepth 100000

noncomputable section

namespace Cert.Kernel3Ideal.Gen

open Idealize.ShloMosaic Idealize.ShloMosaic.TcCoe Idealize.ShloMosaic.Tactic

theorem win0_at : ∀ t : Fin grid0.N, win0_0.index t 0 = t.val ∧ win0_0.index t 1 = 0 := by decide +kernel
theorem win1_at : ∀ t : Fin grid0.N, win0_1.index t 0 = t.val ∧ win0_1.index t 1 = 0 := by decide +kernel
theorem win2_at : ∀ t : Fin grid0.N, win0_2.index t 0 = 0 ∧ win0_2.index t 1 = 0 := by decide +kernel
theorem win3_at : ∀ t : Fin grid0.N, win0_3.index t 0 = 0 ∧ win0_3.index t 1 = 0 := by decide +kernel
theorem win4_at : ∀ t : Fin grid0.N, win0_4.index t 0 = 0 ∧ win0_4.index t 1 = 0 := by decide +kernel
theorem win5_at : ∀ t : Fin grid0.N, win0_5.index t 0 = 0 ∧ win0_5.index t 1 = 0 := by decide +kernel
theorem win6_at : ∀ t : Fin grid0.N, win0_6.index t 0 = t.val ∧ win0_6.index t 1 = 0 := by decide +kernel
theorem size6 : ∀ t : Fin grid0.N, win0_6.xsize (grid0.coords t) 0 = 512 ∧ win0_6.xsize (grid0.coords t) 1 = 1024 := by decide +kernel

variable (m : (ℓ : Loc nD τ sig) → Buf (Elt Ideal) ℓ) (c : Dev nD)

/-- The tokens' array and their per-layer inputs: the arguments, the first two axes as one. -/
def aX : Vec Ideal S16384x1024 .f32 := shapeCast S16384x1024 (m ((c : Thread nD τ).loc main_arg0) : Vec Ideal S8x2048x1024 .f32) shapeCasts_S8x2048x1024_S16384x1024
def aP : Vec Ideal S16384x256 .f32 := shapeCast S16384x256 (m ((c : Thread nD τ).loc main_arg1) : Vec Ideal S8x2048x256 .f32) shapeCasts_S8x2048x256_S16384x256
def aG : Vec Ideal S1024 .f32 := m ((c : Thread nD τ).loc main_arg2)
def aWg : Vec Ideal S1024x1024 .f32 := m ((c : Thread nD τ).loc main_arg3)
def aWp : Vec Ideal S256x1024 .f32 := m ((c : Thread nD τ).loc main_arg4)
def aFg : Vec Ideal S1024 .f32 := m ((c : Thread nD τ).loc main_arg5)

theorem prep_v0 : (V m c main_v0 : Vec Ideal S16384x1024 .f32) = aX m c := by
  simp only [V, hostOps0, List.flatten_cons, List.flatten_nil, List.append_nil, List.cons_append, List.nil_append]
  after_results_simp
  try rfl
theorem prep_v1 : (V m c main_v1 : Vec Ideal S16384x256 .f32) = aP m c := by
  simp only [V, hostOps0, List.flatten_cons, List.flatten_nil, List.append_nil, List.cons_append, List.nil_append]
  after_results_simp
  try rfl
theorem prep_v2 : (V m c main_v2 : Vec Ideal S1x1024 .f32) = shapeCast S1x1024 (aG m c) shapeCasts_S1024_S1x1024 := by
  simp only [V, hostOps0, List.flatten_cons, List.flatten_nil, List.append_nil, List.cons_append, List.nil_append]
  after_results_simp
  try rfl
theorem prep_v3 : (V m c main_v3 : Vec Ideal S1024x1024 .bf16) = (truncf .bf16 (aWg m c : FVec Ideal S1024x1024 .f32) bitsLt_bf16_f32 : FVec Ideal S1024x1024 .bf16) := by
  simp only [V, hostOps0, List.flatten_cons, List.flatten_nil, List.append_nil, List.cons_append, List.nil_append]
  after_results_simp
  try rfl
theorem prep_v4 : (V m c main_v4 : Vec Ideal S256x1024 .bf16) = (truncf .bf16 (aWp m c : FVec Ideal S256x1024 .f32) bitsLt_bf16_f32 : FVec Ideal S256x1024 .bf16) := by
  simp only [V, hostOps0, List.flatten_cons, List.flatten_nil, List.append_nil, List.cons_append, List.nil_append]
  after_results_simp
  try rfl
theorem prep_v5 : (V m c main_v5 : Vec Ideal S1x1024 .f32) = shapeCast S1x1024 (aFg m c) shapeCasts_S1024_S1x1024 := by
  simp only [V, hostOps0, List.flatten_cons, List.flatten_nil, List.append_nil, List.cons_append, List.nil_append]
  after_results_simp
  try rfl

theorem row_cast (g : Vec Ideal S1024 .f32) (j : Fin 1024) : (shapeCast S1x1024 g shapeCasts_S1024_S1x1024) (ix2 0 j) = g (ix1 j) := by
  pointwise

/-- Row `r` of block `t`. -/
def tok (t : ℕ) (r : Fin 512) : Fin 16384 := Fin.ofNat 16384 (512 * t + r.val)

theorem read_x (t : Fin grid0.N) (r : Fin 512) (i : Fin 1024) : (iblk m c 0 t : Vec Ideal S512x1024 .f32) (ix2 r i) = aX m c (ix2 (tok t.val r) i) := by
  have ht : t.val < 32 := t.isLt
  unfold iblk
  rw [View.read_apply, ← prep_v0 m c]
  show V m c main_v0 _ = V m c main_v0 _
  congr 1
  funext a
  apply Fin.ext
  match a with
  | ⟨0, _⟩ =>
    show win0_0.index t 0 * 512 + 1 * r.val = (512 * t.val + r.val) % 16384
    rw [(win0_at t).1]; omega
  | ⟨1, _⟩ =>
    show win0_0.index t 1 * 1024 + 1 * i.val = i.val
    rw [(win0_at t).2]; omega

theorem read_p (t : Fin grid0.N) (r : Fin 512) (i : Fin 256) : (iblk m c 1 t : Vec Ideal S512x256 .f32) (ix2 r i) = aP m c (ix2 (tok t.val r) i) := by
  have ht : t.val < 32 := t.isLt
  unfold iblk
  rw [View.read_apply, ← prep_v1 m c]
  show V m c main_v1 _ = V m c main_v1 _
  congr 1
  funext a
  apply Fin.ext
  match a with
  | ⟨0, _⟩ =>
    show win0_1.index t 0 * 512 + 1 * r.val = (512 * t.val + r.val) % 16384
    rw [(win1_at t).1]; omega
  | ⟨1, _⟩ =>
    show win0_1.index t 1 * 256 + 1 * i.val = i.val
    rw [(win1_at t).2]; omega

theorem read_g (t : Fin grid0.N) (i : Fin 1024) : (iblk m c 2 t : Vec Ideal S1x1024 .f32) (ix2 0 i) = aG m c (ix1 i) := by
  rw [← row_cast (aG m c), ← prep_v2 m c]
  unfold iblk
  rw [View.read_apply]
  show V m c main_v2 _ = V m c main_v2 _
  congr 1
  funext a
  apply Fin.ext
  match a with
  | ⟨0, _⟩ => show win0_2.index t 0 * 1 + 1 * 0 = 0; rw [(win2_at t).1]
  | ⟨1, _⟩ => show win0_2.index t 1 * 1024 + 1 * i.val = i.val; rw [(win2_at t).2]; omega

theorem read_fg (t : Fin grid0.N) (i : Fin 1024) : (iblk m c 5 t : Vec Ideal S1x1024 .f32) (ix2 0 i) = aFg m c (ix1 i) := by
  rw [← row_cast (aFg m c), ← prep_v5 m c]
  unfold iblk
  rw [View.read_apply]
  show V m c main_v5 _ = V m c main_v5 _
  congr 1
  funext a
  apply Fin.ext
  match a with
  | ⟨0, _⟩ => show win0_5.index t 0 * 1 + 1 * 0 = 0; rw [(win5_at t).1]
  | ⟨1, _⟩ => show win0_5.index t 1 * 1024 + 1 * i.val = i.val; rw [(win5_at t).2]; omega

theorem read_wg (t : Fin grid0.N) (i j : Fin 1024) : (iblk m c 3 t : Vec Ideal S1024x1024 .bf16) (ix2 i j) = aWg m c (ix2 i j) := by
  have h : (iblk m c 3 t : Vec Ideal S1024x1024 .bf16) (ix2 i j) = (V m c main_v3 : Vec Ideal S1024x1024 .bf16) (ix2 i j) := by
    unfold iblk
    rw [View.read_apply]
    show V m c main_v3 _ = V m c main_v3 _
    congr 1
    funext a
    apply Fin.ext
    match a with
    | ⟨0, _⟩ => show win0_3.index t 0 * 1024 + 1 * i.val = i.val; rw [(win3_at t).1]; omega
    | ⟨1, _⟩ => show win0_3.index t 1 * 1024 + 1 * j.val = j.val; rw [(win3_at t).2]; omega
  rw [h, prep_v3]
  rfl

theorem read_wp (t : Fin grid0.N) (i : Fin 256) (j : Fin 1024) : (iblk m c 4 t : Vec Ideal S256x1024 .bf16) (ix2 i j) = aWp m c (ix2 i j) := by
  have h : (iblk m c 4 t : Vec Ideal S256x1024 .bf16) (ix2 i j) = (V m c main_v4 : Vec Ideal S256x1024 .bf16) (ix2 i j) := by
    unfold iblk
    rw [View.read_apply]
    show V m c main_v4 _ = V m c main_v4 _
    congr 1
    funext a
    apply Fin.ext
    match a with
    | ⟨0, _⟩ => show win0_4.index t 0 * 256 + 1 * i.val = i.val; rw [(win4_at t).1]; omega
    | ⟨1, _⟩ => show win0_4.index t 1 * 1024 + 1 * j.val = j.val; rw [(win4_at t).2]; omega
  rw [h, prep_v4]
  rfl

end Cert.Kernel3Ideal.Gen

end
-- ==== Proof.EmbedOut.lean ====
module

public import proofs.«01_k».proof.Proof.EmbedVal
public import proofs.«01_k».proof.Proof.EmbedRead

/-! # The result after the per-layer inputs

Each block of 512 tokens is written once; the result array ends at the normalised row of every token. -/
@[expose] public section

set_option maxHeartbeats 4000000
set_option maxRecDepth 100000

noncomputable section

namespace Cert.Kernel3Ideal.Gen

open Idealize.ShloMosaic Idealize.ShloMosaic.TcCoe Idealize.ShloMosaic.Tactic Idealize.SL.Sem Cert.KernelIdeal.Gen

/-- Token `T`'s row of the result. -/
def embRow (X : Vec Ideal S16384x1024 .f32) (P : Vec Ideal S16384x256 .f32) (G : Vec Ideal S1024 .f32) (Wg : Vec Ideal S1024x1024 .f32)
    (Wp : Vec Ideal S256x1024 .f32) (Fg : Vec Ideal S1024 .f32) (T : Fin 16384) (c : Fin 1024) : EReal :=
  hRow (addRow (fun i => X (ix2 T i)) (fun i => G (ix1 i)) (fun k => P (ix2 T k)) (fun i j => Wg (ix2 i j)) (fun k j => Wp (ix2 k j))) (fun i => Fg (ix1 i)) c

section
variable (m : (ℓ : Loc nD τ sig) → Buf (Elt Ideal) ℓ) (c : Dev nD)

/-- The result. -/
def outV : Vec Ideal S16384x1024 .f32 := fun i => embRow (aX m c) (aP m c) (aG m c) (aWg m c) (aWp m c) (aFg m c) (i 0) (i 1)

theorem block_at (t : Fin grid0.N) (r : Fin 512) (col : Fin 1024) :
    out0_6 (F := Ideal) (iblk m c 0 t) (iblk m c 1 t) (iblk m c 2 t) (iblk m c 3 t) (iblk m c 4 t) (iblk m c 5 t) (ix2 r col)
      = embRow (aX m c) (aP m c) (aG m c) (aWg m c) (aWp m c) (aFg m c) (tok t.val r) col := by
  refine (out_at _ _ _ _ _ _ r col).trans ?_
  unfold embRow
  rw [show (fun i => (iblk m c 0 t : Vec Ideal S512x1024 .f32) (ix2 r i)) = _ from funext fun i => read_x m c t r i,
    show (fun i => (iblk m c 1 t : Vec Ideal S512x256 .f32) (ix2 r i)) = _ from funext fun i => read_p m c t r i,
    show (fun i => (iblk m c 2 t : Vec Ideal S1x1024 .f32) (ix2 0 i)) = _ from funext fun i => read_g m c t i,
    show (fun i j => (iblk m c 3 t : Vec Ideal S1024x1024 .bf16) (ix2 i j)) = _ from funext fun i => funext fun j => read_wg m c t i j,
    show (fun i j => (iblk m c 4 t : Vec Ideal S256x1024 .bf16) (ix2 i j)) = _ from funext fun i => funext fun j => read_wp m c t i j,
    show (fun i => (iblk m c 5 t : Vec Ideal S1x1024 .f32) (ix2 0 i)) = _ from funext fun i => read_fg m c t i]

theorem flushed_eq (t : Fin cfg0.N) : (dats m 0 c).flushed 6 t = ((cfg0.win 6).blk t).view.read (Elt Ideal) (outV m c) := by
  have hlt : t.val < 32 := t.isLt
  rw [Value.flushed6]
  funext y
  rw [View.read_apply]
  obtain ⟨r, col, rfl⟩ : ∃ (r : Fin 512) (col : Fin 1024), y = (ix2 r col : S512x1024.Idx) := ⟨y 0, y 1, ValueIdx.eq_ix2 (n0 := 512) (n1 := 1024) y⟩
  have hi : ((cfg0.win 6).blk t).view.emb (ix2 r col : S512x1024.Idx) = (ix2 (tok t.val r) col : S16384x1024.Idx) := by
    funext a
    apply Fin.ext
    match a with
    | ⟨0, _⟩ =>
      show win0_6.index t 0 * 512 + 1 * r.val = (512 * t.val + r.val) % 16384
      rw [(win6_at t).1]; omega
    | ⟨1, _⟩ =>
      show win0_6.index t 1 * 1024 + 1 * col.val = col.val
      rw [(win6_at t).2]; omega
  show out0_6 (F := Ideal) _ _ _ _ _ _ (ix2 r col) = outV m c (((cfg0.win 6).blk t).view.emb (ix2 r col : S512x1024.Idx))
  rw [hi]
  exact block_at m c t r col
end

theorem cover (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  have hN : cfg0.N = 32 := N_0
  refine ⟨⟨(i 0).val / 512, by omega⟩, flush0_6 _, ?_⟩
  generalize ht : (⟨(i 0).val / 512, by omega⟩ : Fin cfg0.N) = t
  have hv : t.val = (i 0).val / 512 := by rw [← ht]
  show i ∈ ((View.whole main_v6).slice (win0_6.rect t)).set
  rw [View.set_slice_whole, Rect.mem_set_unit]
  intro a
  match a with
  | ⟨0, _⟩ =>
    show win0_6.index t 0 * 512 ≤ (i 0).val ∧ (i 0).val < win0_6.index t 0 * 512 + win0_6.xsize (grid0.coords t) 0
    rw [(win6_at t).1, (size6 t).1]; omega
  | ⟨1, _⟩ =>
    show win0_6.index t 1 * 1024 ≤ (i 1).val ∧ (i 1).val < win0_6.index t 1 * 1024 + win0_6.xsize (grid0.coords t) 1
    rw [(win6_at t).2, (size6 t).2]; omega

theorem result (m : (ℓ : Loc nD τ sig) → Buf (Elt Ideal) ℓ) (c : Dev nD) : (dats m 0 c).arrAt 6 cfg0.N = outV m c :=
  (dats m 0 c).arrAt_eq_of_cover 6 (outV m c) (fun t _ => flushed_eq m c t) cover

end Cert.Kernel3Ideal.Gen

end
-- ==== Proof.EmbedMain.lean ====
module

public import proofs.«01_k».proof.Defs
public import proofs.«01_k».proof.Proof.EmbedOut
public import proofs.«01_k».proof.Proof.Gen.Reference3Ideal.Run

/-! # The per-layer inputs: the two results agree -/
@[expose] public section

set_option maxHeartbeats 4000000
set_option maxRecDepth 100000

noncomputable section

namespace Cert.Reference3Ideal.Value

open Idealize.ShloMosaic Idealize.ShloMosaic.TcCoe Idealize.ShloMosaic.Tactic Idealize.SL.Sem Cert.KernelIdeal.Gen Cert.Kernel3Ideal.Gen

section
variable (m : (ℓ : Loc nD τ sig) → Buf (Elt Ideal) ℓ) (c : Dev nD)

def rX : Vec Ideal S16384x1024 .f32 := shapeCast S16384x1024 (m ((c.tc : Thread nD τ).loc main_arg0) : Vec Ideal S8x2048x1024 .f32) Gen.shapeCasts_S8x2048x1024_S16384x1024
def rP : Vec Ideal S16384x256 .f32 := shapeCast S16384x256 (m ((c.tc : Thread nD τ).loc main_arg1) : Vec Ideal S8x2048x256 .f32) Gen.shapeCasts_S8x2048x256_S16384x256
def rG : Vec Ideal S1024 .f32 := m ((c.tc : Thread nD τ).loc main_arg2)
def rWg : Vec Ideal S1024x1024 .f32 := m ((c.tc : Thread nD τ).loc main_arg3)
def rWp : Vec Ideal S256x1024 .f32 := m ((c.tc : Thread nD τ).loc main_arg4)
def rFg : Vec Ideal S1024 .f32 := m ((c.tc : Thread nD τ).loc main_arg5)

theorem norm_at (U : FVec Ideal S16384x1024 .f32) (v : FVec Ideal S1024 .f32) (T : Fin 16384) (col : Fin 1024) :
    mulf (mulf U (broadcastInDim S16384x1024 ![0, 1] Gen.bcast_S16384x1_S16384x1024_0_1 (Host.rsqrt (addf (Host.divf (broadcastInDim S16384x1 ![0] Gen.bcast_S16384_S16384x1_0 (Host.reduceAdd (mulf U U) (constant (F := Ideal) S_ .f32 0x00000000#32) Gen.reducesTo_S16384x1024_S16384_d1 Gen.h_S_)) (broadcastInDim S16384x1 ![] Gen.bcast_S_S16384x1 (constant (F := Ideal) S_ .f32 0x44800000#32))) (broadcastInDim S16384x1 ![] Gen.bcast_S_S16384x1 (constant (F := Ideal) S_ .f32 0x358637BD#32))))))
      (broadcastInDim S16384x1024 ![0, 1] Gen.bcast_S1x1024_S16384x1024_0_1 (broadcastInDim S1x1024 ![1] Gen.bcast_S1024_S1x1024_1 v)) (ix2 T col)
      = hRow (fun i => U (ix2 T i)) (fun i => v (ix1 i)) col := by
  pointwise
  rfl

theorem added_at (X H : FVec Ideal S16384x1024 .f32) (P : FVec Ideal S16384x256 .f32) (Wg : FVec Ideal S1024x1024 .f32) (Wp : FVec Ideal S256x1024 .f32)
    (T : Fin 16384) (col : Fin 1024) :
    addf X (mulf (Host.divf (broadcastInDim S16384x1024 ![] Gen.bcast_S_S16384x1024 (constant (F := Ideal) S_ .f32 0x3F800000#32)) (addf (broadcastInDim S16384x1024 ![] Gen.bcast_S_S16384x1024 (constant (F := Ideal) S_ .f32 0x3F800000#32)) (Host.exp (Host.negf (Host.dotGeneral dot_S16384x1024_S1024x1024_S16384x1024_1_0_0_1_n_n none H Wg))))) (Host.dotGeneral dot_S16384x256_S256x1024_S16384x1024_1_0_0_1_n_n none P Wp)) (ix2 T col)
      = X (ix2 T col) + Ideal.logistic (∑ i, H (ix2 T i) * Wg (ix2 i col)) * ∑ k, P (ix2 T k) * Wp (ix2 k col) := by
  pointwise
  rfl

theorem ref_at (T : Fin 16384) (col : Fin 1024) : (res_main_v37 m c : Vec Ideal S16384x1024 .f32) (ix2 T col)
    = embRow (rX m c) (rP m c) (rG m c) (rWg m c) (rWp m c) (rFg m c) T col := by
  unfold res_main_v37
  refine (norm_at _ _ T col).trans ?_
  unfold embRow
  refine congrArg (fun u => hRow u _ col) (funext fun i => ?_)
  refine (added_at _ _ _ _ _ T i).trans ?_
  unfold addRow
  refine congrArg (fun z => rX m c (ix2 T i) + Ideal.logistic z * _) (Finset.sum_congr rfl fun k _ => ?_)
  refine congrArg (fun z => z * rWg m c (ix2 k i)) ?_
  exact norm_at _ _ T k
end

end Cert.Reference3Ideal.Value

namespace Cert.Proof

open Idealize.ShloMosaic Idealize.ShloMosaic.TcCoe Idealize.SL.Sem Cert.Kernel3Ideal Cert.Kernel3Ideal.Gen

theorem algebraic_embed : Cert.algebraic_Kernel3Ideal_Reference3Ideal := by
  intro m g m' g' _ ha
  refine ⟨fun c => outV m c, ?_, ?_⟩
  · exact (θ_run Cert.Kernel3Ideal.defs _ _).mono (fun r h c => ⟨(h c).1.trans (result m c), (h c).2⟩) (Cert.Kernel3Ideal.Value.run_blocks m g)
  refine (θ_run Cert.Reference3Ideal.defs _ _).mono (fun r h c => ⟨(h c).1.trans ?_, (h c).2⟩) (Cert.Reference3Ideal.Value.run (F := Ideal) m' g')
  obtain ⟨a0, a1, a2, a3, a4, a5⟩ := ha c
  have hX : Cert.Reference3Ideal.Value.rX m' c = aX m c := by unfold aX; rw [← a0]; rfl
  have hP : Cert.Reference3Ideal.Value.rP m' c = aP m c := by unfold aP; rw [← a1]; rfl
  have hG : Cert.Reference3Ideal.Value.rG m' c = aG m c := by unfold aG; rw [← a2]; rfl
  have hWg : Cert.Reference3Ideal.Value.rWg m' c = aWg m c := by unfold aWg; rw [← a3]; rfl
  have hWp : Cert.Reference3Ideal.Value.rWp m' c = aWp m c := by unfold aWp; rw [← a4]; rfl
  have hFg : Cert.Reference3Ideal.Value.rFg m' c = aFg m c := by unfold aFg; rw [← a5]; rfl
  funext i
  obtain ⟨T, col, rfl⟩ : ∃ (T : Fin 16384) (col : Fin 1024), i = (ix2 T col : S16384x1024.Idx) := ⟨i 0, i 1, ValueIdx.eq_ix2 (n0 := 16384) (n1 := 1024) i⟩
  refine (Cert.Reference3Ideal.Value.ref_at m' c T col).trans ?_
  rw [hX, hP, hG, hWg, hWp, hFg]
  rfl

end Cert.Proof

end
-- ==== Proof.MergeIdx.lean ====
module

public import proofs.«01_k».proof.Proof.ValPay
public import proofs.«01_k».proof.Proof.Gen.Kernel5Ideal.Value
public import Idealize.ShloMosaic.Lib.Routing.Ops

/-! # The column order of the sparse attention's heads

The kernel keeps the eight heads of 64 columns in the order of pairs; here its two index tables are read, and the two
operations that put columns and rows in that order: a choice of columns, and the replacement of the first of four matrices. -/

@[expose] public section

set_option maxHeartbeats 4000000
set_option maxRecDepth 100000

noncomputable section

namespace Cert.Kernel5Ideal.Gen

open Idealize.ShloMosaic Idealize.ShloMosaic.TcCoe Idealize.ShloMosaic.Tactic Idealize.ShloMosaic.Routing

/-- The place of column `k` of the kernel's order in the order of the heads. -/
def qp (k : Fin 512) : Fin 512 := ⟨(k.val % 128 / 64 * 4 + k.val / 128) * 64 + k.val % 64, by omega⟩
/-- The way back. -/
def qpInv (k : Fin 512) : Fin 512 := ⟨k.val / 64 % 4 * 128 + k.val / 256 * 64 + k.val % 64, by omega⟩

theorem qp_inv : ∀ k : Fin 512, qpInv (qp k) = k := by decide +kernel
theorem inv_qp : ∀ k : Fin 512, qp (qpInv k) = k := by decide +kernel

/-- A sum over the heads' columns is the sum in the kernel's order. -/
theorem sum_qp (f : Fin 512 → EReal) : ∑ k, f (qp k) = ∑ k, f k :=
  Equiv.sum_comp (⟨qp, qpInv, qp_inv, inv_qp⟩ : Fin 512 ≃ Fin 512) f

/-- The gate of branch `ch` that belongs to a column of head order. -/
def gp (ch : Fin 3) (c : Fin 512) : Fin 24 := ⟨c.val / 64 * 3 + ch.val, by omega⟩

theorem lit1_at : ∀ k : Fin 512, lit1 k = BitVec.ofNat 32 (qp k).val := by decide +kernel
theorem lit0_at : ∀ (ch : Fin 3) (k : Fin 512), lit0 ⟨512 * ch.val + k.val, by omega⟩ = BitVec.ofNat 32 (gp ch (qp k)).val := by decide +kernel

theorem zero_not_mem {n : Nat} {l : List (Fin (n + 2))} (h : l = [1]) : (0 : Fin (n + 2)) ∉ l := by
  subst h; intro h; exact absurd (congrArg Fin.val (List.mem_singleton.1 h)) (by simp)

/-- A choice of columns `x[:, idx]`, read at one entry. -/
theorem gather_col {α : Type} {nb B n : Nat} (d : GatherDims (shape2 B nb) (shape2 n 1) (shape2 B n)) (hoff : d.offsetDims = [0])
    (hcoll : d.collapsedSliceDims = [1]) (hob : d.operandBatchingDims = [])
    (hsim : d.startIndexMap = [1]) (hivd : d.indexVectorDim = 1) (x : (shape2 B nb).Idx → α) (idx : IVec (shape2 n 1) 32)
    (c : Fin n) (y : Fin B) (b : Fin nb) (hb : idx (ix2 c (0 : Fin 1)) = BitVec.ofNat 32 b.val) (hnb : nb < 2 ^ 31) :
    Host.gather d x idx (ix2 y c) = x (ix2 y b) := by
  unfold Host.gather
  refine congrArg x (funext fun a => Fin.ext ?_)
  have hbN : ∀ a', a' ∉ d.operandBatchingDims := fun a' => by rw [hob]; exact List.not_mem_nil
  have hk1 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  match a with
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (hbN 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega
  | ⟨0, _⟩ =>
    have hk : (0 : Fin 2) ∈ d.sKept := (d.mem_sKept 0).2 ⟨zero_not_mem hcoll, hbN 0⟩
    have hm : (0 : Fin 2) ∉ d.startIndexMap := zero_not_mem hsim
    show d.start (ix2 y c) idx 0 + d.batchCoord (ix2 y c) 0 + d.offCoord (ix2 y c) 0 = y.val
    rw [d.batchCoord_eq_zero _ _ (hbN 0), Nat.add_zero]
    unfold GatherDims.start GatherDims.offCoord
    rw [dif_neg hm, dif_pos hk, Nat.zero_add]
    exact e0 _ (hk0 _ (List.getElem_mem _))

/-- A run of replacements at distinct places: a place that is met holds the value put there, any other what it held. -/
theorem foldl_set {β ι α : Type} [DecidableEq ι] (g : β → ι) (hg : Function.Injective g) (v : β → α) (x : ι → α) (l : List β) (i : ι) :
    (∀ n ∈ l, g n = i → (l.foldl (fun r n => fun i' => if i' = g n then v n else r i') x) i = v n)
      ∧ ((∀ n ∈ l, g n ≠ i) → (l.foldl (fun r n => fun i' => if i' = g n then v n else r i') x) i = x i) := by
  induction l using List.reverseRecOn with
  | nil => exact ⟨fun n h => absurd h List.not_mem_nil, fun _ => rfl⟩
  | append_singleton l a ih =>
    simp only [List.foldl_append, List.foldl_cons, List.foldl_nil]
    refine ⟨fun n hn hi => ?_, fun h => ?_⟩
    · by_cases ha : i = g a
      · rw [if_pos ha, hg (hi.trans ha)]
      · rw [if_neg ha]
        refine ih.1 n ?_ hi
        rcases List.mem_append.1 hn with h | h
        · exact h
        · rw [List.mem_singleton] at h; subst h; exact absurd hi.symm ha
    · rw [if_neg fun e => h a (List.mem_append_right _ (List.mem_singleton.2 rfl)) e.symm]
      exact ih.2 fun n hn => h n (List.mem_append_left _ hn)

theorem lands (idx : IVec S1 32) (hz : ∀ i, idx i = 0#32) (k : Fin 512) (j : Fin 1024) :
    scatter_S4x512x1024_S1_S512x1024_01_0_0_0.resultIdx? (ix2 k j : S512x1024.Idx) idx = some (ix3 0 k j : S4x512x1024.Idx) := by
  have h0 : ScatterDims.start scatter_S4x512x1024_S1_S512x1024_01_0_0_0 (ix2 k j : S512x1024.Idx) idx 0 = 0 := by
    unfold ScatterDims.start
    simp only [hz]; exact dif_pos (show (0 : Fin 3) ∈ scatter_S4x512x1024_S1_S512x1024_01_0_0_0.scatterDimsToOperandDims from List.mem_singleton.2 rfl)
  have h1 : ScatterDims.start scatter_S4x512x1024_S1_S512x1024_01_0_0_0 (ix2 k j : S512x1024.Idx) idx 1 = 0 := rfl
  have h2 : ScatterDims.start scatter_S4x512x1024_S1_S512x1024_01_0_0_0 (ix2 k j : S512x1024.Idx) idx 2 = 0 := rfl
  have w0 : ScatterDims.window scatter_S4x512x1024_S1_S512x1024_01_0_0_0 (ix2 k j : S512x1024.Idx) 0 = 0 := rfl
  have w1 : ScatterDims.window scatter_S4x512x1024_S1_S512x1024_01_0_0_0 (ix2 k j : S512x1024.Idx) 1 = k.val := rfl
  have w2 : ScatterDims.window scatter_S4x512x1024_S1_S512x1024_01_0_0_0 (ix2 k j : S512x1024.Idx) 2 = j.val := rfl
  have hk := k.isLt
  have hj := j.isLt
  unfold ScatterDims.resultIdx?
  rw [dif_pos]
  · refine congrArg some (funext fun a => Fin.ext ?_)
    match a with
    | ⟨0, _⟩ =>
      show (ScatterDims.start scatter_S4x512x1024_S1_S512x1024_01_0_0_0 (ix2 k j : S512x1024.Idx) idx 0 + (ScatterDims.window scatter_S4x512x1024_S1_S512x1024_01_0_0_0 (ix2 k j : S512x1024.Idx) 0 : ℕ)).toNat = 0
      rw [h0, w0]; rfl
    | ⟨1, _⟩ =>
      show (ScatterDims.start scatter_S4x512x1024_S1_S512x1024_01_0_0_0 (ix2 k j : S512x1024.Idx) idx 1 + (ScatterDims.window scatter_S4x512x1024_S1_S512x1024_01_0_0_0 (ix2 k j : S512x1024.Idx) 1 : ℕ)).toNat = k.val
      rw [h1, w1]; omega
    | ⟨2, _⟩ =>
      show (ScatterDims.start scatter_S4x512x1024_S1_S512x1024_01_0_0_0 (ix2 k j : S512x1024.Idx) idx 2 + (ScatterDims.window scatter_S4x512x1024_S1_S512x1024_01_0_0_0 (ix2 k j : S512x1024.Idx) 2 : ℕ)).toNat = j.val
      rw [h2, w2]; omega
  · intro a
    match a with
    | ⟨0, _⟩ =>
      show 0 ≤ ScatterDims.start scatter_S4x512x1024_S1_S512x1024_01_0_0_0 (ix2 k j : S512x1024.Idx) idx 0 + (ScatterDims.window scatter_S4x512x1024_S1_S512x1024_01_0_0_0 (ix2 k j : S512x1024.Idx) 0 : ℕ) ∧ ScatterDims.start scatter_S4x512x1024_S1_S512x1024_01_0_0_0 (ix2 k j : S512x1024.Idx) idx 0 + (ScatterDims.window scatter_S4x512x1024_S1_S512x1024_01_0_0_0 (ix2 k j : S512x1024.Idx) 0 : ℕ) < (4 : ℕ)
      rw [h0, w0]; omega
    | ⟨1, _⟩ =>
      show 0 ≤ ScatterDims.start scatter_S4x512x1024_S1_S512x1024_01_0_0_0 (ix2 k j : S512x1024.Idx) idx 1 + (ScatterDims.window scatter_S4x512x1024_S1_S512x1024_01_0_0_0 (ix2 k j : S512x1024.Idx) 1 : ℕ) ∧ ScatterDims.start scatter_S4x512x1024_S1_S512x1024_01_0_0_0 (ix2 k j : S512x1024.Idx) idx 1 + (ScatterDims.window scatter_S4x512x1024_S1_S512x1024_01_0_0_0 (ix2 k j : S512x1024.Idx) 1 : ℕ) < (512 : ℕ)
      rw [h1, w1]; omega
    | ⟨2, _⟩ =>
      show 0 ≤ ScatterDims.start scatter_S4x512x1024_S1_S512x1024_01_0_0_0 (ix2 k j : S512x1024.Idx) idx 2 + (ScatterDims.window scatter_S4x512x1024_S1_S512x1024_01_0_0_0 (ix2 k j : S512x1024.Idx) 2 : ℕ) ∧ ScatterDims.start scatter_S4x512x1024_S1_S512x1024_01_0_0_0 (ix2 k j : S512x1024.Idx) idx 2 + (ScatterDims.window scatter_S4x512x1024_S1_S512x1024_01_0_0_0 (ix2 k j : S512x1024.Idx) 2 : ℕ) < (1024 : ℕ)
      rw [h2, w2]; omega

/-- The first of four matrices replaced, read at one entry. -/
theorem scatter_first {α : Type} (x : S4x512x1024.Idx → α) (idx : IVec S1 32) (hz : ∀ i, idx i = 0#32) (u : S512x1024.Idx → α) :
    (∀ k j, Host.scatter scatter_S4x512x1024_S1_S512x1024_01_0_0_0 (fun _ b => b) x idx u (ix3 0 k j : S4x512x1024.Idx) = u (ix2 k j))
      ∧ ∀ (n : Fin 4) k j, n ≠ 0 → Host.scatter scatter_S4x512x1024_S1_S512x1024_01_0_0_0 (fun _ b => b) x idx u (ix3 n k j : S4x512x1024.Idx) = x (ix3 n k j) := by
  let g : Fin S512x1024.numel → S4x512x1024.Idx := fun n => ix3 0 (S512x1024.rowMajor.symm n 0) (S512x1024.rowMajor.symm n 1)
  have he : ∀ n, (ix2 (S512x1024.rowMajor.symm n 0) (S512x1024.rowMajor.symm n 1) : S512x1024.Idx) = S512x1024.rowMajor.symm n :=
    fun n => (ValueIdx.eq_ix2 (n0 := 512) (n1 := 1024) (S512x1024.rowMajor.symm n)).symm
  have hg : Function.Injective g := fun a b h => by
    apply S512x1024.rowMajor.symm.injective
    rw [← he a, ← he b]
    have h1 := congrFun h 1
    have h2 := congrFun h 2
    exact congrArg₂ (fun p q => (ix2 p q : S512x1024.Idx)) h1 h2
  have hs : Host.scatter scatter_S4x512x1024_S1_S512x1024_01_0_0_0 (fun _ b => b) x idx u
      = (List.finRange S512x1024.numel).foldl (fun r n => fun i' => if i' = g n then u (S512x1024.rowMajor.symm n) else r i') x := by
    unfold Host.scatter
    refine congrArg (fun f => List.foldl f x (List.finRange S512x1024.numel)) (funext fun r => funext fun n => ?_)
    have hl := lands idx hz (S512x1024.rowMajor.symm n 0) (S512x1024.rowMajor.symm n 1)
    rw [he n] at hl
    rw [hl]
  refine ⟨fun k j => ?_, fun n k j hn => ?_⟩
  · rw [hs]
    refine ((foldl_set g hg (fun n => u (S512x1024.rowMajor.symm n)) x _ _).1 (S512x1024.rowMajor (ix2 k j)) (List.mem_finRange _) ?_).trans ?_
    · show (ix3 0 (S512x1024.rowMajor.symm (S512x1024.rowMajor (ix2 k j)) 0) (S512x1024.rowMajor.symm (S512x1024.rowMajor (ix2 k j)) 1) : S4x512x1024.Idx) = ix3 0 k j
      rw [Equiv.symm_apply_apply]; rfl
    · show u (S512x1024.rowMajor.symm (S512x1024.rowMajor (ix2 k j))) = _
      rw [Equiv.symm_apply_apply]
  · rw [hs]
    refine (foldl_set g hg (fun n => u (S512x1024.rowMajor.symm n)) x _ _).2 fun a _ h => hn ?_
    exact (congrFun h 0).symm

end Cert.Kernel5Ideal.Gen

end
-- ==== Proof.MergeVal.lean ====
module

public import proofs.«01_k».proof.Proof.MergeIdx

/-! # The merge of the branches for a block of tokens, entry by entry -/

@[expose] public section

set_option maxHeartbeats 4000000
set_option maxRecDepth 100000

noncomputable section

namespace Cert.Kernel5Ideal.Gen

open Idealize.ShloMosaic Idealize.ShloMosaic.TcCoe Idealize.ShloMosaic.Tactic Idealize.SL.Sem

/-- One branch's gate at one column: the logistic of the projection of the row and the bias. -/
def gateAt (h : Fin 1024 → EReal) (Wg : Fin 1024 → EReal) (b : EReal) : EReal := Ideal.logistic ((∑ i, h i * Wg i) + b)

/-- Column `k` of branch `n`'s part of the gates' 4096 columns. -/
def gcol (n : Fin 4) (j : Fin 1024) : Fin 4096 := ⟨n.val * 1024 + j.val, by omega⟩

/-- The sum of the four gated branches at column `j`. -/
def mixAt (h : Fin 1024 → EReal) (o : Fin 4 → Fin 512 → EReal) (Wg : Fin 1024 → Fin 4096 → EReal) (b : Fin 4096 → EReal)
    (Wb : Fin 4 → Fin 512 → Fin 1024 → EReal) (j : Fin 1024) : EReal :=
  ∑ n : Fin 4, gateAt h (fun i => Wg i (gcol n j)) (b (gcol n j)) * ∑ k, o n k * Wb n k j

section
variable (x : Vec Ideal S256x1024 .f32) (h : Vec Ideal S256x1024 .bf16) (g3 : Vec Ideal S256x1536 .f32)
    (o1 o2 o3 o4 o5 o6 : Vec Ideal S256x512 .f32) (r : Fin 256)

theorem gate_at (W : Vec Ideal S1024x1024 .bf16) (b : Vec Ideal S1x1024 .f32) (j : Fin 1024) :
    k0_pay7 (F := Ideal) h W b (ix2 r j) = gateAt (fun i => h (ix2 r i)) (fun i => W (ix2 i j)) (b (ix2 0 j)) := by
  unfold k0_pay7 k0_pay2
  pointwise
  rfl

/-- The first branch's row in the kernel's column order. -/
def firstAt (k : Fin 512) : EReal :=
  (g3 (ix2 r ⟨k.val, by omega⟩) : EReal) * o1 (ix2 r k) + g3 (ix2 r ⟨512 + k.val, by omega⟩) * o2 (ix2 r k) + g3 (ix2 r ⟨1024 + k.val, by omega⟩) * o3 (ix2 r k)

theorem first_at (k : Fin 512) : k0_pay8 (F := Ideal) g3 o1 o2 o3 (ix2 r k) = firstAt g3 o1 o2 o3 r k := by
  unfold k0_pay8 firstAt
  pointwise

theorem three_at (w : FVec Ideal S256x1024 .f32) (b0 : FVec Ideal S256x512 .bf16) (W0 W1 W2 : Vec Ideal S1x512x1024 .bf16)
    (G1 G2 : Vec Ideal S1024x1024 .bf16) (c1 c2 : Vec Ideal S1x1024 .f32) (j : Fin 1024) :
    k0_pay9 (F := Ideal) (k0_pay2 h) (k0_pay3 o4) (k0_pay4 o5) (k0_pay6 (F := Ideal)) w b0 W0 G1 c1 W1 G2 c2 W2 (ix2 r j)
      = (w (ix2 r j) : EReal) * (∑ k, (b0 (ix2 r k) : EReal) * W0 (ix3 0 k j))
        + gateAt (fun i => h (ix2 r i)) (fun i => G1 (ix2 i j)) (c1 (ix2 0 j)) * (∑ k, (o4 (ix2 r k) : EReal) * W1 (ix3 0 k j))
        + gateAt (fun i => h (ix2 r i)) (fun i => G2 (ix2 i j)) (c2 (ix2 0 j)) * ∑ k, (o5 (ix2 r k) : EReal) * W2 (ix3 0 k j) := by
  unfold k0_pay9 k0_pay2 k0_pay3 k0_pay4 k0_pay6
  pointwise
  rfl

theorem last_at (acc : FVec Ideal S256x1024 .f32) (c3 : Vec Ideal S1x1024 .f32) (G3 : Vec Ideal S1024x1024 .bf16) (W3 : Vec Ideal S1x512x1024 .bf16)
    (Wo : Vec Ideal S1024x1024 .bf16) (col : Fin 1024) :
    k0_pay1 (F := Ideal) (k0_pay5 o6) acc (k0_pay10 (k0_pay2 h) G3) c3 W3 x Wo (ix2 r col)
      = (x (ix2 r col) : EReal) + ∑ j, ((acc (ix2 r j) : EReal) + gateAt (fun i => h (ix2 r i)) (fun i => G3 (ix2 i j)) (c3 (ix2 0 j)) * ∑ k, (o6 (ix2 r k) : EReal) * W3 (ix3 0 k j)) * Wo (ix2 j col) := by
  unfold k0_pay1 k0_pay2 k0_pay5 k0_pay10
  pointwise
  rfl
end

theorem zeros2 : (![0, 0] : Fin 2 → ℕ) = fun _ => 0 := funext fun a => by match a with | ⟨0, _⟩ => rfl | ⟨1, _⟩ => rfl

/-! ## The parts of the stacked weights that are loaded -/

theorem ld_gate0 (x : Vec Ideal S1024x4096 .bf16) (i j : Fin 1024) : View.ld x r0_3 (ix2 i j) = x (ix2 i (gcol 0 j)) := by
  refine congrArg x (funext fun a => Fin.ext ?_)
  match a with
  | ⟨0, _⟩ => show 0 + 1 * i.val = i.val; omega
  | ⟨1, _⟩ => show 0 + 1 * j.val = 0 * 1024 + j.val; omega

theorem ld_bias0 (x : Vec Ideal S1x4096 .f32) (j : Fin 1024) : View.ld x r0_4 (ix2 0 j) = x (ix2 0 (gcol 0 j)) := by
  refine congrArg x (funext fun a => Fin.ext ?_)
  match a with
  | ⟨0, _⟩ => rfl
  | ⟨1, _⟩ => show 0 + 1 * j.val = 0 * 1024 + j.val; omega

theorem ld_branch0 (x : Vec Ideal S4x512x1024 .bf16) (k : Fin 512) (j : Fin 1024) : View.ld x r0_5 (ix3 0 k j) = x (ix3 0 k j) := by
  refine congrArg x (funext fun a => Fin.ext ?_)
  match a with
  | ⟨0, _⟩ => rfl
  | ⟨1, _⟩ => show 0 + 1 * k.val = k.val; omega
  | ⟨2, _⟩ => show 0 + 1 * j.val = j.val; omega

theorem ld_gate1 (x : Vec Ideal S1024x4096 .bf16) (i j : Fin 1024) : View.ld x r0_6 (ix2 i j) = x (ix2 i (gcol 1 j)) := by
  refine congrArg x (funext fun a => Fin.ext ?_)
  match a with
  | ⟨0, _⟩ => show 0 + 1 * i.val = i.val; omega
  | ⟨1, _⟩ => show 1024 + 1 * j.val = 1 * 1024 + j.val; omega

theorem ld_bias1 (x : Vec Ideal S1x4096 .f32) (j : Fin 1024) : View.ld x r0_7 (ix2 0 j) = x (ix2 0 (gcol 1 j)) := by
  refine congrArg x (funext fun a => Fin.ext ?_)
  match a with
  | ⟨0, _⟩ => rfl
  | ⟨1, _⟩ => show 1024 + 1 * j.val = 1 * 1024 + j.val; omega

theorem ld_branch1 (x : Vec Ideal S4x512x1024 .bf16) (k : Fin 512) (j : Fin 1024) : View.ld x r0_8 (ix3 0 k j) = x (ix3 1 k j) := by
  refine congrArg x (funext fun a => Fin.ext ?_)
  match a with
  | ⟨0, _⟩ => rfl
  | ⟨1, _⟩ => show 0 + 1 * k.val = k.val; omega
  | ⟨2, _⟩ => show 0 + 1 * j.val = j.val; omega

theorem ld_gate2 (x : Vec Ideal S1024x4096 .bf16) (i j : Fin 1024) : View.ld x r0_9 (ix2 i j) = x (ix2 i (gcol 2 j)) := by
  refine congrArg x (funext fun a => Fin.ext ?_)
  match a with
  | ⟨0, _⟩ => show 0 + 1 * i.val = i.val; omega
  | ⟨1, _⟩ => show 2048 + 1 * j.val = 2 * 1024 + j.val; omega

theorem ld_bias2 (x : Vec Ideal S1x4096 .f32) (j : Fin 1024) : View.ld x r0_10 (ix2 0 j) = x (ix2 0 (gcol 2 j)) := by
  refine congrArg x (funext fun a => Fin.ext ?_)
  match a with
  | ⟨0, _⟩ => rfl
  | ⟨1, _⟩ => show 2048 + 1 * j.val = 2 * 1024 + j.val; omega

theorem ld_branch2 (x : Vec Ideal S4x512x1024 .bf16) (k : Fin 512) (j : Fin 1024) : View.ld x r0_11 (ix3 0 k j) = x (ix3 2 k j) := by
  refine congrArg x (funext fun a => Fin.ext ?_)
  match a with
  | ⟨0, _⟩ => rfl
  | ⟨1, _⟩ => show 0 + 1 * k.val = k.val; omega
  | ⟨2, _⟩ => show 0 + 1 * j.val = j.val; omega

theorem ld_gate3 (x : Vec Ideal S1024x4096 .bf16) (i j : Fin 1024) : View.ld x r0_12 (ix2 i j) = x (ix2 i (gcol 3 j)) := by
  refine congrArg x (funext fun a => Fin.ext ?_)
  match a with
  | ⟨0, _⟩ => show 0 + 1 * i.val = i.val; omega
  | ⟨1, _⟩ => show 3072 + 1 * j.val = 3 * 1024 + j.val; omega

theorem ld_bias3 (x : Vec Ideal S1x4096 .f32) (j : Fin 1024) : View.ld x r0_13 (ix2 0 j) = x (ix2 0 (gcol 3 j)) := by
  refine congrArg x (funext fun a => Fin.ext ?_)
  match a with
  | ⟨0, _⟩ => rfl
  | ⟨1, _⟩ => show 3072 + 1 * j.val = 3 * 1024 + j.val; omega

theorem ld_branch3 (x : Vec Ideal S4x512x1024 .bf16) (k : Fin 512) (j : Fin 1024) : View.ld x r0_14 (ix3 0 k j) = x (ix3 3 k j) := by
  refine congrArg x (funext fun a => Fin.ext ?_)
  match a with
  | ⟨0, _⟩ => rfl
  | ⟨1, _⟩ => show 0 + 1 * k.val = k.val; omega
  | ⟨2, _⟩ => show 0 + 1 * j.val = j.val; omega

/-- The four branches of row `r`, the first in the kernel's column order. -/
def four (x2 : Vec Ideal S256x1536 .f32) (x3 x4 x5 x6 x7 x8 : Vec Ideal S256x512 .f32) (r : Fin 256) (n : Fin 4) (k : Fin 512) : EReal :=
  match n with
  | 0 => firstAt x2 x3 x4 x5 r k
  | 1 => x6 (ix2 r k)
  | 2 => x7 (ix2 r k)
  | 3 => x8 (ix2 r k)

section
variable (x0 : Vec Ideal S256x1024 .f32) (x1 : Vec Ideal S256x1024 .bf16) (x2 : Vec Ideal S256x1536 .f32) (x3 x4 x5 x6 x7 x8 : Vec Ideal S256x512 .f32)
    (x9 : Vec Ideal S1024x4096 .bf16) (x10 : Vec Ideal S1x4096 .f32) (x11 : Vec Ideal S4x512x1024 .bf16) (x12 : Vec Ideal S1024x1024 .bf16)

theorem out_at (r : Fin 256) (col : Fin 1024) : out0_13 (F := Ideal) x0 x1 x2 x3 x4 x5 x6 x7 x8 x9 x10 x11 x12 (ix2 r col)
    = (x0 (ix2 r col) : EReal) + ∑ j, mixAt (fun i => x1 (ix2 r i)) (four x2 x3 x4 x5 x6 x7 x8 r) (fun i q => x9 (ix2 i q)) (fun q => x10 (ix2 0 q)) (fun n k q => x11 (ix3 n k q)) j * x12 (ix2 j col) := by
  unfold_out out0_13
  have l0 : View.ld x0 r0_0 = x0 := View.ld_unit_zero (S := S256x1024) zeros2 _ x0
  have l1 : View.ld x1 r0_0 = x1 := View.ld_unit_zero (S := S256x1024) zeros2 _ x1
  have l2 : View.ld x2 r0_1 = x2 := View.ld_unit_zero (S := S256x1536) zeros2 _ x2
  have l3 : View.ld x3 r0_2 = x3 := View.ld_unit_zero (S := S256x512) zeros2 _ x3
  have l4 : View.ld x4 r0_2 = x4 := View.ld_unit_zero (S := S256x512) zeros2 _ x4
  have l5 : View.ld x5 r0_2 = x5 := View.ld_unit_zero (S := S256x512) zeros2 _ x5
  have l6 : View.ld x6 r0_2 = x6 := View.ld_unit_zero (S := S256x512) zeros2 _ x6
  have l7 : View.ld x7 r0_2 = x7 := View.ld_unit_zero (S := S256x512) zeros2 _ x7
  have l8 : View.ld x8 r0_2 = x8 := View.ld_unit_zero (S := S256x512) zeros2 _ x8
  have l12 : View.ld x12 r0_15 = x12 := View.ld_unit_zero (S := S1024x1024) zeros2 _ x12
  rw [l0, l1, l2, l3, l4, l5, l6, l7, l8, l12]
  refine (congrFun (View.canon_unit_zero (S := S256x1024) zeros2 _ _) _).trans ((last_at x0 x1 x8 r _ _ _ _ x12 col).trans ?_)
  refine congrArg (fun z => (x0 (ix2 r col) : EReal) + z) (Finset.sum_congr rfl fun j _ => congrArg (fun z : EReal => z * x12 (ix2 j col)) ?_)
  unfold mixAt
  rw [Fin.sum_univ_four]
  refine congrArg₂ (fun a b : EReal => a + b) ((three_at x1 x6 x7 r _ _ _ _ _ _ _ _ _ j).trans (congrArg₂ (fun a b : EReal => a + b) (congrArg₂ (fun a b : EReal => a + b) ?_ ?_) ?_)) ?_
  · refine congrArg₂ (fun a b : EReal => a * b) ((gate_at x1 r _ _ j).trans ?_) (Finset.sum_congr rfl fun k _ => congrArg₂ (fun a b : EReal => a * b) (first_at x2 x3 x4 x5 r k) (ld_branch0 x11 k j))
    exact congrArg₂ (gateAt _) (funext fun i => ld_gate0 x9 i j) (ld_bias0 x10 j)
  · refine congrArg₂ (fun a b : EReal => a * b) ?_ (Finset.sum_congr rfl fun k _ => congrArg (fun b : EReal => x6 (ix2 r k) * b) (ld_branch1 x11 k j))
    exact congrArg₂ (gateAt _) (funext fun i => ld_gate1 x9 i j) (ld_bias1 x10 j)
  · refine congrArg₂ (fun a b : EReal => a * b) ?_ (Finset.sum_congr rfl fun k _ => congrArg (fun b : EReal => x7 (ix2 r k) * b) (ld_branch2 x11 k j))
    exact congrArg₂ (gateAt _) (funext fun i => ld_gate2 x9 i j) (ld_bias2 x10 j)
  · refine congrArg₂ (fun a b : EReal => a * b) ?_ (Finset.sum_congr rfl fun k _ => congrArg (fun b : EReal => x8 (ix2 r k) * b) (ld_branch3 x11 k j))
    exact congrArg₂ (gateAt _) (funext fun i => ld_gate3 x9 i j) (ld_bias3 x10 j)
end

end Cert.Kernel5Ideal.Gen

end
-- ==== Proof.MergePrep.lean ====
module

public import proofs.«01_k».proof.Proof.MergeIdx

/-! # What the host prepares for the merge -/

@[expose] public section

set_option maxHeartbeats 4000000
set_option maxRecDepth 100000

noncomputable section

namespace Cert.Kernel5Ideal.Gen

open Idealize.ShloMosaic Idealize.ShloMosaic.TcCoe Idealize.ShloMosaic.Tactic

/-- An index that is nowhere negative is taken as it is. -/
theorem idx_at {n : ℕ} (h : (⟨1, ![n]⟩ : Shape).BroadcastsInDim (⟨2, ![n, 1]⟩ : Shape) (![0] : Fin 1 → Fin 2)) (a b : IVec (⟨1, ![n]⟩ : Shape) 32) (k : Fin n) :
    broadcastInDim (⟨2, ![n, 1]⟩ : Shape) ![0] h (select (constantI (⟨1, ![n]⟩ : Shape) 1 0#1) a b) (ix2 k 0) = b (ix1 k) := by
  show b _ = b _
  refine congrArg b (funext fun a => Fin.ext ?_)
  match a with
  | ⟨0, _⟩ =>
    have hk := k.isLt
    split
    · rename_i h1
      have hn : n = 1 := h1
      show 0 = k.val
      omega
    · rfl

section
variable (m : (ℓ : Loc nD τ sig) → Buf (Elt Ideal) ℓ) (c : Dev nD)

/-- The arguments, the first two axes of tokens as one. -/
def aX : Vec Ideal S16384x1024 .f32 := shapeCast S16384x1024 (m ((c : Thread nD τ).loc main_arg0) : Vec Ideal S8x2048x1024 .f32) shapeCasts_S8x2048x1024_S16384x1024
def aH : Vec Ideal S16384x1024 .f32 := shapeCast S16384x1024 (m ((c : Thread nD τ).loc main_arg1) : Vec Ideal S8x2048x1024 .f32) shapeCasts_S8x2048x1024_S16384x1024
def aN : Vec Ideal S16384x24 .f32 := shapeCast S16384x24 (m ((c : Thread nD τ).loc main_arg2) : Vec Ideal S8x2048x24 .f32) shapeCasts_S8x2048x24_S16384x24
def aO1 : Vec Ideal S16384x2x4x64 .f32 := shapeCast S16384x2x4x64 (m ((c : Thread nD τ).loc main_arg3) : Vec Ideal S8x2048x2x4x64 .f32) shapeCasts_S8x2048x2x4x64_S16384x2x4x64
def aO2 : Vec Ideal S16384x2x4x64 .f32 := shapeCast S16384x2x4x64 (m ((c : Thread nD τ).loc main_arg4) : Vec Ideal S8x2048x2x4x64 .f32) shapeCasts_S8x2048x2x4x64_S16384x2x4x64
def aO3 : Vec Ideal S16384x2x4x64 .f32 := shapeCast S16384x2x4x64 (m ((c : Thread nD τ).loc main_arg5) : Vec Ideal S8x2048x2x4x64 .f32) shapeCasts_S8x2048x2x4x64_S16384x2x4x64
def aO4 : Vec Ideal S16384x512 .f32 := shapeCast S16384x512 (m ((c : Thread nD τ).loc main_arg6) : Vec Ideal S8x2048x512 .f32) shapeCasts_S8x2048x512_S16384x512
def aO5 : Vec Ideal S16384x512 .f32 := shapeCast S16384x512 (m ((c : Thread nD τ).loc main_arg7) : Vec Ideal S8x2048x512 .f32) shapeCasts_S8x2048x512_S16384x512
def aO6 : Vec Ideal S16384x512 .f32 := shapeCast S16384x512 (m ((c : Thread nD τ).loc main_arg8) : Vec Ideal S8x2048x512 .f32) shapeCasts_S8x2048x512_S16384x512
def aWb : Vec Ideal S4x512x1024 .f32 := m ((c : Thread nD τ).loc main_arg9)
def aWg : Vec Ideal S1024x4096 .f32 := m ((c : Thread nD τ).loc main_arg10)
def aBg : Vec Ideal S4096 .f32 := m ((c : Thread nD τ).loc main_arg11)
def aWo : Vec Ideal S1024x1024 .f32 := m ((c : Thread nD τ).loc main_arg12)

/-- The three attention results with the two head axes exchanged, flat. -/
def turned (O : Vec Ideal S16384x2x4x64 .f32) : Vec Ideal S16384x512 .f32 :=
  shapeCast S16384x512 (transpose S16384x4x2x64 [0, 2, 1, 3] O transposes_S16384x2x4x64_S16384x4x2x64_0_2_1_3) shapeCasts_S16384x4x2x64_S16384x512

/-- The logistic of the gates. -/
def sig24 (N : FVec Ideal S16384x24 .f32) : FVec Ideal S16384x24 .f32 :=
  Host.divf (broadcastInDim S16384x24 ![] bcast_S_S16384x24 (constant (F := Ideal) S_ .f32 0x3F800000#32)) (addf (broadcastInDim S16384x24 ![] bcast_S_S16384x24 (constant (F := Ideal) S_ .f32 0x3F800000#32)) (Host.exp (Host.negf N)))

theorem prep_v31 : (V m c main_v31 : Vec Ideal S16384x1024 .f32) = aX m c := by
  simp only [V, hostOps0, List.flatten_cons, List.flatten_nil, List.append_nil, List.cons_append, List.nil_append]
  after_results_simp
  try rfl
theorem prep_v33 : (V m c main_v33 : Vec Ideal S16384x1024 .bf16) = (truncf .bf16 (aH m c : FVec Ideal S16384x1024 .f32) bitsLt_bf16_f32 : FVec Ideal S16384x1024 .bf16) := by
  simp only [V, hostOps0, List.flatten_cons, List.flatten_nil, List.append_nil, List.cons_append, List.nil_append]
  after_results_simp
  try rfl
theorem prep_v14 : (V m c main_v14 : Vec Ideal S16384x512 .f32) = turned (aO1 m c) := by
  simp only [V, hostOps0, List.flatten_cons, List.flatten_nil, List.append_nil, List.cons_append, List.nil_append]
  after_results_simp
  try rfl
theorem prep_v17 : (V m c main_v17 : Vec Ideal S16384x512 .f32) = turned (aO2 m c) := by
  simp only [V, hostOps0, List.flatten_cons, List.flatten_nil, List.append_nil, List.cons_append, List.nil_append]
  after_results_simp
  try rfl
theorem prep_v20 : (V m c main_v20 : Vec Ideal S16384x512 .f32) = turned (aO3 m c) := by
  simp only [V, hostOps0, List.flatten_cons, List.flatten_nil, List.append_nil, List.cons_append, List.nil_append]
  after_results_simp
  try rfl
theorem prep_v34 : (V m c main_v34 : Vec Ideal S16384x512 .f32) = aO4 m c := by
  simp only [V, hostOps0, List.flatten_cons, List.flatten_nil, List.append_nil, List.cons_append, List.nil_append]
  after_results_simp
  try rfl
theorem prep_v35 : (V m c main_v35 : Vec Ideal S16384x512 .f32) = aO5 m c := by
  simp only [V, hostOps0, List.flatten_cons, List.flatten_nil, List.append_nil, List.cons_append, List.nil_append]
  after_results_simp
  try rfl
theorem prep_v36 : (V m c main_v36 : Vec Ideal S16384x512 .f32) = aO6 m c := by
  simp only [V, hostOps0, List.flatten_cons, List.flatten_nil, List.append_nil, List.cons_append, List.nil_append]
  after_results_simp
  try rfl
theorem prep_v37 : (V m c main_v37 : Vec Ideal S1024x4096 .bf16) = (truncf .bf16 (aWg m c : FVec Ideal S1024x4096 .f32) bitsLt_bf16_f32 : FVec Ideal S1024x4096 .bf16) := by
  simp only [V, hostOps0, List.flatten_cons, List.flatten_nil, List.append_nil, List.cons_append, List.nil_append]
  after_results_simp
  try rfl
theorem prep_v38 : (V m c main_v38 : Vec Ideal S1x4096 .f32) = shapeCast S1x4096 (aBg m c) shapeCasts_S4096_S1x4096 := by
  simp only [V, hostOps0, List.flatten_cons, List.flatten_nil, List.append_nil, List.cons_append, List.nil_append]
  after_results_simp
  try rfl
theorem prep_v39 : (V m c main_v39 : Vec Ideal S1024x1024 .bf16) = (truncf .bf16 (aWo m c : FVec Ideal S1024x1024 .f32) bitsLt_bf16_f32 : FVec Ideal S1024x1024 .bf16) := by
  simp only [V, hostOps0, List.flatten_cons, List.flatten_nil, List.append_nil, List.cons_append, List.nil_append]
  after_results_simp
  try rfl

/-- The gates are a choice of columns of the logistic, by the first table. -/
theorem prep_v11 : ∃ idx : IVec S1536x1 32, (∀ k : Fin 1536, idx (ix2 k 0) = lit0 (S1536.rowMajor (ix1 k)))
    ∧ (V m c main_v11 : Vec Ideal S16384x1536 .f32) = Host.gather gather_S16384x24_S1536x1_S16384x1536_0_1_n_n_1_1_163841 (sig24 (aN m c)) idx := by
  have h : (V m c main_v11 : Vec Ideal S16384x1536 .f32) = Host.gather gather_S16384x24_S1536x1_S16384x1536_0_1_n_n_1_1_163841 (sig24 (aN m c))
      (broadcastInDim S1536x1 ![0] bcast_S1536_S1536x1_0 (select (constantI S1536 1 0#1) (addi (fun i => lit0 (S1536.rowMajor i)) (broadcastInDim S1536 ![] bcast_S_S1536 (constantI S_ 32 24#32))) (fun i => lit0 (S1536.rowMajor i)))) := by
    simp only [V, hostOps0, List.flatten_cons, List.flatten_nil, List.append_nil, List.cons_append, List.nil_append]
    after_results_simp
    try rfl
  refine ⟨_, fun k => ?_, h⟩
  exact idx_at bcast_S1536_S1536x1_0 _ _ k

/-- The first branch's matrix has its rows chosen by the second table; the others are as they were. -/
theorem prep_v30 : ∃ (idx : IVec S512x1 32) (z : IVec S1 32), (∀ k : Fin 512, idx (ix2 k 0) = lit1 (S512.rowMajor (ix1 k))) ∧ (∀ i, z i = 0#32)
    ∧ (V m c main_v30 : Vec Ideal S4x512x1024 .bf16) = (truncf .bf16 (Host.scatter scatter_S4x512x1024_S1_S512x1024_01_0_0_0 (fun _ b => b) (aWb m c) z
      (Host.gather gather_S512x1024_S512x1_S512x1024_1_0_n_n_0_1_11024 (shapeCast S512x1024 (extractStridedSlice S1x512x1024 ![0, 0, 0] (aWb m c) slices_S4x512x1024_S1x512x1024_0_0_0) shapeCasts_S1x512x1024_S512x1024) idx) : FVec Ideal S4x512x1024 .f32) bitsLt_bf16_f32 : FVec Ideal S4x512x1024 .bf16) := by
  have h : (V m c main_v30 : Vec Ideal S4x512x1024 .bf16) = (truncf .bf16 (Host.scatter scatter_S4x512x1024_S1_S512x1024_01_0_0_0 (fun _ b => b) (aWb m c) (broadcastInDim S1 ![] bcast_S_S1 (constantI S_ 32 0#32))
      (Host.gather gather_S512x1024_S512x1_S512x1024_1_0_n_n_0_1_11024 (shapeCast S512x1024 (extractStridedSlice S1x512x1024 ![0, 0, 0] (aWb m c) slices_S4x512x1024_S1x512x1024_0_0_0) shapeCasts_S1x512x1024_S512x1024)
        (broadcastInDim S512x1 ![0] bcast_S512_S512x1_0 (select (constantI S512 1 0#1) (addi (fun i => lit1 (S512.rowMajor i)) (broadcastInDim S512 ![] bcast_S_S512 (constantI S_ 32 512#32))) (fun i => lit1 (S512.rowMajor i))))) : FVec Ideal S4x512x1024 .f32) bitsLt_bf16_f32 : FVec Ideal S4x512x1024 .bf16) := by
    simp only [V, hostOps0, List.flatten_cons, List.flatten_nil, List.append_nil, List.cons_append, List.nil_append]
    after_results_simp
    try rfl
  refine ⟨_, _, fun k => ?_, fun i => rfl, h⟩
  exact idx_at bcast_S512_S512x1_0 _ _ k
end

end Cert.Kernel5Ideal.Gen

end
-- ==== Proof.MergeSpec.lean ====
module

public import proofs.«01_k».proof.Proof.MergeVal
public import proofs.«01_k».proof.Proof.MergePrep

/-! # The merge in the order of the heads

The row of the result in the terms of the arguments, and the prepared arrays' entries: a sum over the kernel's column order is
the sum over the order of the heads, for its first branch and the rows of that branch's matrix are moved together. -/

@[expose] public section

set_option maxHeartbeats 4000000
set_option maxRecDepth 100000

noncomputable section

namespace Cert.Kernel5Ideal.Gen

open Idealize.ShloMosaic Idealize.ShloMosaic.TcCoe Idealize.ShloMosaic.Tactic

/-- Column `k` of a token's heads: the group, the head in it, the place in the head. -/
def headIx (T : Fin 16384) (k : Fin 512) : S16384x2x4x64.Idx := ix4 T ⟨k.val / 256, by omega⟩ ⟨k.val / 64 % 4, by omega⟩ ⟨k.val % 64, by omega⟩

/-- The sparse attention's result: its three parts, each under its head's gate. -/
def sparse (N : Vec Ideal S16384x24 .f32) (O1 O2 O3 : Vec Ideal S16384x2x4x64 .f32) (T : Fin 16384) (k : Fin 512) : EReal :=
  Ideal.logistic (N (ix2 T (gp 0 k))) * O1 (headIx T k) + Ideal.logistic (N (ix2 T (gp 1 k))) * O2 (headIx T k) + Ideal.logistic (N (ix2 T (gp 2 k))) * O3 (headIx T k)

/-- The four branches of a token. -/
def branch (N : Vec Ideal S16384x24 .f32) (O1 O2 O3 : Vec Ideal S16384x2x4x64 .f32) (O4 O5 O6 : Vec Ideal S16384x512 .f32) (T : Fin 16384) (n : Fin 4) (k : Fin 512) : EReal :=
  match n with
  | 0 => sparse N O1 O2 O3 T k
  | 1 => O4 (ix2 T k)
  | 2 => O5 (ix2 T k)
  | 3 => O6 (ix2 T k)

/-- Token `T`'s row of the result. -/
def mergeRow (X H : Vec Ideal S16384x1024 .f32) (N : Vec Ideal S16384x24 .f32) (O1 O2 O3 : Vec Ideal S16384x2x4x64 .f32) (O4 O5 O6 : Vec Ideal S16384x512 .f32)
    (Wb : Vec Ideal S4x512x1024 .f32) (Wg : Vec Ideal S1024x4096 .f32) (Bg : Vec Ideal S4096 .f32) (Wo : Vec Ideal S1024x1024 .f32) (T : Fin 16384) (col : Fin 1024) : EReal :=
  X (ix2 T col) + ∑ j, mixAt (fun i => H (ix2 T i)) (branch N O1 O2 O3 O4 O5 O6 T) (fun i q => Wg (ix2 i q)) (fun q => Bg (ix1 q)) (fun n k q => Wb (ix3 n k q)) j * Wo (ix2 j col)

theorem sig_at (N : FVec Ideal S16384x24 .f32) (T : Fin 16384) (q : Fin 24) : sig24 N (ix2 T q) = Ideal.logistic (N (ix2 T q)) := by
  unfold sig24
  pointwise
  rfl

theorem group_at : ∀ k : Fin 512, k.val / 64 % 2 = ((k.val % 128 / 64 * 4 + k.val / 128) * 64 + k.val % 64) / 256 := by decide +kernel
theorem head_at : ∀ k : Fin 512, k.val / 128 = ((k.val % 128 / 64 * 4 + k.val / 128) * 64 + k.val % 64) / 64 % 4 := by decide +kernel
theorem place_at : ∀ k : Fin 512, k.val % 64 = ((k.val % 128 / 64 * 4 + k.val / 128) * 64 + k.val % 64) % 64 := by decide +kernel

theorem turned_at (O : Vec Ideal S16384x2x4x64 .f32) (T : Fin 16384) (k : Fin 512) : turned O (ix2 T k) = O (headIx T (qp k)) := by
  unfold turned headIx qp
  pointwise
  refine congrArg O (funext fun a => Fin.ext ?_)
  match a with
  | ⟨0, _⟩ => rfl
  | ⟨1, _⟩ => exact group_at k
  | ⟨2, _⟩ => exact head_at k
  | ⟨3, _⟩ => exact place_at k

/-- The choice of the gates' columns, read at one entry. -/
theorem cols_at (x : Vec Ideal S16384x24 .f32) (idx : IVec S1536x1 32) (T : Fin 16384) (q : Fin 1536) (b : Fin 24) (hb : idx (ix2 q 0) = BitVec.ofNat 32 b.val) :
    Host.gather gather_S16384x24_S1536x1_S16384x1536_0_1_n_n_1_1_163841 x idx (ix2 T q) = x (ix2 T b) := by
  have h := gather_col (α := Elt Ideal .f32) (nb := 24) (B := 16384) (n := 1536) gather_S16384x24_S1536x1_S16384x1536_0_1_n_n_1_1_163841 rfl rfl rfl rfl rfl x idx q T b hb (by norm_num)
  exact h

/-- The choice of a matrix's rows, read at one entry. -/
theorem rows_at (x : Vec Ideal S512x1024 .f32) (idx : IVec S512x1 32) (k : Fin 512) (j : Fin 1024) (b : Fin 512) (hb : idx (ix2 k 0) = BitVec.ofNat 32 b.val) :
    Host.gather gather_S512x1024_S512x1_S512x1024_1_0_n_n_0_1_11024 x idx (ix2 k j) = x (ix2 b j) := by
  have hb' : idx (ValueIdx.ix2 k (0 : Fin 1)) = BitVec.ofNat 32 b.val := hb
  have h := Routing.gather_row (α := Elt Ideal .f32) (nb := 512) (B := 1024) (n := 512) gather_S512x1024_S512x1_S512x1024_1_0_n_n_0_1_11024 rfl rfl rfl rfl rfl x idx k j b hb' (by norm_num)
  exact h

/-- The first of the four matrices. -/
theorem matrix_at (W : Vec Ideal S4x512x1024 .f32) (k : Fin 512) (j : Fin 1024) :
    (shapeCast S512x1024 (extractStridedSlice S1x512x1024 ![0, 0, 0] W slices_S4x512x1024_S1x512x1024_0_0_0) shapeCasts_S1x512x1024_S512x1024) (ix2 k j) = W (ix3 0 k j) := by
  pointwise
  try rfl

/-- Over the extended reals the narrower format holds the same numbers. -/
theorem trunc_at (Y : FVec Ideal S4x512x1024 .f32) (i : S4x512x1024.Idx) : ((truncf .bf16 Y bitsLt_bf16_f32 : FVec Ideal S4x512x1024 .bf16) i : EReal) = Y i := rfl

section
variable (m : (ℓ : Loc nD τ sig) → Buf (Elt Ideal) ℓ) (c : Dev nD)

theorem gates_at (T : Fin 16384) (ch : Fin 3) (k : Fin 512) (q : Fin 1536) (hq : q.val = 512 * ch.val + k.val) :
    (V m c main_v11 : Vec Ideal S16384x1536 .f32) (ix2 T q) = Ideal.logistic (aN m c (ix2 T (gp ch (qp k)))) := by
  obtain ⟨idx, hi, h⟩ := prep_v11 m c
  rw [h]
  have hb : idx (ix2 q 0) = BitVec.ofNat 32 (gp ch (qp k)).val := by
    rw [hi q, show S1536.rowMajor (ix1 q) = (⟨512 * ch.val + k.val, by omega⟩ : Fin 1536) from Fin.ext ((Shape.rowMajor_val_one (d := ![1536]) (ix1 q)).trans hq)]
    exact lit0_at ch k
  have e := cols_at (sig24 (aN m c)) idx T q (gp ch (qp k)) hb
  exact e.trans (sig_at (aN m c) T _)

theorem first_rows (k : Fin 512) (j : Fin 1024) : ((V m c main_v30 : Vec Ideal S4x512x1024 .bf16) (ix3 0 k j) : EReal) = aWb m c (ix3 0 (qp k) j) := by
  obtain ⟨idx, z, hi, hz, h⟩ := prep_v30 m c
  rw [h]
  have hb : idx (ix2 k 0) = BitVec.ofNat 32 (qp k).val := by
    rw [hi k, show S512.rowMajor (ix1 k) = (k : Fin 512) from Fin.ext (Shape.rowMajor_val_one (d := ![512]) (ix1 k))]
    exact lit1_at k
  have e := rows_at (shapeCast S512x1024 (extractStridedSlice S1x512x1024 ![0, 0, 0] (aWb m c) slices_S4x512x1024_S1x512x1024_0_0_0) shapeCasts_S1x512x1024_S512x1024) idx k j (qp k) hb
  have f := (scatter_first (α := Elt Ideal .f32) (aWb m c) z hz (Host.gather gather_S512x1024_S512x1_S512x1024_1_0_n_n_0_1_11024 (shapeCast S512x1024 (extractStridedSlice S1x512x1024 ![0, 0, 0] (aWb m c) slices_S4x512x1024_S1x512x1024_0_0_0) shapeCasts_S1x512x1024_S512x1024) idx)).1 k j
  exact (trunc_at _ _).trans (f.trans (e.trans (matrix_at _ _ _)))

theorem other_rows (n : Fin 4) (hn : n ≠ 0) (k : Fin 512) (j : Fin 1024) : ((V m c main_v30 : Vec Ideal S4x512x1024 .bf16) (ix3 n k j) : EReal) = aWb m c (ix3 n k j) := by
  obtain ⟨idx, z, hi, hz, h⟩ := prep_v30 m c
  rw [h]
  have f := (scatter_first (α := Elt Ideal .f32) (aWb m c) z hz (Host.gather gather_S512x1024_S512x1_S512x1024_1_0_n_n_0_1_11024 (shapeCast S512x1024 (extractStridedSlice S1x512x1024 ![0, 0, 0] (aWb m c) slices_S4x512x1024_S1x512x1024_0_0_0) shapeCasts_S1x512x1024_S512x1024) idx)).2 n k j hn
  exact (trunc_at _ _).trans f

theorem row_cast (g : Vec Ideal S4096 .f32) (j : Fin 4096) : (shapeCast S1x4096 g shapeCasts_S4096_S1x4096) (ix2 0 j) = g (ix1 j) := by
  pointwise
end

end Cert.Kernel5Ideal.Gen

end
-- ==== Proof.MergeRead.lean ====
module

public import proofs.«01_k».proof.Proof.MergeIdx

/-! # The merge's blocks at a point -/

@[expose] public section

set_option maxHeartbeats 4000000
set_option maxRecDepth 100000

noncomputable section

namespace Cert.Kernel5Ideal.Gen

open Idealize.ShloMosaic Idealize.ShloMosaic.TcCoe Idealize.ShloMosaic.Tactic

theorem win0_at : ∀ t : Fin grid0.N, win0_0.index t 0 = t.val ∧ win0_0.index t 1 = 0 := by decide +kernel
theorem win1_at : ∀ t : Fin grid0.N, win0_1.index t 0 = t.val ∧ win0_1.index t 1 = 0 := by decide +kernel
theorem win2_at : ∀ t : Fin grid0.N, win0_2.index t 0 = t.val ∧ win0_2.index t 1 = 0 := by decide +kernel
theorem win3_at : ∀ t : Fin grid0.N, win0_3.index t 0 = t.val ∧ win0_3.index t 1 = 0 := by decide +kernel
theorem win4_at : ∀ t : Fin grid0.N, win0_4.index t 0 = t.val ∧ win0_4.index t 1 = 0 := by decide +kernel
theorem win5_at : ∀ t : Fin grid0.N, win0_5.index t 0 = t.val ∧ win0_5.index t 1 = 0 := by decide +kernel
theorem win6_at : ∀ t : Fin grid0.N, win0_6.index t 0 = t.val ∧ win0_6.index t 1 = 0 := by decide +kernel
theorem win7_at : ∀ t : Fin grid0.N, win0_7.index t 0 = t.val ∧ win0_7.index t 1 = 0 := by decide +kernel
theorem win8_at : ∀ t : Fin grid0.N, win0_8.index t 0 = t.val ∧ win0_8.index t 1 = 0 := by decide +kernel
theorem win13_at : ∀ t : Fin grid0.N, win0_13.index t 0 = t.val ∧ win0_13.index t 1 = 0 := by decide +kernel
theorem win9_at : ∀ t : Fin grid0.N, win0_9.index t 0 = 0 ∧ win0_9.index t 1 = 0 := by decide +kernel
theorem win10_at : ∀ t : Fin grid0.N, win0_10.index t 0 = 0 ∧ win0_10.index t 1 = 0 := by decide +kernel
theorem win12_at : ∀ t : Fin grid0.N, win0_12.index t 0 = 0 ∧ win0_12.index t 1 = 0 := by decide +kernel
theorem win11_at : ∀ t : Fin grid0.N, win0_11.index t 0 = 0 ∧ win0_11.index t 1 = 0 ∧ win0_11.index t 2 = 0 := by decide +kernel
theorem size13 : ∀ t : Fin grid0.N, win0_13.xsize (grid0.coords t) 0 = 256 ∧ win0_13.xsize (grid0.coords t) 1 = 1024 := by decide +kernel

variable (m : (ℓ : Loc nD τ sig) → Buf (Elt Ideal) ℓ) (c : Dev nD)

/-- Row `r` of block `t`. -/
def tok (t : ℕ) (r : Fin 256) : Fin 16384 := Fin.ofNat 16384 (256 * t + r.val)

theorem read_x (t : Fin grid0.N) (r : Fin 256) (i : Fin 1024) : (iblk m c 0 t : Vec Ideal S256x1024 .f32) (ix2 r i) = (V m c main_v31 : Vec Ideal S16384x1024 .f32) (ix2 (tok t.val r) i) := by
  have ht : t.val < 64 := t.isLt
  unfold iblk
  rw [View.read_apply]
  show V m c main_v31 _ = V m c main_v31 _
  congr 1
  funext a
  apply Fin.ext
  match a with
  | ⟨0, _⟩ =>
    show win0_0.index t 0 * 256 + 1 * r.val = (256 * t.val + r.val) % 16384
    rw [(win0_at t).1]; omega
  | ⟨1, _⟩ =>
    show win0_0.index t 1 * 1024 + 1 * i.val = i.val
    rw [(win0_at t).2]; omega

theorem read_h (t : Fin grid0.N) (r : Fin 256) (i : Fin 1024) : (iblk m c 1 t : Vec Ideal S256x1024 .bf16) (ix2 r i) = (V m c main_v33 : Vec Ideal S16384x1024 .bf16) (ix2 (tok t.val r) i) := by
  have ht : t.val < 64 := t.isLt
  unfold iblk
  rw [View.read_apply]
  show V m c main_v33 _ = V m c main_v33 _
  congr 1
  funext a
  apply Fin.ext
  match a with
  | ⟨0, _⟩ =>
    show win0_1.index t 0 * 256 + 1 * r.val = (256 * t.val + r.val) % 16384
    rw [(win1_at t).1]; omega
  | ⟨1, _⟩ =>
    show win0_1.index t 1 * 1024 + 1 * i.val = i.val
    rw [(win1_at t).2]; omega

theorem read_g (t : Fin grid0.N) (r : Fin 256) (i : Fin 1536) : (iblk m c 2 t : Vec Ideal S256x1536 .f32) (ix2 r i) = (V m c main_v11 : Vec Ideal S16384x1536 .f32) (ix2 (tok t.val r) i) := by
  have ht : t.val < 64 := t.isLt
  unfold iblk
  rw [View.read_apply]
  show V m c main_v11 _ = V m c main_v11 _
  congr 1
  funext a
  apply Fin.ext
  match a with
  | ⟨0, _⟩ =>
    show win0_2.index t 0 * 256 + 1 * r.val = (256 * t.val + r.val) % 16384
    rw [(win2_at t).1]; omega
  | ⟨1, _⟩ =>
    show win0_2.index t 1 * 1536 + 1 * i.val = i.val
    rw [(win2_at t).2]; omega

theorem read_o1 (t : Fin grid0.N) (r : Fin 256) (i : Fin 512) : (iblk m c 3 t : Vec Ideal S256x512 .f32) (ix2 r i) = (V m c main_v14 : Vec Ideal S16384x512 .f32) (ix2 (tok t.val r) i) := by
  have ht : t.val < 64 := t.isLt
  unfold iblk
  rw [View.read_apply]
  show V m c main_v14 _ = V m c main_v14 _
  congr 1
  funext a
  apply Fin.ext
  match a with
  | ⟨0, _⟩ =>
    show win0_3.index t 0 * 256 + 1 * r.val = (256 * t.val + r.val) % 16384
    rw [(win3_at t).1]; omega
  | ⟨1, _⟩ =>
    show win0_3.index t 1 * 512 + 1 * i.val = i.val
    rw [(win3_at t).2]; omega

theorem read_o2 (t : Fin grid0.N) (r : Fin 256) (i : Fin 512) : (iblk m c 4 t : Vec Ideal S256x512 .f32) (ix2 r i) = (V m c main_v17 : Vec Ideal S16384x512 .f32) (ix2 (tok t.val r) i) := by
  have ht : t.val < 64 := t.isLt
  unfold iblk
  rw [View.read_apply]
  show V m c main_v17 _ = V m c main_v17 _
  congr 1
  funext a
  apply Fin.ext
  match a with
  | ⟨0, _⟩ =>
    show win0_4.index t 0 * 256 + 1 * r.val = (256 * t.val + r.val) % 16384
    rw [(win4_at t).1]; omega
  | ⟨1, _⟩ =>
    show win0_4.index t 1 * 512 + 1 * i.val = i.val
    rw [(win4_at t).2]; omega

theorem read_o3 (t : Fin grid0.N) (r : Fin 256) (i : Fin 512) : (iblk m c 5 t : Vec Ideal S256x512 .f32) (ix2 r i) = (V m c main_v20 : Vec Ideal S16384x512 .f32) (ix2 (tok t.val r) i) := by
  have ht : t.val < 64 := t.isLt
  unfold iblk
  rw [View.read_apply]
  show V m c main_v20 _ = V m c main_v20 _
  congr 1
  funext a
  apply Fin.ext
  match a with
  | ⟨0, _⟩ =>
    show win0_5.index t 0 * 256 + 1 * r.val = (256 * t.val + r.val) % 16384
    rw [(win5_at t).1]; omega
  | ⟨1, _⟩ =>
    show win0_5.index t 1 * 512 + 1 * i.val = i.val
    rw [(win5_at t).2]; omega

theorem read_pool (t : Fin grid0.N) (r : Fin 256) (i : Fin 512) : (iblk m c 6 t : Vec Ideal S256x512 .f32) (ix2 r i) = (V m c main_v34 : Vec Ideal S16384x512 .f32) (ix2 (tok t.val r) i) := by
  have ht : t.val < 64 := t.isLt
  unfold iblk
  rw [View.read_apply]
  show V m c main_v34 _ = V m c main_v34 _
  congr 1
  funext a
  apply Fin.ext
  match a with
  | ⟨0, _⟩ =>
    show win0_6.index t 0 * 256 + 1 * r.val = (256 * t.val + r.val) % 16384
    rw [(win6_at t).1]; omega
  | ⟨1, _⟩ =>
    show win0_6.index t 1 * 512 + 1 * i.val = i.val
    rw [(win6_at t).2]; omega

theorem read_gm (t : Fin grid0.N) (r : Fin 256) (i : Fin 512) : (iblk m c 7 t : Vec Ideal S256x512 .f32) (ix2 r i) = (V m c main_v35 : Vec Ideal S16384x512 .f32) (ix2 (tok t.val r) i) := by
  have ht : t.val < 64 := t.isLt
  unfold iblk
  rw [View.read_apply]
  show V m c main_v35 _ = V m c main_v35 _
  congr 1
  funext a
  apply Fin.ext
  match a with
  | ⟨0, _⟩ =>
    show win0_7.index t 0 * 256 + 1 * r.val = (256 * t.val + r.val) % 16384
    rw [(win7_at t).1]; omega
  | ⟨1, _⟩ =>
    show win0_7.index t 1 * 512 + 1 * i.val = i.val
    rw [(win7_at t).2]; omega

theorem read_diff (t : Fin grid0.N) (r : Fin 256) (i : Fin 512) : (iblk m c 8 t : Vec Ideal S256x512 .f32) (ix2 r i) = (V m c main_v36 : Vec Ideal S16384x512 .f32) (ix2 (tok t.val r) i) := by
  have ht : t.val < 64 := t.isLt
  unfold iblk
  rw [View.read_apply]
  show V m c main_v36 _ = V m c main_v36 _
  congr 1
  funext a
  apply Fin.ext
  match a with
  | ⟨0, _⟩ =>
    show win0_8.index t 0 * 256 + 1 * r.val = (256 * t.val + r.val) % 16384
    rw [(win8_at t).1]; omega
  | ⟨1, _⟩ =>
    show win0_8.index t 1 * 512 + 1 * i.val = i.val
    rw [(win8_at t).2]; omega

theorem read_wg (t : Fin grid0.N) (i : Fin 1024) (j : Fin 4096) : (iblk m c 9 t : Vec Ideal S1024x4096 .bf16) (ix2 i j) = (V m c main_v37 : Vec Ideal S1024x4096 .bf16) (ix2 i j) := by
  unfold iblk
  rw [View.read_apply]
  show V m c main_v37 _ = V m c main_v37 _
  congr 1
  funext a
  apply Fin.ext
  match a with
  | ⟨0, _⟩ => show win0_9.index t 0 * 1024 + 1 * i.val = i.val; rw [(win9_at t).1]; omega
  | ⟨1, _⟩ => show win0_9.index t 1 * 4096 + 1 * j.val = j.val; rw [(win9_at t).2]; omega

theorem read_wo (t : Fin grid0.N) (i : Fin 1024) (j : Fin 1024) : (iblk m c 12 t : Vec Ideal S1024x1024 .bf16) (ix2 i j) = (V m c main_v39 : Vec Ideal S1024x1024 .bf16) (ix2 i j) := by
  unfold iblk
  rw [View.read_apply]
  show V m c main_v39 _ = V m c main_v39 _
  congr 1
  funext a
  apply Fin.ext
  match a with
  | ⟨0, _⟩ => show win0_12.index t 0 * 1024 + 1 * i.val = i.val; rw [(win12_at t).1]; omega
  | ⟨1, _⟩ => show win0_12.index t 1 * 1024 + 1 * j.val = j.val; rw [(win12_at t).2]; omega

theorem read_bg (t : Fin grid0.N) (j : Fin 4096) : (iblk m c 10 t : Vec Ideal S1x4096 .f32) (ix2 0 j) = (V m c main_v38 : Vec Ideal S1x4096 .f32) (ix2 0 j) := by
  unfold iblk
  rw [View.read_apply]
  show V m c main_v38 _ = V m c main_v38 _
  congr 1
  funext a
  apply Fin.ext
  match a with
  | ⟨0, _⟩ => show win0_10.index t 0 * 1 + 1 * 0 = 0; rw [(win10_at t).1]
  | ⟨1, _⟩ => show win0_10.index t 1 * 4096 + 1 * j.val = j.val; rw [(win10_at t).2]; omega

theorem read_wb (t : Fin grid0.N) (n : Fin 4) (k : Fin 512) (j : Fin 1024) : (iblk m c 11 t : Vec Ideal S4x512x1024 .bf16) (ix3 n k j) = (V m c main_v30 : Vec Ideal S4x512x1024 .bf16) (ix3 n k j) := by
  unfold iblk
  rw [View.read_apply]
  show V m c main_v30 _ = V m c main_v30 _
  congr 1
  funext a
  apply Fin.ext
  match a with
  | ⟨0, _⟩ => show win0_11.index t 0 * 4 + 1 * n.val = n.val; rw [(win11_at t).1]; omega
  | ⟨1, _⟩ => show win0_11.index t 1 * 512 + 1 * k.val = k.val; rw [(win11_at t).2.1]; omega
  | ⟨2, _⟩ => show win0_11.index t 2 * 1024 + 1 * j.val = j.val; rw [(win11_at t).2.2]; omega

end Cert.Kernel5Ideal.Gen

end
-- ==== Proof.MergeOut.lean ====
module

public import proofs.«01_k».proof.Proof.MergeSpec
public import proofs.«01_k».proof.Proof.MergeRead

/-! # The result after the merge

Each block of 256 tokens is written once; the result array ends at the merged row of every token. -/
@[expose] public section

set_option maxHeartbeats 4000000
set_option maxRecDepth 100000

noncomputable section

namespace Cert.Kernel5Ideal.Gen

open Idealize.ShloMosaic Idealize.ShloMosaic.TcCoe Idealize.ShloMosaic.Tactic Idealize.SL.Sem

/-- The gated sum does not see the order of the first branch's columns. -/
theorem mix_eq (h : Fin 1024 → EReal) (o o' : Fin 4 → Fin 512 → EReal) (Wg : Fin 1024 → Fin 4096 → EReal) (b : Fin 4096 → EReal)
    (W W' : Fin 4 → Fin 512 → Fin 1024 → EReal) (j : Fin 1024) (ho : ∀ k, o' 0 k = o 0 (qp k)) (hW : ∀ k, W' 0 k j = W 0 (qp k) j)
    (ho' : ∀ n, n ≠ 0 → o' n = o n) (hW' : ∀ n k, n ≠ 0 → W' n k j = W n k j) : mixAt h o' Wg b W' j = mixAt h o Wg b W j := by
  unfold mixAt
  refine Finset.sum_congr rfl fun n _ => congrArg (fun z : EReal => gateAt h (fun i => Wg i (gcol n j)) (b (gcol n j)) * z) ?_
  by_cases hn : n = 0
  · subst hn
    refine (Finset.sum_congr rfl fun k _ => ?_).trans (sum_qp fun k => o 0 k * W 0 k j)
    rw [ho, hW]
  · refine Finset.sum_congr rfl fun k _ => ?_
    rw [ho' n hn, hW' n k hn]

section
variable (m : (ℓ : Loc nD τ sig) → Buf (Elt Ideal) ℓ) (c : Dev nD)

/-- The result. -/
def outV : Vec Ideal S16384x1024 .f32 := fun i => mergeRow (aX m c) (aH m c) (aN m c) (aO1 m c) (aO2 m c) (aO3 m c) (aO4 m c) (aO5 m c) (aO6 m c) (aWb m c) (aWg m c) (aBg m c) (aWo m c) (i 0) (i 1)

theorem four_first (t : Fin grid0.N) (r : Fin 256) (k : Fin 512) :
    four (iblk m c 2 t) (iblk m c 3 t) (iblk m c 4 t) (iblk m c 5 t) (iblk m c 6 t) (iblk m c 7 t) (iblk m c 8 t) r 0 k
      = branch (aN m c) (aO1 m c) (aO2 m c) (aO3 m c) (aO4 m c) (aO5 m c) (aO6 m c) (tok t.val r) 0 (qp k) := by
  show firstAt _ _ _ _ r k = sparse (aN m c) (aO1 m c) (aO2 m c) (aO3 m c) (tok t.val r) (qp k)
  unfold firstAt sparse
  refine congrArg₂ (fun a b : EReal => a + b) (congrArg₂ (fun a b : EReal => a + b) ?_ ?_) ?_
  · refine congrArg₂ (fun a b : EReal => a * b) ((read_g m c t r _).trans (gates_at m c _ 0 k _ (by show k.val = 512 * 0 + k.val; omega))) ((read_o1 m c t r k).trans ?_)
    rw [prep_v14]; exact turned_at _ _ _
  · refine congrArg₂ (fun a b : EReal => a * b) ((read_g m c t r _).trans (gates_at m c _ 1 k _ (by show 512 + k.val = 512 * 1 + k.val; omega))) ((read_o2 m c t r k).trans ?_)
    rw [prep_v17]; exact turned_at _ _ _
  · refine congrArg₂ (fun a b : EReal => a * b) ((read_g m c t r _).trans (gates_at m c _ 2 k _ (by show 1024 + k.val = 512 * 2 + k.val; omega))) ((read_o3 m c t r k).trans ?_)
    rw [prep_v20]; exact turned_at _ _ _

theorem four_other (t : Fin grid0.N) (r : Fin 256) (n : Fin 4) (hn : n ≠ 0) :
    four (iblk m c 2 t) (iblk m c 3 t) (iblk m c 4 t) (iblk m c 5 t) (iblk m c 6 t) (iblk m c 7 t) (iblk m c 8 t) r n
      = branch (aN m c) (aO1 m c) (aO2 m c) (aO3 m c) (aO4 m c) (aO5 m c) (aO6 m c) (tok t.val r) n := by
  funext k
  match n, hn with
  | 1, _ => exact (read_pool m c t r k).trans (congrFun (prep_v34 m c) _)
  | 2, _ => exact (read_gm m c t r k).trans (congrFun (prep_v35 m c) _)
  | 3, _ => exact (read_diff m c t r k).trans (congrFun (prep_v36 m c) _)

theorem block_at (t : Fin grid0.N) (r : Fin 256) (col : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r col)
      = mergeRow (aX m c) (aH m c) (aN m c) (aO1 m c) (aO2 m c) (aO3 m c) (aO4 m c) (aO5 m c) (aO6 m c) (aWb m c) (aWg m c) (aBg m c) (aWo m c) (tok t.val r) col := by
  refine (out_at _ _ _ _ _ _ _ _ _ _ _ _ _ r col).trans ?_
  unfold mergeRow
  refine congrArg₂ (fun a b : EReal => a + b) ((read_x m c t r col).trans (congrFun (prep_v31 m c) _)) (Finset.sum_congr rfl fun j _ => congrArg₂ (fun a b : EReal => a * b) ?_ ?_)
  · rw [show (fun i => ((iblk m c 1 t : Vec Ideal S256x1024 .bf16) (ix2 r i) : EReal)) = (fun i => aH m c (ix2 (tok t.val r) i)) from funext fun i => (read_h m c t r i).trans (congrFun (prep_v33 m c) _),
      show (fun i q => ((iblk m c 9 t : Vec Ideal S1024x4096 .bf16) (ix2 i q) : EReal)) = (fun i q => aWg m c (ix2 i q)) from funext fun i => funext fun q => (read_wg m c t i q).trans (congrFun (prep_v37 m c) _),
      show (fun q => ((iblk m c 10 t : Vec Ideal S1x4096 .f32) (ix2 0 q) : EReal)) = (fun q => aBg m c (ix1 q)) from funext fun q => (read_bg m c t q).trans ((congrFun (prep_v38 m c) _).trans (row_cast _ q))]
    exact mix_eq _ _ _ _ _ _ _ j (four_first m c t r) (fun k => (read_wb m c t 0 k j).trans (first_rows m c k j)) (four_other m c t r)
      (fun n k hn => (read_wb m c t n k j).trans (other_rows m c n hn k j))
  · exact (read_wo m c t j col).trans (congrFun (prep_v39 m c) _)

theorem flushed_eq (t : Fin cfg0.N) : (dats m 0 c).flushed 13 t = ((cfg0.win 13).blk t).view.read (Elt Ideal) (outV m c) := by
  have hlt : t.val < 64 := t.isLt
  rw [Value.flushed13]
  funext y
  rw [View.read_apply]
  obtain ⟨r, col, rfl⟩ : ∃ (r : Fin 256) (col : Fin 1024), y = (ix2 r col : S256x1024.Idx) := ⟨y 0, y 1, ValueIdx.eq_ix2 (n0 := 256) (n1 := 1024) y⟩
  have hi : ((cfg0.win 13).blk t).view.emb (ix2 r col : S256x1024.Idx) = (ix2 (tok t.val r) col : S16384x1024.Idx) := by
    funext a
    apply Fin.ext
    match a with
    | ⟨0, _⟩ =>
      show win0_13.index t 0 * 256 + 1 * r.val = (256 * t.val + r.val) % 16384
      rw [(win13_at t).1]; omega
    | ⟨1, _⟩ =>
      show win0_13.index t 1 * 1024 + 1 * col.val = col.val
      rw [(win13_at t).2]; omega
  show out0_13 (F := Ideal) _ _ _ _ _ _ _ _ _ _ _ _ _ (ix2 r col) = outV m c (((cfg0.win 13).blk t).view.emb (ix2 r col : S256x1024.Idx))
  rw [hi]
  exact block_at m c t r col
end

theorem cover (i : S16384x1024.Idx) : ∃ t : Fin cfg0.N, (cfg0.win 13).flush t = true ∧ i ∈ ((cfg0.win 13).blk t).view.set := by
  have h0 : (i 0).val < 16384 := (i 0).isLt
  have h1 : (i 1).val < 1024 := (i 1).isLt
  have hN : cfg0.N = 64 := N_0
  refine ⟨⟨(i 0).val / 256, by omega⟩, flush0_13 _, ?_⟩
  generalize ht : (⟨(i 0).val / 256, by omega⟩ : Fin cfg0.N) = t
  have hv : t.val = (i 0).val / 256 := by rw [← ht]
  show i ∈ ((View.whole main_v40).slice (win0_13.rect t)).set
  rw [View.set_slice_whole, Rect.mem_set_unit]
  intro a
  match a with
  | ⟨0, _⟩ =>
    show win0_13.index t 0 * 256 ≤ (i 0).val ∧ (i 0).val < win0_13.index t 0 * 256 + win0_13.xsize (grid0.coords t) 0
    rw [(win13_at t).1, (size13 t).1]; omega
  | ⟨1, _⟩ =>
    show win0_13.index t 1 * 1024 ≤ (i 1).val ∧ (i 1).val < win0_13.index t 1 * 1024 + win0_13.xsize (grid0.coords t) 1
    rw [(win13_at t).2, (size13 t).2]; omega

theorem result (m : (ℓ : Loc nD τ sig) → Buf (Elt Ideal) ℓ) (c : Dev nD) : (dats m 0 c).arrAt 13 cfg0.N = outV m c :=
  (dats m 0 c).arrAt_eq_of_cover 13 (outV m c) (fun t _ => flushed_eq m c t) cover

end Cert.Kernel5Ideal.Gen

end
-- ==== Proof.MergeRef.lean ====
module

public import proofs.«01_k».proof.Defs
public import proofs.«01_k».proof.Proof.MergeSpec
public import proofs.«01_k».proof.Proof.Gen.Reference5Ideal.Run

/-! # The plain merge, entry by entry -/
@[expose] public section

set_option maxHeartbeats 4000000
set_option maxRecDepth 100000

noncomputable section

namespace Cert.Reference5Ideal.Value

open Idealize.ShloMosaic Idealize.ShloMosaic.TcCoe Idealize.ShloMosaic.Tactic Idealize.SL.Sem Cert.Kernel5Ideal.Gen

theorem out_at (X S : FVec Ideal S16384x1024 .f32) (Wo : FVec Ideal S1024x1024 .f32) (T : Fin 16384) (col : Fin 1024) :
    addf X (Host.dotGeneral dot_S16384x1024_S1024x1024_S16384x1024_1_0_0_1_n_n none S Wo) (ix2 T col) = X (ix2 T col) + ∑ j, (S (ix2 T j) : EReal) * Wo (ix2 j col) := by
  pointwise

theorem sum_at (G Y : FVec Ideal S16384x4x1024 .f32) (T : Fin 16384) (j : Fin 1024) :
    Host.reduceAdd (mulf G Y) (constant (F := Ideal) S_ .f32 0x00000000#32) Gen.reducesTo_S16384x4x1024_S16384x1024_d1 Gen.h_S_ (ix2 T j) = ∑ n : Fin 4, (G (ix3 T n j) : EReal) * Y (ix3 T n j) := by
  pointwise

theorem gate_at (H : FVec Ideal S16384x1024 .f32) (Wg : FVec Ideal S1024x4096 .f32) (b : FVec Ideal S4096 .f32) (T : Fin 16384) (n : Fin 4) (j : Fin 1024) :
    shapeCast S16384x4x1024 (Host.divf (broadcastInDim S16384x4096 ![] Gen.bcast_S_S16384x4096 (constant (F := Ideal) S_ .f32 0x3F800000#32)) (addf (broadcastInDim S16384x4096 ![] Gen.bcast_S_S16384x4096 (constant (F := Ideal) S_ .f32 0x3F800000#32)) (Host.exp (Host.negf (addf (Host.dotGeneral dot_S16384x1024_S1024x4096_S16384x4096_1_0_0_1_n_n none H Wg) (broadcastInDim S16384x4096 ![0, 1] Gen.bcast_S1x4096_S16384x4096_0_1 (broadcastInDim S1x4096 ![1] Gen.bcast_S4096_S1x4096_1 b))))))) Gen.shapeCasts_S16384x4096_S16384x4x1024 (ix3 T n j)
      = gateAt (fun i => H (ix2 T i)) (fun i => Wg (ix2 i (gcol n j))) (b (ix1 (gcol n j))) := by
  pointwise
  rfl

theorem proj_at (Wb : FVec Ideal S4x512x1024 .f32) (O : FVec Ideal S16384x4x512 .f32) (T : Fin 16384) (n : Fin 4) (j : Fin 1024) :
    transpose S16384x4x1024 [2, 0, 1] (Host.dotGeneral dot_S4x512x1024_S16384x4x512_S4x1024x16384_1_2_2_0_0_1 none Wb O) Gen.transposes_S4x1024x16384_S16384x4x1024_2_0_1 (ix3 T n j)
      = ∑ k, (Wb (ix3 n k j) : EReal) * O (ix3 T n k) := by
  pointwise

/-- The four branches side by side. -/
def stacked (a b c d : FVec Ideal S16384x512 .f32) : FVec Ideal S16384x4x512 .f32 :=
  concatenate S16384x4x512 1 [⟨S16384x1x512, broadcastInDim S16384x1x512 ![0, 2] Gen.bcast_S16384x512_S16384x1x512_0_2 a⟩, ⟨S16384x1x512, broadcastInDim S16384x1x512 ![0, 2] Gen.bcast_S16384x512_S16384x1x512_0_2 b⟩, ⟨S16384x1x512, broadcastInDim S16384x1x512 ![0, 2] Gen.bcast_S16384x512_S16384x1x512_0_2 c⟩, ⟨S16384x1x512, broadcastInDim S16384x1x512 ![0, 2] Gen.bcast_S16384x512_S16384x1x512_0_2 d⟩] Gen.concatenates_S16384x1x512_S16384x1x512_S16384x1x512_S16384x1x512_S16384x4x512_d1

theorem stack0 (a b c d : FVec Ideal S16384x512 .f32) (T : Fin 16384) (k : Fin 512) : stacked a b c d (ix3 T 0 k) = a (ix2 T k) := by
  unfold stacked
  pointwise
  try rfl
theorem stack1 (a b c d : FVec Ideal S16384x512 .f32) (T : Fin 16384) (k : Fin 512) : stacked a b c d (ix3 T 1 k) = b (ix2 T k) := by
  unfold stacked
  pointwise
  try rfl
theorem stack2 (a b c d : FVec Ideal S16384x512 .f32) (T : Fin 16384) (k : Fin 512) : stacked a b c d (ix3 T 2 k) = c (ix2 T k) := by
  unfold stacked
  pointwise
  try rfl
theorem stack3 (a b c d : FVec Ideal S16384x512 .f32) (T : Fin 16384) (k : Fin 512) : stacked a b c d (ix3 T 3 k) = d (ix2 T k) := by
  unfold stacked
  pointwise
  try rfl

/-- The heads' gates. -/
def gates (N : FVec Ideal S8x2048x24 .f32) : FVec Ideal S16384x2x4x3 .f32 :=
  shapeCast S16384x2x4x3 (Host.divf (broadcastInDim S8x2048x24 ![] Gen.bcast_S_S8x2048x24 (constant (F := Ideal) S_ .f32 0x3F800000#32)) (addf (broadcastInDim S8x2048x24 ![] Gen.bcast_S_S8x2048x24 (constant (F := Ideal) S_ .f32 0x3F800000#32)) (Host.exp (Host.negf N)))) Gen.shapeCasts_S8x2048x24_S16384x2x4x3

theorem group_place : ∀ (ch : Fin 3) (k : Fin 512), k.val / 256 * 12 + k.val / 64 % 4 * 3 + ch.val = k.val / 64 * 3 + ch.val := by decide +kernel

theorem gates_at (N : FVec Ideal S8x2048x24 .f32) (T : Fin 16384) (k : Fin 512) (ch : Fin 3) :
    gates N (ix4 T ⟨k.val / 256, by omega⟩ ⟨k.val / 64 % 4, by omega⟩ ch)
      = Ideal.logistic ((shapeCast Cert.Kernel5Ideal.S16384x24 N Cert.Kernel5Ideal.Gen.shapeCasts_S8x2048x24_S16384x24 : FVec Ideal Cert.Kernel5Ideal.S16384x24 .f32) (ix2 T (gp ch k))) := by
  unfold gates gp
  pointwise
  show Ideal.logistic (N _) = Ideal.logistic (N _)
  exact congrArg (fun q : Fin 24 => Ideal.logistic (N (ix3 _ _ q))) (Fin.ext (group_place ch k))

theorem sparse_at (G : FVec Ideal S16384x2x4x3 .f32) (O1 O2 O3 : FVec Ideal S16384x2x4x64 .f32) (T : Fin 16384) (k : Fin 512) :
    shapeCast S16384x512 (addf (addf (mulf (broadcastInDim S16384x2x4x64 ![0, 1, 2, 3] Gen.bcast_S16384x2x4x1_S16384x2x4x64_0_1_2_3 (extractStridedSlice S16384x2x4x1 ![0, 0, 0, 0] G Gen.slices_S16384x2x4x3_S16384x2x4x1_0_0_0_0)) O1) (mulf (broadcastInDim S16384x2x4x64 ![0, 1, 2, 3] Gen.bcast_S16384x2x4x1_S16384x2x4x64_0_1_2_3 (extractStridedSlice S16384x2x4x1 ![0, 0, 0, 1] G Gen.slices_S16384x2x4x3_S16384x2x4x1_0_0_0_1)) O2)) (mulf (broadcastInDim S16384x2x4x64 ![0, 1, 2, 3] Gen.bcast_S16384x2x4x1_S16384x2x4x64_0_1_2_3 (extractStridedSlice S16384x2x4x1 ![0, 0, 0, 2] G Gen.slices_S16384x2x4x3_S16384x2x4x1_0_0_0_2)) O3)) Gen.shapeCasts_S16384x2x4x64_S16384x512 (ix2 T k)
      = (G (ix4 T ⟨k.val / 256, by omega⟩ ⟨k.val / 64 % 4, by omega⟩ 0) : EReal) * O1 (headIx T k) + G (ix4 T ⟨k.val / 256, by omega⟩ ⟨k.val / 64 % 4, by omega⟩ 1) * O2 (headIx T k) + G (ix4 T ⟨k.val / 256, by omega⟩ ⟨k.val / 64 % 4, by omega⟩ 2) * O3 (headIx T k) := by
  unfold headIx
  pointwise
  try rfl

end Cert.Reference5Ideal.Value

end
-- ==== Proof.MergeMain.lean ====
module

public import proofs.«01_k».proof.Defs
public import proofs.«01_k».proof.Proof.MergeOut
public import proofs.«01_k».proof.Proof.MergeRef
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Kernel5Ideal.Frame
public import proofs.«01_k».proof.Proof.Gen.Reference5Ideal
public import proofs.«01_k».proof.Proof.Gen.Reference5Ideal.Run

/-! # The merge: the two results agree -/
@[expose] public section

set_option maxHeartbeats 4000000
set_option maxRecDepth 100000

noncomputable section

namespace Cert.Reference5Ideal.Value

open Idealize.ShloMosaic Idealize.ShloMosaic.TcCoe Idealize.ShloMosaic.Tactic Idealize.SL.Sem Cert.Kernel5Ideal.Gen

/-- The plain merge as one term of its arguments. -/
def plain (X H : FVec Ideal S16384x1024 .f32) (N : FVec Ideal S8x2048x24 .f32) (O1 O2 O3 : FVec Ideal S16384x2x4x64 .f32) (O4 O5 O6 : FVec Ideal S16384x512 .f32)
    (Wb : FVec Ideal S4x512x1024 .f32) (Wg : FVec Ideal S1024x4096 .f32) (b : FVec Ideal S4096 .f32) (Wo : FVec Ideal S1024x1024 .f32) : FVec Ideal S16384x1024 .f32 :=
  addf X (Host.dotGeneral dot_S16384x1024_S1024x1024_S16384x1024_1_0_0_1_n_n none
    (Host.reduceAdd (mulf
      (shapeCast S16384x4x1024 (Host.divf (broadcastInDim S16384x4096 ![] Gen.bcast_S_S16384x4096 (constant (F := Ideal) S_ .f32 0x3F800000#32)) (addf (broadcastInDim S16384x4096 ![] Gen.bcast_S_S16384x4096 (constant (F := Ideal) S_ .f32 0x3F800000#32)) (Host.exp (Host.negf (addf (Host.dotGeneral dot_S16384x1024_S1024x4096_S16384x4096_1_0_0_1_n_n none H Wg) (broadcastInDim S16384x4096 ![0, 1] Gen.bcast_S1x4096_S16384x4096_0_1 (broadcastInDim S1x4096 ![1] Gen.bcast_S4096_S1x4096_1 b))))))) Gen.shapeCasts_S16384x4096_S16384x4x1024)
      (transpose S16384x4x1024 [2, 0, 1] (Host.dotGeneral dot_S4x512x1024_S16384x4x512_S4x1024x16384_1_2_2_0_0_1 none Wb
        (stacked (shapeCast S16384x512 (addf (addf (mulf (broadcastInDim S16384x2x4x64 ![0, 1, 2, 3] Gen.bcast_S16384x2x4x1_S16384x2x4x64_0_1_2_3 (extractStridedSlice S16384x2x4x1 ![0, 0, 0, 0] (gates N) Gen.slices_S16384x2x4x3_S16384x2x4x1_0_0_0_0)) O1) (mulf (broadcastInDim S16384x2x4x64 ![0, 1, 2, 3] Gen.bcast_S16384x2x4x1_S16384x2x4x64_0_1_2_3 (extractStridedSlice S16384x2x4x1 ![0, 0, 0, 1] (gates N) Gen.slices_S16384x2x4x3_S16384x2x4x1_0_0_0_1)) O2)) (mulf (broadcastInDim S16384x2x4x64 ![0, 1, 2, 3] Gen.bcast_S16384x2x4x1_S16384x2x4x64_0_1_2_3 (extractStridedSlice S16384x2x4x1 ![0, 0, 0, 2] (gates N) Gen.slices_S16384x2x4x3_S16384x2x4x1_0_0_0_2)) O3)) Gen.shapeCasts_S16384x2x4x64_S16384x512)
          O4 O5 O6)) Gen.transposes_S4x1024x16384_S16384x4x1024_2_0_1)) (constant (F := Ideal) S_ .f32 0x00000000#32) Gen.reducesTo_S16384x4x1024_S16384x1024_d1 Gen.h_S_) Wo)

theorem plain_at (X H : FVec Ideal S16384x1024 .f32) (N : FVec Ideal S8x2048x24 .f32) (O1 O2 O3 : FVec Ideal S16384x2x4x64 .f32) (O4 O5 O6 : FVec Ideal S16384x512 .f32)
    (Wb : FVec Ideal S4x512x1024 .f32) (Wg : FVec Ideal S1024x4096 .f32) (b : FVec Ideal S4096 .f32) (Wo : FVec Ideal S1024x1024 .f32) (T : Fin 16384) (col : Fin 1024) :
    plain X H N O1 O2 O3 O4 O5 O6 Wb Wg b Wo (ix2 T col)
      = mergeRow X H (shapeCast Cert.Kernel5Ideal.S16384x24 N Cert.Kernel5Ideal.Gen.shapeCasts_S8x2048x24_S16384x24) O1 O2 O3 O4 O5 O6 Wb Wg b Wo T col := by
  unfold plain
  refine (out_at _ _ _ T col).trans ?_
  unfold mergeRow
  refine congrArg (fun z : EReal => X (ix2 T col) + z) (Finset.sum_congr rfl fun j _ => congrArg (fun z : EReal => z * Wo (ix2 j col)) ?_)
  refine (sum_at _ _ T j).trans ?_
  unfold mixAt
  refine Finset.sum_congr rfl fun n _ => congrArg₂ (fun p q : EReal => p * q) (gate_at H Wg b T n j) ((proj_at Wb _ T n j).trans (Finset.sum_congr rfl fun k _ => ?_))
  refine (mul_comm _ _).trans (congrArg (fun z : EReal => z * Wb (ix3 n k j)) ?_)
  match n with
  | 0 =>
    refine (stack0 _ _ _ _ T k).trans ((sparse_at _ O1 O2 O3 T k).trans ?_)
    rw [gates_at, gates_at, gates_at]
    rfl
  | 1 => exact stack1 _ _ _ _ T k
  | 2 => exact stack2 _ _ _ _ T k
  | 3 => exact stack3 _ _ _ _ T k

end Cert.Reference5Ideal.Value

namespace Cert.Proof

open Idealize.ShloMosaic Idealize.ShloMosaic.TcCoe Idealize.ShloMosaic.Tactic Idealize.SL.Sem Cert.Kernel5Ideal Cert.Kernel5Ideal.Gen

theorem algebraic_merge : Cert.algebraic_Kernel5Ideal_Reference5Ideal := by
  intro m g m' g' _ ha
  refine ⟨fun c => outV m c, ?_, ?_⟩
  · exact (θ_run Cert.Kernel5Ideal.defs _ _).mono (fun r h c => ⟨(h c).1.trans (result m c), (h c).2⟩) (Cert.Kernel5Ideal.Value.run_blocks m g)
  refine (θ_run Cert.Reference5Ideal.defs _ _).mono (fun r h c => ⟨(h c).1.trans ?_, (h c).2⟩) (Cert.Reference5Ideal.Value.run (F := Ideal) m' g')
  obtain ⟨a0, a1, a2, a3, a4, a5, a6, a7, a8, a9, a10, a11, a12⟩ := ha c
  rw [a0, a1, a2, a3, a4, a5, a6, a7, a8, a9, a10, a11, a12]
  funext i
  obtain ⟨T, col, rfl⟩ : ∃ (T : Fin 16384) (col : Fin 1024), i = (ix2 T col : S16384x1024.Idx) := ⟨i 0, i 1, ValueIdx.eq_ix2 (n0 := 16384) (n1 := 1024) i⟩
  exact Cert.Reference5Ideal.Value.plain_at (aX m c) (aH m c) _ (aO1 m c) (aO2 m c) (aO3 m c) (aO4 m c) (aO5 m c) (aO6 m c) (aWb m c) (aWg m c) (aBg m c) (aWo m c) T col

end Cert.Proof

end
-- ==== Proof.ProjVal.lean ====
module

public import proofs.«01_k».proof.Proof.ValSpec
public import proofs.«01_k».proof.Proof.Gen.Kernel4Ideal.Value

/-! # The projections of a block of tokens, entry by entry -/

@[expose] public section

set_option maxHeartbeats 4000000
set_option maxRecDepth 100000

noncomputable section

namespace Cert.Kernel4Ideal.Gen

open Idealize.ShloMosaic Idealize.ShloMosaic.TcCoe Idealize.ShloMosaic.Tactic Idealize.SL.Sem Cert.KernelIdeal.Gen

theorem zeros2 : (![0, 0] : Fin 2 → ℕ) = fun _ => 0 := funext fun a => by match a with | ⟨0, _⟩ => rfl | ⟨1, _⟩ => rfl

section
variable (x : Vec Ideal S256x1024 .f32) (g : Vec Ideal S1x1024 .f32) (w : Vec Ideal S1024x5888 .bf16) (r : Fin 256)

theorem norm_at (i : Fin 1024) : k0_pay6 (F := Ideal) x g (ix2 r i) = hRow (fun i => x (ix2 r i)) (fun i => g (ix2 0 i)) i := by
  unfold k0_pay6
  pointwise
  rfl

theorem ld_x : View.ld x r0_0 = x := View.ld_unit_zero (S := S256x1024) zeros2 _ x
theorem ld_g : View.ld g r0_1 = g := View.ld_unit_zero (S := S1x1024) zeros2 _ g

theorem dot_kv (u : Vec Ideal S1024x512 .bf16) (q : Fin 512) : k0_pay8 (F := Ideal) x g u (ix2 r q) = ∑ i, (k0_pay6 (F := Ideal) x g (ix2 r i) : EReal) * u (ix2 i q) := by
  unfold k0_pay8
  pointwise

theorem out_kv (q : Fin 512) : out0_5 (F := Ideal) x g w (ix2 r q)
    = ∑ i, hRow (fun i => x (ix2 r i)) (fun i => g (ix2 0 i)) i * w (ix2 i ⟨512 + q.val, by omega⟩) := by
  unfold_out out0_5
  rw [ld_x, ld_g]
  refine (congrFun (View.canon_unit_zero (S := S256x512) zeros2 _ _) _).trans ((dot_kv x g r _ q).trans (Finset.sum_congr rfl fun i _ => ?_))
  refine congrArg₂ (fun a b : EReal => a * b) (norm_at x g r i) (congrArg w ?_)
  funext a
  apply Fin.ext
  match a with
  | ⟨0, _⟩ => show 0 + 1 * i.val = i.val; omega
  | ⟨1, _⟩ => show 512 + 1 * q.val = 512 + q.val; omega

theorem dot_win (u : Vec Ideal S1024x256 .bf16) (q : Fin 256) : k0_pay9 (F := Ideal) x g u (ix2 r q) = ∑ i, (k0_pay6 (F := Ideal) x g (ix2 r i) : EReal) * u (ix2 i q) := by
  unfold k0_pay9
  pointwise

theorem out_win (q : Fin 256) : out0_6 (F := Ideal) x g w (ix2 r q)
    = ∑ i, hRow (fun i => x (ix2 r i)) (fun i => g (ix2 0 i)) i * w (ix2 i ⟨1024 + q.val, by omega⟩) := by
  unfold_out out0_6
  rw [ld_x, ld_g]
  refine (congrFun (View.canon_unit_zero (S := S256x256) zeros2 _ _) _).trans ((dot_win x g r _ q).trans (Finset.sum_congr rfl fun i _ => ?_))
  refine congrArg₂ (fun a b : EReal => a * b) (norm_at x g r i) (congrArg w ?_)
  funext a
  apply Fin.ext
  match a with
  | ⟨0, _⟩ => show 0 + 1 * i.val = i.val; omega
  | ⟨1, _⟩ => show 1024 + 1 * q.val = 1024 + q.val; omega

theorem dot_pool (u : Vec Ideal S1024x512 .bf16) (q : Fin 512) : k0_pay2 (F := Ideal) (k0_pay6 x g) u (ix2 r q) = ∑ i, (k0_pay6 (F := Ideal) x g (ix2 r i) : EReal) * u (ix2 i q) := by
  unfold k0_pay2
  pointwise

theorem out_pool (q : Fin 512) : out0_8 (F := Ideal) x g w (ix2 r q)
    = ∑ i, hRow (fun i => x (ix2 r i)) (fun i => g (ix2 0 i)) i * w (ix2 i ⟨2816 + q.val, by omega⟩) := by
  unfold_out out0_8
  rw [ld_x, ld_g]
  refine (congrFun (View.canon_unit_zero (S := S256x512) zeros2 _ _) _).trans ((dot_pool x g r _ q).trans (Finset.sum_congr rfl fun i _ => ?_))
  refine congrArg₂ (fun a b : EReal => a * b) (norm_at x g r i) (congrArg w ?_)
  funext a
  apply Fin.ext
  match a with
  | ⟨0, _⟩ => show 0 + 1 * i.val = i.val; omega
  | ⟨1, _⟩ => show 2816 + 1 * q.val = 2816 + q.val; omega

theorem dot_gm (u : Vec Ideal S1024x1024 .bf16) (q : Fin 1024) : k0_pay3 (F := Ideal) (k0_pay6 x g) u (ix2 r q) = ∑ i, (k0_pay6 (F := Ideal) x g (ix2 r i) : EReal) * u (ix2 i q) := by
  unfold k0_pay3
  pointwise

theorem out_gm (q : Fin 1024) : out0_9 (F := Ideal) x g w (ix2 r q)
    = ∑ i, hRow (fun i => x (ix2 r i)) (fun i => g (ix2 0 i)) i * w (ix2 i ⟨3328 + q.val, by omega⟩) := by
  unfold_out out0_9
  rw [ld_x, ld_g]
  refine (congrFun (View.canon_unit_zero (S := S256x1024) zeros2 _ _) _).trans ((dot_gm x g r _ q).trans (Finset.sum_congr rfl fun i _ => ?_))
  refine congrArg₂ (fun a b : EReal => a * b) (norm_at x g r i) (congrArg w ?_)
  funext a
  apply Fin.ext
  match a with
  | ⟨0, _⟩ => show 0 + 1 * i.val = i.val; omega
  | ⟨1, _⟩ => show 3328 + 1 * q.val = 3328 + q.val; omega

theorem dot_dkv (u : Vec Ideal S1024x1024 .bf16) (q : Fin 1024) : k0_pay5 (F := Ideal) (k0_pay6 x g) u (ix2 r q) = ∑ i, (k0_pay6 (F := Ideal) x g (ix2 r i) : EReal) * u (ix2 i q) := by
  unfold k0_pay5
  pointwise

theorem out_dkv (q : Fin 1024) : out0_11 (F := Ideal) x g w (ix2 r q)
    = ∑ i, hRow (fun i => x (ix2 r i)) (fun i => g (ix2 0 i)) i * w (ix2 i ⟨4864 + q.val, by omega⟩) := by
  unfold_out out0_11
  rw [ld_x, ld_g]
  refine (congrFun (View.canon_unit_zero (S := S256x1024) zeros2 _ _) _).trans ((dot_dkv x g r _ q).trans (Finset.sum_congr rfl fun i _ => ?_))
  refine congrArg₂ (fun a b : EReal => a * b) (norm_at x g r i) (congrArg w ?_)
  funext a
  apply Fin.ext
  match a with
  | ⟨0, _⟩ => show 0 + 1 * i.val = i.val; omega
  | ⟨1, _⟩ => show 4864 + 1 * q.val = 4864 + q.val; omega
end

end Cert.Kernel4Ideal.Gen

end
-- ==== Proof.ProjRead.lean ====
module

public import proofs.«01_k».proof.Proof.ValPay
public import proofs.«01_k».proof.Proof.Gen.Kernel4Ideal.Value

/-! # The projections' blocks at a point -/

@[expose] public section

set_option maxHeartbeats 4000000
set_option maxRecDepth 100000

noncomputable section

namespace Cert.Kernel4Ideal.Gen

open Idealize.ShloMosaic Idealize.ShloMosaic.TcCoe Idealize.ShloMosaic.Tactic

theorem win0_at : ∀ t : Fin grid0.N, win0_0.index t 0 = t.val ∧ win0_0.index t 1 = 0 := by decide +kernel
theorem win1_at : ∀ t : Fin grid0.N, win0_1.index t 0 = 0 ∧ win0_1.index t 1 = 0 := by decide +kernel
theorem win2_at : ∀ t : Fin grid0.N, win0_2.index t 0 = 0 ∧ win0_2.index t 1 = 0 := by decide +kernel
theorem win5_at : ∀ t : Fin grid0.N, win0_5.index t 0 = t.val ∧ win0_5.index t 1 = 0 := by decide +kernel
theorem win6_at : ∀ t : Fin grid0.N, win0_6.index t 0 = t.val ∧ win0_6.index t 1 = 0 := by decide +kernel
theorem win8_at : ∀ t : Fin grid0.N, win0_8.index t 0 = t.val ∧ win0_8.index t 1 = 0 := by decide +kernel
theorem win9_at : ∀ t : Fin grid0.N, win0_9.index t 0 = t.val ∧ win0_9.index t 1 = 0 := by decide +kernel
theorem win11_at : ∀ t : Fin grid0.N, win0_11.index t 0 = t.val ∧ win0_11.index t 1 = 0 := by decide +kernel
theorem size5 : ∀ t : Fin grid0.N, win0_5.xsize (grid0.coords t) 0 = 256 ∧ win0_5.xsize (grid0.coords t) 1 = 512 := by decide +kernel
theorem size6 : ∀ t : Fin grid0.N, win0_6.xsize (grid0.coords t) 0 = 256 ∧ win0_6.xsize (grid0.coords t) 1 = 256 := by decide +kernel
theorem size8 : ∀ t : Fin grid0.N, win0_8.xsize (grid0.coords t) 0 = 256 ∧ win0_8.xsize (grid0.coords t) 1 = 512 := by decide +kernel
theorem size9 : ∀ t : Fin grid0.N, win0_9.xsize (grid0.coords t) 0 = 256 ∧ win0_9.xsize (grid0.coords t) 1 = 1024 := by decide +kernel
theorem size11 : ∀ t : Fin grid0.N, win0_11.xsize (grid0.coords t) 0 = 256 ∧ win0_11.xsize (grid0.coords t) 1 = 1024 := by decide +kernel

/-- The kernel's weight matrix: two blocks `A` and `B` of permuted columns, and two ranges of columns as they are. -/
def joined (A : Vec Ideal S1024x512 .f32) (w : Vec Ideal S1024x4376 .f32) (B : Vec Ideal S1024x1536 .f32) : Vec Ideal S1024x5888 .f32 :=
  concatenate S1024x5888 1 [⟨S1024x512, A⟩, ⟨S1024x768, extractStridedSlice S1024x768 ![0, 512] w slices_S1024x4376_S1024x768_0_512⟩, ⟨S1024x1536, B⟩, ⟨S1024x3072, extractStridedSlice S1024x3072 ![0, 1304] w slices_S1024x4376_S1024x3072_0_1304⟩] concatenates_S1024x512_S1024x768_S1024x1536_S1024x3072_S1024x5888_d1

theorem joined_mid (A : Vec Ideal S1024x512 .f32) (w : Vec Ideal S1024x4376 .f32) (B : Vec Ideal S1024x1536 .f32) (i : Fin 1024) (j : ℕ) (h0 : 512 ≤ j) (h1 : j < 1280) :
    joined A w B (ix2 i ⟨j, by omega⟩) = w (ix2 i ⟨j, by omega⟩) := by
  unfold joined
  pointwise
  rw [dif_neg (by omega), dif_pos (by omega)]
  exact congrArg (fun k => w (ix2 i k)) (Fin.ext (by show 512 + (j - 512) = j; omega))

theorem joined_last (A : Vec Ideal S1024x512 .f32) (w : Vec Ideal S1024x4376 .f32) (B : Vec Ideal S1024x1536 .f32) (i : Fin 1024) (j : ℕ) (h0 : 2816 ≤ j) (h1 : j < 5888) :
    joined A w B (ix2 i ⟨j, by omega⟩) = w (ix2 i ⟨j - 1512, by omega⟩) := by
  unfold joined
  pointwise
  rw [dif_neg (by omega), dif_neg (by omega), dif_neg (by omega)]
  exact congrArg (fun k => w (ix2 i k)) (Fin.ext (by show 1304 + (j - 512 - 768 - 1536) = j - 1512; omega))

variable (m : (ℓ : Loc nD τ sig) → Buf (Elt Ideal) ℓ) (c : Dev nD)

/-- The tokens' array: the argument, the first two axes as one; the gain; the projections' weights. -/
def aX : Vec Ideal S16384x1024 .f32 := shapeCast S16384x1024 (m ((c : Thread nD τ).loc main_arg0) : Vec Ideal S8x2048x1024 .f32) shapeCasts_S8x2048x1024_S16384x1024
def aG : Vec Ideal S1024 .f32 := m ((c : Thread nD τ).loc main_arg1)
def aW : Vec Ideal S1024x4376 .f32 := m ((c : Thread nD τ).loc main_arg2)

theorem prep_v16 : (V m c main_v16 : Vec Ideal S16384x1024 .f32) = aX m c := by
  simp only [V, hostOps0, List.flatten_cons, List.flatten_nil, List.append_nil, List.cons_append, List.nil_append]
  after_results_simp
  try rfl
theorem prep_v17 : (V m c main_v17 : Vec Ideal S1x1024 .f32) = shapeCast S1x1024 (aG m c) shapeCasts_S1024_S1x1024 := by
  simp only [V, hostOps0, List.flatten_cons, List.flatten_nil, List.append_nil, List.cons_append, List.nil_append]
  after_results_simp
  try rfl
theorem prep_v15 : ∃ A B, (V m c main_v15 : Vec Ideal S1024x5888 .bf16) = (truncf .bf16 (joined A (aW m c) B : FVec Ideal S1024x5888 .f32) bitsLt_bf16_f32 : FVec Ideal S1024x5888 .bf16) := by
  simp only [V, hostOps0, List.flatten_cons, List.flatten_nil, List.append_nil, List.cons_append, List.nil_append]
  after_results_simp
  exact ⟨_, _, rfl⟩

theorem row_cast (g : Vec Ideal S1024 .f32) (j : Fin 1024) : (shapeCast S1x1024 g shapeCasts_S1024_S1x1024) (ix2 0 j) = g (ix1 j) := by
  pointwise

/-- Row `r` of block `t`. -/
def tok (t : ℕ) (r : Fin 256) : Fin 16384 := Fin.ofNat 16384 (256 * t + r.val)

theorem read_x (t : Fin grid0.N) (r : Fin 256) (i : Fin 1024) : (iblk m c 0 t : Vec Ideal S256x1024 .f32) (ix2 r i) = aX m c (ix2 (tok t.val r) i) := by
  have ht : t.val < 64 := t.isLt
  unfold iblk
  rw [View.read_apply, ← prep_v16 m c]
  show V m c main_v16 _ = V m c main_v16 _
  congr 1
  funext a
  apply Fin.ext
  match a with
  | ⟨0, _⟩ =>
    show win0_0.index t 0 * 256 + 1 * r.val = (256 * t.val + r.val) % 16384
    rw [(win0_at t).1]; omega
  | ⟨1, _⟩ =>
    show win0_0.index t 1 * 1024 + 1 * i.val = i.val
    rw [(win0_at t).2]; omega

theorem read_g (t : Fin grid0.N) (i : Fin 1024) : (iblk m c 1 t : Vec Ideal S1x1024 .f32) (ix2 0 i) = aG m c (ix1 i) := by
  rw [← row_cast (aG m c), ← prep_v17 m c]
  unfold iblk
  rw [View.read_apply]
  show V m c main_v17 _ = V m c main_v17 _
  congr 1
  funext a
  apply Fin.ext
  match a with
  | ⟨0, _⟩ => show win0_1.index t 0 * 1 + 1 * 0 = 0; rw [(win1_at t).1]
  | ⟨1, _⟩ => show win0_1.index t 1 * 1024 + 1 * i.val = i.val; rw [(win1_at t).2]; omega

theorem read_w (t : Fin grid0.N) (i : Fin 1024) (j : Fin 5888) : (iblk m c 2 t : Vec Ideal S1024x5888 .bf16) (ix2 i j) = (V m c main_v15 : Vec Ideal S1024x5888 .bf16) (ix2 i j) := by
  unfold iblk
  rw [View.read_apply]
  show V m c main_v15 _ = V m c main_v15 _
  congr 1
  funext a
  apply Fin.ext
  match a with
  | ⟨0, _⟩ => show win0_2.index t 0 * 1024 + 1 * i.val = i.val; rw [(win2_at t).1]; omega
  | ⟨1, _⟩ => show win0_2.index t 1 * 5888 + 1 * j.val = j.val; rw [(win2_at t).2]; omega

theorem read_mid (t : Fin grid0.N) (i : Fin 1024) (j : ℕ) (h0 : 512 ≤ j) (h1 : j < 1280) : ((iblk m c 2 t : Vec Ideal S1024x5888 .bf16) (ix2 i ⟨j, by omega⟩) : EReal) = aW m c (ix2 i ⟨j, by omega⟩) := by
  obtain ⟨A, B, h⟩ := prep_v15 m c
  rw [read_w, h]
  exact joined_mid A (aW m c) B i j h0 h1

theorem read_last (t : Fin grid0.N) (i : Fin 1024) (j : ℕ) (h0 : 2816 ≤ j) (h1 : j < 5888) : ((iblk m c 2 t : Vec Ideal S1024x5888 .bf16) (ix2 i ⟨j, h1⟩) : EReal) = aW m c (ix2 i ⟨j - 1512, by omega⟩) := by
  obtain ⟨A, B, h⟩ := prep_v15 m c
  rw [read_w, h]
  exact joined_last A (aW m c) B i j h0 h1

end Cert.Kernel4Ideal.Gen

end
-- ==== Proof.ProjOut.lean ====
module

public import proofs.«01_k».proof.Proof.ProjVal
public import proofs.«01_k».proof.Proof.ProjRead

/-! # The projections' results

Each block of 256 tokens is written once; each result array ends at the normalised rows' products with a range of
columns of the weights. -/

@[expose] public section

set_option maxHeartbeats 4000000
set_option maxRecDepth 100000

noncomputable section

namespace Cert.Kernel4Ideal.Gen

open Idealize.ShloMosaic Idealize.ShloMosaic.TcCoe Idealize.ShloMosaic.Tactic Idealize.SL.Sem Cert.KernelIdeal.Gen

/-- Token `T`'s normalised row times column `j` of the weights. -/
def projRow (X : Vec Ideal S16384x1024 .f32) (G : Vec Ideal S1024 .f32) (W : Vec Ideal S1024x4376 .f32) (T : Fin 16384) (j : Fin 4376) : EReal :=
  ∑ i, hRow (fun i => X (ix2 T i)) (fun i => G (ix1 i)) i * W (ix2 i j)

section
variable (m : (ℓ : Loc nD τ sig) → Buf (Elt Ideal) ℓ) (c : Dev nD)

/-- The result `kv`: the columns from 512 on. -/
def kvV : Vec Ideal S16384x512 .f32 := fun i => projRow (aX m c) (aG m c) (aW m c) (i 0) ⟨512 + (i 1).val, by have h : (i 1).val < 512 := (i 1).isLt; omega⟩

theorem block_kv (t : Fin grid0.N) (r : Fin 256) (q : Fin 512) :
    out0_5 (F := Ideal) (iblk m c 0 t) (iblk m c 1 t) (iblk m c 2 t) (ix2 r q) = projRow (aX m c) (aG m c) (aW m c) (tok t.val r) ⟨512 + q.val, by omega⟩ := by
  refine (out_kv _ _ _ r q).trans ?_
  unfold projRow
  refine Finset.sum_congr rfl fun i _ => congrArg₂ (fun a b : EReal => a * b) (congrArg₂ (fun u v => hRow u v i) (funext fun i => read_x m c t r i) (funext fun i => read_g m c t i)) ?_
  refine (read_mid m c t i (512 + q.val) (by omega) (by omega)).trans (congrArg (fun j => aW m c (ix2 i j)) (Fin.ext ?_))
  show 512 + q.val = 512 + q.val
  omega

theorem flushed_kv (t : Fin cfg0.N) : (dats m 0 c).flushed 5 t = ((cfg0.win 5).blk t).view.read (Elt Ideal) (kvV m c) := by
  have hlt : t.val < 64 := t.isLt
  rw [Value.flushed5]
  funext y
  rw [View.read_apply]
  obtain ⟨r, q, rfl⟩ : ∃ (r : Fin 256) (q : Fin 512), y = (ix2 r q : S256x512.Idx) := ⟨y 0, y 1, ValueIdx.eq_ix2 (n0 := 256) (n1 := 512) y⟩
  have hi : ((cfg0.win 5).blk t).view.emb (ix2 r q : S256x512.Idx) = (ix2 (tok t.val r) q : S16384x512.Idx) := by
    funext a
    apply Fin.ext
    match a with
    | ⟨0, _⟩ =>
      show win0_5.index t 0 * 256 + 1 * r.val = (256 * t.val + r.val) % 16384
      rw [(win5_at t).1]; omega
    | ⟨1, _⟩ =>
      show win0_5.index t 1 * 512 + 1 * q.val = q.val
      rw [(win5_at t).2]; omega
  show out0_5 (F := Ideal) _ _ _ (ix2 r q) = kvV m c (((cfg0.win 5).blk t).view.emb (ix2 r q : S256x512.Idx))
  rw [hi]
  exact block_kv m c t r q
end

theorem cover_kv (i : S16384x512.Idx) : ∃ t : Fin cfg0.N, (cfg0.win 5).flush t = true ∧ i ∈ ((cfg0.win 5).blk t).view.set := by
  have h0 : (i 0).val < 16384 := (i 0).isLt
  have h1 : (i 1).val < 512 := (i 1).isLt
  have hN : cfg0.N = 64 := N_0
  refine ⟨⟨(i 0).val / 256, by omega⟩, flush0_5 _, ?_⟩
  generalize ht : (⟨(i 0).val / 256, by omega⟩ : Fin cfg0.N) = t
  have hv : t.val = (i 0).val / 256 := by rw [← ht]
  show i ∈ ((View.whole main_v18_2).slice (win0_5.rect t)).set
  rw [View.set_slice_whole, Rect.mem_set_unit]
  intro a
  match a with
  | ⟨0, _⟩ =>
    show win0_5.index t 0 * 256 ≤ (i 0).val ∧ (i 0).val < win0_5.index t 0 * 256 + win0_5.xsize (grid0.coords t) 0
    rw [(win5_at t).1, (size5 t).1]; omega
  | ⟨1, _⟩ =>
    show win0_5.index t 1 * 512 ≤ (i 1).val ∧ (i 1).val < win0_5.index t 1 * 512 + win0_5.xsize (grid0.coords t) 1
    rw [(win5_at t).2, (size5 t).2]; omega

theorem result_kv (m : (ℓ : Loc nD τ sig) → Buf (Elt Ideal) ℓ) (c : Dev nD) : (dats m 0 c).arrAt 5 cfg0.N = kvV m c :=
  (dats m 0 c).arrAt_eq_of_cover 5 (kvV m c) (fun t _ => flushed_kv m c t) cover_kv

section
variable (m : (ℓ : Loc nD τ sig) → Buf (Elt Ideal) ℓ) (c : Dev nD)

/-- The result `win`: the columns from 1024 on. -/
def winV : Vec Ideal S16384x256 .f32 := fun i => projRow (aX m c) (aG m c) (aW m c) (i 0) ⟨1024 + (i 1).val, by have h : (i 1).val < 256 := (i 1).isLt; omega⟩

theorem block_win (t : Fin grid0.N) (r : Fin 256) (q : Fin 256) :
    out0_6 (F := Ideal) (iblk m c 0 t) (iblk m c 1 t) (iblk m c 2 t) (ix2 r q) = projRow (aX m c) (aG m c) (aW m c) (tok t.val r) ⟨1024 + q.val, by omega⟩ := by
  refine (out_win _ _ _ r q).trans ?_
  unfold projRow
  refine Finset.sum_congr rfl fun i _ => congrArg₂ (fun a b : EReal => a * b) (congrArg₂ (fun u v => hRow u v i) (funext fun i => read_x m c t r i) (funext fun i => read_g m c t i)) ?_
  refine (read_mid m c t i (1024 + q.val) (by omega) (by omega)).trans (congrArg (fun j => aW m c (ix2 i j)) (Fin.ext ?_))
  show 1024 + q.val = 1024 + q.val
  omega

theorem flushed_win (t : Fin cfg0.N) : (dats m 0 c).flushed 6 t = ((cfg0.win 6).blk t).view.read (Elt Ideal) (winV m c) := by
  have hlt : t.val < 64 := t.isLt
  rw [Value.flushed6]
  funext y
  rw [View.read_apply]
  obtain ⟨r, q, rfl⟩ : ∃ (r : Fin 256) (q : Fin 256), y = (ix2 r q : S256x256.Idx) := ⟨y 0, y 1, ValueIdx.eq_ix2 (n0 := 256) (n1 := 256) y⟩
  have hi : ((cfg0.win 6).blk t).view.emb (ix2 r q : S256x256.Idx) = (ix2 (tok t.val r) q : S16384x256.Idx) := by
    funext a
    apply Fin.ext
    match a with
    | ⟨0, _⟩ =>
      show win0_6.index t 0 * 256 + 1 * r.val = (256 * t.val + r.val) % 16384
      rw [(win6_at t).1]; omega
    | ⟨1, _⟩ =>
      show win0_6.index t 1 * 256 + 1 * q.val = q.val
      rw [(win6_at t).2]; omega
  show out0_6 (F := Ideal) _ _ _ (ix2 r q) = winV m c (((cfg0.win 6).blk t).view.emb (ix2 r q : S256x256.Idx))
  rw [hi]
  exact block_win m c t r q
end

theorem cover_win (i : S16384x256.Idx) : ∃ t : Fin cfg0.N, (cfg0.win 6).flush t = true ∧ i ∈ ((cfg0.win 6).blk t).view.set := by
  have h0 : (i 0).val < 16384 := (i 0).isLt
  have h1 : (i 1).val < 256 := (i 1).isLt
  have hN : cfg0.N = 64 := N_0
  refine ⟨⟨(i 0).val / 256, by omega⟩, flush0_6 _, ?_⟩
  generalize ht : (⟨(i 0).val / 256, by omega⟩ : Fin cfg0.N) = t
  have hv : t.val = (i 0).val / 256 := by rw [← ht]
  show i ∈ ((View.whole main_v18_3).slice (win0_6.rect t)).set
  rw [View.set_slice_whole, Rect.mem_set_unit]
  intro a
  match a with
  | ⟨0, _⟩ =>
    show win0_6.index t 0 * 256 ≤ (i 0).val ∧ (i 0).val < win0_6.index t 0 * 256 + win0_6.xsize (grid0.coords t) 0
    rw [(win6_at t).1, (size6 t).1]; omega
  | ⟨1, _⟩ =>
    show win0_6.index t 1 * 256 ≤ (i 1).val ∧ (i 1).val < win0_6.index t 1 * 256 + win0_6.xsize (grid0.coords t) 1
    rw [(win6_at t).2, (size6 t).2]; omega

theorem result_win (m : (ℓ : Loc nD τ sig) → Buf (Elt Ideal) ℓ) (c : Dev nD) : (dats m 0 c).arrAt 6 cfg0.N = winV m c :=
  (dats m 0 c).arrAt_eq_of_cover 6 (winV m c) (fun t _ => flushed_win m c t) cover_win

section
variable (m : (ℓ : Loc nD τ sig) → Buf (Elt Ideal) ℓ) (c : Dev nD)

/-- The result `pool`: the columns from 1304 on. -/
def poolV : Vec Ideal S16384x512 .f32 := fun i => projRow (aX m c) (aG m c) (aW m c) (i 0) ⟨1304 + (i 1).val, by have h : (i 1).val < 512 := (i 1).isLt; omega⟩

theorem block_pool (t : Fin grid0.N) (r : Fin 256) (q : Fin 512) :
    out0_8 (F := Ideal) (iblk m c 0 t) (iblk m c 1 t) (iblk m c 2 t) (ix2 r q) = projRow (aX m c) (aG m c) (aW m c) (tok t.val r) ⟨1304 + q.val, by omega⟩ := by
  refine (out_pool _ _ _ r q).trans ?_
  unfold projRow
  refine Finset.sum_congr rfl fun i _ => congrArg₂ (fun a b : EReal => a * b) (congrArg₂ (fun u v => hRow u v i) (funext fun i => read_x m c t r i) (funext fun i => read_g m c t i)) ?_
  refine (read_last m c t i (2816 + q.val) (by omega) (by omega)).trans (congrArg (fun j => aW m c (ix2 i j)) (Fin.ext ?_))
  show 2816 + q.val - 1512 = 1304 + q.val
  omega

theorem flushed_pool (t : Fin cfg0.N) : (dats m 0 c).flushed 8 t = ((cfg0.win 8).blk t).view.read (Elt Ideal) (poolV m c) := by
  have hlt : t.val < 64 := t.isLt
  rw [Value.flushed8]
  funext y
  rw [View.read_apply]
  obtain ⟨r, q, rfl⟩ : ∃ (r : Fin 256) (q : Fin 512), y = (ix2 r q : S256x512.Idx) := ⟨y 0, y 1, ValueIdx.eq_ix2 (n0 := 256) (n1 := 512) y⟩
  have hi : ((cfg0.win 8).blk t).view.emb (ix2 r q : S256x512.Idx) = (ix2 (tok t.val r) q : S16384x512.Idx) := by
    funext a
    apply Fin.ext
    match a with
    | ⟨0, _⟩ =>
      show win0_8.index t 0 * 256 + 1 * r.val = (256 * t.val + r.val) % 16384
      rw [(win8_at t).1]; omega
    | ⟨1, _⟩ =>
      show win0_8.index t 1 * 512 + 1 * q.val = q.val
      rw [(win8_at t).2]; omega
  show out0_8 (F := Ideal) _ _ _ (ix2 r q) = poolV m c (((cfg0.win 8).blk t).view.emb (ix2 r q : S256x512.Idx))
  rw [hi]
  exact block_pool m c t r q
end

theorem cover_pool (i : S16384x512.Idx) : ∃ t : Fin cfg0.N, (cfg0.win 8).flush t = true ∧ i ∈ ((cfg0.win 8).blk t).view.set := by
  have h0 : (i 0).val < 16384 := (i 0).isLt
  have h1 : (i 1).val < 512 := (i 1).isLt
  have hN : cfg0.N = 64 := N_0
  refine ⟨⟨(i 0).val / 256, by omega⟩, flush0_8 _, ?_⟩
  generalize ht : (⟨(i 0).val / 256, by omega⟩ : Fin cfg0.N) = t
  have hv : t.val = (i 0).val / 256 := by rw [← ht]
  show i ∈ ((View.whole main_v18_5).slice (win0_8.rect t)).set
  rw [View.set_slice_whole, Rect.mem_set_unit]
  intro a
  match a with
  | ⟨0, _⟩ =>
    show win0_8.index t 0 * 256 ≤ (i 0).val ∧ (i 0).val < win0_8.index t 0 * 256 + win0_8.xsize (grid0.coords t) 0
    rw [(win8_at t).1, (size8 t).1]; omega
  | ⟨1, _⟩ =>
    show win0_8.index t 1 * 512 ≤ (i 1).val ∧ (i 1).val < win0_8.index t 1 * 512 + win0_8.xsize (grid0.coords t) 1
    rw [(win8_at t).2, (size8 t).2]; omega

theorem result_pool (m : (ℓ : Loc nD τ sig) → Buf (Elt Ideal) ℓ) (c : Dev nD) : (dats m 0 c).arrAt 8 cfg0.N = poolV m c :=
  (dats m 0 c).arrAt_eq_of_cover 8 (poolV m c) (fun t _ => flushed_pool m c t) cover_pool

section
variable (m : (ℓ : Loc nD τ sig) → Buf (Elt Ideal) ℓ) (c : Dev nD)

/-- The result `gm`: the columns from 1816 on. -/
def gmV : Vec Ideal S16384x1024 .f32 := fun i => projRow (aX m c) (aG m c) (aW m c) (i 0) ⟨1816 + (i 1).val, by have h : (i 1).val < 1024 := (i 1).isLt; omega⟩

theorem block_gm (t : Fin grid0.N) (r : Fin 256) (q : Fin 1024) :
    out0_9 (F := Ideal) (iblk m c 0 t) (iblk m c 1 t) (iblk m c 2 t) (ix2 r q) = projRow (aX m c) (aG m c) (aW m c) (tok t.val r) ⟨1816 + q.val, by omega⟩ := by
  refine (out_gm _ _ _ r q).trans ?_
  unfold projRow
  refine Finset.sum_congr rfl fun i _ => congrArg₂ (fun a b : EReal => a * b) (congrArg₂ (fun u v => hRow u v i) (funext fun i => read_x m c t r i) (funext fun i => read_g m c t i)) ?_
  refine (read_last m c t i (3328 + q.val) (by omega) (by omega)).trans (congrArg (fun j => aW m c (ix2 i j)) (Fin.ext ?_))
  show 3328 + q.val - 1512 = 1816 + q.val
  omega

theorem flushed_gm (t : Fin cfg0.N) : (dats m 0 c).flushed 9 t = ((cfg0.win 9).blk t).view.read (Elt Ideal) (gmV m c) := by
  have hlt : t.val < 64 := t.isLt
  rw [Value.flushed9]
  funext y
  rw [View.read_apply]
  obtain ⟨r, q, rfl⟩ : ∃ (r : Fin 256) (q : Fin 1024), y = (ix2 r q : S256x1024.Idx) := ⟨y 0, y 1, ValueIdx.eq_ix2 (n0 := 256) (n1 := 1024) y⟩
  have hi : ((cfg0.win 9).blk t).view.emb (ix2 r q : S256x1024.Idx) = (ix2 (tok t.val r) q : S16384x1024.Idx) := by
    funext a
    apply Fin.ext
    match a with
    | ⟨0, _⟩ =>
      show win0_9.index t 0 * 256 + 1 * r.val = (256 * t.val + r.val) % 16384
      rw [(win9_at t).1]; omega
    | ⟨1, _⟩ =>
      show win0_9.index t 1 * 1024 + 1 * q.val = q.val
      rw [(win9_at t).2]; omega
  show out0_9 (F := Ideal) _ _ _ (ix2 r q) = gmV m c (((cfg0.win 9).blk t).view.emb (ix2 r q : S256x1024.Idx))
  rw [hi]
  exact block_gm m c t r q
end

theorem cover_gm (i : S16384x1024.Idx) : ∃ t : Fin cfg0.N, (cfg0.win 9).flush t = true ∧ i ∈ ((cfg0.win 9).blk t).view.set := by
  have h0 : (i 0).val < 16384 := (i 0).isLt
  have h1 : (i 1).val < 1024 := (i 1).isLt
  have hN : cfg0.N = 64 := N_0
  refine ⟨⟨(i 0).val / 256, by omega⟩, flush0_9 _, ?_⟩
  generalize ht : (⟨(i 0).val / 256, by omega⟩ : Fin cfg0.N) = t
  have hv : t.val = (i 0).val / 256 := by rw [← ht]
  show i ∈ ((View.whole main_v18_6).slice (win0_9.rect t)).set
  rw [View.set_slice_whole, Rect.mem_set_unit]
  intro a
  match a with
  | ⟨0, _⟩ =>
    show win0_9.index t 0 * 256 ≤ (i 0).val ∧ (i 0).val < win0_9.index t 0 * 256 + win0_9.xsize (grid0.coords t) 0
    rw [(win9_at t).1, (size9 t).1]; omega
  | ⟨1, _⟩ =>
    show win0_9.index t 1 * 1024 ≤ (i 1).val ∧ (i 1).val < win0_9.index t 1 * 1024 + win0_9.xsize (grid0.coords t) 1
    rw [(win9_at t).2, (size9 t).2]; omega

theorem result_gm (m : (ℓ : Loc nD τ sig) → Buf (Elt Ideal) ℓ) (c : Dev nD) : (dats m 0 c).arrAt 9 cfg0.N = gmV m c :=
  (dats m 0 c).arrAt_eq_of_cover 9 (gmV m c) (fun t _ => flushed_gm m c t) cover_gm

section
variable (m : (ℓ : Loc nD τ sig) → Buf (Elt Ideal) ℓ) (c : Dev nD)

/-- The result `dkv`: the columns from 3352 on. -/
def dkvV : Vec Ideal S16384x1024 .f32 := fun i => projRow (aX m c) (aG m c) (aW m c) (i 0) ⟨3352 + (i 1).val, by have h : (i 1).val < 1024 := (i 1).isLt; omega⟩

theorem block_dkv (t : Fin grid0.N) (r : Fin 256) (q : Fin 1024) :
    out0_11 (F := Ideal) (iblk m c 0 t) (iblk m c 1 t) (iblk m c 2 t) (ix2 r q) = projRow (aX m c) (aG m c) (aW m c) (tok t.val r) ⟨3352 + q.val, by omega⟩ := by
  refine (out_dkv _ _ _ r q).trans ?_
  unfold projRow
  refine Finset.sum_congr rfl fun i _ => congrArg₂ (fun a b : EReal => a * b) (congrArg₂ (fun u v => hRow u v i) (funext fun i => read_x m c t r i) (funext fun i => read_g m c t i)) ?_
  refine (read_last m c t i (4864 + q.val) (by omega) (by omega)).trans (congrArg (fun j => aW m c (ix2 i j)) (Fin.ext ?_))
  show 4864 + q.val - 1512 = 3352 + q.val
  omega

theorem flushed_dkv (t : Fin cfg0.N) : (dats m 0 c).flushed 11 t = ((cfg0.win 11).blk t).view.read (Elt Ideal) (dkvV m c) := by
  have hlt : t.val < 64 := t.isLt
  rw [Value.flushed11]
  funext y
  rw [View.read_apply]
  obtain ⟨r, q, rfl⟩ : ∃ (r : Fin 256) (q : Fin 1024), y = (ix2 r q : S256x1024.Idx) := ⟨y 0, y 1, ValueIdx.eq_ix2 (n0 := 256) (n1 := 1024) y⟩
  have hi : ((cfg0.win 11).blk t).view.emb (ix2 r q : S256x1024.Idx) = (ix2 (tok t.val r) q : S16384x1024.Idx) := by
    funext a
    apply Fin.ext
    match a with
    | ⟨0, _⟩ =>
      show win0_11.index t 0 * 256 + 1 * r.val = (256 * t.val + r.val) % 16384
      rw [(win11_at t).1]; omega
    | ⟨1, _⟩ =>
      show win0_11.index t 1 * 1024 + 1 * q.val = q.val
      rw [(win11_at t).2]; omega
  show out0_11 (F := Ideal) _ _ _ (ix2 r q) = dkvV m c (((cfg0.win 11).blk t).view.emb (ix2 r q : S256x1024.Idx))
  rw [hi]
  exact block_dkv m c t r q
end

theorem cover_dkv (i : S16384x1024.Idx) : ∃ t : Fin cfg0.N, (cfg0.win 11).flush t = true ∧ i ∈ ((cfg0.win 11).blk t).view.set := by
  have h0 : (i 0).val < 16384 := (i 0).isLt
  have h1 : (i 1).val < 1024 := (i 1).isLt
  have hN : cfg0.N = 64 := N_0
  refine ⟨⟨(i 0).val / 256, by omega⟩, flush0_11 _, ?_⟩
  generalize ht : (⟨(i 0).val / 256, by omega⟩ : Fin cfg0.N) = t
  have hv : t.val = (i 0).val / 256 := by rw [← ht]
  show i ∈ ((View.whole main_v18_8).slice (win0_11.rect t)).set
  rw [View.set_slice_whole, Rect.mem_set_unit]
  intro a
  match a with
  | ⟨0, _⟩ =>
    show win0_11.index t 0 * 256 ≤ (i 0).val ∧ (i 0).val < win0_11.index t 0 * 256 + win0_11.xsize (grid0.coords t) 0
    rw [(win11_at t).1, (size11 t).1]; omega
  | ⟨1, _⟩ =>
    show win0_11.index t 1 * 1024 ≤ (i 1).val ∧ (i 1).val < win0_11.index t 1 * 1024 + win0_11.xsize (grid0.coords t) 1
    rw [(win11_at t).2, (size11 t).2]; omega

theorem result_dkv (m : (ℓ : Loc nD τ sig) → Buf (Elt Ideal) ℓ) (c : Dev nD) : (dats m 0 c).arrAt 11 cfg0.N = dkvV m c :=
  (dats m 0 c).arrAt_eq_of_cover 11 (dkvV m c) (fun t _ => flushed_dkv m c t) cover_dkv

end Cert.Kernel4Ideal.Gen

end
-- ==== Proof.ProjMain.lean ====
module

public import proofs.«01_k».proof.Defs
public import proofs.«01_k».proof.Proof.ProjOut
public import proofs.«01_k».proof.Proof.Gen.Reference4Ideal.Run

/-! # The projections: the results agree -/
@[expose] public section

set_option maxHeartbeats 4000000
set_option maxRecDepth 100000

noncomputable section

namespace Cert.Reference4Ideal.Value

open Idealize.ShloMosaic Idealize.ShloMosaic.TcCoe Idealize.ShloMosaic.Tactic Idealize.SL.Sem Cert.KernelIdeal.Gen Cert.Kernel4Ideal.Gen

section
variable (m : (ℓ : Loc nD τ sig) → Buf (Elt Ideal) ℓ) (c : Dev nD)

/-! The arguments as the reference reads them: the stream as 16384 rows, the gain and the weights. -/

def rX : Vec Ideal S16384x1024 .f32 := shapeCast S16384x1024 (m ((c.tc : Thread nD τ).loc main_arg0) : Vec Ideal S8x2048x1024 .f32) Gen.shapeCasts_S8x2048x1024_S16384x1024
def rG : Vec Ideal S1024 .f32 := m ((c.tc : Thread nD τ).loc main_arg1)
def rW : Vec Ideal S1024x4376 .f32 := m ((c.tc : Thread nD τ).loc main_arg2)

/-- The normalisation the reference writes, read at one entry. -/
theorem norm_at (U : FVec Ideal S16384x1024 .f32) (v : FVec Ideal S1024 .f32) (T : Fin 16384) (col : Fin 1024) :
    mulf (mulf U (broadcastInDim S16384x1024 ![0, 1] Gen.bcast_S16384x1_S16384x1024_0_1 (Host.rsqrt (addf (Host.divf (broadcastInDim S16384x1 ![0] Gen.bcast_S16384_S16384x1_0 (Host.reduceAdd (mulf U U) (constant (F := Ideal) S_ .f32 0x00000000#32) Gen.reducesTo_S16384x1024_S16384_d1 Gen.h_S_)) (broadcastInDim S16384x1 ![] Gen.bcast_S_S16384x1 (constant (F := Ideal) S_ .f32 0x44800000#32))) (broadcastInDim S16384x1 ![] Gen.bcast_S_S16384x1 (constant (F := Ideal) S_ .f32 0x358637BD#32))))))
      (broadcastInDim S16384x1024 ![0, 1] Gen.bcast_S1x1024_S16384x1024_0_1 (broadcastInDim S1x1024 ![1] Gen.bcast_S1024_S1x1024_1 v)) (ix2 T col)
      = hRow (fun i => U (ix2 T i)) (fun i => v (ix1 i)) col := by
  pointwise
  rfl

/-- The product, read at one entry. -/
theorem dot_at (H : FVec Ideal S16384x1024 .f32) (W : FVec Ideal S1024x4376 .f32) (T : Fin 16384) (j : Fin 4376) :
    Host.dotGeneral dot_S16384x1024_S1024x4376_S16384x4376_1_0_0_1_n_n none H W (ix2 T j) = ∑ i, H (ix2 T i) * W (ix2 i j) := by
  pointwise

theorem cols_kv (D : Vec Ideal S16384x4376 .f32) (T : Fin 16384) (q : Fin 512) :
    (extractStridedSlice S16384x512 ![0, 0] (extractStridedSlice S16384x768 ![0, 512] D Gen.slices_S16384x4376_S16384x768_0_512) Gen.slices_S16384x768_S16384x512_0_0 : Vec Ideal S16384x512 .f32) (ix2 T q) = D (ix2 T ⟨512 + q.val, by omega⟩) := by
  pointwise

theorem cols_win (D : Vec Ideal S16384x4376 .f32) (T : Fin 16384) (q : Fin 256) :
    (extractStridedSlice S16384x256 ![0, 512] (extractStridedSlice S16384x768 ![0, 512] D Gen.slices_S16384x4376_S16384x768_0_512) Gen.slices_S16384x768_S16384x256_0_512 : Vec Ideal S16384x256 .f32) (ix2 T q) = D (ix2 T ⟨1024 + q.val, by omega⟩) := by
  pointwise
  exact congrArg (fun k => D (ix2 T k)) (Fin.ext (by simp only []; omega))

theorem cols_pool (D : Vec Ideal S16384x4376 .f32) (T : Fin 16384) (q : Fin 512) :
    (extractStridedSlice S16384x512 ![0, 1304] D Gen.slices_S16384x4376_S16384x512_0_1304 : Vec Ideal S16384x512 .f32) (ix2 T q) = D (ix2 T ⟨1304 + q.val, by omega⟩) := by
  pointwise

theorem cols_gm (D : Vec Ideal S16384x4376 .f32) (T : Fin 16384) (q : Fin 1024) :
    (extractStridedSlice S16384x1024 ![0, 1816] D Gen.slices_S16384x4376_S16384x1024_0_1816 : Vec Ideal S16384x1024 .f32) (ix2 T q) = D (ix2 T ⟨1816 + q.val, by omega⟩) := by
  pointwise

theorem cols_dkv (D : Vec Ideal S16384x4376 .f32) (T : Fin 16384) (q : Fin 1024) :
    (extractStridedSlice S16384x1024 ![0, 3352] D Gen.slices_S16384x4376_S16384x1024_0_3352 : Vec Ideal S16384x1024 .f32) (ix2 T q) = D (ix2 T ⟨3352 + q.val, by omega⟩) := by
  pointwise
end

end Cert.Reference4Ideal.Value

namespace Cert.Proof

open Idealize.ShloMosaic Idealize.ShloMosaic.TcCoe Idealize.SL.Sem Cert.Kernel4Ideal Cert.Kernel4Ideal.Gen Cert.KernelIdeal.Gen

theorem algebraic_proj : Cert.algebraic_Kernel4Ideal_Reference4Ideal := by
  intro m g m' g' _ ha
  refine ⟨fun c => kvV m c, fun c => winV m c, fun c => poolV m c, fun c => gmV m c, fun c => dkvV m c, ?_, ?_⟩
  · refine (θ_run Cert.Kernel4Ideal.defs _ _).mono (fun r h c => ?_) (Cert.Kernel4Ideal.Value.run_blocks m g)
    obtain ⟨_, _, h5, h6, _, h8, h9, _, h11, k⟩ := h c
    exact ⟨h5.trans (result_kv m c), h6.trans (result_win m c), h8.trans (result_pool m c), h9.trans (result_gm m c), h11.trans (result_dkv m c), k⟩
  refine (θ_run Cert.Reference4Ideal.defs _ _).mono (fun r h c => ?_) (Cert.Reference4Ideal.Value.run (F := Ideal) m' g')
  obtain ⟨a0, a1, a2⟩ := ha c
  have hX : Cert.Reference4Ideal.Value.rX m' c = aX m c := by unfold aX; rw [← a0]; rfl
  have hG : Cert.Reference4Ideal.Value.rG m' c = aG m c := by unfold aG; rw [← a1]; rfl
  have hW : Cert.Reference4Ideal.Value.rW m' c = aW m c := by unfold aW; rw [← a2]; rfl
  obtain ⟨h0, h1, h2, h3, h4, k⟩ := h c
  refine ⟨h0.trans ?_, h1.trans ?_, h2.trans ?_, h3.trans ?_, h4.trans ?_, k⟩
  · funext i
    obtain ⟨T, q, rfl⟩ : ∃ (T : Fin 16384) (q : Fin 512), i = (ix2 T q : S16384x512.Idx) := ⟨i 0, i 1, ValueIdx.eq_ix2 (n0 := 16384) (n1 := 512) i⟩
    show _ = projRow (aX m c) (aG m c) (aW m c) T ⟨512 + q.val, by omega⟩
    rw [← hX, ← hG, ← hW]
    refine (Cert.Reference4Ideal.Value.cols_kv _ T q).trans ((Cert.Reference4Ideal.Value.dot_at _ _ T _).trans (Finset.sum_congr rfl fun k _ => ?_))
    exact congrArg (fun z => z * Cert.Reference4Ideal.Value.rW m' c (ix2 k _)) (Cert.Reference4Ideal.Value.norm_at _ _ T k)
  · funext i
    obtain ⟨T, q, rfl⟩ : ∃ (T : Fin 16384) (q : Fin 256), i = (ix2 T q : S16384x256.Idx) := ⟨i 0, i 1, ValueIdx.eq_ix2 (n0 := 16384) (n1 := 256) i⟩
    show _ = projRow (aX m c) (aG m c) (aW m c) T ⟨1024 + q.val, by omega⟩
    rw [← hX, ← hG, ← hW]
    refine (Cert.Reference4Ideal.Value.cols_win _ T q).trans ((Cert.Reference4Ideal.Value.dot_at _ _ T _).trans (Finset.sum_congr rfl fun k _ => ?_))
    exact congrArg (fun z => z * Cert.Reference4Ideal.Value.rW m' c (ix2 k _)) (Cert.Reference4Ideal.Value.norm_at _ _ T k)
  · funext i
    obtain ⟨T, q, rfl⟩ : ∃ (T : Fin 16384) (q : Fin 512), i = (ix2 T q : S16384x512.Idx) := ⟨i 0, i 1, ValueIdx.eq_ix2 (n0 := 16384) (n1 := 512) i⟩
    show _ = projRow (aX m c) (aG m c) (aW m c) T ⟨1304 + q.val, by omega⟩
    rw [← hX, ← hG, ← hW]
    refine (Cert.Reference4Ideal.Value.cols_pool _ T q).trans ((Cert.Reference4Ideal.Value.dot_at _ _ T _).trans (Finset.sum_congr rfl fun k _ => ?_))
    exact congrArg (fun z => z * Cert.Reference4Ideal.Value.rW m' c (ix2 k _)) (Cert.Reference4Ideal.Value.norm_at _ _ T k)
  · funext i
    obtain ⟨T, q, rfl⟩ : ∃ (T : Fin 16384) (q : Fin 1024), i = (ix2 T q : S16384x1024.Idx) := ⟨i 0, i 1, ValueIdx.eq_ix2 (n0 := 16384) (n1 := 1024) i⟩
    show _ = projRow (aX m c) (aG m c) (aW m c) T ⟨1816 + q.val, by omega⟩
    rw [← hX, ← hG, ← hW]
    refine (Cert.Reference4Ideal.Value.cols_gm _ T q).trans ((Cert.Reference4Ideal.Value.dot_at _ _ T _).trans (Finset.sum_congr rfl fun k _ => ?_))
    exact congrArg (fun z => z * Cert.Reference4Ideal.Value.rW m' c (ix2 k _)) (Cert.Reference4Ideal.Value.norm_at _ _ T k)
  · funext i
    obtain ⟨T, q, rfl⟩ : ∃ (T : Fin 16384) (q : Fin 1024), i = (ix2 T q : S16384x1024.Idx) := ⟨i 0, i 1, ValueIdx.eq_ix2 (n0 := 16384) (n1 := 1024) i⟩
    show _ = projRow (aX m c) (aG m c) (aW m c) T ⟨3352 + q.val, by omega⟩
    rw [← hX, ← hG, ← hW]
    refine (Cert.Reference4Ideal.Value.cols_dkv _ T q).trans ((Cert.Reference4Ideal.Value.dot_at _ _ T _).trans (Finset.sum_congr rfl fun k _ => ?_))
    exact congrArg (fun z => z * Cert.Reference4Ideal.Value.rW m' c (ix2 k _)) (Cert.Reference4Ideal.Value.norm_at _ _ T k)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Kernel5Ideal.Frame
public import proofs.«01_k».proof.Proof.Gen.Reference5Ideal
public import proofs.«01_k».proof.Proof.Gen.Reference5Ideal.Run
public import proofs.«01_k».proof.Proof.Frames
public import proofs.«01_k».proof.Proof.ValMain
public import proofs.«01_k».proof.Proof.FfnMain
public import proofs.«01_k».proof.Proof.EmbedMain
public import proofs.«01_k».proof.Proof.MergeMain
public import proofs.«01_k».proof.Proof.ProjMain

@[expose] public section

noncomputable section

namespace Cert.Proof

open Idealize.ShloMosaic Idealize.ShloMosaic.TcCoe Idealize.SL.Sem

/-- The feed-forward reference runs to its end, with its arguments unchanged and its counters at zero. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The reference of the per-layer inputs runs to its end, with its arguments unchanged and its counters at zero. -/
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The reference of the projections runs to its end, with its arguments unchanged and its counters at zero. -/
theorem frame_reference4 : Cert.quiescent_Reference4Ideal := fun m ρ _ =>
  (θ_run Cert.Reference4Ideal.defs _ _).mono (fun r h => ⟨fun c => (h c).2.2.2.2.2, sem_eq_zero_of_no_sems (by decide) r.2⟩) (Cert.Reference4Ideal.Value.run (F := Ideal) m ρ)

/-- The reference of the merge runs to its end, with its arguments unchanged and its counters at zero. -/
theorem frame_reference5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_routable.stated,
    Cert.KernelIdeal.Gen.frame_kernel, Cert.KernelIdeal.Gen.frame_ideal,
    fun m ρ _ => Cert.KernelIdeal.Gen.frame_ideal m ρ trivial,
    Cert.ReferenceIdeal.Value.frame_reference,
    fun m ρ _ => Cert.ReferenceIdeal.Value.frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    trivial, algebraic, trivial, algebraic_ffn, trivial, algebraic_embed, trivial, algebraic_proj, trivial, algebraic_merge⟩

end Cert.Proof

end
